-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x2048 : Shape := ⟨2, ![4096, 2048]⟩
abbrev S1 : Shape := ⟨1, ![1]⟩
abbrev S4096x128 : Shape := ⟨2, ![4096, 128]⟩
abbrev S2x4096x256 : Shape := ⟨3, ![2, 4096, 256]⟩
abbrev S16x256x128 : Shape := ⟨3, ![16, 256, 128]⟩
abbrev S2 : Shape := ⟨1, ![2]⟩
abbrev S16 : Shape := ⟨1, ![16]⟩
abbrev S_ : Shape := ⟨0, ![]⟩
abbrev S1x4096x256 : Shape := ⟨3, ![1, 4096, 256]⟩
abbrev S4096x256 : Shape := ⟨2, ![4096, 256]⟩
abbrev S256x256 : Shape := ⟨2, ![256, 256]⟩
abbrev S256x128 : Shape := ⟨2, ![256, 128]⟩
abbrev S1x256x128 : Shape := ⟨3, ![1, 256, 128]⟩

abbrev nBuf : Space → Nat
  | .hbm => 5
  | .vmem => 6
  | .smem => 2
  | _ => 0

abbrev bufTy : (tb : Table) → Fin (tcTables nBuf tb) → BufTy
  | .hbm, ⟨0, _⟩ => ⟨S256x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x128, .f32⟩
  | .local _ .vmem, ⟨0, _⟩ => ⟨S256x4096, .f32⟩
  | .local _ .vmem, ⟨1, _⟩ => ⟨S4096x128, .f32⟩
  | .local _ .vmem, ⟨2, _⟩ => ⟨S256x4096, .fp8e4m3⟩
  | .local _ .vmem, ⟨3, _⟩ => ⟨S2x4096x256, .f32⟩
  | .local _ .vmem, ⟨4, _⟩ => ⟨S16x256x128, .bf16⟩
  | .local _ .vmem, ⟨5, _⟩ => ⟨S16x256x128, .bf16⟩
  | .local _ .smem, ⟨0, _⟩ => ⟨S1, .f32⟩
  | .local _ .smem, ⟨1, _⟩ => ⟨S1, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v21 : BitVec 32 := Scalar.addi v2 c1_i32_5
  let c16_i32_6 : BitVec 32 := 16#32
  let c0_i32_7 : BitVec 32 := 0#32
  let v22 : BitVec 1 := Scalar.cmpi .eq c16_i32_6 c0_i32_7
  let c1_i32_8 : BitVec 32 := 1#32
  let v23 : BitVec 32 := Scalar.select v22 c1_i32_8 c16_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c1_i32_13 : BitVec 32 := 1#32
  let v32 : BitVec 32 := Scalar.muli v31 c1_i32_13
  let v33 : BitVec 32 := Scalar.addi c0_i32_14 v32
  v33.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_15 : BitVec 32 := 2#32
  let v34 : BitVec 32 := Scalar.addi v2 c2_i32_15
  let c16_i32_16 : BitVec 32 := 16#32
  let c0_i32_17 : BitVec 32 := 0#32
  let v35 : BitVec 1 := Scalar.cmpi .eq c16_i32_16 c0_i32_17
  let c1_i32_18 : BitVec 32 := 1#32
  let v36 : BitVec 32 := Scalar.select v35 c1_i32_18 c16_i32_16
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c1_i32_23 : BitVec 32 := 1#32
  let v45 : BitVec 32 := Scalar.muli v44 c1_i32_23
  let v46 : BitVec 32 := Scalar.addi c0_i32_24 v45
  v46.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v47 : BitVec 32 := Scalar.addi v2 c3_i32
  let c16_i32_25 : BitVec 32 := 16#32
  let c0_i32_26 : BitVec 32 := 0#32
  let v48 : BitVec 1 := Scalar.cmpi .eq c16_i32_25 c0_i32_26
  let c1_i32_27 : BitVec 32 := 1#32
  let v49 : BitVec 32 := Scalar.select v48 c1_i32_27 c16_i32_25
  let v50 : BitVec 32 := Scalar.remsi v47 v49
  let c0_i32_29 : BitVec 32 := 0#32
  let v52 : BitVec 1 := Scalar.cmpi .slt v50 c0_i32_29
  let c0_i32_30 : BitVec 32 := 0#32
  let v53 : BitVec 1 := Scalar.cmpi .slt v49 c0_i32_30
  let v54 : BitVec 1 := Scalar.xori v52 v53
  let c0_i32_28 : BitVec 32 := 0#32
  let v51 : BitVec 1 := Scalar.cmpi .ne v50 c0_i32_28
  let v55 : BitVec 1 := Scalar.andi v54 v51
  let v56 : BitVec 32 := Scalar.addi v50 v49
  let v57 : BitVec 32 := Scalar.select v55 v56 v50
  let c1_i32_32 : BitVec 32 := 1#32
  let v58 : BitVec 32 := Scalar.muli v57 c1_i32_32
  let v59 : BitVec 32 := Scalar.addi c0_i32_33 v58
  v59.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v60 : BitVec 32 := Scalar.addi v2 c4_i32
  let c16_i32_34 : BitVec 32 := 16#32
  let c0_i32_35 : BitVec 32 := 0#32
  let v61 : BitVec 1 := Scalar.cmpi .eq c16_i32_34 c0_i32_35
  let c1_i32_36 : BitVec 32 := 1#32
  let v62 : BitVec 32 := Scalar.select v61 c1_i32_36 c16_i32_34
  let v63 : BitVec 32 := Scalar.remsi v60 v62
  let c0_i32_38 : BitVec 32 := 0#32
  let v65 : BitVec 1 := Scalar.cmpi .slt v63 c0_i32_38
  let c0_i32_39 : BitVec 32 := 0#32
  let v66 : BitVec 1 := Scalar.cmpi .slt v62 c0_i32_39
  let v67 : BitVec 1 := Scalar.xori v65 v66
  let c0_i32_37 : BitVec 32 := 0#32
  let v64 : BitVec 1 := Scalar.cmpi .ne v63 c0_i32_37
  let v68 : BitVec 1 := Scalar.andi v67 v64
  let v69 : BitVec 32 := Scalar.addi v63 v62
  let v70 : BitVec 32 := Scalar.select v68 v69 v63
  let c1_i32_41 : BitVec 32 := 1#32
  let v71 : BitVec 32 := Scalar.muli v70 c1_i32_41
  let v72 : BitVec 32 := Scalar.addi c0_i32_42 v71
  v72.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v73 : BitVec 32 := Scalar.addi v2 c5_i32
  let c16_i32_43 : BitVec 32 := 16#32
  let c0_i32_44 : BitVec 32 := 0#32
  let v74 : BitVec 1 := Scalar.cmpi .eq c16_i32_43 c0_i32_44
  let c1_i32_45 : BitVec 32 := 1#32
  let v75 : BitVec 32 := Scalar.select v74 c1_i32_45 c16_i32_43
  let v76 : BitVec 32 := Scalar.remsi v73 v75
  let c0_i32_47 : BitVec 32 := 0#32
  let v78 : BitVec 1 := Scalar.cmpi .slt v76 c0_i32_47
  let c0_i32_48 : BitVec 32 := 0#32
  let v79 : BitVec 1 := Scalar.cmpi .slt v75 c0_i32_48
  let v80 : BitVec 1 := Scalar.xori v78 v79
  let c0_i32_46 : BitVec 32 := 0#32
  let v77 : BitVec 1 := Scalar.cmpi .ne v76 c0_i32_46
  let v81 : BitVec 1 := Scalar.andi v80 v77
  let v82 : BitVec 32 := Scalar.addi v76 v75
  let v83 : BitVec 32 := Scalar.select v81 v82 v76
  let c1_i32_50 : BitVec 32 := 1#32
  let v84 : BitVec 32 := Scalar.muli v83 c1_i32_50
  let v85 : BitVec 32 := Scalar.addi c0_i32_51 v84
  v85.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v86 : BitVec 32 := Scalar.addi v2 c6_i32
  let c16_i32_52 : BitVec 32 := 16#32
  let c0_i32_53 : BitVec 32 := 0#32
  let v87 : BitVec 1 := Scalar.cmpi .eq c16_i32_52 c0_i32_53
  let c1_i32_54 : BitVec 32 := 1#32
  let v88 : BitVec 32 := Scalar.select v87 c1_i32_54 c16_i32_52
  let v89 : BitVec 32 := Scalar.remsi v86 v88
  let c0_i32_56 : BitVec 32 := 0#32
  let v91 : BitVec 1 := Scalar.cmpi .slt v89 c0_i32_56
  let c0_i32_57 : BitVec 32 := 0#32
  let v92 : BitVec 1 := Scalar.cmpi .slt v88 c0_i32_57
  let v93 : BitVec 1 := Scalar.xori v91 v92
  let c0_i32_55 : BitVec 32 := 0#32
  let v90 : BitVec 1 := Scalar.cmpi .ne v89 c0_i32_55
  let v94 : BitVec 1 := Scalar.andi v93 v90
  let v95 : BitVec 32 := Scalar.addi v89 v88
  let v96 : BitVec 32 := Scalar.select v94 v95 v89
  let c1_i32_59 : BitVec 32 := 1#32
  let v97 : BitVec 32 := Scalar.muli v96 c1_i32_59
  let v98 : BitVec 32 := Scalar.addi c0_i32_60 v97
  v98.toNat
def k0_dev7 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v99 : BitVec 32 := Scalar.addi v2 c7_i32
  let c16_i32_61 : BitVec 32 := 16#32
  let c0_i32_62 : BitVec 32 := 0#32
  let v100 : BitVec 1 := Scalar.cmpi .eq c16_i32_61 c0_i32_62
  let c1_i32_63 : BitVec 32 := 1#32
  let v101 : BitVec 32 := Scalar.select v100 c1_i32_63 c16_i32_61
  let v102 : BitVec 32 := Scalar.remsi v99 v101
  let c0_i32_65 : BitVec 32 := 0#32
  let v104 : BitVec 1 := Scalar.cmpi .slt v102 c0_i32_65
  let c0_i32_66 : BitVec 32 := 0#32
  let v105 : BitVec 1 := Scalar.cmpi .slt v101 c0_i32_66
  let v106 : BitVec 1 := Scalar.xori v104 v105
  let c0_i32_64 : BitVec 32 := 0#32
  let v103 : BitVec 1 := Scalar.cmpi .ne v102 c0_i32_64
  let v107 : BitVec 1 := Scalar.andi v106 v103
  let v108 : BitVec 32 := Scalar.addi v102 v101
  let v109 : BitVec 32 := Scalar.select v107 v108 v102
  let c1_i32_68 : BitVec 32 := 1#32
  let v110 : BitVec 32 := Scalar.muli v109 c1_i32_68
  let v111 : BitVec 32 := Scalar.addi c0_i32_69 v110
  v111.toNat
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v112 : BitVec 32 := Scalar.addi v2 c8_i32
  let c16_i32_70 : BitVec 32 := 16#32
  let c0_i32_71 : BitVec 32 := 0#32
  let v113 : BitVec 1 := Scalar.cmpi .eq c16_i32_70 c0_i32_71
  let c1_i32_72 : BitVec 32 := 1#32
  let v114 : BitVec 32 := Scalar.select v113 c1_i32_72 c16_i32_70
  let v115 : BitVec 32 := Scalar.remsi v112 v114
  let c0_i32_74 : BitVec 32 := 0#32
  let v117 : BitVec 1 := Scalar.cmpi .slt v115 c0_i32_74
  let c0_i32_75 : BitVec 32 := 0#32
  let v118 : BitVec 1 := Scalar.cmpi .slt v114 c0_i32_75
  let v119 : BitVec 1 := Scalar.xori v117 v118
  let c0_i32_73 : BitVec 32 := 0#32
  let v116 : BitVec 1 := Scalar.cmpi .ne v115 c0_i32_73
  let v120 : BitVec 1 := Scalar.andi v119 v116
  let v121 : BitVec 32 := Scalar.addi v115 v114
  let v122 : BitVec 32 := Scalar.select v120 v121 v115
  let c1_i32_77 : BitVec 32 := 1#32
  let v123 : BitVec 32 := Scalar.muli v122 c1_i32_77
  let v124 : BitVec 32 := Scalar.addi c0_i32_78 v123
  v124.toNat
def k0_dev9 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v125 : BitVec 32 := Scalar.addi v2 c9_i32
  let c16_i32_79 : BitVec 32 := 16#32
  let c0_i32_80 : BitVec 32 := 0#32
  let v126 : BitVec 1 := Scalar.cmpi .eq c16_i32_79 c0_i32_80
  let c1_i32_81 : BitVec 32 := 1#32
  let v127 : BitVec 32 := Scalar.select v126 c1_i32_81 c16_i32_79
  let v128 : BitVec 32 := Scalar.remsi v125 v127
  let c0_i32_83 : BitVec 32 := 0#32
  let v130 : BitVec 1 := Scalar.cmpi .slt v128 c0_i32_83
  let c0_i32_84 : BitVec 32 := 0#32
  let v131 : BitVec 1 := Scalar.cmpi .slt v127 c0_i32_84
  let v132 : BitVec 1 := Scalar.xori v130 v131
  let c0_i32_82 : BitVec 32 := 0#32
  let v129 : BitVec 1 := Scalar.cmpi .ne v128 c0_i32_82
  let v133 : BitVec 1 := Scalar.andi v132 v129
  let v134 : BitVec 32 := Scalar.addi v128 v127
  let v135 : BitVec 32 := Scalar.select v133 v134 v128
  let c1_i32_86 : BitVec 32 := 1#32
  let v136 : BitVec 32 := Scalar.muli v135 c1_i32_86
  let v137 : BitVec 32 := Scalar.addi c0_i32_87 v136
  v137.toNat
def k0_dev10 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v138 : BitVec 32 := Scalar.addi v2 c10_i32
  let c16_i32_88 : BitVec 32 := 16#32
  let c0_i32_89 : BitVec 32 := 0#32
  let v139 : BitVec 1 := Scalar.cmpi .eq c16_i32_88 c0_i32_89
  let c1_i32_90 : BitVec 32 := 1#32
  let v140 : BitVec 32 := Scalar.select v139 c1_i32_90 c16_i32_88
  let v141 : BitVec 32 := Scalar.remsi v138 v140
  let c0_i32_92 : BitVec 32 := 0#32
  let v143 : BitVec 1 := Scalar.cmpi .slt v141 c0_i32_92
  let c0_i32_93 : BitVec 32 := 0#32
  let v144 : BitVec 1 := Scalar.cmpi .slt v140 c0_i32_93
  let v145 : BitVec 1 := Scalar.xori v143 v144
  let c0_i32_91 : BitVec 32 := 0#32
  let v142 : BitVec 1 := Scalar.cmpi .ne v141 c0_i32_91
  let v146 : BitVec 1 := Scalar.andi v145 v142
  let v147 : BitVec 32 := Scalar.addi v141 v140
  let v148 : BitVec 32 := Scalar.select v146 v147 v141
  let c1_i32_95 : BitVec 32 := 1#32
  let v149 : BitVec 32 := Scalar.muli v148 c1_i32_95
  let v150 : BitVec 32 := Scalar.addi c0_i32_96 v149
  v150.toNat
def k0_dev11 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v151 : BitVec 32 := Scalar.addi v2 c11_i32
  let c16_i32_97 : BitVec 32 := 16#32
  let c0_i32_98 : BitVec 32 := 0#32
  let v152 : BitVec 1 := Scalar.cmpi .eq c16_i32_97 c0_i32_98
  let c1_i32_99 : BitVec 32 := 1#32
  let v153 : BitVec 32 := Scalar.select v152 c1_i32_99 c16_i32_97
  let v154 : BitVec 32 := Scalar.remsi v151 v153
  let c0_i32_101 : BitVec 32 := 0#32
  let v156 : BitVec 1 := Scalar.cmpi .slt v154 c0_i32_101
  let c0_i32_102 : BitVec 32 := 0#32
  let v157 : BitVec 1 := Scalar.cmpi .slt v153 c0_i32_102
  let v158 : BitVec 1 := Scalar.xori v156 v157
  let c0_i32_100 : BitVec 32 := 0#32
  let v155 : BitVec 1 := Scalar.cmpi .ne v154 c0_i32_100
  let v159 : BitVec 1 := Scalar.andi v158 v155
  let v160 : BitVec 32 := Scalar.addi v154 v153
  let v161 : BitVec 32 := Scalar.select v159 v160 v154
  let c1_i32_104 : BitVec 32 := 1#32
  let v162 : BitVec 32 := Scalar.muli v161 c1_i32_104
  let v163 : BitVec 32 := Scalar.addi c0_i32_105 v162
  v163.toNat
def k0_dev12 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v164 : BitVec 32 := Scalar.addi v2 c12_i32
  let c16_i32_106 : BitVec 32 := 16#32
  let c0_i32_107 : BitVec 32 := 0#32
  let v165 : BitVec 1 := Scalar.cmpi .eq c16_i32_106 c0_i32_107
  let c1_i32_108 : BitVec 32 := 1#32
  let v166 : BitVec 32 := Scalar.select v165 c1_i32_108 c16_i32_106
  let v167 : BitVec 32 := Scalar.remsi v164 v166
  let c0_i32_110 : BitVec 32 := 0#32
  let v169 : BitVec 1 := Scalar.cmpi .slt v167 c0_i32_110
  let c0_i32_111 : BitVec 32 := 0#32
  let v170 : BitVec 1 := Scalar.cmpi .slt v166 c0_i32_111
  let v171 : BitVec 1 := Scalar.xori v169 v170
  let c0_i32_109 : BitVec 32 := 0#32
  let v168 : BitVec 1 := Scalar.cmpi .ne v167 c0_i32_109
  let v172 : BitVec 1 := Scalar.andi v171 v168
  let v173 : BitVec 32 := Scalar.addi v167 v166
  let v174 : BitVec 32 := Scalar.select v172 v173 v167
  let c1_i32_113 : BitVec 32 := 1#32
  let v175 : BitVec 32 := Scalar.muli v174 c1_i32_113
  let v176 : BitVec 32 := Scalar.addi c0_i32_114 v175
  v176.toNat
def k0_dev13 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v177 : BitVec 32 := Scalar.addi v2 c13_i32
  let c16_i32_115 : BitVec 32 := 16#32
  let c0_i32_116 : BitVec 32 := 0#32
  let v178 : BitVec 1 := Scalar.cmpi .eq c16_i32_115 c0_i32_116
  let c1_i32_117 : BitVec 32 := 1#32
  let v179 : BitVec 32 := Scalar.select v178 c1_i32_117 c16_i32_115
  let v180 : BitVec 32 := Scalar.remsi v177 v179
  let c0_i32_119 : BitVec 32 := 0#32
  let v182 : BitVec 1 := Scalar.cmpi .slt v180 c0_i32_119
  let c0_i32_120 : BitVec 32 := 0#32
  let v183 : BitVec 1 := Scalar.cmpi .slt v179 c0_i32_120
  let v184 : BitVec 1 := Scalar.xori v182 v183
  let c0_i32_118 : BitVec 32 := 0#32
  let v181 : BitVec 1 := Scalar.cmpi .ne v180 c0_i32_118
  let v185 : BitVec 1 := Scalar.andi v184 v181
  let v186 : BitVec 32 := Scalar.addi v180 v179
  let v187 : BitVec 32 := Scalar.select v185 v186 v180
  let c1_i32_122 : BitVec 32 := 1#32
  let v188 : BitVec 32 := Scalar.muli v187 c1_i32_122
  let v189 : BitVec 32 := Scalar.addi c0_i32_123 v188
  v189.toNat
def k0_dev14 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v190 : BitVec 32 := Scalar.addi v2 c14_i32
  let c16_i32_124 : BitVec 32 := 16#32
  let c0_i32_125 : BitVec 32 := 0#32
  let v191 : BitVec 1 := Scalar.cmpi .eq c16_i32_124 c0_i32_125
  let c1_i32_126 : BitVec 32 := 1#32
  let v192 : BitVec 32 := Scalar.select v191 c1_i32_126 c16_i32_124
  let v193 : BitVec 32 := Scalar.remsi v190 v192
  let c0_i32_128 : BitVec 32 := 0#32
  let v195 : BitVec 1 := Scalar.cmpi .slt v193 c0_i32_128
  let c0_i32_129 : BitVec 32 := 0#32
  let v196 : BitVec 1 := Scalar.cmpi .slt v192 c0_i32_129
  let v197 : BitVec 1 := Scalar.xori v195 v196
  let c0_i32_127 : BitVec 32 := 0#32
  let v194 : BitVec 1 := Scalar.cmpi .ne v193 c0_i32_127
  let v198 : BitVec 1 := Scalar.andi v197 v194
  let v199 : BitVec 32 := Scalar.addi v193 v192
  let v200 : BitVec 32 := Scalar.select v198 v199 v193
  let c1_i32_131 : BitVec 32 := 1#32
  let v201 : BitVec 32 := Scalar.muli v200 c1_i32_131
  let v202 : BitVec 32 := Scalar.addi c0_i32_132 v201
  v202.toNat
def k0_dev15 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v203 : BitVec 32 := Scalar.addi v2 c15_i32
  let c16_i32_133 : BitVec 32 := 16#32
  let c0_i32_134 : BitVec 32 := 0#32
  let v204 : BitVec 1 := Scalar.cmpi .eq c16_i32_133 c0_i32_134
  let c1_i32_135 : BitVec 32 := 1#32
  let v205 : BitVec 32 := Scalar.select v204 c1_i32_135 c16_i32_133
  let v206 : BitVec 32 := Scalar.remsi v203 v205
  let c0_i32_137 : BitVec 32 := 0#32
  let v208 : BitVec 1 := Scalar.cmpi .slt v206 c0_i32_137
  let c0_i32_138 : BitVec 32 := 0#32
  let v209 : BitVec 1 := Scalar.cmpi .slt v205 c0_i32_138
  let v210 : BitVec 1 := Scalar.xori v208 v209
  let c0_i32_136 : BitVec 32 := 0#32
  let v207 : BitVec 1 := Scalar.cmpi .ne v206 c0_i32_136
  let v211 : BitVec 1 := Scalar.andi v210 v207
  let v212 : BitVec 32 := Scalar.addi v206 v205
  let v213 : BitVec 32 := Scalar.select v211 v212 v206
  let c1_i32_140 : BitVec 32 := 1#32
  let v214 : BitVec 32 := Scalar.muli v213 c1_i32_140
  let v215 : BitVec 32 := Scalar.addi c0_i32_141 v214
  v215.toNat
def k0_off1 (d0 : Dev nD) (c0_i32_148 : BitVec 32) : Fin 2 → Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v225 : BitVec 32 := Scalar.addi v19 c0_i32_148
  let c8_i32_149 : BitVec 32 := 8#32
  let c0_i32_150 : BitVec 32 := 0#32
  let v226 : BitVec 1 := Scalar.cmpi .eq c8_i32_149 c0_i32_150
  let c1_i32_151 : BitVec 32 := 1#32
  let v227 : BitVec 32 := Scalar.select v226 c1_i32_151 c8_i32_149
  let v228 : BitVec 32 := Scalar.remsi v225 v227
  let c0_i32_153 : BitVec 32 := 0#32
  let v230 : BitVec 1 := Scalar.cmpi .slt v228 c0_i32_153
  let c0_i32_154 : BitVec 32 := 0#32
  let v231 : BitVec 1 := Scalar.cmpi .slt v227 c0_i32_154
  let v232 : BitVec 1 := Scalar.xori v230 v231
  let c0_i32_152 : BitVec 32 := 0#32
  let v229 : BitVec 1 := Scalar.cmpi .ne v228 c0_i32_152
  let v233 : BitVec 1 := Scalar.andi v232 v229
  let v234 : BitVec 32 := Scalar.addi v228 v227
  let v235 : BitVec 32 := Scalar.select v233 v234 v228
  let c256_i32 : BitVec 32 := 256#32
  let v236 : BitVec 32 := Scalar.muli v235 c256_i32
  ![0, v236.toNat]
def k0_cond1 (d0 : Dev nD) : BitVec 1 :=
  let c2_i32_191 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_178 : BitVec 32 := 0#32
  let v264 : BitVec 32 := Scalar.addi v19 c0_i32_178
  let c8_i32_179 : BitVec 32 := 8#32
  let c0_i32_180 : BitVec 32 := 0#32
  let v265 : BitVec 1 := Scalar.cmpi .eq c8_i32_179 c0_i32_180
  let c1_i32_181 : BitVec 32 := 1#32
  let v266 : BitVec 32 := Scalar.select v265 c1_i32_181 c8_i32_179
  let v267 : BitVec 32 := Scalar.remsi v264 v266
  let c0_i32_183 : BitVec 32 := 0#32
  let v269 : BitVec 1 := Scalar.cmpi .slt v267 c0_i32_183
  let c0_i32_184 : BitVec 32 := 0#32
  let v270 : BitVec 1 := Scalar.cmpi .slt v266 c0_i32_184
  let v271 : BitVec 1 := Scalar.xori v269 v270
  let c0_i32_182 : BitVec 32 := 0#32
  let v268 : BitVec 1 := Scalar.cmpi .ne v267 c0_i32_182
  let v272 : BitVec 1 := Scalar.andi v271 v268
  let v273 : BitVec 32 := Scalar.addi v267 v266
  let v274 : BitVec 32 := Scalar.select v272 v273 v267
  let v284 : BitVec 32 := Scalar.muli c2_i32_191 v274
  let c0_i32_192 : BitVec 32 := 0#32
  let v285 : BitVec 32 := Scalar.addi v284 c0_i32_192
  let v287 : BitVec 1 := Scalar.cmpi .eq v285 v2
  let v288 : BitVec 32 := Scalar.extui v287
  let c0_i32_193 : BitVec 32 := 0#32
  let v289 : BitVec 1 := Scalar.cmpi .ne v288 c0_i32_193
  v289

def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_821 : BitVec 32 := 256#32
  let v1232 : BitVec 32 := Scalar.muli v2 c256_i32_821
  let v1233 : Index := Scalar.indexCast v1232
  let c0_822 : Index := 0#32
  ![v1233.toNat, 0]
def k0_cond2 (d0 : Dev nD) : BitVec 1 :=
  let c2_i32_191 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_178 : BitVec 32 := 0#32
  let v264 : BitVec 32 := Scalar.addi v19 c0_i32_178
  let c8_i32_179 : BitVec 32 := 8#32
  let c0_i32_180 : BitVec 32 := 0#32
  let v265 : BitVec 1 := Scalar.cmpi .eq c8_i32_179 c0_i32_180
  let c1_i32_181 : BitVec 32 := 1#32
  let v266 : BitVec 32 := Scalar.select v265 c1_i32_181 c8_i32_179
  let v267 : BitVec 32 := Scalar.remsi v264 v266
  let c0_i32_183 : BitVec 32 := 0#32
  let v269 : BitVec 1 := Scalar.cmpi .slt v267 c0_i32_183
  let c0_i32_184 : BitVec 32 := 0#32
  let v270 : BitVec 1 := Scalar.cmpi .slt v266 c0_i32_184
  let v271 : BitVec 1 := Scalar.xori v269 v270
  let c0_i32_182 : BitVec 32 := 0#32
  let v268 : BitVec 1 := Scalar.cmpi .ne v267 c0_i32_182
  let v272 : BitVec 1 := Scalar.andi v271 v268
  let v273 : BitVec 32 := Scalar.addi v267 v266
  let v274 : BitVec 32 := Scalar.select v272 v273 v267
  let v284 : BitVec 32 := Scalar.muli c2_i32_191 v274
  let c0_i32_192 : BitVec 32 := 0#32
  let v285 : BitVec 32 := Scalar.addi v284 c0_i32_192
  let v290 : BitVec 1 := Scalar.cmpi .ne v285 v2
  let v291 : BitVec 32 := Scalar.extui v290
  let c0_i32_194 : BitVec 32 := 0#32
  let v292 : BitVec 1 := Scalar.cmpi .ne v291 c0_i32_194
  v292

def k0_off3 (d0 : Dev nD) : Fin 3 → Nat :=
  let c2_i32_191 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_178 : BitVec 32 := 0#32
  let v264 : BitVec 32 := Scalar.addi v19 c0_i32_178
  let c8_i32_179 : BitVec 32 := 8#32
  let c0_i32_180 : BitVec 32 := 0#32
  let v265 : BitVec 1 := Scalar.cmpi .eq c8_i32_179 c0_i32_180
  let c1_i32_181 : BitVec 32 := 1#32
  let v266 : BitVec 32 := Scalar.select v265 c1_i32_181 c8_i32_179
  let v267 : BitVec 32 := Scalar.remsi v264 v266
  let c0_i32_183 : BitVec 32 := 0#32
  let v269 : BitVec 1 := Scalar.cmpi .slt v267 c0_i32_183
  let c0_i32_184 : BitVec 32 := 0#32
  let v270 : BitVec 1 := Scalar.cmpi .slt v266 c0_i32_184
  let v271 : BitVec 1 := Scalar.xori v269 v270
  let c0_i32_182 : BitVec 32 := 0#32
  let v268 : BitVec 1 := Scalar.cmpi .ne v267 c0_i32_182
  let v272 : BitVec 1 := Scalar.andi v271 v268
  let v273 : BitVec 32 := Scalar.addi v267 v266
  let v274 : BitVec 32 := Scalar.select v272 v273 v267
  let v284 : BitVec 32 := Scalar.muli c2_i32_191 v274
  let c0_i32_192 : BitVec 32 := 0#32
  let v285 : BitVec 32 := Scalar.addi v284 c0_i32_192
  let v1233 : Index := Scalar.indexCast v285
  let c0_821 : Index := 0#32
  let c0_822 : Index := 0#32
  ![v1233.toNat, 0, 0]
def k0_off4 (d0 : Dev nD) : Fin 1 → Nat :=
  let c2_i32_191 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_178 : BitVec 32 := 0#32
  let v264 : BitVec 32 := Scalar.addi v19 c0_i32_178
  let c8_i32_179 : BitVec 32 := 8#32
  let c0_i32_180 : BitVec 32 := 0#32
  let v265 : BitVec 1 := Scalar.cmpi .eq c8_i32_179 c0_i32_180
  let c1_i32_181 : BitVec 32 := 1#32
  let v266 : BitVec 32 := Scalar.select v265 c1_i32_181 c8_i32_179
  let v267 : BitVec 32 := Scalar.remsi v264 v266
  let c0_i32_183 : BitVec 32 := 0#32
  let v269 : BitVec 1 := Scalar.cmpi .slt v267 c0_i32_183
  let c0_i32_184 : BitVec 32 := 0#32
  let v270 : BitVec 1 := Scalar.cmpi .slt v266 c0_i32_184
  let v271 : BitVec 1 := Scalar.xori v269 v270
  let c0_i32_182 : BitVec 32 := 0#32
  let v268 : BitVec 1 := Scalar.cmpi .ne v267 c0_i32_182
  let v272 : BitVec 1 := Scalar.andi v271 v268
  let v273 : BitVec 32 := Scalar.addi v267 v266
  let v274 : BitVec 32 := Scalar.select v272 v273 v267
  let v284 : BitVec 32 := Scalar.muli c2_i32_191 v274
  let c0_i32_192 : BitVec 32 := 0#32
  let v285 : BitVec 32 := Scalar.addi v284 c0_i32_192
  ![v285.toNat]
def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_825 : BitVec 32 := 0#32
  let c0_i32_826 : BitVec 32 := 0#32
  ![v2.toNat, 0, 0]
def k0_off7 (d0 : Dev nD) : Fin 3 → Nat :=
  let c2_i32_191 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_178 : BitVec 32 := 0#32
  let v264 : BitVec 32 := Scalar.addi v19 c0_i32_178
  let c8_i32_179 : BitVec 32 := 8#32
  let c0_i32_180 : BitVec 32 := 0#32
  let v265 : BitVec 1 := Scalar.cmpi .eq c8_i32_179 c0_i32_180
  let c1_i32_181 : BitVec 32 := 1#32
  let v266 : BitVec 32 := Scalar.select v265 c1_i32_181 c8_i32_179
  let v267 : BitVec 32 := Scalar.remsi v264 v266
  let c0_i32_183 : BitVec 32 := 0#32
  let v269 : BitVec 1 := Scalar.cmpi .slt v267 c0_i32_183
  let c0_i32_184 : BitVec 32 := 0#32
  let v270 : BitVec 1 := Scalar.cmpi .slt v266 c0_i32_184
  let v271 : BitVec 1 := Scalar.xori v269 v270
  let c0_i32_182 : BitVec 32 := 0#32
  let v268 : BitVec 1 := Scalar.cmpi .ne v267 c0_i32_182
  let v272 : BitVec 1 := Scalar.andi v271 v268
  let v273 : BitVec 32 := Scalar.addi v267 v266
  let v274 : BitVec 32 := Scalar.select v272 v273 v267
  let v284 : BitVec 32 := Scalar.muli c2_i32_191 v274
  let c0_i32_192 : BitVec 32 := 0#32
  let v285 : BitVec 32 := Scalar.addi v284 c0_i32_192
  let c0_i32_827 : BitVec 32 := 0#32
  let c0_i32_828 : BitVec 32 := 0#32
  ![v285.toNat, 0, 0]
def k0_dev16 (d0 : Dev nD) : Nat :=
  let c0_i32_824 : BitVec 32 := 0#32
  let c2_i32_191 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_178 : BitVec 32 := 0#32
  let v264 : BitVec 32 := Scalar.addi v19 c0_i32_178
  let c8_i32_179 : BitVec 32 := 8#32
  let c0_i32_180 : BitVec 32 := 0#32
  let v265 : BitVec 1 := Scalar.cmpi .eq c8_i32_179 c0_i32_180
  let c1_i32_181 : BitVec 32 := 1#32
  let v266 : BitVec 32 := Scalar.select v265 c1_i32_181 c8_i32_179
  let v267 : BitVec 32 := Scalar.remsi v264 v266
  let c0_i32_183 : BitVec 32 := 0#32
  let v269 : BitVec 1 := Scalar.cmpi .slt v267 c0_i32_183
  let c0_i32_184 : BitVec 32 := 0#32
  let v270 : BitVec 1 := Scalar.cmpi .slt v266 c0_i32_184
  let v271 : BitVec 1 := Scalar.xori v269 v270
  let c0_i32_182 : BitVec 32 := 0#32
  let v268 : BitVec 1 := Scalar.cmpi .ne v267 c0_i32_182
  let v272 : BitVec 1 := Scalar.andi v271 v268
  let v273 : BitVec 32 := Scalar.addi v267 v266
  let v274 : BitVec 32 := Scalar.select v272 v273 v267
  let v284 : BitVec 32 := Scalar.muli c2_i32_191 v274
  let c0_i32_192 : BitVec 32 := 0#32
  let v285 : BitVec 32 := Scalar.addi v284 c0_i32_192
  let c1_i32_823 : BitVec 32 := 1#32
  let v1237 : BitVec 32 := Scalar.muli v285 c1_i32_823
  let v1238 : BitVec 32 := Scalar.addi c0_i32_824 v1237
  v1238.toNat
def k0_cond3 (d0 : Dev nD) : BitVec 1 :=
  let c2_i32_195 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_178 : BitVec 32 := 0#32
  let v264 : BitVec 32 := Scalar.addi v19 c0_i32_178
  let c8_i32_179 : BitVec 32 := 8#32
  let c0_i32_180 : BitVec 32 := 0#32
  let v265 : BitVec 1 := Scalar.cmpi .eq c8_i32_179 c0_i32_180
  let c1_i32_181 : BitVec 32 := 1#32
  let v266 : BitVec 32 := Scalar.select v265 c1_i32_181 c8_i32_179
  let v267 : BitVec 32 := Scalar.remsi v264 v266
  let c0_i32_183 : BitVec 32 := 0#32
  let v269 : BitVec 1 := Scalar.cmpi .slt v267 c0_i32_183
  let c0_i32_184 : BitVec 32 := 0#32
  let v270 : BitVec 1 := Scalar.cmpi .slt v266 c0_i32_184
  let v271 : BitVec 1 := Scalar.xori v269 v270
  let c0_i32_182 : BitVec 32 := 0#32
  let v268 : BitVec 1 := Scalar.cmpi .ne v267 c0_i32_182
  let v272 : BitVec 1 := Scalar.andi v271 v268
  let v273 : BitVec 32 := Scalar.addi v267 v266
  let v274 : BitVec 32 := Scalar.select v272 v273 v267
  let v293 : BitVec 32 := Scalar.muli c2_i32_195 v274
  let c1_i32_196 : BitVec 32 := 1#32
  let v294 : BitVec 32 := Scalar.addi v293 c1_i32_196
  let v296 : BitVec 1 := Scalar.cmpi .eq v294 v2
  let v297 : BitVec 32 := Scalar.extui v296
  let c0_i32_197 : BitVec 32 := 0#32
  let v298 : BitVec 1 := Scalar.cmpi .ne v297 c0_i32_197
  v298

def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_821 : BitVec 32 := 256#32
  let v1232 : BitVec 32 := Scalar.muli v2 c256_i32_821
  let v1233 : Index := Scalar.indexCast v1232
  let c0_822 : Index := 0#32
  ![v1233.toNat, 0]
def k0_cond4 (d0 : Dev nD) : BitVec 1 :=
  let c2_i32_195 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_178 : BitVec 32 := 0#32
  let v264 : BitVec 32 := Scalar.addi v19 c0_i32_178
  let c8_i32_179 : BitVec 32 := 8#32
  let c0_i32_180 : BitVec 32 := 0#32
  let v265 : BitVec 1 := Scalar.cmpi .eq c8_i32_179 c0_i32_180
  let c1_i32_181 : BitVec 32 := 1#32
  let v266 : BitVec 32 := Scalar.select v265 c1_i32_181 c8_i32_179
  let v267 : BitVec 32 := Scalar.remsi v264 v266
  let c0_i32_183 : BitVec 32 := 0#32
  let v269 : BitVec 1 := Scalar.cmpi .slt v267 c0_i32_183
  let c0_i32_184 : BitVec 32 := 0#32
  let v270 : BitVec 1 := Scalar.cmpi .slt v266 c0_i32_184
  let v271 : BitVec 1 := Scalar.xori v269 v270
  let c0_i32_182 : BitVec 32 := 0#32
  let v268 : BitVec 1 := Scalar.cmpi .ne v267 c0_i32_182
  let v272 : BitVec 1 := Scalar.andi v271 v268
  let v273 : BitVec 32 := Scalar.addi v267 v266
  let v274 : BitVec 32 := Scalar.select v272 v273 v267
  let v293 : BitVec 32 := Scalar.muli c2_i32_195 v274
  let c1_i32_196 : BitVec 32 := 1#32
  let v294 : BitVec 32 := Scalar.addi v293 c1_i32_196
  let v299 : BitVec 1 := Scalar.cmpi .ne v294 v2
  let v300 : BitVec 32 := Scalar.extui v299
  let c0_i32_198 : BitVec 32 := 0#32
  let v301 : BitVec 1 := Scalar.cmpi .ne v300 c0_i32_198
  v301

def k0_off9 (d0 : Dev nD) : Fin 3 → Nat :=
  let c2_i32_195 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_178 : BitVec 32 := 0#32
  let v264 : BitVec 32 := Scalar.addi v19 c0_i32_178
  let c8_i32_179 : BitVec 32 := 8#32
  let c0_i32_180 : BitVec 32 := 0#32
  let v265 : BitVec 1 := Scalar.cmpi .eq c8_i32_179 c0_i32_180
  let c1_i32_181 : BitVec 32 := 1#32
  let v266 : BitVec 32 := Scalar.select v265 c1_i32_181 c8_i32_179
  let v267 : BitVec 32 := Scalar.remsi v264 v266
  let c0_i32_183 : BitVec 32 := 0#32
  let v269 : BitVec 1 := Scalar.cmpi .slt v267 c0_i32_183
  let c0_i32_184 : BitVec 32 := 0#32
  let v270 : BitVec 1 := Scalar.cmpi .slt v266 c0_i32_184
  let v271 : BitVec 1 := Scalar.xori v269 v270
  let c0_i32_182 : BitVec 32 := 0#32
  let v268 : BitVec 1 := Scalar.cmpi .ne v267 c0_i32_182
  let v272 : BitVec 1 := Scalar.andi v271 v268
  let v273 : BitVec 32 := Scalar.addi v267 v266
  let v274 : BitVec 32 := Scalar.select v272 v273 v267
  let v293 : BitVec 32 := Scalar.muli c2_i32_195 v274
  let c1_i32_196 : BitVec 32 := 1#32
  let v294 : BitVec 32 := Scalar.addi v293 c1_i32_196
  let v1233 : Index := Scalar.indexCast v294
  let c0_821 : Index := 0#32
  let c0_822 : Index := 0#32
  ![v1233.toNat, 0, 0]
def k0_off10 (d0 : Dev nD) : Fin 1 → Nat :=
  let c2_i32_195 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_178 : BitVec 32 := 0#32
  let v264 : BitVec 32 := Scalar.addi v19 c0_i32_178
  let c8_i32_179 : BitVec 32 := 8#32
  let c0_i32_180 : BitVec 32 := 0#32
  let v265 : BitVec 1 := Scalar.cmpi .eq c8_i32_179 c0_i32_180
  let c1_i32_181 : BitVec 32 := 1#32
  let v266 : BitVec 32 := Scalar.select v265 c1_i32_181 c8_i32_179
  let v267 : BitVec 32 := Scalar.remsi v264 v266
  let c0_i32_183 : BitVec 32 := 0#32
  let v269 : BitVec 1 := Scalar.cmpi .slt v267 c0_i32_183
  let c0_i32_184 : BitVec 32 := 0#32
  let v270 : BitVec 1 := Scalar.cmpi .slt v266 c0_i32_184
  let v271 : BitVec 1 := Scalar.xori v269 v270
  let c0_i32_182 : BitVec 32 := 0#32
  let v268 : BitVec 1 := Scalar.cmpi .ne v267 c0_i32_182
  let v272 : BitVec 1 := Scalar.andi v271 v268
  let v273 : BitVec 32 := Scalar.addi v267 v266
  let v274 : BitVec 32 := Scalar.select v272 v273 v267
  let v293 : BitVec 32 := Scalar.muli c2_i32_195 v274
  let c1_i32_196 : BitVec 32 := 1#32
  let v294 : BitVec 32 := Scalar.addi v293 c1_i32_196
  ![v294.toNat]
def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_825 : BitVec 32 := 0#32
  let c0_i32_826 : BitVec 32 := 0#32
  ![v2.toNat, 0, 0]
def k0_off13 (d0 : Dev nD) : Fin 3 → Nat :=
  let c2_i32_195 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_178 : BitVec 32 := 0#32
  let v264 : BitVec 32 := Scalar.addi v19 c0_i32_178
  let c8_i32_179 : BitVec 32 := 8#32
  let c0_i32_180 : BitVec 32 := 0#32
  let v265 : BitVec 1 := Scalar.cmpi .eq c8_i32_179 c0_i32_180
  let c1_i32_181 : BitVec 32 := 1#32
  let v266 : BitVec 32 := Scalar.select v265 c1_i32_181 c8_i32_179
  let v267 : BitVec 32 := Scalar.remsi v264 v266
  let c0_i32_183 : BitVec 32 := 0#32
  let v269 : BitVec 1 := Scalar.cmpi .slt v267 c0_i32_183
  let c0_i32_184 : BitVec 32 := 0#32
  let v270 : BitVec 1 := Scalar.cmpi .slt v266 c0_i32_184
  let v271 : BitVec 1 := Scalar.xori v269 v270
  let c0_i32_182 : BitVec 32 := 0#32
  let v268 : BitVec 1 := Scalar.cmpi .ne v267 c0_i32_182
  let v272 : BitVec 1 := Scalar.andi v271 v268
  let v273 : BitVec 32 := Scalar.addi v267 v266
  let v274 : BitVec 32 := Scalar.select v272 v273 v267
  let v293 : BitVec 32 := Scalar.muli c2_i32_195 v274
  let c1_i32_196 : BitVec 32 := 1#32
  let v294 : BitVec 32 := Scalar.addi v293 c1_i32_196
  let c0_i32_827 : BitVec 32 := 0#32
  let c0_i32_828 : BitVec 32 := 0#32
  ![v294.toNat, 0, 0]
def k0_dev17 (d0 : Dev nD) : Nat :=
  let c0_i32_824 : BitVec 32 := 0#32
  let c2_i32_195 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_178 : BitVec 32 := 0#32
  let v264 : BitVec 32 := Scalar.addi v19 c0_i32_178
  let c8_i32_179 : BitVec 32 := 8#32
  let c0_i32_180 : BitVec 32 := 0#32
  let v265 : BitVec 1 := Scalar.cmpi .eq c8_i32_179 c0_i32_180
  let c1_i32_181 : BitVec 32 := 1#32
  let v266 : BitVec 32 := Scalar.select v265 c1_i32_181 c8_i32_179
  let v267 : BitVec 32 := Scalar.remsi v264 v266
  let c0_i32_183 : BitVec 32 := 0#32
  let v269 : BitVec 1 := Scalar.cmpi .slt v267 c0_i32_183
  let c0_i32_184 : BitVec 32 := 0#32
  let v270 : BitVec 1 := Scalar.cmpi .slt v266 c0_i32_184
  let v271 : BitVec 1 := Scalar.xori v269 v270
  let c0_i32_182 : BitVec 32 := 0#32
  let v268 : BitVec 1 := Scalar.cmpi .ne v267 c0_i32_182
  let v272 : BitVec 1 := Scalar.andi v271 v268
  let v273 : BitVec 32 := Scalar.addi v267 v266
  let v274 : BitVec 32 := Scalar.select v272 v273 v267
  let v293 : BitVec 32 := Scalar.muli c2_i32_195 v274
  let c1_i32_196 : BitVec 32 := 1#32
  let v294 : BitVec 32 := Scalar.addi v293 c1_i32_196
  let c1_i32_823 : BitVec 32 := 1#32
  let v1237 : BitVec 32 := Scalar.muli v294 c1_i32_823
  let v1238 : BitVec 32 := Scalar.addi c0_i32_824 v1237
  v1238.toNat
def k0_cond5 (d0 : Dev nD) : BitVec 1 :=
  let c2_i32_230 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_217 : BitVec 32 := 1#32
  let v324 : BitVec 32 := Scalar.addi v19 c1_i32_217
  let c8_i32_218 : BitVec 32 := 8#32
  let c0_i32_219 : BitVec 32 := 0#32
  let v325 : BitVec 1 := Scalar.cmpi .eq c8_i32_218 c0_i32_219
  let c1_i32_220 : BitVec 32 := 1#32
  let v326 : BitVec 32 := Scalar.select v325 c1_i32_220 c8_i32_218
  let v327 : BitVec 32 := Scalar.remsi v324 v326
  let c0_i32_222 : BitVec 32 := 0#32
  let v329 : BitVec 1 := Scalar.cmpi .slt v327 c0_i32_222
  let c0_i32_223 : BitVec 32 := 0#32
  let v330 : BitVec 1 := Scalar.cmpi .slt v326 c0_i32_223
  let v331 : BitVec 1 := Scalar.xori v329 v330
  let c0_i32_221 : BitVec 32 := 0#32
  let v328 : BitVec 1 := Scalar.cmpi .ne v327 c0_i32_221
  let v332 : BitVec 1 := Scalar.andi v331 v328
  let v333 : BitVec 32 := Scalar.addi v327 v326
  let v334 : BitVec 32 := Scalar.select v332 v333 v327
  let v344 : BitVec 32 := Scalar.muli c2_i32_230 v334
  let c0_i32_231 : BitVec 32 := 0#32
  let v345 : BitVec 32 := Scalar.addi v344 c0_i32_231
  let v347 : BitVec 1 := Scalar.cmpi .eq v345 v2
  let v348 : BitVec 32 := Scalar.extui v347
  let c0_i32_232 : BitVec 32 := 0#32
  let v349 : BitVec 1 := Scalar.cmpi .ne v348 c0_i32_232
  v349

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_821 : BitVec 32 := 256#32
  let v1232 : BitVec 32 := Scalar.muli v2 c256_i32_821
  let v1233 : Index := Scalar.indexCast v1232
  let c0_822 : Index := 0#32
  ![v1233.toNat, 0]
def k0_cond6 (d0 : Dev nD) : BitVec 1 :=
  let c2_i32_230 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_217 : BitVec 32 := 1#32
  let v324 : BitVec 32 := Scalar.addi v19 c1_i32_217
  let c8_i32_218 : BitVec 32 := 8#32
  let c0_i32_219 : BitVec 32 := 0#32
  let v325 : BitVec 1 := Scalar.cmpi .eq c8_i32_218 c0_i32_219
  let c1_i32_220 : BitVec 32 := 1#32
  let v326 : BitVec 32 := Scalar.select v325 c1_i32_220 c8_i32_218
  let v327 : BitVec 32 := Scalar.remsi v324 v326
  let c0_i32_222 : BitVec 32 := 0#32
  let v329 : BitVec 1 := Scalar.cmpi .slt v327 c0_i32_222
  let c0_i32_223 : BitVec 32 := 0#32
  let v330 : BitVec 1 := Scalar.cmpi .slt v326 c0_i32_223
  let v331 : BitVec 1 := Scalar.xori v329 v330
  let c0_i32_221 : BitVec 32 := 0#32
  let v328 : BitVec 1 := Scalar.cmpi .ne v327 c0_i32_221
  let v332 : BitVec 1 := Scalar.andi v331 v328
  let v333 : BitVec 32 := Scalar.addi v327 v326
  let v334 : BitVec 32 := Scalar.select v332 v333 v327
  let v344 : BitVec 32 := Scalar.muli c2_i32_230 v334
  let c0_i32_231 : BitVec 32 := 0#32
  let v345 : BitVec 32 := Scalar.addi v344 c0_i32_231
  let v350 : BitVec 1 := Scalar.cmpi .ne v345 v2
  let v351 : BitVec 32 := Scalar.extui v350
  let c0_i32_233 : BitVec 32 := 0#32
  let v352 : BitVec 1 := Scalar.cmpi .ne v351 c0_i32_233
  v352

def k0_off15 (d0 : Dev nD) : Fin 3 → Nat :=
  let c2_i32_230 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_217 : BitVec 32 := 1#32
  let v324 : BitVec 32 := Scalar.addi v19 c1_i32_217
  let c8_i32_218 : BitVec 32 := 8#32
  let c0_i32_219 : BitVec 32 := 0#32
  let v325 : BitVec 1 := Scalar.cmpi .eq c8_i32_218 c0_i32_219
  let c1_i32_220 : BitVec 32 := 1#32
  let v326 : BitVec 32 := Scalar.select v325 c1_i32_220 c8_i32_218
  let v327 : BitVec 32 := Scalar.remsi v324 v326
  let c0_i32_222 : BitVec 32 := 0#32
  let v329 : BitVec 1 := Scalar.cmpi .slt v327 c0_i32_222
  let c0_i32_223 : BitVec 32 := 0#32
  let v330 : BitVec 1 := Scalar.cmpi .slt v326 c0_i32_223
  let v331 : BitVec 1 := Scalar.xori v329 v330
  let c0_i32_221 : BitVec 32 := 0#32
  let v328 : BitVec 1 := Scalar.cmpi .ne v327 c0_i32_221
  let v332 : BitVec 1 := Scalar.andi v331 v328
  let v333 : BitVec 32 := Scalar.addi v327 v326
  let v334 : BitVec 32 := Scalar.select v332 v333 v327
  let v344 : BitVec 32 := Scalar.muli c2_i32_230 v334
  let c0_i32_231 : BitVec 32 := 0#32
  let v345 : BitVec 32 := Scalar.addi v344 c0_i32_231
  let v1233 : Index := Scalar.indexCast v345
  let c0_821 : Index := 0#32
  let c0_822 : Index := 0#32
  ![v1233.toNat, 0, 0]
def k0_off16 (d0 : Dev nD) : Fin 1 → Nat :=
  let c2_i32_230 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_217 : BitVec 32 := 1#32
  let v324 : BitVec 32 := Scalar.addi v19 c1_i32_217
  let c8_i32_218 : BitVec 32 := 8#32
  let c0_i32_219 : BitVec 32 := 0#32
  let v325 : BitVec 1 := Scalar.cmpi .eq c8_i32_218 c0_i32_219
  let c1_i32_220 : BitVec 32 := 1#32
  let v326 : BitVec 32 := Scalar.select v325 c1_i32_220 c8_i32_218
  let v327 : BitVec 32 := Scalar.remsi v324 v326
  let c0_i32_222 : BitVec 32 := 0#32
  let v329 : BitVec 1 := Scalar.cmpi .slt v327 c0_i32_222
  let c0_i32_223 : BitVec 32 := 0#32
  let v330 : BitVec 1 := Scalar.cmpi .slt v326 c0_i32_223
  let v331 : BitVec 1 := Scalar.xori v329 v330
  let c0_i32_221 : BitVec 32 := 0#32
  let v328 : BitVec 1 := Scalar.cmpi .ne v327 c0_i32_221
  let v332 : BitVec 1 := Scalar.andi v331 v328
  let v333 : BitVec 32 := Scalar.addi v327 v326
  let v334 : BitVec 32 := Scalar.select v332 v333 v327
  let v344 : BitVec 32 := Scalar.muli c2_i32_230 v334
  let c0_i32_231 : BitVec 32 := 0#32
  let v345 : BitVec 32 := Scalar.addi v344 c0_i32_231
  ![v345.toNat]
def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_825 : BitVec 32 := 0#32
  let c0_i32_826 : BitVec 32 := 0#32
  ![v2.toNat, 0, 0]
def k0_off19 (d0 : Dev nD) : Fin 3 → Nat :=
  let c2_i32_230 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_217 : BitVec 32 := 1#32
  let v324 : BitVec 32 := Scalar.addi v19 c1_i32_217
  let c8_i32_218 : BitVec 32 := 8#32
  let c0_i32_219 : BitVec 32 := 0#32
  let v325 : BitVec 1 := Scalar.cmpi .eq c8_i32_218 c0_i32_219
  let c1_i32_220 : BitVec 32 := 1#32
  let v326 : BitVec 32 := Scalar.select v325 c1_i32_220 c8_i32_218
  let v327 : BitVec 32 := Scalar.remsi v324 v326
  let c0_i32_222 : BitVec 32 := 0#32
  let v329 : BitVec 1 := Scalar.cmpi .slt v327 c0_i32_222
  let c0_i32_223 : BitVec 32 := 0#32
  let v330 : BitVec 1 := Scalar.cmpi .slt v326 c0_i32_223
  let v331 : BitVec 1 := Scalar.xori v329 v330
  let c0_i32_221 : BitVec 32 := 0#32
  let v328 : BitVec 1 := Scalar.cmpi .ne v327 c0_i32_221
  let v332 : BitVec 1 := Scalar.andi v331 v328
  let v333 : BitVec 32 := Scalar.addi v327 v326
  let v334 : BitVec 32 := Scalar.select v332 v333 v327
  let v344 : BitVec 32 := Scalar.muli c2_i32_230 v334
  let c0_i32_231 : BitVec 32 := 0#32
  let v345 : BitVec 32 := Scalar.addi v344 c0_i32_231
  let c0_i32_827 : BitVec 32 := 0#32
  let c0_i32_828 : BitVec 32 := 0#32
  ![v345.toNat, 0, 0]
def k0_dev18 (d0 : Dev nD) : Nat :=
  let c0_i32_824 : BitVec 32 := 0#32
  let c2_i32_230 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_217 : BitVec 32 := 1#32
  let v324 : BitVec 32 := Scalar.addi v19 c1_i32_217
  let c8_i32_218 : BitVec 32 := 8#32
  let c0_i32_219 : BitVec 32 := 0#32
  let v325 : BitVec 1 := Scalar.cmpi .eq c8_i32_218 c0_i32_219
  let c1_i32_220 : BitVec 32 := 1#32
  let v326 : BitVec 32 := Scalar.select v325 c1_i32_220 c8_i32_218
  let v327 : BitVec 32 := Scalar.remsi v324 v326
  let c0_i32_222 : BitVec 32 := 0#32
  let v329 : BitVec 1 := Scalar.cmpi .slt v327 c0_i32_222
  let c0_i32_223 : BitVec 32 := 0#32
  let v330 : BitVec 1 := Scalar.cmpi .slt v326 c0_i32_223
  let v331 : BitVec 1 := Scalar.xori v329 v330
  let c0_i32_221 : BitVec 32 := 0#32
  let v328 : BitVec 1 := Scalar.cmpi .ne v327 c0_i32_221
  let v332 : BitVec 1 := Scalar.andi v331 v328
  let v333 : BitVec 32 := Scalar.addi v327 v326
  let v334 : BitVec 32 := Scalar.select v332 v333 v327
  let v344 : BitVec 32 := Scalar.muli c2_i32_230 v334
  let c0_i32_231 : BitVec 32 := 0#32
  let v345 : BitVec 32 := Scalar.addi v344 c0_i32_231
  let c1_i32_823 : BitVec 32 := 1#32
  let v1237 : BitVec 32 := Scalar.muli v345 c1_i32_823
  let v1238 : BitVec 32 := Scalar.addi c0_i32_824 v1237
  v1238.toNat
def k0_cond7 (d0 : Dev nD) : BitVec 1 :=
  let c2_i32_234 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_217 : BitVec 32 := 1#32
  let v324 : BitVec 32 := Scalar.addi v19 c1_i32_217
  let c8_i32_218 : BitVec 32 := 8#32
  let c0_i32_219 : BitVec 32 := 0#32
  let v325 : BitVec 1 := Scalar.cmpi .eq c8_i32_218 c0_i32_219
  let c1_i32_220 : BitVec 32 := 1#32
  let v326 : BitVec 32 := Scalar.select v325 c1_i32_220 c8_i32_218
  let v327 : BitVec 32 := Scalar.remsi v324 v326
  let c0_i32_222 : BitVec 32 := 0#32
  let v329 : BitVec 1 := Scalar.cmpi .slt v327 c0_i32_222
  let c0_i32_223 : BitVec 32 := 0#32
  let v330 : BitVec 1 := Scalar.cmpi .slt v326 c0_i32_223
  let v331 : BitVec 1 := Scalar.xori v329 v330
  let c0_i32_221 : BitVec 32 := 0#32
  let v328 : BitVec 1 := Scalar.cmpi .ne v327 c0_i32_221
  let v332 : BitVec 1 := Scalar.andi v331 v328
  let v333 : BitVec 32 := Scalar.addi v327 v326
  let v334 : BitVec 32 := Scalar.select v332 v333 v327
  let v353 : BitVec 32 := Scalar.muli c2_i32_234 v334
  let c1_i32_235 : BitVec 32 := 1#32
  let v354 : BitVec 32 := Scalar.addi v353 c1_i32_235
  let v356 : BitVec 1 := Scalar.cmpi .eq v354 v2
  let v357 : BitVec 32 := Scalar.extui v356
  let c0_i32_236 : BitVec 32 := 0#32
  let v358 : BitVec 1 := Scalar.cmpi .ne v357 c0_i32_236
  v358

def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_821 : BitVec 32 := 256#32
  let v1232 : BitVec 32 := Scalar.muli v2 c256_i32_821
  let v1233 : Index := Scalar.indexCast v1232
  let c0_822 : Index := 0#32
  ![v1233.toNat, 0]
def k0_cond8 (d0 : Dev nD) : BitVec 1 :=
  let c2_i32_234 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_217 : BitVec 32 := 1#32
  let v324 : BitVec 32 := Scalar.addi v19 c1_i32_217
  let c8_i32_218 : BitVec 32 := 8#32
  let c0_i32_219 : BitVec 32 := 0#32
  let v325 : BitVec 1 := Scalar.cmpi .eq c8_i32_218 c0_i32_219
  let c1_i32_220 : BitVec 32 := 1#32
  let v326 : BitVec 32 := Scalar.select v325 c1_i32_220 c8_i32_218
  let v327 : BitVec 32 := Scalar.remsi v324 v326
  let c0_i32_222 : BitVec 32 := 0#32
  let v329 : BitVec 1 := Scalar.cmpi .slt v327 c0_i32_222
  let c0_i32_223 : BitVec 32 := 0#32
  let v330 : BitVec 1 := Scalar.cmpi .slt v326 c0_i32_223
  let v331 : BitVec 1 := Scalar.xori v329 v330
  let c0_i32_221 : BitVec 32 := 0#32
  let v328 : BitVec 1 := Scalar.cmpi .ne v327 c0_i32_221
  let v332 : BitVec 1 := Scalar.andi v331 v328
  let v333 : BitVec 32 := Scalar.addi v327 v326
  let v334 : BitVec 32 := Scalar.select v332 v333 v327
  let v353 : BitVec 32 := Scalar.muli c2_i32_234 v334
  let c1_i32_235 : BitVec 32 := 1#32
  let v354 : BitVec 32 := Scalar.addi v353 c1_i32_235
  let v359 : BitVec 1 := Scalar.cmpi .ne v354 v2
  let v360 : BitVec 32 := Scalar.extui v359
  let c0_i32_237 : BitVec 32 := 0#32
  let v361 : BitVec 1 := Scalar.cmpi .ne v360 c0_i32_237
  v361

def k0_off21 (d0 : Dev nD) : Fin 3 → Nat :=
  let c2_i32_234 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_217 : BitVec 32 := 1#32
  let v324 : BitVec 32 := Scalar.addi v19 c1_i32_217
  let c8_i32_218 : BitVec 32 := 8#32
  let c0_i32_219 : BitVec 32 := 0#32
  let v325 : BitVec 1 := Scalar.cmpi .eq c8_i32_218 c0_i32_219
  let c1_i32_220 : BitVec 32 := 1#32
  let v326 : BitVec 32 := Scalar.select v325 c1_i32_220 c8_i32_218
  let v327 : BitVec 32 := Scalar.remsi v324 v326
  let c0_i32_222 : BitVec 32 := 0#32
  let v329 : BitVec 1 := Scalar.cmpi .slt v327 c0_i32_222
  let c0_i32_223 : BitVec 32 := 0#32
  let v330 : BitVec 1 := Scalar.cmpi .slt v326 c0_i32_223
  let v331 : BitVec 1 := Scalar.xori v329 v330
  let c0_i32_221 : BitVec 32 := 0#32
  let v328 : BitVec 1 := Scalar.cmpi .ne v327 c0_i32_221
  let v332 : BitVec 1 := Scalar.andi v331 v328
  let v333 : BitVec 32 := Scalar.addi v327 v326
  let v334 : BitVec 32 := Scalar.select v332 v333 v327
  let v353 : BitVec 32 := Scalar.muli c2_i32_234 v334
  let c1_i32_235 : BitVec 32 := 1#32
  let v354 : BitVec 32 := Scalar.addi v353 c1_i32_235
  let v1233 : Index := Scalar.indexCast v354
  let c0_821 : Index := 0#32
  let c0_822 : Index := 0#32
  ![v1233.toNat, 0, 0]
def k0_off22 (d0 : Dev nD) : Fin 1 → Nat :=
  let c2_i32_234 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_217 : BitVec 32 := 1#32
  let v324 : BitVec 32 := Scalar.addi v19 c1_i32_217
  let c8_i32_218 : BitVec 32 := 8#32
  let c0_i32_219 : BitVec 32 := 0#32
  let v325 : BitVec 1 := Scalar.cmpi .eq c8_i32_218 c0_i32_219
  let c1_i32_220 : BitVec 32 := 1#32
  let v326 : BitVec 32 := Scalar.select v325 c1_i32_220 c8_i32_218
  let v327 : BitVec 32 := Scalar.remsi v324 v326
  let c0_i32_222 : BitVec 32 := 0#32
  let v329 : BitVec 1 := Scalar.cmpi .slt v327 c0_i32_222
  let c0_i32_223 : BitVec 32 := 0#32
  let v330 : BitVec 1 := Scalar.cmpi .slt v326 c0_i32_223
  let v331 : BitVec 1 := Scalar.xori v329 v330
  let c0_i32_221 : BitVec 32 := 0#32
  let v328 : BitVec 1 := Scalar.cmpi .ne v327 c0_i32_221
  let v332 : BitVec 1 := Scalar.andi v331 v328
  let v333 : BitVec 32 := Scalar.addi v327 v326
  let v334 : BitVec 32 := Scalar.select v332 v333 v327
  let v353 : BitVec 32 := Scalar.muli c2_i32_234 v334
  let c1_i32_235 : BitVec 32 := 1#32
  let v354 : BitVec 32 := Scalar.addi v353 c1_i32_235
  ![v354.toNat]
def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_825 : BitVec 32 := 0#32
  let c0_i32_826 : BitVec 32 := 0#32
  ![v2.toNat, 0, 0]
def k0_off25 (d0 : Dev nD) : Fin 3 → Nat :=
  let c2_i32_234 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_217 : BitVec 32 := 1#32
  let v324 : BitVec 32 := Scalar.addi v19 c1_i32_217
  let c8_i32_218 : BitVec 32 := 8#32
  let c0_i32_219 : BitVec 32 := 0#32
  let v325 : BitVec 1 := Scalar.cmpi .eq c8_i32_218 c0_i32_219
  let c1_i32_220 : BitVec 32 := 1#32
  let v326 : BitVec 32 := Scalar.select v325 c1_i32_220 c8_i32_218
  let v327 : BitVec 32 := Scalar.remsi v324 v326
  let c0_i32_222 : BitVec 32 := 0#32
  let v329 : BitVec 1 := Scalar.cmpi .slt v327 c0_i32_222
  let c0_i32_223 : BitVec 32 := 0#32
  let v330 : BitVec 1 := Scalar.cmpi .slt v326 c0_i32_223
  let v331 : BitVec 1 := Scalar.xori v329 v330
  let c0_i32_221 : BitVec 32 := 0#32
  let v328 : BitVec 1 := Scalar.cmpi .ne v327 c0_i32_221
  let v332 : BitVec 1 := Scalar.andi v331 v328
  let v333 : BitVec 32 := Scalar.addi v327 v326
  let v334 : BitVec 32 := Scalar.select v332 v333 v327
  let v353 : BitVec 32 := Scalar.muli c2_i32_234 v334
  let c1_i32_235 : BitVec 32 := 1#32
  let v354 : BitVec 32 := Scalar.addi v353 c1_i32_235
  let c0_i32_827 : BitVec 32 := 0#32
  let c0_i32_828 : BitVec 32 := 0#32
  ![v354.toNat, 0, 0]
def k0_dev19 (d0 : Dev nD) : Nat :=
  let c0_i32_824 : BitVec 32 := 0#32
  let c2_i32_234 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_217 : BitVec 32 := 1#32
  let v324 : BitVec 32 := Scalar.addi v19 c1_i32_217
  let c8_i32_218 : BitVec 32 := 8#32
  let c0_i32_219 : BitVec 32 := 0#32
  let v325 : BitVec 1 := Scalar.cmpi .eq c8_i32_218 c0_i32_219
  let c1_i32_220 : BitVec 32 := 1#32
  let v326 : BitVec 32 := Scalar.select v325 c1_i32_220 c8_i32_218
  let v327 : BitVec 32 := Scalar.remsi v324 v326
  let c0_i32_222 : BitVec 32 := 0#32
  let v329 : BitVec 1 := Scalar.cmpi .slt v327 c0_i32_222
  let c0_i32_223 : BitVec 32 := 0#32
  let v330 : BitVec 1 := Scalar.cmpi .slt v326 c0_i32_223
  let v331 : BitVec 1 := Scalar.xori v329 v330
  let c0_i32_221 : BitVec 32 := 0#32
  let v328 : BitVec 1 := Scalar.cmpi .ne v327 c0_i32_221
  let v332 : BitVec 1 := Scalar.andi v331 v328
  let v333 : BitVec 32 := Scalar.addi v327 v326
  let v334 : BitVec 32 := Scalar.select v332 v333 v327
  let v353 : BitVec 32 := Scalar.muli c2_i32_234 v334
  let c1_i32_235 : BitVec 32 := 1#32
  let v354 : BitVec 32 := Scalar.addi v353 c1_i32_235
  let c1_i32_823 : BitVec 32 := 1#32
  let v1237 : BitVec 32 := Scalar.muli v354 c1_i32_823
  let v1238 : BitVec 32 := Scalar.addi c0_i32_824 v1237
  v1238.toNat
def k0_cond9 (d0 : Dev nD) : BitVec 1 :=
  let c2_i32_270 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_256 : BitVec 32 := 2#32
  let v384 : BitVec 32 := Scalar.addi v19 c2_i32_256
  let c8_i32_257 : BitVec 32 := 8#32
  let c0_i32_258 : BitVec 32 := 0#32
  let v385 : BitVec 1 := Scalar.cmpi .eq c8_i32_257 c0_i32_258
  let c1_i32_259 : BitVec 32 := 1#32
  let v386 : BitVec 32 := Scalar.select v385 c1_i32_259 c8_i32_257
  let v387 : BitVec 32 := Scalar.remsi v384 v386
  let c0_i32_261 : BitVec 32 := 0#32
  let v389 : BitVec 1 := Scalar.cmpi .slt v387 c0_i32_261
  let c0_i32_262 : BitVec 32 := 0#32
  let v390 : BitVec 1 := Scalar.cmpi .slt v386 c0_i32_262
  let v391 : BitVec 1 := Scalar.xori v389 v390
  let c0_i32_260 : BitVec 32 := 0#32
  let v388 : BitVec 1 := Scalar.cmpi .ne v387 c0_i32_260
  let v392 : BitVec 1 := Scalar.andi v391 v388
  let v393 : BitVec 32 := Scalar.addi v387 v386
  let v394 : BitVec 32 := Scalar.select v392 v393 v387
  let v404 : BitVec 32 := Scalar.muli c2_i32_270 v394
  let c0_i32_271 : BitVec 32 := 0#32
  let v405 : BitVec 32 := Scalar.addi v404 c0_i32_271
  let v407 : BitVec 1 := Scalar.cmpi .eq v405 v2
  let v408 : BitVec 32 := Scalar.extui v407
  let c0_i32_272 : BitVec 32 := 0#32
  let v409 : BitVec 1 := Scalar.cmpi .ne v408 c0_i32_272
  v409

def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_821 : BitVec 32 := 256#32
  let v1232 : BitVec 32 := Scalar.muli v2 c256_i32_821
  let v1233 : Index := Scalar.indexCast v1232
  let c0_822 : Index := 0#32
  ![v1233.toNat, 0]
def k0_cond10 (d0 : Dev nD) : BitVec 1 :=
  let c2_i32_270 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_256 : BitVec 32 := 2#32
  let v384 : BitVec 32 := Scalar.addi v19 c2_i32_256
  let c8_i32_257 : BitVec 32 := 8#32
  let c0_i32_258 : BitVec 32 := 0#32
  let v385 : BitVec 1 := Scalar.cmpi .eq c8_i32_257 c0_i32_258
  let c1_i32_259 : BitVec 32 := 1#32
  let v386 : BitVec 32 := Scalar.select v385 c1_i32_259 c8_i32_257
  let v387 : BitVec 32 := Scalar.remsi v384 v386
  let c0_i32_261 : BitVec 32 := 0#32
  let v389 : BitVec 1 := Scalar.cmpi .slt v387 c0_i32_261
  let c0_i32_262 : BitVec 32 := 0#32
  let v390 : BitVec 1 := Scalar.cmpi .slt v386 c0_i32_262
  let v391 : BitVec 1 := Scalar.xori v389 v390
  let c0_i32_260 : BitVec 32 := 0#32
  let v388 : BitVec 1 := Scalar.cmpi .ne v387 c0_i32_260
  let v392 : BitVec 1 := Scalar.andi v391 v388
  let v393 : BitVec 32 := Scalar.addi v387 v386
  let v394 : BitVec 32 := Scalar.select v392 v393 v387
  let v404 : BitVec 32 := Scalar.muli c2_i32_270 v394
  let c0_i32_271 : BitVec 32 := 0#32
  let v405 : BitVec 32 := Scalar.addi v404 c0_i32_271
  let v410 : BitVec 1 := Scalar.cmpi .ne v405 v2
  let v411 : BitVec 32 := Scalar.extui v410
  let c0_i32_273 : BitVec 32 := 0#32
  let v412 : BitVec 1 := Scalar.cmpi .ne v411 c0_i32_273
  v412

def k0_off27 (d0 : Dev nD) : Fin 3 → Nat :=
  let c2_i32_270 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_256 : BitVec 32 := 2#32
  let v384 : BitVec 32 := Scalar.addi v19 c2_i32_256
  let c8_i32_257 : BitVec 32 := 8#32
  let c0_i32_258 : BitVec 32 := 0#32
  let v385 : BitVec 1 := Scalar.cmpi .eq c8_i32_257 c0_i32_258
  let c1_i32_259 : BitVec 32 := 1#32
  let v386 : BitVec 32 := Scalar.select v385 c1_i32_259 c8_i32_257
  let v387 : BitVec 32 := Scalar.remsi v384 v386
  let c0_i32_261 : BitVec 32 := 0#32
  let v389 : BitVec 1 := Scalar.cmpi .slt v387 c0_i32_261
  let c0_i32_262 : BitVec 32 := 0#32
  let v390 : BitVec 1 := Scalar.cmpi .slt v386 c0_i32_262
  let v391 : BitVec 1 := Scalar.xori v389 v390
  let c0_i32_260 : BitVec 32 := 0#32
  let v388 : BitVec 1 := Scalar.cmpi .ne v387 c0_i32_260
  let v392 : BitVec 1 := Scalar.andi v391 v388
  let v393 : BitVec 32 := Scalar.addi v387 v386
  let v394 : BitVec 32 := Scalar.select v392 v393 v387
  let v404 : BitVec 32 := Scalar.muli c2_i32_270 v394
  let c0_i32_271 : BitVec 32 := 0#32
  let v405 : BitVec 32 := Scalar.addi v404 c0_i32_271
  let v1233 : Index := Scalar.indexCast v405
  let c0_821 : Index := 0#32
  let c0_822 : Index := 0#32
  ![v1233.toNat, 0, 0]
def k0_off28 (d0 : Dev nD) : Fin 1 → Nat :=
  let c2_i32_270 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_256 : BitVec 32 := 2#32
  let v384 : BitVec 32 := Scalar.addi v19 c2_i32_256
  let c8_i32_257 : BitVec 32 := 8#32
  let c0_i32_258 : BitVec 32 := 0#32
  let v385 : BitVec 1 := Scalar.cmpi .eq c8_i32_257 c0_i32_258
  let c1_i32_259 : BitVec 32 := 1#32
  let v386 : BitVec 32 := Scalar.select v385 c1_i32_259 c8_i32_257
  let v387 : BitVec 32 := Scalar.remsi v384 v386
  let c0_i32_261 : BitVec 32 := 0#32
  let v389 : BitVec 1 := Scalar.cmpi .slt v387 c0_i32_261
  let c0_i32_262 : BitVec 32 := 0#32
  let v390 : BitVec 1 := Scalar.cmpi .slt v386 c0_i32_262
  let v391 : BitVec 1 := Scalar.xori v389 v390
  let c0_i32_260 : BitVec 32 := 0#32
  let v388 : BitVec 1 := Scalar.cmpi .ne v387 c0_i32_260
  let v392 : BitVec 1 := Scalar.andi v391 v388
  let v393 : BitVec 32 := Scalar.addi v387 v386
  let v394 : BitVec 32 := Scalar.select v392 v393 v387
  let v404 : BitVec 32 := Scalar.muli c2_i32_270 v394
  let c0_i32_271 : BitVec 32 := 0#32
  let v405 : BitVec 32 := Scalar.addi v404 c0_i32_271
  ![v405.toNat]
def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_825 : BitVec 32 := 0#32
  let c0_i32_826 : BitVec 32 := 0#32
  ![v2.toNat, 0, 0]
def k0_off31 (d0 : Dev nD) : Fin 3 → Nat :=
  let c2_i32_270 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_256 : BitVec 32 := 2#32
  let v384 : BitVec 32 := Scalar.addi v19 c2_i32_256
  let c8_i32_257 : BitVec 32 := 8#32
  let c0_i32_258 : BitVec 32 := 0#32
  let v385 : BitVec 1 := Scalar.cmpi .eq c8_i32_257 c0_i32_258
  let c1_i32_259 : BitVec 32 := 1#32
  let v386 : BitVec 32 := Scalar.select v385 c1_i32_259 c8_i32_257
  let v387 : BitVec 32 := Scalar.remsi v384 v386
  let c0_i32_261 : BitVec 32 := 0#32
  let v389 : BitVec 1 := Scalar.cmpi .slt v387 c0_i32_261
  let c0_i32_262 : BitVec 32 := 0#32
  let v390 : BitVec 1 := Scalar.cmpi .slt v386 c0_i32_262
  let v391 : BitVec 1 := Scalar.xori v389 v390
  let c0_i32_260 : BitVec 32 := 0#32
  let v388 : BitVec 1 := Scalar.cmpi .ne v387 c0_i32_260
  let v392 : BitVec 1 := Scalar.andi v391 v388
  let v393 : BitVec 32 := Scalar.addi v387 v386
  let v394 : BitVec 32 := Scalar.select v392 v393 v387
  let v404 : BitVec 32 := Scalar.muli c2_i32_270 v394
  let c0_i32_271 : BitVec 32 := 0#32
  let v405 : BitVec 32 := Scalar.addi v404 c0_i32_271
  let c0_i32_827 : BitVec 32 := 0#32
  let c0_i32_828 : BitVec 32 := 0#32
  ![v405.toNat, 0, 0]
def k0_dev20 (d0 : Dev nD) : Nat :=
  let c0_i32_824 : BitVec 32 := 0#32
  let c2_i32_270 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_256 : BitVec 32 := 2#32
  let v384 : BitVec 32 := Scalar.addi v19 c2_i32_256
  let c8_i32_257 : BitVec 32 := 8#32
  let c0_i32_258 : BitVec 32 := 0#32
  let v385 : BitVec 1 := Scalar.cmpi .eq c8_i32_257 c0_i32_258
  let c1_i32_259 : BitVec 32 := 1#32
  let v386 : BitVec 32 := Scalar.select v385 c1_i32_259 c8_i32_257
  let v387 : BitVec 32 := Scalar.remsi v384 v386
  let c0_i32_261 : BitVec 32 := 0#32
  let v389 : BitVec 1 := Scalar.cmpi .slt v387 c0_i32_261
  let c0_i32_262 : BitVec 32 := 0#32
  let v390 : BitVec 1 := Scalar.cmpi .slt v386 c0_i32_262
  let v391 : BitVec 1 := Scalar.xori v389 v390
  let c0_i32_260 : BitVec 32 := 0#32
  let v388 : BitVec 1 := Scalar.cmpi .ne v387 c0_i32_260
  let v392 : BitVec 1 := Scalar.andi v391 v388
  let v393 : BitVec 32 := Scalar.addi v387 v386
  let v394 : BitVec 32 := Scalar.select v392 v393 v387
  let v404 : BitVec 32 := Scalar.muli c2_i32_270 v394
  let c0_i32_271 : BitVec 32 := 0#32
  let v405 : BitVec 32 := Scalar.addi v404 c0_i32_271
  let c1_i32_823 : BitVec 32 := 1#32
  let v1237 : BitVec 32 := Scalar.muli v405 c1_i32_823
  let v1238 : BitVec 32 := Scalar.addi c0_i32_824 v1237
  v1238.toNat
def k0_cond11 (d0 : Dev nD) : BitVec 1 :=
  let c2_i32_274 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_256 : BitVec 32 := 2#32
  let v384 : BitVec 32 := Scalar.addi v19 c2_i32_256
  let c8_i32_257 : BitVec 32 := 8#32
  let c0_i32_258 : BitVec 32 := 0#32
  let v385 : BitVec 1 := Scalar.cmpi .eq c8_i32_257 c0_i32_258
  let c1_i32_259 : BitVec 32 := 1#32
  let v386 : BitVec 32 := Scalar.select v385 c1_i32_259 c8_i32_257
  let v387 : BitVec 32 := Scalar.remsi v384 v386
  let c0_i32_261 : BitVec 32 := 0#32
  let v389 : BitVec 1 := Scalar.cmpi .slt v387 c0_i32_261
  let c0_i32_262 : BitVec 32 := 0#32
  let v390 : BitVec 1 := Scalar.cmpi .slt v386 c0_i32_262
  let v391 : BitVec 1 := Scalar.xori v389 v390
  let c0_i32_260 : BitVec 32 := 0#32
  let v388 : BitVec 1 := Scalar.cmpi .ne v387 c0_i32_260
  let v392 : BitVec 1 := Scalar.andi v391 v388
  let v393 : BitVec 32 := Scalar.addi v387 v386
  let v394 : BitVec 32 := Scalar.select v392 v393 v387
  let v413 : BitVec 32 := Scalar.muli c2_i32_274 v394
  let c1_i32_275 : BitVec 32 := 1#32
  let v414 : BitVec 32 := Scalar.addi v413 c1_i32_275
  let v416 : BitVec 1 := Scalar.cmpi .eq v414 v2
  let v417 : BitVec 32 := Scalar.extui v416
  let c0_i32_276 : BitVec 32 := 0#32
  let v418 : BitVec 1 := Scalar.cmpi .ne v417 c0_i32_276
  v418

def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_821 : BitVec 32 := 256#32
  let v1232 : BitVec 32 := Scalar.muli v2 c256_i32_821
  let v1233 : Index := Scalar.indexCast v1232
  let c0_822 : Index := 0#32
  ![v1233.toNat, 0]
def k0_cond12 (d0 : Dev nD) : BitVec 1 :=
  let c2_i32_274 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_256 : BitVec 32 := 2#32
  let v384 : BitVec 32 := Scalar.addi v19 c2_i32_256
  let c8_i32_257 : BitVec 32 := 8#32
  let c0_i32_258 : BitVec 32 := 0#32
  let v385 : BitVec 1 := Scalar.cmpi .eq c8_i32_257 c0_i32_258
  let c1_i32_259 : BitVec 32 := 1#32
  let v386 : BitVec 32 := Scalar.select v385 c1_i32_259 c8_i32_257
  let v387 : BitVec 32 := Scalar.remsi v384 v386
  let c0_i32_261 : BitVec 32 := 0#32
  let v389 : BitVec 1 := Scalar.cmpi .slt v387 c0_i32_261
  let c0_i32_262 : BitVec 32 := 0#32
  let v390 : BitVec 1 := Scalar.cmpi .slt v386 c0_i32_262
  let v391 : BitVec 1 := Scalar.xori v389 v390
  let c0_i32_260 : BitVec 32 := 0#32
  let v388 : BitVec 1 := Scalar.cmpi .ne v387 c0_i32_260
  let v392 : BitVec 1 := Scalar.andi v391 v388
  let v393 : BitVec 32 := Scalar.addi v387 v386
  let v394 : BitVec 32 := Scalar.select v392 v393 v387
  let v413 : BitVec 32 := Scalar.muli c2_i32_274 v394
  let c1_i32_275 : BitVec 32 := 1#32
  let v414 : BitVec 32 := Scalar.addi v413 c1_i32_275
  let v419 : BitVec 1 := Scalar.cmpi .ne v414 v2
  let v420 : BitVec 32 := Scalar.extui v419
  let c0_i32_277 : BitVec 32 := 0#32
  let v421 : BitVec 1 := Scalar.cmpi .ne v420 c0_i32_277
  v421

def k0_off33 (d0 : Dev nD) : Fin 3 → Nat :=
  let c2_i32_274 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_256 : BitVec 32 := 2#32
  let v384 : BitVec 32 := Scalar.addi v19 c2_i32_256
  let c8_i32_257 : BitVec 32 := 8#32
  let c0_i32_258 : BitVec 32 := 0#32
  let v385 : BitVec 1 := Scalar.cmpi .eq c8_i32_257 c0_i32_258
  let c1_i32_259 : BitVec 32 := 1#32
  let v386 : BitVec 32 := Scalar.select v385 c1_i32_259 c8_i32_257
  let v387 : BitVec 32 := Scalar.remsi v384 v386
  let c0_i32_261 : BitVec 32 := 0#32
  let v389 : BitVec 1 := Scalar.cmpi .slt v387 c0_i32_261
  let c0_i32_262 : BitVec 32 := 0#32
  let v390 : BitVec 1 := Scalar.cmpi .slt v386 c0_i32_262
  let v391 : BitVec 1 := Scalar.xori v389 v390
  let c0_i32_260 : BitVec 32 := 0#32
  let v388 : BitVec 1 := Scalar.cmpi .ne v387 c0_i32_260
  let v392 : BitVec 1 := Scalar.andi v391 v388
  let v393 : BitVec 32 := Scalar.addi v387 v386
  let v394 : BitVec 32 := Scalar.select v392 v393 v387
  let v413 : BitVec 32 := Scalar.muli c2_i32_274 v394
  let c1_i32_275 : BitVec 32 := 1#32
  let v414 : BitVec 32 := Scalar.addi v413 c1_i32_275
  let v1233 : Index := Scalar.indexCast v414
  let c0_821 : Index := 0#32
  let c0_822 : Index := 0#32
  ![v1233.toNat, 0, 0]
def k0_off34 (d0 : Dev nD) : Fin 1 → Nat :=
  let c2_i32_274 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_256 : BitVec 32 := 2#32
  let v384 : BitVec 32 := Scalar.addi v19 c2_i32_256
  let c8_i32_257 : BitVec 32 := 8#32
  let c0_i32_258 : BitVec 32 := 0#32
  let v385 : BitVec 1 := Scalar.cmpi .eq c8_i32_257 c0_i32_258
  let c1_i32_259 : BitVec 32 := 1#32
  let v386 : BitVec 32 := Scalar.select v385 c1_i32_259 c8_i32_257
  let v387 : BitVec 32 := Scalar.remsi v384 v386
  let c0_i32_261 : BitVec 32 := 0#32
  let v389 : BitVec 1 := Scalar.cmpi .slt v387 c0_i32_261
  let c0_i32_262 : BitVec 32 := 0#32
  let v390 : BitVec 1 := Scalar.cmpi .slt v386 c0_i32_262
  let v391 : BitVec 1 := Scalar.xori v389 v390
  let c0_i32_260 : BitVec 32 := 0#32
  let v388 : BitVec 1 := Scalar.cmpi .ne v387 c0_i32_260
  let v392 : BitVec 1 := Scalar.andi v391 v388
  let v393 : BitVec 32 := Scalar.addi v387 v386
  let v394 : BitVec 32 := Scalar.select v392 v393 v387
  let v413 : BitVec 32 := Scalar.muli c2_i32_274 v394
  let c1_i32_275 : BitVec 32 := 1#32
  let v414 : BitVec 32 := Scalar.addi v413 c1_i32_275
  ![v414.toNat]
def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_825 : BitVec 32 := 0#32
  let c0_i32_826 : BitVec 32 := 0#32
  ![v2.toNat, 0, 0]
def k0_off37 (d0 : Dev nD) : Fin 3 → Nat :=
  let c2_i32_274 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_256 : BitVec 32 := 2#32
  let v384 : BitVec 32 := Scalar.addi v19 c2_i32_256
  let c8_i32_257 : BitVec 32 := 8#32
  let c0_i32_258 : BitVec 32 := 0#32
  let v385 : BitVec 1 := Scalar.cmpi .eq c8_i32_257 c0_i32_258
  let c1_i32_259 : BitVec 32 := 1#32
  let v386 : BitVec 32 := Scalar.select v385 c1_i32_259 c8_i32_257
  let v387 : BitVec 32 := Scalar.remsi v384 v386
  let c0_i32_261 : BitVec 32 := 0#32
  let v389 : BitVec 1 := Scalar.cmpi .slt v387 c0_i32_261
  let c0_i32_262 : BitVec 32 := 0#32
  let v390 : BitVec 1 := Scalar.cmpi .slt v386 c0_i32_262
  let v391 : BitVec 1 := Scalar.xori v389 v390
  let c0_i32_260 : BitVec 32 := 0#32
  let v388 : BitVec 1 := Scalar.cmpi .ne v387 c0_i32_260
  let v392 : BitVec 1 := Scalar.andi v391 v388
  let v393 : BitVec 32 := Scalar.addi v387 v386
  let v394 : BitVec 32 := Scalar.select v392 v393 v387
  let v413 : BitVec 32 := Scalar.muli c2_i32_274 v394
  let c1_i32_275 : BitVec 32 := 1#32
  let v414 : BitVec 32 := Scalar.addi v413 c1_i32_275
  let c0_i32_827 : BitVec 32 := 0#32
  let c0_i32_828 : BitVec 32 := 0#32
  ![v414.toNat, 0, 0]
def k0_dev21 (d0 : Dev nD) : Nat :=
  let c0_i32_824 : BitVec 32 := 0#32
  let c2_i32_274 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_256 : BitVec 32 := 2#32
  let v384 : BitVec 32 := Scalar.addi v19 c2_i32_256
  let c8_i32_257 : BitVec 32 := 8#32
  let c0_i32_258 : BitVec 32 := 0#32
  let v385 : BitVec 1 := Scalar.cmpi .eq c8_i32_257 c0_i32_258
  let c1_i32_259 : BitVec 32 := 1#32
  let v386 : BitVec 32 := Scalar.select v385 c1_i32_259 c8_i32_257
  let v387 : BitVec 32 := Scalar.remsi v384 v386
  let c0_i32_261 : BitVec 32 := 0#32
  let v389 : BitVec 1 := Scalar.cmpi .slt v387 c0_i32_261
  let c0_i32_262 : BitVec 32 := 0#32
  let v390 : BitVec 1 := Scalar.cmpi .slt v386 c0_i32_262
  let v391 : BitVec 1 := Scalar.xori v389 v390
  let c0_i32_260 : BitVec 32 := 0#32
  let v388 : BitVec 1 := Scalar.cmpi .ne v387 c0_i32_260
  let v392 : BitVec 1 := Scalar.andi v391 v388
  let v393 : BitVec 32 := Scalar.addi v387 v386
  let v394 : BitVec 32 := Scalar.select v392 v393 v387
  let v413 : BitVec 32 := Scalar.muli c2_i32_274 v394
  let c1_i32_275 : BitVec 32 := 1#32
  let v414 : BitVec 32 := Scalar.addi v413 c1_i32_275
  let c1_i32_823 : BitVec 32 := 1#32
  let v1237 : BitVec 32 := Scalar.muli v414 c1_i32_823
  let v1238 : BitVec 32 := Scalar.addi c0_i32_824 v1237
  v1238.toNat
def k0_cond13 (d0 : Dev nD) : BitVec 1 :=
  let c2_i32_310 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_296 : BitVec 32 := 3#32
  let v444 : BitVec 32 := Scalar.addi v19 c3_i32_296
  let c8_i32_297 : BitVec 32 := 8#32
  let c0_i32_298 : BitVec 32 := 0#32
  let v445 : BitVec 1 := Scalar.cmpi .eq c8_i32_297 c0_i32_298
  let c1_i32_299 : BitVec 32 := 1#32
  let v446 : BitVec 32 := Scalar.select v445 c1_i32_299 c8_i32_297
  let v447 : BitVec 32 := Scalar.remsi v444 v446
  let c0_i32_301 : BitVec 32 := 0#32
  let v449 : BitVec 1 := Scalar.cmpi .slt v447 c0_i32_301
  let c0_i32_302 : BitVec 32 := 0#32
  let v450 : BitVec 1 := Scalar.cmpi .slt v446 c0_i32_302
  let v451 : BitVec 1 := Scalar.xori v449 v450
  let c0_i32_300 : BitVec 32 := 0#32
  let v448 : BitVec 1 := Scalar.cmpi .ne v447 c0_i32_300
  let v452 : BitVec 1 := Scalar.andi v451 v448
  let v453 : BitVec 32 := Scalar.addi v447 v446
  let v454 : BitVec 32 := Scalar.select v452 v453 v447
  let v464 : BitVec 32 := Scalar.muli c2_i32_310 v454
  let c0_i32_311 : BitVec 32 := 0#32
  let v465 : BitVec 32 := Scalar.addi v464 c0_i32_311
  let v467 : BitVec 1 := Scalar.cmpi .eq v465 v2
  let v468 : BitVec 32 := Scalar.extui v467
  let c0_i32_312 : BitVec 32 := 0#32
  let v469 : BitVec 1 := Scalar.cmpi .ne v468 c0_i32_312
  v469

def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_821 : BitVec 32 := 256#32
  let v1232 : BitVec 32 := Scalar.muli v2 c256_i32_821
  let v1233 : Index := Scalar.indexCast v1232
  let c0_822 : Index := 0#32
  ![v1233.toNat, 0]
def k0_cond14 (d0 : Dev nD) : BitVec 1 :=
  let c2_i32_310 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_296 : BitVec 32 := 3#32
  let v444 : BitVec 32 := Scalar.addi v19 c3_i32_296
  let c8_i32_297 : BitVec 32 := 8#32
  let c0_i32_298 : BitVec 32 := 0#32
  let v445 : BitVec 1 := Scalar.cmpi .eq c8_i32_297 c0_i32_298
  let c1_i32_299 : BitVec 32 := 1#32
  let v446 : BitVec 32 := Scalar.select v445 c1_i32_299 c8_i32_297
  let v447 : BitVec 32 := Scalar.remsi v444 v446
  let c0_i32_301 : BitVec 32 := 0#32
  let v449 : BitVec 1 := Scalar.cmpi .slt v447 c0_i32_301
  let c0_i32_302 : BitVec 32 := 0#32
  let v450 : BitVec 1 := Scalar.cmpi .slt v446 c0_i32_302
  let v451 : BitVec 1 := Scalar.xori v449 v450
  let c0_i32_300 : BitVec 32 := 0#32
  let v448 : BitVec 1 := Scalar.cmpi .ne v447 c0_i32_300
  let v452 : BitVec 1 := Scalar.andi v451 v448
  let v453 : BitVec 32 := Scalar.addi v447 v446
  let v454 : BitVec 32 := Scalar.select v452 v453 v447
  let v464 : BitVec 32 := Scalar.muli c2_i32_310 v454
  let c0_i32_311 : BitVec 32 := 0#32
  let v465 : BitVec 32 := Scalar.addi v464 c0_i32_311
  let v470 : BitVec 1 := Scalar.cmpi .ne v465 v2
  let v471 : BitVec 32 := Scalar.extui v470
  let c0_i32_313 : BitVec 32 := 0#32
  let v472 : BitVec 1 := Scalar.cmpi .ne v471 c0_i32_313
  v472

def k0_off39 (d0 : Dev nD) : Fin 3 → Nat :=
  let c2_i32_310 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_296 : BitVec 32 := 3#32
  let v444 : BitVec 32 := Scalar.addi v19 c3_i32_296
  let c8_i32_297 : BitVec 32 := 8#32
  let c0_i32_298 : BitVec 32 := 0#32
  let v445 : BitVec 1 := Scalar.cmpi .eq c8_i32_297 c0_i32_298
  let c1_i32_299 : BitVec 32 := 1#32
  let v446 : BitVec 32 := Scalar.select v445 c1_i32_299 c8_i32_297
  let v447 : BitVec 32 := Scalar.remsi v444 v446
  let c0_i32_301 : BitVec 32 := 0#32
  let v449 : BitVec 1 := Scalar.cmpi .slt v447 c0_i32_301
  let c0_i32_302 : BitVec 32 := 0#32
  let v450 : BitVec 1 := Scalar.cmpi .slt v446 c0_i32_302
  let v451 : BitVec 1 := Scalar.xori v449 v450
  let c0_i32_300 : BitVec 32 := 0#32
  let v448 : BitVec 1 := Scalar.cmpi .ne v447 c0_i32_300
  let v452 : BitVec 1 := Scalar.andi v451 v448
  let v453 : BitVec 32 := Scalar.addi v447 v446
  let v454 : BitVec 32 := Scalar.select v452 v453 v447
  let v464 : BitVec 32 := Scalar.muli c2_i32_310 v454
  let c0_i32_311 : BitVec 32 := 0#32
  let v465 : BitVec 32 := Scalar.addi v464 c0_i32_311
  let v1233 : Index := Scalar.indexCast v465
  let c0_821 : Index := 0#32
  let c0_822 : Index := 0#32
  ![v1233.toNat, 0, 0]
def k0_off40 (d0 : Dev nD) : Fin 1 → Nat :=
  let c2_i32_310 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_296 : BitVec 32 := 3#32
  let v444 : BitVec 32 := Scalar.addi v19 c3_i32_296
  let c8_i32_297 : BitVec 32 := 8#32
  let c0_i32_298 : BitVec 32 := 0#32
  let v445 : BitVec 1 := Scalar.cmpi .eq c8_i32_297 c0_i32_298
  let c1_i32_299 : BitVec 32 := 1#32
  let v446 : BitVec 32 := Scalar.select v445 c1_i32_299 c8_i32_297
  let v447 : BitVec 32 := Scalar.remsi v444 v446
  let c0_i32_301 : BitVec 32 := 0#32
  let v449 : BitVec 1 := Scalar.cmpi .slt v447 c0_i32_301
  let c0_i32_302 : BitVec 32 := 0#32
  let v450 : BitVec 1 := Scalar.cmpi .slt v446 c0_i32_302
  let v451 : BitVec 1 := Scalar.xori v449 v450
  let c0_i32_300 : BitVec 32 := 0#32
  let v448 : BitVec 1 := Scalar.cmpi .ne v447 c0_i32_300
  let v452 : BitVec 1 := Scalar.andi v451 v448
  let v453 : BitVec 32 := Scalar.addi v447 v446
  let v454 : BitVec 32 := Scalar.select v452 v453 v447
  let v464 : BitVec 32 := Scalar.muli c2_i32_310 v454
  let c0_i32_311 : BitVec 32 := 0#32
  let v465 : BitVec 32 := Scalar.addi v464 c0_i32_311
  ![v465.toNat]
def k0_off41 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_825 : BitVec 32 := 0#32
  let c0_i32_826 : BitVec 32 := 0#32
  ![v2.toNat, 0, 0]
def k0_off43 (d0 : Dev nD) : Fin 3 → Nat :=
  let c2_i32_310 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_296 : BitVec 32 := 3#32
  let v444 : BitVec 32 := Scalar.addi v19 c3_i32_296
  let c8_i32_297 : BitVec 32 := 8#32
  let c0_i32_298 : BitVec 32 := 0#32
  let v445 : BitVec 1 := Scalar.cmpi .eq c8_i32_297 c0_i32_298
  let c1_i32_299 : BitVec 32 := 1#32
  let v446 : BitVec 32 := Scalar.select v445 c1_i32_299 c8_i32_297
  let v447 : BitVec 32 := Scalar.remsi v444 v446
  let c0_i32_301 : BitVec 32 := 0#32
  let v449 : BitVec 1 := Scalar.cmpi .slt v447 c0_i32_301
  let c0_i32_302 : BitVec 32 := 0#32
  let v450 : BitVec 1 := Scalar.cmpi .slt v446 c0_i32_302
  let v451 : BitVec 1 := Scalar.xori v449 v450
  let c0_i32_300 : BitVec 32 := 0#32
  let v448 : BitVec 1 := Scalar.cmpi .ne v447 c0_i32_300
  let v452 : BitVec 1 := Scalar.andi v451 v448
  let v453 : BitVec 32 := Scalar.addi v447 v446
  let v454 : BitVec 32 := Scalar.select v452 v453 v447
  let v464 : BitVec 32 := Scalar.muli c2_i32_310 v454
  let c0_i32_311 : BitVec 32 := 0#32
  let v465 : BitVec 32 := Scalar.addi v464 c0_i32_311
  let c0_i32_827 : BitVec 32 := 0#32
  let c0_i32_828 : BitVec 32 := 0#32
  ![v465.toNat, 0, 0]
def k0_dev22 (d0 : Dev nD) : Nat :=
  let c0_i32_824 : BitVec 32 := 0#32
  let c2_i32_310 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_296 : BitVec 32 := 3#32
  let v444 : BitVec 32 := Scalar.addi v19 c3_i32_296
  let c8_i32_297 : BitVec 32 := 8#32
  let c0_i32_298 : BitVec 32 := 0#32
  let v445 : BitVec 1 := Scalar.cmpi .eq c8_i32_297 c0_i32_298
  let c1_i32_299 : BitVec 32 := 1#32
  let v446 : BitVec 32 := Scalar.select v445 c1_i32_299 c8_i32_297
  let v447 : BitVec 32 := Scalar.remsi v444 v446
  let c0_i32_301 : BitVec 32 := 0#32
  let v449 : BitVec 1 := Scalar.cmpi .slt v447 c0_i32_301
  let c0_i32_302 : BitVec 32 := 0#32
  let v450 : BitVec 1 := Scalar.cmpi .slt v446 c0_i32_302
  let v451 : BitVec 1 := Scalar.xori v449 v450
  let c0_i32_300 : BitVec 32 := 0#32
  let v448 : BitVec 1 := Scalar.cmpi .ne v447 c0_i32_300
  let v452 : BitVec 1 := Scalar.andi v451 v448
  let v453 : BitVec 32 := Scalar.addi v447 v446
  let v454 : BitVec 32 := Scalar.select v452 v453 v447
  let v464 : BitVec 32 := Scalar.muli c2_i32_310 v454
  let c0_i32_311 : BitVec 32 := 0#32
  let v465 : BitVec 32 := Scalar.addi v464 c0_i32_311
  let c1_i32_823 : BitVec 32 := 1#32
  let v1237 : BitVec 32 := Scalar.muli v465 c1_i32_823
  let v1238 : BitVec 32 := Scalar.addi c0_i32_824 v1237
  v1238.toNat
def k0_cond15 (d0 : Dev nD) : BitVec 1 :=
  let c2_i32_314 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_296 : BitVec 32 := 3#32
  let v444 : BitVec 32 := Scalar.addi v19 c3_i32_296
  let c8_i32_297 : BitVec 32 := 8#32
  let c0_i32_298 : BitVec 32 := 0#32
  let v445 : BitVec 1 := Scalar.cmpi .eq c8_i32_297 c0_i32_298
  let c1_i32_299 : BitVec 32 := 1#32
  let v446 : BitVec 32 := Scalar.select v445 c1_i32_299 c8_i32_297
  let v447 : BitVec 32 := Scalar.remsi v444 v446
  let c0_i32_301 : BitVec 32 := 0#32
  let v449 : BitVec 1 := Scalar.cmpi .slt v447 c0_i32_301
  let c0_i32_302 : BitVec 32 := 0#32
  let v450 : BitVec 1 := Scalar.cmpi .slt v446 c0_i32_302
  let v451 : BitVec 1 := Scalar.xori v449 v450
  let c0_i32_300 : BitVec 32 := 0#32
  let v448 : BitVec 1 := Scalar.cmpi .ne v447 c0_i32_300
  let v452 : BitVec 1 := Scalar.andi v451 v448
  let v453 : BitVec 32 := Scalar.addi v447 v446
  let v454 : BitVec 32 := Scalar.select v452 v453 v447
  let v473 : BitVec 32 := Scalar.muli c2_i32_314 v454
  let c1_i32_315 : BitVec 32 := 1#32
  let v474 : BitVec 32 := Scalar.addi v473 c1_i32_315
  let v476 : BitVec 1 := Scalar.cmpi .eq v474 v2
  let v477 : BitVec 32 := Scalar.extui v476
  let c0_i32_316 : BitVec 32 := 0#32
  let v478 : BitVec 1 := Scalar.cmpi .ne v477 c0_i32_316
  v478

def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_821 : BitVec 32 := 256#32
  let v1232 : BitVec 32 := Scalar.muli v2 c256_i32_821
  let v1233 : Index := Scalar.indexCast v1232
  let c0_822 : Index := 0#32
  ![v1233.toNat, 0]
def k0_cond16 (d0 : Dev nD) : BitVec 1 :=
  let c2_i32_314 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_296 : BitVec 32 := 3#32
  let v444 : BitVec 32 := Scalar.addi v19 c3_i32_296
  let c8_i32_297 : BitVec 32 := 8#32
  let c0_i32_298 : BitVec 32 := 0#32
  let v445 : BitVec 1 := Scalar.cmpi .eq c8_i32_297 c0_i32_298
  let c1_i32_299 : BitVec 32 := 1#32
  let v446 : BitVec 32 := Scalar.select v445 c1_i32_299 c8_i32_297
  let v447 : BitVec 32 := Scalar.remsi v444 v446
  let c0_i32_301 : BitVec 32 := 0#32
  let v449 : BitVec 1 := Scalar.cmpi .slt v447 c0_i32_301
  let c0_i32_302 : BitVec 32 := 0#32
  let v450 : BitVec 1 := Scalar.cmpi .slt v446 c0_i32_302
  let v451 : BitVec 1 := Scalar.xori v449 v450
  let c0_i32_300 : BitVec 32 := 0#32
  let v448 : BitVec 1 := Scalar.cmpi .ne v447 c0_i32_300
  let v452 : BitVec 1 := Scalar.andi v451 v448
  let v453 : BitVec 32 := Scalar.addi v447 v446
  let v454 : BitVec 32 := Scalar.select v452 v453 v447
  let v473 : BitVec 32 := Scalar.muli c2_i32_314 v454
  let c1_i32_315 : BitVec 32 := 1#32
  let v474 : BitVec 32 := Scalar.addi v473 c1_i32_315
  let v479 : BitVec 1 := Scalar.cmpi .ne v474 v2
  let v480 : BitVec 32 := Scalar.extui v479
  let c0_i32_317 : BitVec 32 := 0#32
  let v481 : BitVec 1 := Scalar.cmpi .ne v480 c0_i32_317
  v481

def k0_off45 (d0 : Dev nD) : Fin 3 → Nat :=
  let c2_i32_314 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_296 : BitVec 32 := 3#32
  let v444 : BitVec 32 := Scalar.addi v19 c3_i32_296
  let c8_i32_297 : BitVec 32 := 8#32
  let c0_i32_298 : BitVec 32 := 0#32
  let v445 : BitVec 1 := Scalar.cmpi .eq c8_i32_297 c0_i32_298
  let c1_i32_299 : BitVec 32 := 1#32
  let v446 : BitVec 32 := Scalar.select v445 c1_i32_299 c8_i32_297
  let v447 : BitVec 32 := Scalar.remsi v444 v446
  let c0_i32_301 : BitVec 32 := 0#32
  let v449 : BitVec 1 := Scalar.cmpi .slt v447 c0_i32_301
  let c0_i32_302 : BitVec 32 := 0#32
  let v450 : BitVec 1 := Scalar.cmpi .slt v446 c0_i32_302
  let v451 : BitVec 1 := Scalar.xori v449 v450
  let c0_i32_300 : BitVec 32 := 0#32
  let v448 : BitVec 1 := Scalar.cmpi .ne v447 c0_i32_300
  let v452 : BitVec 1 := Scalar.andi v451 v448
  let v453 : BitVec 32 := Scalar.addi v447 v446
  let v454 : BitVec 32 := Scalar.select v452 v453 v447
  let v473 : BitVec 32 := Scalar.muli c2_i32_314 v454
  let c1_i32_315 : BitVec 32 := 1#32
  let v474 : BitVec 32 := Scalar.addi v473 c1_i32_315
  let v1233 : Index := Scalar.indexCast v474
  let c0_821 : Index := 0#32
  let c0_822 : Index := 0#32
  ![v1233.toNat, 0, 0]
def k0_off46 (d0 : Dev nD) : Fin 1 → Nat :=
  let c2_i32_314 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_296 : BitVec 32 := 3#32
  let v444 : BitVec 32 := Scalar.addi v19 c3_i32_296
  let c8_i32_297 : BitVec 32 := 8#32
  let c0_i32_298 : BitVec 32 := 0#32
  let v445 : BitVec 1 := Scalar.cmpi .eq c8_i32_297 c0_i32_298
  let c1_i32_299 : BitVec 32 := 1#32
  let v446 : BitVec 32 := Scalar.select v445 c1_i32_299 c8_i32_297
  let v447 : BitVec 32 := Scalar.remsi v444 v446
  let c0_i32_301 : BitVec 32 := 0#32
  let v449 : BitVec 1 := Scalar.cmpi .slt v447 c0_i32_301
  let c0_i32_302 : BitVec 32 := 0#32
  let v450 : BitVec 1 := Scalar.cmpi .slt v446 c0_i32_302
  let v451 : BitVec 1 := Scalar.xori v449 v450
  let c0_i32_300 : BitVec 32 := 0#32
  let v448 : BitVec 1 := Scalar.cmpi .ne v447 c0_i32_300
  let v452 : BitVec 1 := Scalar.andi v451 v448
  let v453 : BitVec 32 := Scalar.addi v447 v446
  let v454 : BitVec 32 := Scalar.select v452 v453 v447
  let v473 : BitVec 32 := Scalar.muli c2_i32_314 v454
  let c1_i32_315 : BitVec 32 := 1#32
  let v474 : BitVec 32 := Scalar.addi v473 c1_i32_315
  ![v474.toNat]
def k0_off47 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_825 : BitVec 32 := 0#32
  let c0_i32_826 : BitVec 32 := 0#32
  ![v2.toNat, 0, 0]
def k0_off49 (d0 : Dev nD) : Fin 3 → Nat :=
  let c2_i32_314 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_296 : BitVec 32 := 3#32
  let v444 : BitVec 32 := Scalar.addi v19 c3_i32_296
  let c8_i32_297 : BitVec 32 := 8#32
  let c0_i32_298 : BitVec 32 := 0#32
  let v445 : BitVec 1 := Scalar.cmpi .eq c8_i32_297 c0_i32_298
  let c1_i32_299 : BitVec 32 := 1#32
  let v446 : BitVec 32 := Scalar.select v445 c1_i32_299 c8_i32_297
  let v447 : BitVec 32 := Scalar.remsi v444 v446
  let c0_i32_301 : BitVec 32 := 0#32
  let v449 : BitVec 1 := Scalar.cmpi .slt v447 c0_i32_301
  let c0_i32_302 : BitVec 32 := 0#32
  let v450 : BitVec 1 := Scalar.cmpi .slt v446 c0_i32_302
  let v451 : BitVec 1 := Scalar.xori v449 v450
  let c0_i32_300 : BitVec 32 := 0#32
  let v448 : BitVec 1 := Scalar.cmpi .ne v447 c0_i32_300
  let v452 : BitVec 1 := Scalar.andi v451 v448
  let v453 : BitVec 32 := Scalar.addi v447 v446
  let v454 : BitVec 32 := Scalar.select v452 v453 v447
  let v473 : BitVec 32 := Scalar.muli c2_i32_314 v454
  let c1_i32_315 : BitVec 32 := 1#32
  let v474 : BitVec 32 := Scalar.addi v473 c1_i32_315
  let c0_i32_827 : BitVec 32 := 0#32
  let c0_i32_828 : BitVec 32 := 0#32
  ![v474.toNat, 0, 0]
def k0_dev23 (d0 : Dev nD) : Nat :=
  let c0_i32_824 : BitVec 32 := 0#32
  let c2_i32_314 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_296 : BitVec 32 := 3#32
  let v444 : BitVec 32 := Scalar.addi v19 c3_i32_296
  let c8_i32_297 : BitVec 32 := 8#32
  let c0_i32_298 : BitVec 32 := 0#32
  let v445 : BitVec 1 := Scalar.cmpi .eq c8_i32_297 c0_i32_298
  let c1_i32_299 : BitVec 32 := 1#32
  let v446 : BitVec 32 := Scalar.select v445 c1_i32_299 c8_i32_297
  let v447 : BitVec 32 := Scalar.remsi v444 v446
  let c0_i32_301 : BitVec 32 := 0#32
  let v449 : BitVec 1 := Scalar.cmpi .slt v447 c0_i32_301
  let c0_i32_302 : BitVec 32 := 0#32
  let v450 : BitVec 1 := Scalar.cmpi .slt v446 c0_i32_302
  let v451 : BitVec 1 := Scalar.xori v449 v450
  let c0_i32_300 : BitVec 32 := 0#32
  let v448 : BitVec 1 := Scalar.cmpi .ne v447 c0_i32_300
  let v452 : BitVec 1 := Scalar.andi v451 v448
  let v453 : BitVec 32 := Scalar.addi v447 v446
  let v454 : BitVec 32 := Scalar.select v452 v453 v447
  let v473 : BitVec 32 := Scalar.muli c2_i32_314 v454
  let c1_i32_315 : BitVec 32 := 1#32
  let v474 : BitVec 32 := Scalar.addi v473 c1_i32_315
  let c1_i32_823 : BitVec 32 := 1#32
  let v1237 : BitVec 32 := Scalar.muli v474 c1_i32_823
  let v1238 : BitVec 32 := Scalar.addi c0_i32_824 v1237
  v1238.toNat
def k0_cond17 (d0 : Dev nD) : BitVec 1 :=
  let c2_i32_350 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_336 : BitVec 32 := 4#32
  let v504 : BitVec 32 := Scalar.addi v19 c4_i32_336
  let c8_i32_337 : BitVec 32 := 8#32
  let c0_i32_338 : BitVec 32 := 0#32
  let v505 : BitVec 1 := Scalar.cmpi .eq c8_i32_337 c0_i32_338
  let c1_i32_339 : BitVec 32 := 1#32
  let v506 : BitVec 32 := Scalar.select v505 c1_i32_339 c8_i32_337
  let v507 : BitVec 32 := Scalar.remsi v504 v506
  let c0_i32_341 : BitVec 32 := 0#32
  let v509 : BitVec 1 := Scalar.cmpi .slt v507 c0_i32_341
  let c0_i32_342 : BitVec 32 := 0#32
  let v510 : BitVec 1 := Scalar.cmpi .slt v506 c0_i32_342
  let v511 : BitVec 1 := Scalar.xori v509 v510
  let c0_i32_340 : BitVec 32 := 0#32
  let v508 : BitVec 1 := Scalar.cmpi .ne v507 c0_i32_340
  let v512 : BitVec 1 := Scalar.andi v511 v508
  let v513 : BitVec 32 := Scalar.addi v507 v506
  let v514 : BitVec 32 := Scalar.select v512 v513 v507
  let v524 : BitVec 32 := Scalar.muli c2_i32_350 v514
  let c0_i32_351 : BitVec 32 := 0#32
  let v525 : BitVec 32 := Scalar.addi v524 c0_i32_351
  let v527 : BitVec 1 := Scalar.cmpi .eq v525 v2
  let v528 : BitVec 32 := Scalar.extui v527
  let c0_i32_352 : BitVec 32 := 0#32
  let v529 : BitVec 1 := Scalar.cmpi .ne v528 c0_i32_352
  v529

def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_821 : BitVec 32 := 256#32
  let v1232 : BitVec 32 := Scalar.muli v2 c256_i32_821
  let v1233 : Index := Scalar.indexCast v1232
  let c0_822 : Index := 0#32
  ![v1233.toNat, 0]
def k0_cond18 (d0 : Dev nD) : BitVec 1 :=
  let c2_i32_350 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_336 : BitVec 32 := 4#32
  let v504 : BitVec 32 := Scalar.addi v19 c4_i32_336
  let c8_i32_337 : BitVec 32 := 8#32
  let c0_i32_338 : BitVec 32 := 0#32
  let v505 : BitVec 1 := Scalar.cmpi .eq c8_i32_337 c0_i32_338
  let c1_i32_339 : BitVec 32 := 1#32
  let v506 : BitVec 32 := Scalar.select v505 c1_i32_339 c8_i32_337
  let v507 : BitVec 32 := Scalar.remsi v504 v506
  let c0_i32_341 : BitVec 32 := 0#32
  let v509 : BitVec 1 := Scalar.cmpi .slt v507 c0_i32_341
  let c0_i32_342 : BitVec 32 := 0#32
  let v510 : BitVec 1 := Scalar.cmpi .slt v506 c0_i32_342
  let v511 : BitVec 1 := Scalar.xori v509 v510
  let c0_i32_340 : BitVec 32 := 0#32
  let v508 : BitVec 1 := Scalar.cmpi .ne v507 c0_i32_340
  let v512 : BitVec 1 := Scalar.andi v511 v508
  let v513 : BitVec 32 := Scalar.addi v507 v506
  let v514 : BitVec 32 := Scalar.select v512 v513 v507
  let v524 : BitVec 32 := Scalar.muli c2_i32_350 v514
  let c0_i32_351 : BitVec 32 := 0#32
  let v525 : BitVec 32 := Scalar.addi v524 c0_i32_351
  let v530 : BitVec 1 := Scalar.cmpi .ne v525 v2
  let v531 : BitVec 32 := Scalar.extui v530
  let c0_i32_353 : BitVec 32 := 0#32
  let v532 : BitVec 1 := Scalar.cmpi .ne v531 c0_i32_353
  v532

def k0_off51 (d0 : Dev nD) : Fin 3 → Nat :=
  let c2_i32_350 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_336 : BitVec 32 := 4#32
  let v504 : BitVec 32 := Scalar.addi v19 c4_i32_336
  let c8_i32_337 : BitVec 32 := 8#32
  let c0_i32_338 : BitVec 32 := 0#32
  let v505 : BitVec 1 := Scalar.cmpi .eq c8_i32_337 c0_i32_338
  let c1_i32_339 : BitVec 32 := 1#32
  let v506 : BitVec 32 := Scalar.select v505 c1_i32_339 c8_i32_337
  let v507 : BitVec 32 := Scalar.remsi v504 v506
  let c0_i32_341 : BitVec 32 := 0#32
  let v509 : BitVec 1 := Scalar.cmpi .slt v507 c0_i32_341
  let c0_i32_342 : BitVec 32 := 0#32
  let v510 : BitVec 1 := Scalar.cmpi .slt v506 c0_i32_342
  let v511 : BitVec 1 := Scalar.xori v509 v510
  let c0_i32_340 : BitVec 32 := 0#32
  let v508 : BitVec 1 := Scalar.cmpi .ne v507 c0_i32_340
  let v512 : BitVec 1 := Scalar.andi v511 v508
  let v513 : BitVec 32 := Scalar.addi v507 v506
  let v514 : BitVec 32 := Scalar.select v512 v513 v507
  let v524 : BitVec 32 := Scalar.muli c2_i32_350 v514
  let c0_i32_351 : BitVec 32 := 0#32
  let v525 : BitVec 32 := Scalar.addi v524 c0_i32_351
  let v1233 : Index := Scalar.indexCast v525
  let c0_821 : Index := 0#32
  let c0_822 : Index := 0#32
  ![v1233.toNat, 0, 0]
def k0_off52 (d0 : Dev nD) : Fin 1 → Nat :=
  let c2_i32_350 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_336 : BitVec 32 := 4#32
  let v504 : BitVec 32 := Scalar.addi v19 c4_i32_336
  let c8_i32_337 : BitVec 32 := 8#32
  let c0_i32_338 : BitVec 32 := 0#32
  let v505 : BitVec 1 := Scalar.cmpi .eq c8_i32_337 c0_i32_338
  let c1_i32_339 : BitVec 32 := 1#32
  let v506 : BitVec 32 := Scalar.select v505 c1_i32_339 c8_i32_337
  let v507 : BitVec 32 := Scalar.remsi v504 v506
  let c0_i32_341 : BitVec 32 := 0#32
  let v509 : BitVec 1 := Scalar.cmpi .slt v507 c0_i32_341
  let c0_i32_342 : BitVec 32 := 0#32
  let v510 : BitVec 1 := Scalar.cmpi .slt v506 c0_i32_342
  let v511 : BitVec 1 := Scalar.xori v509 v510
  let c0_i32_340 : BitVec 32 := 0#32
  let v508 : BitVec 1 := Scalar.cmpi .ne v507 c0_i32_340
  let v512 : BitVec 1 := Scalar.andi v511 v508
  let v513 : BitVec 32 := Scalar.addi v507 v506
  let v514 : BitVec 32 := Scalar.select v512 v513 v507
  let v524 : BitVec 32 := Scalar.muli c2_i32_350 v514
  let c0_i32_351 : BitVec 32 := 0#32
  let v525 : BitVec 32 := Scalar.addi v524 c0_i32_351
  ![v525.toNat]
def k0_off53 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_825 : BitVec 32 := 0#32
  let c0_i32_826 : BitVec 32 := 0#32
  ![v2.toNat, 0, 0]
def k0_off55 (d0 : Dev nD) : Fin 3 → Nat :=
  let c2_i32_350 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_336 : BitVec 32 := 4#32
  let v504 : BitVec 32 := Scalar.addi v19 c4_i32_336
  let c8_i32_337 : BitVec 32 := 8#32
  let c0_i32_338 : BitVec 32 := 0#32
  let v505 : BitVec 1 := Scalar.cmpi .eq c8_i32_337 c0_i32_338
  let c1_i32_339 : BitVec 32 := 1#32
  let v506 : BitVec 32 := Scalar.select v505 c1_i32_339 c8_i32_337
  let v507 : BitVec 32 := Scalar.remsi v504 v506
  let c0_i32_341 : BitVec 32 := 0#32
  let v509 : BitVec 1 := Scalar.cmpi .slt v507 c0_i32_341
  let c0_i32_342 : BitVec 32 := 0#32
  let v510 : BitVec 1 := Scalar.cmpi .slt v506 c0_i32_342
  let v511 : BitVec 1 := Scalar.xori v509 v510
  let c0_i32_340 : BitVec 32 := 0#32
  let v508 : BitVec 1 := Scalar.cmpi .ne v507 c0_i32_340
  let v512 : BitVec 1 := Scalar.andi v511 v508
  let v513 : BitVec 32 := Scalar.addi v507 v506
  let v514 : BitVec 32 := Scalar.select v512 v513 v507
  let v524 : BitVec 32 := Scalar.muli c2_i32_350 v514
  let c0_i32_351 : BitVec 32 := 0#32
  let v525 : BitVec 32 := Scalar.addi v524 c0_i32_351
  let c0_i32_827 : BitVec 32 := 0#32
  let c0_i32_828 : BitVec 32 := 0#32
  ![v525.toNat, 0, 0]
def k0_dev24 (d0 : Dev nD) : Nat :=
  let c0_i32_824 : BitVec 32 := 0#32
  let c2_i32_350 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_336 : BitVec 32 := 4#32
  let v504 : BitVec 32 := Scalar.addi v19 c4_i32_336
  let c8_i32_337 : BitVec 32 := 8#32
  let c0_i32_338 : BitVec 32 := 0#32
  let v505 : BitVec 1 := Scalar.cmpi .eq c8_i32_337 c0_i32_338
  let c1_i32_339 : BitVec 32 := 1#32
  let v506 : BitVec 32 := Scalar.select v505 c1_i32_339 c8_i32_337
  let v507 : BitVec 32 := Scalar.remsi v504 v506
  let c0_i32_341 : BitVec 32 := 0#32
  let v509 : BitVec 1 := Scalar.cmpi .slt v507 c0_i32_341
  let c0_i32_342 : BitVec 32 := 0#32
  let v510 : BitVec 1 := Scalar.cmpi .slt v506 c0_i32_342
  let v511 : BitVec 1 := Scalar.xori v509 v510
  let c0_i32_340 : BitVec 32 := 0#32
  let v508 : BitVec 1 := Scalar.cmpi .ne v507 c0_i32_340
  let v512 : BitVec 1 := Scalar.andi v511 v508
  let v513 : BitVec 32 := Scalar.addi v507 v506
  let v514 : BitVec 32 := Scalar.select v512 v513 v507
  let v524 : BitVec 32 := Scalar.muli c2_i32_350 v514
  let c0_i32_351 : BitVec 32 := 0#32
  let v525 : BitVec 32 := Scalar.addi v524 c0_i32_351
  let c1_i32_823 : BitVec 32 := 1#32
  let v1237 : BitVec 32 := Scalar.muli v525 c1_i32_823
  let v1238 : BitVec 32 := Scalar.addi c0_i32_824 v1237
  v1238.toNat
def k0_cond19 (d0 : Dev nD) : BitVec 1 :=
  let c2_i32_354 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_336 : BitVec 32 := 4#32
  let v504 : BitVec 32 := Scalar.addi v19 c4_i32_336
  let c8_i32_337 : BitVec 32 := 8#32
  let c0_i32_338 : BitVec 32 := 0#32
  let v505 : BitVec 1 := Scalar.cmpi .eq c8_i32_337 c0_i32_338
  let c1_i32_339 : BitVec 32 := 1#32
  let v506 : BitVec 32 := Scalar.select v505 c1_i32_339 c8_i32_337
  let v507 : BitVec 32 := Scalar.remsi v504 v506
  let c0_i32_341 : BitVec 32 := 0#32
  let v509 : BitVec 1 := Scalar.cmpi .slt v507 c0_i32_341
  let c0_i32_342 : BitVec 32 := 0#32
  let v510 : BitVec 1 := Scalar.cmpi .slt v506 c0_i32_342
  let v511 : BitVec 1 := Scalar.xori v509 v510
  let c0_i32_340 : BitVec 32 := 0#32
  let v508 : BitVec 1 := Scalar.cmpi .ne v507 c0_i32_340
  let v512 : BitVec 1 := Scalar.andi v511 v508
  let v513 : BitVec 32 := Scalar.addi v507 v506
  let v514 : BitVec 32 := Scalar.select v512 v513 v507
  let v533 : BitVec 32 := Scalar.muli c2_i32_354 v514
  let c1_i32_355 : BitVec 32 := 1#32
  let v534 : BitVec 32 := Scalar.addi v533 c1_i32_355
  let v536 : BitVec 1 := Scalar.cmpi .eq v534 v2
  let v537 : BitVec 32 := Scalar.extui v536
  let c0_i32_356 : BitVec 32 := 0#32
  let v538 : BitVec 1 := Scalar.cmpi .ne v537 c0_i32_356
  v538

def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_821 : BitVec 32 := 256#32
  let v1232 : BitVec 32 := Scalar.muli v2 c256_i32_821
  let v1233 : Index := Scalar.indexCast v1232
  let c0_822 : Index := 0#32
  ![v1233.toNat, 0]
def k0_cond20 (d0 : Dev nD) : BitVec 1 :=
  let c2_i32_354 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_336 : BitVec 32 := 4#32
  let v504 : BitVec 32 := Scalar.addi v19 c4_i32_336
  let c8_i32_337 : BitVec 32 := 8#32
  let c0_i32_338 : BitVec 32 := 0#32
  let v505 : BitVec 1 := Scalar.cmpi .eq c8_i32_337 c0_i32_338
  let c1_i32_339 : BitVec 32 := 1#32
  let v506 : BitVec 32 := Scalar.select v505 c1_i32_339 c8_i32_337
  let v507 : BitVec 32 := Scalar.remsi v504 v506
  let c0_i32_341 : BitVec 32 := 0#32
  let v509 : BitVec 1 := Scalar.cmpi .slt v507 c0_i32_341
  let c0_i32_342 : BitVec 32 := 0#32
  let v510 : BitVec 1 := Scalar.cmpi .slt v506 c0_i32_342
  let v511 : BitVec 1 := Scalar.xori v509 v510
  let c0_i32_340 : BitVec 32 := 0#32
  let v508 : BitVec 1 := Scalar.cmpi .ne v507 c0_i32_340
  let v512 : BitVec 1 := Scalar.andi v511 v508
  let v513 : BitVec 32 := Scalar.addi v507 v506
  let v514 : BitVec 32 := Scalar.select v512 v513 v507
  let v533 : BitVec 32 := Scalar.muli c2_i32_354 v514
  let c1_i32_355 : BitVec 32 := 1#32
  let v534 : BitVec 32 := Scalar.addi v533 c1_i32_355
  let v539 : BitVec 1 := Scalar.cmpi .ne v534 v2
  let v540 : BitVec 32 := Scalar.extui v539
  let c0_i32_357 : BitVec 32 := 0#32
  let v541 : BitVec 1 := Scalar.cmpi .ne v540 c0_i32_357
  v541

def k0_off57 (d0 : Dev nD) : Fin 3 → Nat :=
  let c2_i32_354 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_336 : BitVec 32 := 4#32
  let v504 : BitVec 32 := Scalar.addi v19 c4_i32_336
  let c8_i32_337 : BitVec 32 := 8#32
  let c0_i32_338 : BitVec 32 := 0#32
  let v505 : BitVec 1 := Scalar.cmpi .eq c8_i32_337 c0_i32_338
  let c1_i32_339 : BitVec 32 := 1#32
  let v506 : BitVec 32 := Scalar.select v505 c1_i32_339 c8_i32_337
  let v507 : BitVec 32 := Scalar.remsi v504 v506
  let c0_i32_341 : BitVec 32 := 0#32
  let v509 : BitVec 1 := Scalar.cmpi .slt v507 c0_i32_341
  let c0_i32_342 : BitVec 32 := 0#32
  let v510 : BitVec 1 := Scalar.cmpi .slt v506 c0_i32_342
  let v511 : BitVec 1 := Scalar.xori v509 v510
  let c0_i32_340 : BitVec 32 := 0#32
  let v508 : BitVec 1 := Scalar.cmpi .ne v507 c0_i32_340
  let v512 : BitVec 1 := Scalar.andi v511 v508
  let v513 : BitVec 32 := Scalar.addi v507 v506
  let v514 : BitVec 32 := Scalar.select v512 v513 v507
  let v533 : BitVec 32 := Scalar.muli c2_i32_354 v514
  let c1_i32_355 : BitVec 32 := 1#32
  let v534 : BitVec 32 := Scalar.addi v533 c1_i32_355
  let v1233 : Index := Scalar.indexCast v534
  let c0_821 : Index := 0#32
  let c0_822 : Index := 0#32
  ![v1233.toNat, 0, 0]
def k0_off58 (d0 : Dev nD) : Fin 1 → Nat :=
  let c2_i32_354 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_336 : BitVec 32 := 4#32
  let v504 : BitVec 32 := Scalar.addi v19 c4_i32_336
  let c8_i32_337 : BitVec 32 := 8#32
  let c0_i32_338 : BitVec 32 := 0#32
  let v505 : BitVec 1 := Scalar.cmpi .eq c8_i32_337 c0_i32_338
  let c1_i32_339 : BitVec 32 := 1#32
  let v506 : BitVec 32 := Scalar.select v505 c1_i32_339 c8_i32_337
  let v507 : BitVec 32 := Scalar.remsi v504 v506
  let c0_i32_341 : BitVec 32 := 0#32
  let v509 : BitVec 1 := Scalar.cmpi .slt v507 c0_i32_341
  let c0_i32_342 : BitVec 32 := 0#32
  let v510 : BitVec 1 := Scalar.cmpi .slt v506 c0_i32_342
  let v511 : BitVec 1 := Scalar.xori v509 v510
  let c0_i32_340 : BitVec 32 := 0#32
  let v508 : BitVec 1 := Scalar.cmpi .ne v507 c0_i32_340
  let v512 : BitVec 1 := Scalar.andi v511 v508
  let v513 : BitVec 32 := Scalar.addi v507 v506
  let v514 : BitVec 32 := Scalar.select v512 v513 v507
  let v533 : BitVec 32 := Scalar.muli c2_i32_354 v514
  let c1_i32_355 : BitVec 32 := 1#32
  let v534 : BitVec 32 := Scalar.addi v533 c1_i32_355
  ![v534.toNat]
def k0_off59 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_825 : BitVec 32 := 0#32
  let c0_i32_826 : BitVec 32 := 0#32
  ![v2.toNat, 0, 0]
def k0_off61 (d0 : Dev nD) : Fin 3 → Nat :=
  let c2_i32_354 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_336 : BitVec 32 := 4#32
  let v504 : BitVec 32 := Scalar.addi v19 c4_i32_336
  let c8_i32_337 : BitVec 32 := 8#32
  let c0_i32_338 : BitVec 32 := 0#32
  let v505 : BitVec 1 := Scalar.cmpi .eq c8_i32_337 c0_i32_338
  let c1_i32_339 : BitVec 32 := 1#32
  let v506 : BitVec 32 := Scalar.select v505 c1_i32_339 c8_i32_337
  let v507 : BitVec 32 := Scalar.remsi v504 v506
  let c0_i32_341 : BitVec 32 := 0#32
  let v509 : BitVec 1 := Scalar.cmpi .slt v507 c0_i32_341
  let c0_i32_342 : BitVec 32 := 0#32
  let v510 : BitVec 1 := Scalar.cmpi .slt v506 c0_i32_342
  let v511 : BitVec 1 := Scalar.xori v509 v510
  let c0_i32_340 : BitVec 32 := 0#32
  let v508 : BitVec 1 := Scalar.cmpi .ne v507 c0_i32_340
  let v512 : BitVec 1 := Scalar.andi v511 v508
  let v513 : BitVec 32 := Scalar.addi v507 v506
  let v514 : BitVec 32 := Scalar.select v512 v513 v507
  let v533 : BitVec 32 := Scalar.muli c2_i32_354 v514
  let c1_i32_355 : BitVec 32 := 1#32
  let v534 : BitVec 32 := Scalar.addi v533 c1_i32_355
  let c0_i32_827 : BitVec 32 := 0#32
  let c0_i32_828 : BitVec 32 := 0#32
  ![v534.toNat, 0, 0]
def k0_dev25 (d0 : Dev nD) : Nat :=
  let c0_i32_824 : BitVec 32 := 0#32
  let c2_i32_354 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_336 : BitVec 32 := 4#32
  let v504 : BitVec 32 := Scalar.addi v19 c4_i32_336
  let c8_i32_337 : BitVec 32 := 8#32
  let c0_i32_338 : BitVec 32 := 0#32
  let v505 : BitVec 1 := Scalar.cmpi .eq c8_i32_337 c0_i32_338
  let c1_i32_339 : BitVec 32 := 1#32
  let v506 : BitVec 32 := Scalar.select v505 c1_i32_339 c8_i32_337
  let v507 : BitVec 32 := Scalar.remsi v504 v506
  let c0_i32_341 : BitVec 32 := 0#32
  let v509 : BitVec 1 := Scalar.cmpi .slt v507 c0_i32_341
  let c0_i32_342 : BitVec 32 := 0#32
  let v510 : BitVec 1 := Scalar.cmpi .slt v506 c0_i32_342
  let v511 : BitVec 1 := Scalar.xori v509 v510
  let c0_i32_340 : BitVec 32 := 0#32
  let v508 : BitVec 1 := Scalar.cmpi .ne v507 c0_i32_340
  let v512 : BitVec 1 := Scalar.andi v511 v508
  let v513 : BitVec 32 := Scalar.addi v507 v506
  let v514 : BitVec 32 := Scalar.select v512 v513 v507
  let v533 : BitVec 32 := Scalar.muli c2_i32_354 v514
  let c1_i32_355 : BitVec 32 := 1#32
  let v534 : BitVec 32 := Scalar.addi v533 c1_i32_355
  let c1_i32_823 : BitVec 32 := 1#32
  let v1237 : BitVec 32 := Scalar.muli v534 c1_i32_823
  let v1238 : BitVec 32 := Scalar.addi c0_i32_824 v1237
  v1238.toNat
def k0_cond21 (d0 : Dev nD) : BitVec 1 :=
  let c2_i32_390 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_376 : BitVec 32 := 5#32
  let v564 : BitVec 32 := Scalar.addi v19 c5_i32_376
  let c8_i32_377 : BitVec 32 := 8#32
  let c0_i32_378 : BitVec 32 := 0#32
  let v565 : BitVec 1 := Scalar.cmpi .eq c8_i32_377 c0_i32_378
  let c1_i32_379 : BitVec 32 := 1#32
  let v566 : BitVec 32 := Scalar.select v565 c1_i32_379 c8_i32_377
  let v567 : BitVec 32 := Scalar.remsi v564 v566
  let c0_i32_381 : BitVec 32 := 0#32
  let v569 : BitVec 1 := Scalar.cmpi .slt v567 c0_i32_381
  let c0_i32_382 : BitVec 32 := 0#32
  let v570 : BitVec 1 := Scalar.cmpi .slt v566 c0_i32_382
  let v571 : BitVec 1 := Scalar.xori v569 v570
  let c0_i32_380 : BitVec 32 := 0#32
  let v568 : BitVec 1 := Scalar.cmpi .ne v567 c0_i32_380
  let v572 : BitVec 1 := Scalar.andi v571 v568
  let v573 : BitVec 32 := Scalar.addi v567 v566
  let v574 : BitVec 32 := Scalar.select v572 v573 v567
  let v584 : BitVec 32 := Scalar.muli c2_i32_390 v574
  let c0_i32_391 : BitVec 32 := 0#32
  let v585 : BitVec 32 := Scalar.addi v584 c0_i32_391
  let v587 : BitVec 1 := Scalar.cmpi .eq v585 v2
  let v588 : BitVec 32 := Scalar.extui v587
  let c0_i32_392 : BitVec 32 := 0#32
  let v589 : BitVec 1 := Scalar.cmpi .ne v588 c0_i32_392
  v589

def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_821 : BitVec 32 := 256#32
  let v1232 : BitVec 32 := Scalar.muli v2 c256_i32_821
  let v1233 : Index := Scalar.indexCast v1232
  let c0_822 : Index := 0#32
  ![v1233.toNat, 0]
def k0_cond22 (d0 : Dev nD) : BitVec 1 :=
  let c2_i32_390 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_376 : BitVec 32 := 5#32
  let v564 : BitVec 32 := Scalar.addi v19 c5_i32_376
  let c8_i32_377 : BitVec 32 := 8#32
  let c0_i32_378 : BitVec 32 := 0#32
  let v565 : BitVec 1 := Scalar.cmpi .eq c8_i32_377 c0_i32_378
  let c1_i32_379 : BitVec 32 := 1#32
  let v566 : BitVec 32 := Scalar.select v565 c1_i32_379 c8_i32_377
  let v567 : BitVec 32 := Scalar.remsi v564 v566
  let c0_i32_381 : BitVec 32 := 0#32
  let v569 : BitVec 1 := Scalar.cmpi .slt v567 c0_i32_381
  let c0_i32_382 : BitVec 32 := 0#32
  let v570 : BitVec 1 := Scalar.cmpi .slt v566 c0_i32_382
  let v571 : BitVec 1 := Scalar.xori v569 v570
  let c0_i32_380 : BitVec 32 := 0#32
  let v568 : BitVec 1 := Scalar.cmpi .ne v567 c0_i32_380
  let v572 : BitVec 1 := Scalar.andi v571 v568
  let v573 : BitVec 32 := Scalar.addi v567 v566
  let v574 : BitVec 32 := Scalar.select v572 v573 v567
  let v584 : BitVec 32 := Scalar.muli c2_i32_390 v574
  let c0_i32_391 : BitVec 32 := 0#32
  let v585 : BitVec 32 := Scalar.addi v584 c0_i32_391
  let v590 : BitVec 1 := Scalar.cmpi .ne v585 v2
  let v591 : BitVec 32 := Scalar.extui v590
  let c0_i32_393 : BitVec 32 := 0#32
  let v592 : BitVec 1 := Scalar.cmpi .ne v591 c0_i32_393
  v592

def k0_off63 (d0 : Dev nD) : Fin 3 → Nat :=
  let c2_i32_390 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_376 : BitVec 32 := 5#32
  let v564 : BitVec 32 := Scalar.addi v19 c5_i32_376
  let c8_i32_377 : BitVec 32 := 8#32
  let c0_i32_378 : BitVec 32 := 0#32
  let v565 : BitVec 1 := Scalar.cmpi .eq c8_i32_377 c0_i32_378
  let c1_i32_379 : BitVec 32 := 1#32
  let v566 : BitVec 32 := Scalar.select v565 c1_i32_379 c8_i32_377
  let v567 : BitVec 32 := Scalar.remsi v564 v566
  let c0_i32_381 : BitVec 32 := 0#32
  let v569 : BitVec 1 := Scalar.cmpi .slt v567 c0_i32_381
  let c0_i32_382 : BitVec 32 := 0#32
  let v570 : BitVec 1 := Scalar.cmpi .slt v566 c0_i32_382
  let v571 : BitVec 1 := Scalar.xori v569 v570
  let c0_i32_380 : BitVec 32 := 0#32
  let v568 : BitVec 1 := Scalar.cmpi .ne v567 c0_i32_380
  let v572 : BitVec 1 := Scalar.andi v571 v568
  let v573 : BitVec 32 := Scalar.addi v567 v566
  let v574 : BitVec 32 := Scalar.select v572 v573 v567
  let v584 : BitVec 32 := Scalar.muli c2_i32_390 v574
  let c0_i32_391 : BitVec 32 := 0#32
  let v585 : BitVec 32 := Scalar.addi v584 c0_i32_391
  let v1233 : Index := Scalar.indexCast v585
  let c0_821 : Index := 0#32
  let c0_822 : Index := 0#32
  ![v1233.toNat, 0, 0]
def k0_off64 (d0 : Dev nD) : Fin 1 → Nat :=
  let c2_i32_390 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_376 : BitVec 32 := 5#32
  let v564 : BitVec 32 := Scalar.addi v19 c5_i32_376
  let c8_i32_377 : BitVec 32 := 8#32
  let c0_i32_378 : BitVec 32 := 0#32
  let v565 : BitVec 1 := Scalar.cmpi .eq c8_i32_377 c0_i32_378
  let c1_i32_379 : BitVec 32 := 1#32
  let v566 : BitVec 32 := Scalar.select v565 c1_i32_379 c8_i32_377
  let v567 : BitVec 32 := Scalar.remsi v564 v566
  let c0_i32_381 : BitVec 32 := 0#32
  let v569 : BitVec 1 := Scalar.cmpi .slt v567 c0_i32_381
  let c0_i32_382 : BitVec 32 := 0#32
  let v570 : BitVec 1 := Scalar.cmpi .slt v566 c0_i32_382
  let v571 : BitVec 1 := Scalar.xori v569 v570
  let c0_i32_380 : BitVec 32 := 0#32
  let v568 : BitVec 1 := Scalar.cmpi .ne v567 c0_i32_380
  let v572 : BitVec 1 := Scalar.andi v571 v568
  let v573 : BitVec 32 := Scalar.addi v567 v566
  let v574 : BitVec 32 := Scalar.select v572 v573 v567
  let v584 : BitVec 32 := Scalar.muli c2_i32_390 v574
  let c0_i32_391 : BitVec 32 := 0#32
  let v585 : BitVec 32 := Scalar.addi v584 c0_i32_391
  ![v585.toNat]
def k0_off65 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_825 : BitVec 32 := 0#32
  let c0_i32_826 : BitVec 32 := 0#32
  ![v2.toNat, 0, 0]
def k0_off67 (d0 : Dev nD) : Fin 3 → Nat :=
  let c2_i32_390 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_376 : BitVec 32 := 5#32
  let v564 : BitVec 32 := Scalar.addi v19 c5_i32_376
  let c8_i32_377 : BitVec 32 := 8#32
  let c0_i32_378 : BitVec 32 := 0#32
  let v565 : BitVec 1 := Scalar.cmpi .eq c8_i32_377 c0_i32_378
  let c1_i32_379 : BitVec 32 := 1#32
  let v566 : BitVec 32 := Scalar.select v565 c1_i32_379 c8_i32_377
  let v567 : BitVec 32 := Scalar.remsi v564 v566
  let c0_i32_381 : BitVec 32 := 0#32
  let v569 : BitVec 1 := Scalar.cmpi .slt v567 c0_i32_381
  let c0_i32_382 : BitVec 32 := 0#32
  let v570 : BitVec 1 := Scalar.cmpi .slt v566 c0_i32_382
  let v571 : BitVec 1 := Scalar.xori v569 v570
  let c0_i32_380 : BitVec 32 := 0#32
  let v568 : BitVec 1 := Scalar.cmpi .ne v567 c0_i32_380
  let v572 : BitVec 1 := Scalar.andi v571 v568
  let v573 : BitVec 32 := Scalar.addi v567 v566
  let v574 : BitVec 32 := Scalar.select v572 v573 v567
  let v584 : BitVec 32 := Scalar.muli c2_i32_390 v574
  let c0_i32_391 : BitVec 32 := 0#32
  let v585 : BitVec 32 := Scalar.addi v584 c0_i32_391
  let c0_i32_827 : BitVec 32 := 0#32
  let c0_i32_828 : BitVec 32 := 0#32
  ![v585.toNat, 0, 0]
def k0_dev26 (d0 : Dev nD) : Nat :=
  let c0_i32_824 : BitVec 32 := 0#32
  let c2_i32_390 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_376 : BitVec 32 := 5#32
  let v564 : BitVec 32 := Scalar.addi v19 c5_i32_376
  let c8_i32_377 : BitVec 32 := 8#32
  let c0_i32_378 : BitVec 32 := 0#32
  let v565 : BitVec 1 := Scalar.cmpi .eq c8_i32_377 c0_i32_378
  let c1_i32_379 : BitVec 32 := 1#32
  let v566 : BitVec 32 := Scalar.select v565 c1_i32_379 c8_i32_377
  let v567 : BitVec 32 := Scalar.remsi v564 v566
  let c0_i32_381 : BitVec 32 := 0#32
  let v569 : BitVec 1 := Scalar.cmpi .slt v567 c0_i32_381
  let c0_i32_382 : BitVec 32 := 0#32
  let v570 : BitVec 1 := Scalar.cmpi .slt v566 c0_i32_382
  let v571 : BitVec 1 := Scalar.xori v569 v570
  let c0_i32_380 : BitVec 32 := 0#32
  let v568 : BitVec 1 := Scalar.cmpi .ne v567 c0_i32_380
  let v572 : BitVec 1 := Scalar.andi v571 v568
  let v573 : BitVec 32 := Scalar.addi v567 v566
  let v574 : BitVec 32 := Scalar.select v572 v573 v567
  let v584 : BitVec 32 := Scalar.muli c2_i32_390 v574
  let c0_i32_391 : BitVec 32 := 0#32
  let v585 : BitVec 32 := Scalar.addi v584 c0_i32_391
  let c1_i32_823 : BitVec 32 := 1#32
  let v1237 : BitVec 32 := Scalar.muli v585 c1_i32_823
  let v1238 : BitVec 32 := Scalar.addi c0_i32_824 v1237
  v1238.toNat
def k0_cond23 (d0 : Dev nD) : BitVec 1 :=
  let c2_i32_394 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_376 : BitVec 32 := 5#32
  let v564 : BitVec 32 := Scalar.addi v19 c5_i32_376
  let c8_i32_377 : BitVec 32 := 8#32
  let c0_i32_378 : BitVec 32 := 0#32
  let v565 : BitVec 1 := Scalar.cmpi .eq c8_i32_377 c0_i32_378
  let c1_i32_379 : BitVec 32 := 1#32
  let v566 : BitVec 32 := Scalar.select v565 c1_i32_379 c8_i32_377
  let v567 : BitVec 32 := Scalar.remsi v564 v566
  let c0_i32_381 : BitVec 32 := 0#32
  let v569 : BitVec 1 := Scalar.cmpi .slt v567 c0_i32_381
  let c0_i32_382 : BitVec 32 := 0#32
  let v570 : BitVec 1 := Scalar.cmpi .slt v566 c0_i32_382
  let v571 : BitVec 1 := Scalar.xori v569 v570
  let c0_i32_380 : BitVec 32 := 0#32
  let v568 : BitVec 1 := Scalar.cmpi .ne v567 c0_i32_380
  let v572 : BitVec 1 := Scalar.andi v571 v568
  let v573 : BitVec 32 := Scalar.addi v567 v566
  let v574 : BitVec 32 := Scalar.select v572 v573 v567
  let v593 : BitVec 32 := Scalar.muli c2_i32_394 v574
  let c1_i32_395 : BitVec 32 := 1#32
  let v594 : BitVec 32 := Scalar.addi v593 c1_i32_395
  let v596 : BitVec 1 := Scalar.cmpi .eq v594 v2
  let v597 : BitVec 32 := Scalar.extui v596
  let c0_i32_396 : BitVec 32 := 0#32
  let v598 : BitVec 1 := Scalar.cmpi .ne v597 c0_i32_396
  v598

def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_821 : BitVec 32 := 256#32
  let v1232 : BitVec 32 := Scalar.muli v2 c256_i32_821
  let v1233 : Index := Scalar.indexCast v1232
  let c0_822 : Index := 0#32
  ![v1233.toNat, 0]
def k0_cond24 (d0 : Dev nD) : BitVec 1 :=
  let c2_i32_394 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_376 : BitVec 32 := 5#32
  let v564 : BitVec 32 := Scalar.addi v19 c5_i32_376
  let c8_i32_377 : BitVec 32 := 8#32
  let c0_i32_378 : BitVec 32 := 0#32
  let v565 : BitVec 1 := Scalar.cmpi .eq c8_i32_377 c0_i32_378
  let c1_i32_379 : BitVec 32 := 1#32
  let v566 : BitVec 32 := Scalar.select v565 c1_i32_379 c8_i32_377
  let v567 : BitVec 32 := Scalar.remsi v564 v566
  let c0_i32_381 : BitVec 32 := 0#32
  let v569 : BitVec 1 := Scalar.cmpi .slt v567 c0_i32_381
  let c0_i32_382 : BitVec 32 := 0#32
  let v570 : BitVec 1 := Scalar.cmpi .slt v566 c0_i32_382
  let v571 : BitVec 1 := Scalar.xori v569 v570
  let c0_i32_380 : BitVec 32 := 0#32
  let v568 : BitVec 1 := Scalar.cmpi .ne v567 c0_i32_380
  let v572 : BitVec 1 := Scalar.andi v571 v568
  let v573 : BitVec 32 := Scalar.addi v567 v566
  let v574 : BitVec 32 := Scalar.select v572 v573 v567
  let v593 : BitVec 32 := Scalar.muli c2_i32_394 v574
  let c1_i32_395 : BitVec 32 := 1#32
  let v594 : BitVec 32 := Scalar.addi v593 c1_i32_395
  let v599 : BitVec 1 := Scalar.cmpi .ne v594 v2
  let v600 : BitVec 32 := Scalar.extui v599
  let c0_i32_397 : BitVec 32 := 0#32
  let v601 : BitVec 1 := Scalar.cmpi .ne v600 c0_i32_397
  v601

def k0_off69 (d0 : Dev nD) : Fin 3 → Nat :=
  let c2_i32_394 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_376 : BitVec 32 := 5#32
  let v564 : BitVec 32 := Scalar.addi v19 c5_i32_376
  let c8_i32_377 : BitVec 32 := 8#32
  let c0_i32_378 : BitVec 32 := 0#32
  let v565 : BitVec 1 := Scalar.cmpi .eq c8_i32_377 c0_i32_378
  let c1_i32_379 : BitVec 32 := 1#32
  let v566 : BitVec 32 := Scalar.select v565 c1_i32_379 c8_i32_377
  let v567 : BitVec 32 := Scalar.remsi v564 v566
  let c0_i32_381 : BitVec 32 := 0#32
  let v569 : BitVec 1 := Scalar.cmpi .slt v567 c0_i32_381
  let c0_i32_382 : BitVec 32 := 0#32
  let v570 : BitVec 1 := Scalar.cmpi .slt v566 c0_i32_382
  let v571 : BitVec 1 := Scalar.xori v569 v570
  let c0_i32_380 : BitVec 32 := 0#32
  let v568 : BitVec 1 := Scalar.cmpi .ne v567 c0_i32_380
  let v572 : BitVec 1 := Scalar.andi v571 v568
  let v573 : BitVec 32 := Scalar.addi v567 v566
  let v574 : BitVec 32 := Scalar.select v572 v573 v567
  let v593 : BitVec 32 := Scalar.muli c2_i32_394 v574
  let c1_i32_395 : BitVec 32 := 1#32
  let v594 : BitVec 32 := Scalar.addi v593 c1_i32_395
  let v1233 : Index := Scalar.indexCast v594
  let c0_821 : Index := 0#32
  let c0_822 : Index := 0#32
  ![v1233.toNat, 0, 0]
def k0_off70 (d0 : Dev nD) : Fin 1 → Nat :=
  let c2_i32_394 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_376 : BitVec 32 := 5#32
  let v564 : BitVec 32 := Scalar.addi v19 c5_i32_376
  let c8_i32_377 : BitVec 32 := 8#32
  let c0_i32_378 : BitVec 32 := 0#32
  let v565 : BitVec 1 := Scalar.cmpi .eq c8_i32_377 c0_i32_378
  let c1_i32_379 : BitVec 32 := 1#32
  let v566 : BitVec 32 := Scalar.select v565 c1_i32_379 c8_i32_377
  let v567 : BitVec 32 := Scalar.remsi v564 v566
  let c0_i32_381 : BitVec 32 := 0#32
  let v569 : BitVec 1 := Scalar.cmpi .slt v567 c0_i32_381
  let c0_i32_382 : BitVec 32 := 0#32
  let v570 : BitVec 1 := Scalar.cmpi .slt v566 c0_i32_382
  let v571 : BitVec 1 := Scalar.xori v569 v570
  let c0_i32_380 : BitVec 32 := 0#32
  let v568 : BitVec 1 := Scalar.cmpi .ne v567 c0_i32_380
  let v572 : BitVec 1 := Scalar.andi v571 v568
  let v573 : BitVec 32 := Scalar.addi v567 v566
  let v574 : BitVec 32 := Scalar.select v572 v573 v567
  let v593 : BitVec 32 := Scalar.muli c2_i32_394 v574
  let c1_i32_395 : BitVec 32 := 1#32
  let v594 : BitVec 32 := Scalar.addi v593 c1_i32_395
  ![v594.toNat]
def k0_off71 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off72 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_825 : BitVec 32 := 0#32
  let c0_i32_826 : BitVec 32 := 0#32
  ![v2.toNat, 0, 0]
def k0_off73 (d0 : Dev nD) : Fin 3 → Nat :=
  let c2_i32_394 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_376 : BitVec 32 := 5#32
  let v564 : BitVec 32 := Scalar.addi v19 c5_i32_376
  let c8_i32_377 : BitVec 32 := 8#32
  let c0_i32_378 : BitVec 32 := 0#32
  let v565 : BitVec 1 := Scalar.cmpi .eq c8_i32_377 c0_i32_378
  let c1_i32_379 : BitVec 32 := 1#32
  let v566 : BitVec 32 := Scalar.select v565 c1_i32_379 c8_i32_377
  let v567 : BitVec 32 := Scalar.remsi v564 v566
  let c0_i32_381 : BitVec 32 := 0#32
  let v569 : BitVec 1 := Scalar.cmpi .slt v567 c0_i32_381
  let c0_i32_382 : BitVec 32 := 0#32
  let v570 : BitVec 1 := Scalar.cmpi .slt v566 c0_i32_382
  let v571 : BitVec 1 := Scalar.xori v569 v570
  let c0_i32_380 : BitVec 32 := 0#32
  let v568 : BitVec 1 := Scalar.cmpi .ne v567 c0_i32_380
  let v572 : BitVec 1 := Scalar.andi v571 v568
  let v573 : BitVec 32 := Scalar.addi v567 v566
  let v574 : BitVec 32 := Scalar.select v572 v573 v567
  let v593 : BitVec 32 := Scalar.muli c2_i32_394 v574
  let c1_i32_395 : BitVec 32 := 1#32
  let v594 : BitVec 32 := Scalar.addi v593 c1_i32_395
  let c0_i32_827 : BitVec 32 := 0#32
  let c0_i32_828 : BitVec 32 := 0#32
  ![v594.toNat, 0, 0]
def k0_dev27 (d0 : Dev nD) : Nat :=
  let c0_i32_824 : BitVec 32 := 0#32
  let c2_i32_394 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_376 : BitVec 32 := 5#32
  let v564 : BitVec 32 := Scalar.addi v19 c5_i32_376
  let c8_i32_377 : BitVec 32 := 8#32
  let c0_i32_378 : BitVec 32 := 0#32
  let v565 : BitVec 1 := Scalar.cmpi .eq c8_i32_377 c0_i32_378
  let c1_i32_379 : BitVec 32 := 1#32
  let v566 : BitVec 32 := Scalar.select v565 c1_i32_379 c8_i32_377
  let v567 : BitVec 32 := Scalar.remsi v564 v566
  let c0_i32_381 : BitVec 32 := 0#32
  let v569 : BitVec 1 := Scalar.cmpi .slt v567 c0_i32_381
  let c0_i32_382 : BitVec 32 := 0#32
  let v570 : BitVec 1 := Scalar.cmpi .slt v566 c0_i32_382
  let v571 : BitVec 1 := Scalar.xori v569 v570
  let c0_i32_380 : BitVec 32 := 0#32
  let v568 : BitVec 1 := Scalar.cmpi .ne v567 c0_i32_380
  let v572 : BitVec 1 := Scalar.andi v571 v568
  let v573 : BitVec 32 := Scalar.addi v567 v566
  let v574 : BitVec 32 := Scalar.select v572 v573 v567
  let v593 : BitVec 32 := Scalar.muli c2_i32_394 v574
  let c1_i32_395 : BitVec 32 := 1#32
  let v594 : BitVec 32 := Scalar.addi v593 c1_i32_395
  let c1_i32_823 : BitVec 32 := 1#32
  let v1237 : BitVec 32 := Scalar.muli v594 c1_i32_823
  let v1238 : BitVec 32 := Scalar.addi c0_i32_824 v1237
  v1238.toNat
def k0_cond25 (d0 : Dev nD) : BitVec 1 :=
  let c2_i32_430 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_416 : BitVec 32 := 6#32
  let v624 : BitVec 32 := Scalar.addi v19 c6_i32_416
  let c8_i32_417 : BitVec 32 := 8#32
  let c0_i32_418 : BitVec 32 := 0#32
  let v625 : BitVec 1 := Scalar.cmpi .eq c8_i32_417 c0_i32_418
  let c1_i32_419 : BitVec 32 := 1#32
  let v626 : BitVec 32 := Scalar.select v625 c1_i32_419 c8_i32_417
  let v627 : BitVec 32 := Scalar.remsi v624 v626
  let c0_i32_421 : BitVec 32 := 0#32
  let v629 : BitVec 1 := Scalar.cmpi .slt v627 c0_i32_421
  let c0_i32_422 : BitVec 32 := 0#32
  let v630 : BitVec 1 := Scalar.cmpi .slt v626 c0_i32_422
  let v631 : BitVec 1 := Scalar.xori v629 v630
  let c0_i32_420 : BitVec 32 := 0#32
  let v628 : BitVec 1 := Scalar.cmpi .ne v627 c0_i32_420
  let v632 : BitVec 1 := Scalar.andi v631 v628
  let v633 : BitVec 32 := Scalar.addi v627 v626
  let v634 : BitVec 32 := Scalar.select v632 v633 v627
  let v644 : BitVec 32 := Scalar.muli c2_i32_430 v634
  let c0_i32_431 : BitVec 32 := 0#32
  let v645 : BitVec 32 := Scalar.addi v644 c0_i32_431
  let v647 : BitVec 1 := Scalar.cmpi .eq v645 v2
  let v648 : BitVec 32 := Scalar.extui v647
  let c0_i32_432 : BitVec 32 := 0#32
  let v649 : BitVec 1 := Scalar.cmpi .ne v648 c0_i32_432
  v649

def k0_off74 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_821 : BitVec 32 := 256#32
  let v1232 : BitVec 32 := Scalar.muli v2 c256_i32_821
  let v1233 : Index := Scalar.indexCast v1232
  let c0_822 : Index := 0#32
  ![v1233.toNat, 0]
def k0_cond26 (d0 : Dev nD) : BitVec 1 :=
  let c2_i32_430 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_416 : BitVec 32 := 6#32
  let v624 : BitVec 32 := Scalar.addi v19 c6_i32_416
  let c8_i32_417 : BitVec 32 := 8#32
  let c0_i32_418 : BitVec 32 := 0#32
  let v625 : BitVec 1 := Scalar.cmpi .eq c8_i32_417 c0_i32_418
  let c1_i32_419 : BitVec 32 := 1#32
  let v626 : BitVec 32 := Scalar.select v625 c1_i32_419 c8_i32_417
  let v627 : BitVec 32 := Scalar.remsi v624 v626
  let c0_i32_421 : BitVec 32 := 0#32
  let v629 : BitVec 1 := Scalar.cmpi .slt v627 c0_i32_421
  let c0_i32_422 : BitVec 32 := 0#32
  let v630 : BitVec 1 := Scalar.cmpi .slt v626 c0_i32_422
  let v631 : BitVec 1 := Scalar.xori v629 v630
  let c0_i32_420 : BitVec 32 := 0#32
  let v628 : BitVec 1 := Scalar.cmpi .ne v627 c0_i32_420
  let v632 : BitVec 1 := Scalar.andi v631 v628
  let v633 : BitVec 32 := Scalar.addi v627 v626
  let v634 : BitVec 32 := Scalar.select v632 v633 v627
  let v644 : BitVec 32 := Scalar.muli c2_i32_430 v634
  let c0_i32_431 : BitVec 32 := 0#32
  let v645 : BitVec 32 := Scalar.addi v644 c0_i32_431
  let v650 : BitVec 1 := Scalar.cmpi .ne v645 v2
  let v651 : BitVec 32 := Scalar.extui v650
  let c0_i32_433 : BitVec 32 := 0#32
  let v652 : BitVec 1 := Scalar.cmpi .ne v651 c0_i32_433
  v652

def k0_off75 (d0 : Dev nD) : Fin 3 → Nat :=
  let c2_i32_430 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_416 : BitVec 32 := 6#32
  let v624 : BitVec 32 := Scalar.addi v19 c6_i32_416
  let c8_i32_417 : BitVec 32 := 8#32
  let c0_i32_418 : BitVec 32 := 0#32
  let v625 : BitVec 1 := Scalar.cmpi .eq c8_i32_417 c0_i32_418
  let c1_i32_419 : BitVec 32 := 1#32
  let v626 : BitVec 32 := Scalar.select v625 c1_i32_419 c8_i32_417
  let v627 : BitVec 32 := Scalar.remsi v624 v626
  let c0_i32_421 : BitVec 32 := 0#32
  let v629 : BitVec 1 := Scalar.cmpi .slt v627 c0_i32_421
  let c0_i32_422 : BitVec 32 := 0#32
  let v630 : BitVec 1 := Scalar.cmpi .slt v626 c0_i32_422
  let v631 : BitVec 1 := Scalar.xori v629 v630
  let c0_i32_420 : BitVec 32 := 0#32
  let v628 : BitVec 1 := Scalar.cmpi .ne v627 c0_i32_420
  let v632 : BitVec 1 := Scalar.andi v631 v628
  let v633 : BitVec 32 := Scalar.addi v627 v626
  let v634 : BitVec 32 := Scalar.select v632 v633 v627
  let v644 : BitVec 32 := Scalar.muli c2_i32_430 v634
  let c0_i32_431 : BitVec 32 := 0#32
  let v645 : BitVec 32 := Scalar.addi v644 c0_i32_431
  let v1233 : Index := Scalar.indexCast v645
  let c0_821 : Index := 0#32
  let c0_822 : Index := 0#32
  ![v1233.toNat, 0, 0]
def k0_off76 (d0 : Dev nD) : Fin 1 → Nat :=
  let c2_i32_430 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_416 : BitVec 32 := 6#32
  let v624 : BitVec 32 := Scalar.addi v19 c6_i32_416
  let c8_i32_417 : BitVec 32 := 8#32
  let c0_i32_418 : BitVec 32 := 0#32
  let v625 : BitVec 1 := Scalar.cmpi .eq c8_i32_417 c0_i32_418
  let c1_i32_419 : BitVec 32 := 1#32
  let v626 : BitVec 32 := Scalar.select v625 c1_i32_419 c8_i32_417
  let v627 : BitVec 32 := Scalar.remsi v624 v626
  let c0_i32_421 : BitVec 32 := 0#32
  let v629 : BitVec 1 := Scalar.cmpi .slt v627 c0_i32_421
  let c0_i32_422 : BitVec 32 := 0#32
  let v630 : BitVec 1 := Scalar.cmpi .slt v626 c0_i32_422
  let v631 : BitVec 1 := Scalar.xori v629 v630
  let c0_i32_420 : BitVec 32 := 0#32
  let v628 : BitVec 1 := Scalar.cmpi .ne v627 c0_i32_420
  let v632 : BitVec 1 := Scalar.andi v631 v628
  let v633 : BitVec 32 := Scalar.addi v627 v626
  let v634 : BitVec 32 := Scalar.select v632 v633 v627
  let v644 : BitVec 32 := Scalar.muli c2_i32_430 v634
  let c0_i32_431 : BitVec 32 := 0#32
  let v645 : BitVec 32 := Scalar.addi v644 c0_i32_431
  ![v645.toNat]
def k0_off77 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_825 : BitVec 32 := 0#32
  let c0_i32_826 : BitVec 32 := 0#32
  ![v2.toNat, 0, 0]
def k0_off79 (d0 : Dev nD) : Fin 3 → Nat :=
  let c2_i32_430 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_416 : BitVec 32 := 6#32
  let v624 : BitVec 32 := Scalar.addi v19 c6_i32_416
  let c8_i32_417 : BitVec 32 := 8#32
  let c0_i32_418 : BitVec 32 := 0#32
  let v625 : BitVec 1 := Scalar.cmpi .eq c8_i32_417 c0_i32_418
  let c1_i32_419 : BitVec 32 := 1#32
  let v626 : BitVec 32 := Scalar.select v625 c1_i32_419 c8_i32_417
  let v627 : BitVec 32 := Scalar.remsi v624 v626
  let c0_i32_421 : BitVec 32 := 0#32
  let v629 : BitVec 1 := Scalar.cmpi .slt v627 c0_i32_421
  let c0_i32_422 : BitVec 32 := 0#32
  let v630 : BitVec 1 := Scalar.cmpi .slt v626 c0_i32_422
  let v631 : BitVec 1 := Scalar.xori v629 v630
  let c0_i32_420 : BitVec 32 := 0#32
  let v628 : BitVec 1 := Scalar.cmpi .ne v627 c0_i32_420
  let v632 : BitVec 1 := Scalar.andi v631 v628
  let v633 : BitVec 32 := Scalar.addi v627 v626
  let v634 : BitVec 32 := Scalar.select v632 v633 v627
  let v644 : BitVec 32 := Scalar.muli c2_i32_430 v634
  let c0_i32_431 : BitVec 32 := 0#32
  let v645 : BitVec 32 := Scalar.addi v644 c0_i32_431
  let c0_i32_827 : BitVec 32 := 0#32
  let c0_i32_828 : BitVec 32 := 0#32
  ![v645.toNat, 0, 0]
def k0_dev28 (d0 : Dev nD) : Nat :=
  let c0_i32_824 : BitVec 32 := 0#32
  let c2_i32_430 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_416 : BitVec 32 := 6#32
  let v624 : BitVec 32 := Scalar.addi v19 c6_i32_416
  let c8_i32_417 : BitVec 32 := 8#32
  let c0_i32_418 : BitVec 32 := 0#32
  let v625 : BitVec 1 := Scalar.cmpi .eq c8_i32_417 c0_i32_418
  let c1_i32_419 : BitVec 32 := 1#32
  let v626 : BitVec 32 := Scalar.select v625 c1_i32_419 c8_i32_417
  let v627 : BitVec 32 := Scalar.remsi v624 v626
  let c0_i32_421 : BitVec 32 := 0#32
  let v629 : BitVec 1 := Scalar.cmpi .slt v627 c0_i32_421
  let c0_i32_422 : BitVec 32 := 0#32
  let v630 : BitVec 1 := Scalar.cmpi .slt v626 c0_i32_422
  let v631 : BitVec 1 := Scalar.xori v629 v630
  let c0_i32_420 : BitVec 32 := 0#32
  let v628 : BitVec 1 := Scalar.cmpi .ne v627 c0_i32_420
  let v632 : BitVec 1 := Scalar.andi v631 v628
  let v633 : BitVec 32 := Scalar.addi v627 v626
  let v634 : BitVec 32 := Scalar.select v632 v633 v627
  let v644 : BitVec 32 := Scalar.muli c2_i32_430 v634
  let c0_i32_431 : BitVec 32 := 0#32
  let v645 : BitVec 32 := Scalar.addi v644 c0_i32_431
  let c1_i32_823 : BitVec 32 := 1#32
  let v1237 : BitVec 32 := Scalar.muli v645 c1_i32_823
  let v1238 : BitVec 32 := Scalar.addi c0_i32_824 v1237
  v1238.toNat
def k0_cond27 (d0 : Dev nD) : BitVec 1 :=
  let c2_i32_434 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_416 : BitVec 32 := 6#32
  let v624 : BitVec 32 := Scalar.addi v19 c6_i32_416
  let c8_i32_417 : BitVec 32 := 8#32
  let c0_i32_418 : BitVec 32 := 0#32
  let v625 : BitVec 1 := Scalar.cmpi .eq c8_i32_417 c0_i32_418
  let c1_i32_419 : BitVec 32 := 1#32
  let v626 : BitVec 32 := Scalar.select v625 c1_i32_419 c8_i32_417
  let v627 : BitVec 32 := Scalar.remsi v624 v626
  let c0_i32_421 : BitVec 32 := 0#32
  let v629 : BitVec 1 := Scalar.cmpi .slt v627 c0_i32_421
  let c0_i32_422 : BitVec 32 := 0#32
  let v630 : BitVec 1 := Scalar.cmpi .slt v626 c0_i32_422
  let v631 : BitVec 1 := Scalar.xori v629 v630
  let c0_i32_420 : BitVec 32 := 0#32
  let v628 : BitVec 1 := Scalar.cmpi .ne v627 c0_i32_420
  let v632 : BitVec 1 := Scalar.andi v631 v628
  let v633 : BitVec 32 := Scalar.addi v627 v626
  let v634 : BitVec 32 := Scalar.select v632 v633 v627
  let v653 : BitVec 32 := Scalar.muli c2_i32_434 v634
  let c1_i32_435 : BitVec 32 := 1#32
  let v654 : BitVec 32 := Scalar.addi v653 c1_i32_435
  let v656 : BitVec 1 := Scalar.cmpi .eq v654 v2
  let v657 : BitVec 32 := Scalar.extui v656
  let c0_i32_436 : BitVec 32 := 0#32
  let v658 : BitVec 1 := Scalar.cmpi .ne v657 c0_i32_436
  v658

def k0_off80 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_821 : BitVec 32 := 256#32
  let v1232 : BitVec 32 := Scalar.muli v2 c256_i32_821
  let v1233 : Index := Scalar.indexCast v1232
  let c0_822 : Index := 0#32
  ![v1233.toNat, 0]
def k0_cond28 (d0 : Dev nD) : BitVec 1 :=
  let c2_i32_434 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_416 : BitVec 32 := 6#32
  let v624 : BitVec 32 := Scalar.addi v19 c6_i32_416
  let c8_i32_417 : BitVec 32 := 8#32
  let c0_i32_418 : BitVec 32 := 0#32
  let v625 : BitVec 1 := Scalar.cmpi .eq c8_i32_417 c0_i32_418
  let c1_i32_419 : BitVec 32 := 1#32
  let v626 : BitVec 32 := Scalar.select v625 c1_i32_419 c8_i32_417
  let v627 : BitVec 32 := Scalar.remsi v624 v626
  let c0_i32_421 : BitVec 32 := 0#32
  let v629 : BitVec 1 := Scalar.cmpi .slt v627 c0_i32_421
  let c0_i32_422 : BitVec 32 := 0#32
  let v630 : BitVec 1 := Scalar.cmpi .slt v626 c0_i32_422
  let v631 : BitVec 1 := Scalar.xori v629 v630
  let c0_i32_420 : BitVec 32 := 0#32
  let v628 : BitVec 1 := Scalar.cmpi .ne v627 c0_i32_420
  let v632 : BitVec 1 := Scalar.andi v631 v628
  let v633 : BitVec 32 := Scalar.addi v627 v626
  let v634 : BitVec 32 := Scalar.select v632 v633 v627
  let v653 : BitVec 32 := Scalar.muli c2_i32_434 v634
  let c1_i32_435 : BitVec 32 := 1#32
  let v654 : BitVec 32 := Scalar.addi v653 c1_i32_435
  let v659 : BitVec 1 := Scalar.cmpi .ne v654 v2
  let v660 : BitVec 32 := Scalar.extui v659
  let c0_i32_437 : BitVec 32 := 0#32
  let v661 : BitVec 1 := Scalar.cmpi .ne v660 c0_i32_437
  v661

def k0_off81 (d0 : Dev nD) : Fin 3 → Nat :=
  let c2_i32_434 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_416 : BitVec 32 := 6#32
  let v624 : BitVec 32 := Scalar.addi v19 c6_i32_416
  let c8_i32_417 : BitVec 32 := 8#32
  let c0_i32_418 : BitVec 32 := 0#32
  let v625 : BitVec 1 := Scalar.cmpi .eq c8_i32_417 c0_i32_418
  let c1_i32_419 : BitVec 32 := 1#32
  let v626 : BitVec 32 := Scalar.select v625 c1_i32_419 c8_i32_417
  let v627 : BitVec 32 := Scalar.remsi v624 v626
  let c0_i32_421 : BitVec 32 := 0#32
  let v629 : BitVec 1 := Scalar.cmpi .slt v627 c0_i32_421
  let c0_i32_422 : BitVec 32 := 0#32
  let v630 : BitVec 1 := Scalar.cmpi .slt v626 c0_i32_422
  let v631 : BitVec 1 := Scalar.xori v629 v630
  let c0_i32_420 : BitVec 32 := 0#32
  let v628 : BitVec 1 := Scalar.cmpi .ne v627 c0_i32_420
  let v632 : BitVec 1 := Scalar.andi v631 v628
  let v633 : BitVec 32 := Scalar.addi v627 v626
  let v634 : BitVec 32 := Scalar.select v632 v633 v627
  let v653 : BitVec 32 := Scalar.muli c2_i32_434 v634
  let c1_i32_435 : BitVec 32 := 1#32
  let v654 : BitVec 32 := Scalar.addi v653 c1_i32_435
  let v1233 : Index := Scalar.indexCast v654
  let c0_821 : Index := 0#32
  let c0_822 : Index := 0#32
  ![v1233.toNat, 0, 0]
def k0_off82 (d0 : Dev nD) : Fin 1 → Nat :=
  let c2_i32_434 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_416 : BitVec 32 := 6#32
  let v624 : BitVec 32 := Scalar.addi v19 c6_i32_416
  let c8_i32_417 : BitVec 32 := 8#32
  let c0_i32_418 : BitVec 32 := 0#32
  let v625 : BitVec 1 := Scalar.cmpi .eq c8_i32_417 c0_i32_418
  let c1_i32_419 : BitVec 32 := 1#32
  let v626 : BitVec 32 := Scalar.select v625 c1_i32_419 c8_i32_417
  let v627 : BitVec 32 := Scalar.remsi v624 v626
  let c0_i32_421 : BitVec 32 := 0#32
  let v629 : BitVec 1 := Scalar.cmpi .slt v627 c0_i32_421
  let c0_i32_422 : BitVec 32 := 0#32
  let v630 : BitVec 1 := Scalar.cmpi .slt v626 c0_i32_422
  let v631 : BitVec 1 := Scalar.xori v629 v630
  let c0_i32_420 : BitVec 32 := 0#32
  let v628 : BitVec 1 := Scalar.cmpi .ne v627 c0_i32_420
  let v632 : BitVec 1 := Scalar.andi v631 v628
  let v633 : BitVec 32 := Scalar.addi v627 v626
  let v634 : BitVec 32 := Scalar.select v632 v633 v627
  let v653 : BitVec 32 := Scalar.muli c2_i32_434 v634
  let c1_i32_435 : BitVec 32 := 1#32
  let v654 : BitVec 32 := Scalar.addi v653 c1_i32_435
  ![v654.toNat]
def k0_off83 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off84 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_825 : BitVec 32 := 0#32
  let c0_i32_826 : BitVec 32 := 0#32
  ![v2.toNat, 0, 0]
def k0_off85 (d0 : Dev nD) : Fin 3 → Nat :=
  let c2_i32_434 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_416 : BitVec 32 := 6#32
  let v624 : BitVec 32 := Scalar.addi v19 c6_i32_416
  let c8_i32_417 : BitVec 32 := 8#32
  let c0_i32_418 : BitVec 32 := 0#32
  let v625 : BitVec 1 := Scalar.cmpi .eq c8_i32_417 c0_i32_418
  let c1_i32_419 : BitVec 32 := 1#32
  let v626 : BitVec 32 := Scalar.select v625 c1_i32_419 c8_i32_417
  let v627 : BitVec 32 := Scalar.remsi v624 v626
  let c0_i32_421 : BitVec 32 := 0#32
  let v629 : BitVec 1 := Scalar.cmpi .slt v627 c0_i32_421
  let c0_i32_422 : BitVec 32 := 0#32
  let v630 : BitVec 1 := Scalar.cmpi .slt v626 c0_i32_422
  let v631 : BitVec 1 := Scalar.xori v629 v630
  let c0_i32_420 : BitVec 32 := 0#32
  let v628 : BitVec 1 := Scalar.cmpi .ne v627 c0_i32_420
  let v632 : BitVec 1 := Scalar.andi v631 v628
  let v633 : BitVec 32 := Scalar.addi v627 v626
  let v634 : BitVec 32 := Scalar.select v632 v633 v627
  let v653 : BitVec 32 := Scalar.muli c2_i32_434 v634
  let c1_i32_435 : BitVec 32 := 1#32
  let v654 : BitVec 32 := Scalar.addi v653 c1_i32_435
  let c0_i32_827 : BitVec 32 := 0#32
  let c0_i32_828 : BitVec 32 := 0#32
  ![v654.toNat, 0, 0]
def k0_dev29 (d0 : Dev nD) : Nat :=
  let c0_i32_824 : BitVec 32 := 0#32
  let c2_i32_434 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_416 : BitVec 32 := 6#32
  let v624 : BitVec 32 := Scalar.addi v19 c6_i32_416
  let c8_i32_417 : BitVec 32 := 8#32
  let c0_i32_418 : BitVec 32 := 0#32
  let v625 : BitVec 1 := Scalar.cmpi .eq c8_i32_417 c0_i32_418
  let c1_i32_419 : BitVec 32 := 1#32
  let v626 : BitVec 32 := Scalar.select v625 c1_i32_419 c8_i32_417
  let v627 : BitVec 32 := Scalar.remsi v624 v626
  let c0_i32_421 : BitVec 32 := 0#32
  let v629 : BitVec 1 := Scalar.cmpi .slt v627 c0_i32_421
  let c0_i32_422 : BitVec 32 := 0#32
  let v630 : BitVec 1 := Scalar.cmpi .slt v626 c0_i32_422
  let v631 : BitVec 1 := Scalar.xori v629 v630
  let c0_i32_420 : BitVec 32 := 0#32
  let v628 : BitVec 1 := Scalar.cmpi .ne v627 c0_i32_420
  let v632 : BitVec 1 := Scalar.andi v631 v628
  let v633 : BitVec 32 := Scalar.addi v627 v626
  let v634 : BitVec 32 := Scalar.select v632 v633 v627
  let v653 : BitVec 32 := Scalar.muli c2_i32_434 v634
  let c1_i32_435 : BitVec 32 := 1#32
  let v654 : BitVec 32 := Scalar.addi v653 c1_i32_435
  let c1_i32_823 : BitVec 32 := 1#32
  let v1237 : BitVec 32 := Scalar.muli v654 c1_i32_823
  let v1238 : BitVec 32 := Scalar.addi c0_i32_824 v1237
  v1238.toNat
def k0_cond29 (d0 : Dev nD) : BitVec 1 :=
  let c2_i32_457 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_443 : BitVec 32 := 7#32
  let v667 : BitVec 32 := Scalar.addi v19 c7_i32_443
  let c8_i32_444 : BitVec 32 := 8#32
  let c0_i32_445 : BitVec 32 := 0#32
  let v668 : BitVec 1 := Scalar.cmpi .eq c8_i32_444 c0_i32_445
  let c1_i32_446 : BitVec 32 := 1#32
  let v669 : BitVec 32 := Scalar.select v668 c1_i32_446 c8_i32_444
  let v670 : BitVec 32 := Scalar.remsi v667 v669
  let c0_i32_448 : BitVec 32 := 0#32
  let v672 : BitVec 1 := Scalar.cmpi .slt v670 c0_i32_448
  let c0_i32_449 : BitVec 32 := 0#32
  let v673 : BitVec 1 := Scalar.cmpi .slt v669 c0_i32_449
  let v674 : BitVec 1 := Scalar.xori v672 v673
  let c0_i32_447 : BitVec 32 := 0#32
  let v671 : BitVec 1 := Scalar.cmpi .ne v670 c0_i32_447
  let v675 : BitVec 1 := Scalar.andi v674 v671
  let v676 : BitVec 32 := Scalar.addi v670 v669
  let v677 : BitVec 32 := Scalar.select v675 v676 v670
  let v687 : BitVec 32 := Scalar.muli c2_i32_457 v677
  let c0_i32_458 : BitVec 32 := 0#32
  let v688 : BitVec 32 := Scalar.addi v687 c0_i32_458
  let v690 : BitVec 1 := Scalar.cmpi .eq v688 v2
  let v691 : BitVec 32 := Scalar.extui v690
  let c0_i32_459 : BitVec 32 := 0#32
  let v692 : BitVec 1 := Scalar.cmpi .ne v691 c0_i32_459
  v692

def k0_off86 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_821 : BitVec 32 := 256#32
  let v1232 : BitVec 32 := Scalar.muli v2 c256_i32_821
  let v1233 : Index := Scalar.indexCast v1232
  let c0_822 : Index := 0#32
  ![v1233.toNat, 0]
def k0_cond30 (d0 : Dev nD) : BitVec 1 :=
  let c2_i32_457 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_443 : BitVec 32 := 7#32
  let v667 : BitVec 32 := Scalar.addi v19 c7_i32_443
  let c8_i32_444 : BitVec 32 := 8#32
  let c0_i32_445 : BitVec 32 := 0#32
  let v668 : BitVec 1 := Scalar.cmpi .eq c8_i32_444 c0_i32_445
  let c1_i32_446 : BitVec 32 := 1#32
  let v669 : BitVec 32 := Scalar.select v668 c1_i32_446 c8_i32_444
  let v670 : BitVec 32 := Scalar.remsi v667 v669
  let c0_i32_448 : BitVec 32 := 0#32
  let v672 : BitVec 1 := Scalar.cmpi .slt v670 c0_i32_448
  let c0_i32_449 : BitVec 32 := 0#32
  let v673 : BitVec 1 := Scalar.cmpi .slt v669 c0_i32_449
  let v674 : BitVec 1 := Scalar.xori v672 v673
  let c0_i32_447 : BitVec 32 := 0#32
  let v671 : BitVec 1 := Scalar.cmpi .ne v670 c0_i32_447
  let v675 : BitVec 1 := Scalar.andi v674 v671
  let v676 : BitVec 32 := Scalar.addi v670 v669
  let v677 : BitVec 32 := Scalar.select v675 v676 v670
  let v687 : BitVec 32 := Scalar.muli c2_i32_457 v677
  let c0_i32_458 : BitVec 32 := 0#32
  let v688 : BitVec 32 := Scalar.addi v687 c0_i32_458
  let v693 : BitVec 1 := Scalar.cmpi .ne v688 v2
  let v694 : BitVec 32 := Scalar.extui v693
  let c0_i32_460 : BitVec 32 := 0#32
  let v695 : BitVec 1 := Scalar.cmpi .ne v694 c0_i32_460
  v695

def k0_off87 (d0 : Dev nD) : Fin 3 → Nat :=
  let c2_i32_457 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_443 : BitVec 32 := 7#32
  let v667 : BitVec 32 := Scalar.addi v19 c7_i32_443
  let c8_i32_444 : BitVec 32 := 8#32
  let c0_i32_445 : BitVec 32 := 0#32
  let v668 : BitVec 1 := Scalar.cmpi .eq c8_i32_444 c0_i32_445
  let c1_i32_446 : BitVec 32 := 1#32
  let v669 : BitVec 32 := Scalar.select v668 c1_i32_446 c8_i32_444
  let v670 : BitVec 32 := Scalar.remsi v667 v669
  let c0_i32_448 : BitVec 32 := 0#32
  let v672 : BitVec 1 := Scalar.cmpi .slt v670 c0_i32_448
  let c0_i32_449 : BitVec 32 := 0#32
  let v673 : BitVec 1 := Scalar.cmpi .slt v669 c0_i32_449
  let v674 : BitVec 1 := Scalar.xori v672 v673
  let c0_i32_447 : BitVec 32 := 0#32
  let v671 : BitVec 1 := Scalar.cmpi .ne v670 c0_i32_447
  let v675 : BitVec 1 := Scalar.andi v674 v671
  let v676 : BitVec 32 := Scalar.addi v670 v669
  let v677 : BitVec 32 := Scalar.select v675 v676 v670
  let v687 : BitVec 32 := Scalar.muli c2_i32_457 v677
  let c0_i32_458 : BitVec 32 := 0#32
  let v688 : BitVec 32 := Scalar.addi v687 c0_i32_458
  let v1233 : Index := Scalar.indexCast v688
  let c0_821 : Index := 0#32
  let c0_822 : Index := 0#32
  ![v1233.toNat, 0, 0]
def k0_off88 (d0 : Dev nD) : Fin 1 → Nat :=
  let c2_i32_457 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_443 : BitVec 32 := 7#32
  let v667 : BitVec 32 := Scalar.addi v19 c7_i32_443
  let c8_i32_444 : BitVec 32 := 8#32
  let c0_i32_445 : BitVec 32 := 0#32
  let v668 : BitVec 1 := Scalar.cmpi .eq c8_i32_444 c0_i32_445
  let c1_i32_446 : BitVec 32 := 1#32
  let v669 : BitVec 32 := Scalar.select v668 c1_i32_446 c8_i32_444
  let v670 : BitVec 32 := Scalar.remsi v667 v669
  let c0_i32_448 : BitVec 32 := 0#32
  let v672 : BitVec 1 := Scalar.cmpi .slt v670 c0_i32_448
  let c0_i32_449 : BitVec 32 := 0#32
  let v673 : BitVec 1 := Scalar.cmpi .slt v669 c0_i32_449
  let v674 : BitVec 1 := Scalar.xori v672 v673
  let c0_i32_447 : BitVec 32 := 0#32
  let v671 : BitVec 1 := Scalar.cmpi .ne v670 c0_i32_447
  let v675 : BitVec 1 := Scalar.andi v674 v671
  let v676 : BitVec 32 := Scalar.addi v670 v669
  let v677 : BitVec 32 := Scalar.select v675 v676 v670
  let v687 : BitVec 32 := Scalar.muli c2_i32_457 v677
  let c0_i32_458 : BitVec 32 := 0#32
  let v688 : BitVec 32 := Scalar.addi v687 c0_i32_458
  ![v688.toNat]
def k0_off89 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_825 : BitVec 32 := 0#32
  let c0_i32_826 : BitVec 32 := 0#32
  ![v2.toNat, 0, 0]
def k0_off91 (d0 : Dev nD) : Fin 3 → Nat :=
  let c2_i32_457 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_443 : BitVec 32 := 7#32
  let v667 : BitVec 32 := Scalar.addi v19 c7_i32_443
  let c8_i32_444 : BitVec 32 := 8#32
  let c0_i32_445 : BitVec 32 := 0#32
  let v668 : BitVec 1 := Scalar.cmpi .eq c8_i32_444 c0_i32_445
  let c1_i32_446 : BitVec 32 := 1#32
  let v669 : BitVec 32 := Scalar.select v668 c1_i32_446 c8_i32_444
  let v670 : BitVec 32 := Scalar.remsi v667 v669
  let c0_i32_448 : BitVec 32 := 0#32
  let v672 : BitVec 1 := Scalar.cmpi .slt v670 c0_i32_448
  let c0_i32_449 : BitVec 32 := 0#32
  let v673 : BitVec 1 := Scalar.cmpi .slt v669 c0_i32_449
  let v674 : BitVec 1 := Scalar.xori v672 v673
  let c0_i32_447 : BitVec 32 := 0#32
  let v671 : BitVec 1 := Scalar.cmpi .ne v670 c0_i32_447
  let v675 : BitVec 1 := Scalar.andi v674 v671
  let v676 : BitVec 32 := Scalar.addi v670 v669
  let v677 : BitVec 32 := Scalar.select v675 v676 v670
  let v687 : BitVec 32 := Scalar.muli c2_i32_457 v677
  let c0_i32_458 : BitVec 32 := 0#32
  let v688 : BitVec 32 := Scalar.addi v687 c0_i32_458
  let c0_i32_827 : BitVec 32 := 0#32
  let c0_i32_828 : BitVec 32 := 0#32
  ![v688.toNat, 0, 0]
def k0_dev30 (d0 : Dev nD) : Nat :=
  let c0_i32_824 : BitVec 32 := 0#32
  let c2_i32_457 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_443 : BitVec 32 := 7#32
  let v667 : BitVec 32 := Scalar.addi v19 c7_i32_443
  let c8_i32_444 : BitVec 32 := 8#32
  let c0_i32_445 : BitVec 32 := 0#32
  let v668 : BitVec 1 := Scalar.cmpi .eq c8_i32_444 c0_i32_445
  let c1_i32_446 : BitVec 32 := 1#32
  let v669 : BitVec 32 := Scalar.select v668 c1_i32_446 c8_i32_444
  let v670 : BitVec 32 := Scalar.remsi v667 v669
  let c0_i32_448 : BitVec 32 := 0#32
  let v672 : BitVec 1 := Scalar.cmpi .slt v670 c0_i32_448
  let c0_i32_449 : BitVec 32 := 0#32
  let v673 : BitVec 1 := Scalar.cmpi .slt v669 c0_i32_449
  let v674 : BitVec 1 := Scalar.xori v672 v673
  let c0_i32_447 : BitVec 32 := 0#32
  let v671 : BitVec 1 := Scalar.cmpi .ne v670 c0_i32_447
  let v675 : BitVec 1 := Scalar.andi v674 v671
  let v676 : BitVec 32 := Scalar.addi v670 v669
  let v677 : BitVec 32 := Scalar.select v675 v676 v670
  let v687 : BitVec 32 := Scalar.muli c2_i32_457 v677
  let c0_i32_458 : BitVec 32 := 0#32
  let v688 : BitVec 32 := Scalar.addi v687 c0_i32_458
  let c1_i32_823 : BitVec 32 := 1#32
  let v1237 : BitVec 32 := Scalar.muli v688 c1_i32_823
  let v1238 : BitVec 32 := Scalar.addi c0_i32_824 v1237
  v1238.toNat
def k0_cond31 (d0 : Dev nD) : BitVec 1 :=
  let c2_i32_461 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_443 : BitVec 32 := 7#32
  let v667 : BitVec 32 := Scalar.addi v19 c7_i32_443
  let c8_i32_444 : BitVec 32 := 8#32
  let c0_i32_445 : BitVec 32 := 0#32
  let v668 : BitVec 1 := Scalar.cmpi .eq c8_i32_444 c0_i32_445
  let c1_i32_446 : BitVec 32 := 1#32
  let v669 : BitVec 32 := Scalar.select v668 c1_i32_446 c8_i32_444
  let v670 : BitVec 32 := Scalar.remsi v667 v669
  let c0_i32_448 : BitVec 32 := 0#32
  let v672 : BitVec 1 := Scalar.cmpi .slt v670 c0_i32_448
  let c0_i32_449 : BitVec 32 := 0#32
  let v673 : BitVec 1 := Scalar.cmpi .slt v669 c0_i32_449
  let v674 : BitVec 1 := Scalar.xori v672 v673
  let c0_i32_447 : BitVec 32 := 0#32
  let v671 : BitVec 1 := Scalar.cmpi .ne v670 c0_i32_447
  let v675 : BitVec 1 := Scalar.andi v674 v671
  let v676 : BitVec 32 := Scalar.addi v670 v669
  let v677 : BitVec 32 := Scalar.select v675 v676 v670
  let v696 : BitVec 32 := Scalar.muli c2_i32_461 v677
  let c1_i32_462 : BitVec 32 := 1#32
  let v697 : BitVec 32 := Scalar.addi v696 c1_i32_462
  let v699 : BitVec 1 := Scalar.cmpi .eq v697 v2
  let v700 : BitVec 32 := Scalar.extui v699
  let c0_i32_463 : BitVec 32 := 0#32
  let v701 : BitVec 1 := Scalar.cmpi .ne v700 c0_i32_463
  v701

def k0_off92 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_821 : BitVec 32 := 256#32
  let v1232 : BitVec 32 := Scalar.muli v2 c256_i32_821
  let v1233 : Index := Scalar.indexCast v1232
  let c0_822 : Index := 0#32
  ![v1233.toNat, 0]
def k0_cond32 (d0 : Dev nD) : BitVec 1 :=
  let c2_i32_461 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_443 : BitVec 32 := 7#32
  let v667 : BitVec 32 := Scalar.addi v19 c7_i32_443
  let c8_i32_444 : BitVec 32 := 8#32
  let c0_i32_445 : BitVec 32 := 0#32
  let v668 : BitVec 1 := Scalar.cmpi .eq c8_i32_444 c0_i32_445
  let c1_i32_446 : BitVec 32 := 1#32
  let v669 : BitVec 32 := Scalar.select v668 c1_i32_446 c8_i32_444
  let v670 : BitVec 32 := Scalar.remsi v667 v669
  let c0_i32_448 : BitVec 32 := 0#32
  let v672 : BitVec 1 := Scalar.cmpi .slt v670 c0_i32_448
  let c0_i32_449 : BitVec 32 := 0#32
  let v673 : BitVec 1 := Scalar.cmpi .slt v669 c0_i32_449
  let v674 : BitVec 1 := Scalar.xori v672 v673
  let c0_i32_447 : BitVec 32 := 0#32
  let v671 : BitVec 1 := Scalar.cmpi .ne v670 c0_i32_447
  let v675 : BitVec 1 := Scalar.andi v674 v671
  let v676 : BitVec 32 := Scalar.addi v670 v669
  let v677 : BitVec 32 := Scalar.select v675 v676 v670
  let v696 : BitVec 32 := Scalar.muli c2_i32_461 v677
  let c1_i32_462 : BitVec 32 := 1#32
  let v697 : BitVec 32 := Scalar.addi v696 c1_i32_462
  let v702 : BitVec 1 := Scalar.cmpi .ne v697 v2
  let v703 : BitVec 32 := Scalar.extui v702
  let c0_i32_464 : BitVec 32 := 0#32
  let v704 : BitVec 1 := Scalar.cmpi .ne v703 c0_i32_464
  v704

def k0_off93 (d0 : Dev nD) : Fin 3 → Nat :=
  let c2_i32_461 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_443 : BitVec 32 := 7#32
  let v667 : BitVec 32 := Scalar.addi v19 c7_i32_443
  let c8_i32_444 : BitVec 32 := 8#32
  let c0_i32_445 : BitVec 32 := 0#32
  let v668 : BitVec 1 := Scalar.cmpi .eq c8_i32_444 c0_i32_445
  let c1_i32_446 : BitVec 32 := 1#32
  let v669 : BitVec 32 := Scalar.select v668 c1_i32_446 c8_i32_444
  let v670 : BitVec 32 := Scalar.remsi v667 v669
  let c0_i32_448 : BitVec 32 := 0#32
  let v672 : BitVec 1 := Scalar.cmpi .slt v670 c0_i32_448
  let c0_i32_449 : BitVec 32 := 0#32
  let v673 : BitVec 1 := Scalar.cmpi .slt v669 c0_i32_449
  let v674 : BitVec 1 := Scalar.xori v672 v673
  let c0_i32_447 : BitVec 32 := 0#32
  let v671 : BitVec 1 := Scalar.cmpi .ne v670 c0_i32_447
  let v675 : BitVec 1 := Scalar.andi v674 v671
  let v676 : BitVec 32 := Scalar.addi v670 v669
  let v677 : BitVec 32 := Scalar.select v675 v676 v670
  let v696 : BitVec 32 := Scalar.muli c2_i32_461 v677
  let c1_i32_462 : BitVec 32 := 1#32
  let v697 : BitVec 32 := Scalar.addi v696 c1_i32_462
  let v1233 : Index := Scalar.indexCast v697
  let c0_821 : Index := 0#32
  let c0_822 : Index := 0#32
  ![v1233.toNat, 0, 0]
def k0_off94 (d0 : Dev nD) : Fin 1 → Nat :=
  let c2_i32_461 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_443 : BitVec 32 := 7#32
  let v667 : BitVec 32 := Scalar.addi v19 c7_i32_443
  let c8_i32_444 : BitVec 32 := 8#32
  let c0_i32_445 : BitVec 32 := 0#32
  let v668 : BitVec 1 := Scalar.cmpi .eq c8_i32_444 c0_i32_445
  let c1_i32_446 : BitVec 32 := 1#32
  let v669 : BitVec 32 := Scalar.select v668 c1_i32_446 c8_i32_444
  let v670 : BitVec 32 := Scalar.remsi v667 v669
  let c0_i32_448 : BitVec 32 := 0#32
  let v672 : BitVec 1 := Scalar.cmpi .slt v670 c0_i32_448
  let c0_i32_449 : BitVec 32 := 0#32
  let v673 : BitVec 1 := Scalar.cmpi .slt v669 c0_i32_449
  let v674 : BitVec 1 := Scalar.xori v672 v673
  let c0_i32_447 : BitVec 32 := 0#32
  let v671 : BitVec 1 := Scalar.cmpi .ne v670 c0_i32_447
  let v675 : BitVec 1 := Scalar.andi v674 v671
  let v676 : BitVec 32 := Scalar.addi v670 v669
  let v677 : BitVec 32 := Scalar.select v675 v676 v670
  let v696 : BitVec 32 := Scalar.muli c2_i32_461 v677
  let c1_i32_462 : BitVec 32 := 1#32
  let v697 : BitVec 32 := Scalar.addi v696 c1_i32_462
  ![v697.toNat]
def k0_off95 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_825 : BitVec 32 := 0#32
  let c0_i32_826 : BitVec 32 := 0#32
  ![v2.toNat, 0, 0]
def k0_off97 (d0 : Dev nD) : Fin 3 → Nat :=
  let c2_i32_461 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_443 : BitVec 32 := 7#32
  let v667 : BitVec 32 := Scalar.addi v19 c7_i32_443
  let c8_i32_444 : BitVec 32 := 8#32
  let c0_i32_445 : BitVec 32 := 0#32
  let v668 : BitVec 1 := Scalar.cmpi .eq c8_i32_444 c0_i32_445
  let c1_i32_446 : BitVec 32 := 1#32
  let v669 : BitVec 32 := Scalar.select v668 c1_i32_446 c8_i32_444
  let v670 : BitVec 32 := Scalar.remsi v667 v669
  let c0_i32_448 : BitVec 32 := 0#32
  let v672 : BitVec 1 := Scalar.cmpi .slt v670 c0_i32_448
  let c0_i32_449 : BitVec 32 := 0#32
  let v673 : BitVec 1 := Scalar.cmpi .slt v669 c0_i32_449
  let v674 : BitVec 1 := Scalar.xori v672 v673
  let c0_i32_447 : BitVec 32 := 0#32
  let v671 : BitVec 1 := Scalar.cmpi .ne v670 c0_i32_447
  let v675 : BitVec 1 := Scalar.andi v674 v671
  let v676 : BitVec 32 := Scalar.addi v670 v669
  let v677 : BitVec 32 := Scalar.select v675 v676 v670
  let v696 : BitVec 32 := Scalar.muli c2_i32_461 v677
  let c1_i32_462 : BitVec 32 := 1#32
  let v697 : BitVec 32 := Scalar.addi v696 c1_i32_462
  let c0_i32_827 : BitVec 32 := 0#32
  let c0_i32_828 : BitVec 32 := 0#32
  ![v697.toNat, 0, 0]
def k0_dev31 (d0 : Dev nD) : Nat :=
  let c0_i32_824 : BitVec 32 := 0#32
  let c2_i32_461 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_443 : BitVec 32 := 7#32
  let v667 : BitVec 32 := Scalar.addi v19 c7_i32_443
  let c8_i32_444 : BitVec 32 := 8#32
  let c0_i32_445 : BitVec 32 := 0#32
  let v668 : BitVec 1 := Scalar.cmpi .eq c8_i32_444 c0_i32_445
  let c1_i32_446 : BitVec 32 := 1#32
  let v669 : BitVec 32 := Scalar.select v668 c1_i32_446 c8_i32_444
  let v670 : BitVec 32 := Scalar.remsi v667 v669
  let c0_i32_448 : BitVec 32 := 0#32
  let v672 : BitVec 1 := Scalar.cmpi .slt v670 c0_i32_448
  let c0_i32_449 : BitVec 32 := 0#32
  let v673 : BitVec 1 := Scalar.cmpi .slt v669 c0_i32_449
  let v674 : BitVec 1 := Scalar.xori v672 v673
  let c0_i32_447 : BitVec 32 := 0#32
  let v671 : BitVec 1 := Scalar.cmpi .ne v670 c0_i32_447
  let v675 : BitVec 1 := Scalar.andi v674 v671
  let v676 : BitVec 32 := Scalar.addi v670 v669
  let v677 : BitVec 32 := Scalar.select v675 v676 v670
  let v696 : BitVec 32 := Scalar.muli c2_i32_461 v677
  let c1_i32_462 : BitVec 32 := 1#32
  let v697 : BitVec 32 := Scalar.addi v696 c1_i32_462
  let c1_i32_823 : BitVec 32 := 1#32
  let v1237 : BitVec 32 := Scalar.muli v697 c1_i32_823
  let v1238 : BitVec 32 := Scalar.addi c0_i32_824 v1237
  v1238.toNat
def k0_cond33 (d0 : Dev nD) : BitVec 1 :=
  let c2_i32_473 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_465 : BitVec 32 := 0#32
  let v705 : BitVec 32 := Scalar.subi v19 c0_i32_465
  let c8_i32_466 : BitVec 32 := 8#32
  let v706 : BitVec 32 := Scalar.addi v705 c8_i32_466
  let c8_i32_467 : BitVec 32 := 8#32
  let c0_i32_468 : BitVec 32 := 0#32
  let v707 : BitVec 1 := Scalar.cmpi .eq c8_i32_467 c0_i32_468
  let c1_i32_469 : BitVec 32 := 1#32
  let v708 : BitVec 32 := Scalar.select v707 c1_i32_469 c8_i32_467
  let v709 : BitVec 32 := Scalar.remsi v706 v708
  let c0_i32_471 : BitVec 32 := 0#32
  let v711 : BitVec 1 := Scalar.cmpi .slt v709 c0_i32_471
  let c0_i32_472 : BitVec 32 := 0#32
  let v712 : BitVec 1 := Scalar.cmpi .slt v708 c0_i32_472
  let v713 : BitVec 1 := Scalar.xori v711 v712
  let c0_i32_470 : BitVec 32 := 0#32
  let v710 : BitVec 1 := Scalar.cmpi .ne v709 c0_i32_470
  let v714 : BitVec 1 := Scalar.andi v713 v710
  let v715 : BitVec 32 := Scalar.addi v709 v708
  let v716 : BitVec 32 := Scalar.select v714 v715 v709
  let v717 : BitVec 32 := Scalar.muli c2_i32_473 v716
  let c0_i32_474 : BitVec 32 := 0#32
  let v718 : BitVec 32 := Scalar.addi v717 c0_i32_474
  let v719 : BitVec 1 := Scalar.cmpi .ne v718 v2
  let v720 : BitVec 32 := Scalar.extui v719
  let c0_i32_475 : BitVec 32 := 0#32
  let v721 : BitVec 1 := Scalar.cmpi .ne v720 c0_i32_475
  v721

def k0_off98 (d0 : Dev nD) : Fin 1 → Nat :=
  let c2_i32_473 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_465 : BitVec 32 := 0#32
  let v705 : BitVec 32 := Scalar.subi v19 c0_i32_465
  let c8_i32_466 : BitVec 32 := 8#32
  let v706 : BitVec 32 := Scalar.addi v705 c8_i32_466
  let c8_i32_467 : BitVec 32 := 8#32
  let c0_i32_468 : BitVec 32 := 0#32
  let v707 : BitVec 1 := Scalar.cmpi .eq c8_i32_467 c0_i32_468
  let c1_i32_469 : BitVec 32 := 1#32
  let v708 : BitVec 32 := Scalar.select v707 c1_i32_469 c8_i32_467
  let v709 : BitVec 32 := Scalar.remsi v706 v708
  let c0_i32_471 : BitVec 32 := 0#32
  let v711 : BitVec 1 := Scalar.cmpi .slt v709 c0_i32_471
  let c0_i32_472 : BitVec 32 := 0#32
  let v712 : BitVec 1 := Scalar.cmpi .slt v708 c0_i32_472
  let v713 : BitVec 1 := Scalar.xori v711 v712
  let c0_i32_470 : BitVec 32 := 0#32
  let v710 : BitVec 1 := Scalar.cmpi .ne v709 c0_i32_470
  let v714 : BitVec 1 := Scalar.andi v713 v710
  let v715 : BitVec 32 := Scalar.addi v709 v708
  let v716 : BitVec 32 := Scalar.select v714 v715 v709
  let v717 : BitVec 32 := Scalar.muli c2_i32_473 v716
  let c0_i32_474 : BitVec 32 := 0#32
  let v718 : BitVec 32 := Scalar.addi v717 c0_i32_474
  ![v718.toNat]
def k0_off99 (d0 : Dev nD) : Fin 3 → Nat :=
  let c2_i32_473 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_465 : BitVec 32 := 0#32
  let v705 : BitVec 32 := Scalar.subi v19 c0_i32_465
  let c8_i32_466 : BitVec 32 := 8#32
  let v706 : BitVec 32 := Scalar.addi v705 c8_i32_466
  let c8_i32_467 : BitVec 32 := 8#32
  let c0_i32_468 : BitVec 32 := 0#32
  let v707 : BitVec 1 := Scalar.cmpi .eq c8_i32_467 c0_i32_468
  let c1_i32_469 : BitVec 32 := 1#32
  let v708 : BitVec 32 := Scalar.select v707 c1_i32_469 c8_i32_467
  let v709 : BitVec 32 := Scalar.remsi v706 v708
  let c0_i32_471 : BitVec 32 := 0#32
  let v711 : BitVec 1 := Scalar.cmpi .slt v709 c0_i32_471
  let c0_i32_472 : BitVec 32 := 0#32
  let v712 : BitVec 1 := Scalar.cmpi .slt v708 c0_i32_472
  let v713 : BitVec 1 := Scalar.xori v711 v712
  let c0_i32_470 : BitVec 32 := 0#32
  let v710 : BitVec 1 := Scalar.cmpi .ne v709 c0_i32_470
  let v714 : BitVec 1 := Scalar.andi v713 v710
  let v715 : BitVec 32 := Scalar.addi v709 v708
  let v716 : BitVec 32 := Scalar.select v714 v715 v709
  let v717 : BitVec 32 := Scalar.muli c2_i32_473 v716
  let c0_i32_474 : BitVec 32 := 0#32
  let v718 : BitVec 32 := Scalar.addi v717 c0_i32_474
  let c0_i32_823 : BitVec 32 := 0#32
  let c0_i32_824 : BitVec 32 := 0#32
  ![v718.toNat, 0, 0]
def k0_off100 (d0 : Dev nD) : Fin 3 → Nat :=
  let c2_i32_473 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_465 : BitVec 32 := 0#32
  let v705 : BitVec 32 := Scalar.subi v19 c0_i32_465
  let c8_i32_466 : BitVec 32 := 8#32
  let v706 : BitVec 32 := Scalar.addi v705 c8_i32_466
  let c8_i32_467 : BitVec 32 := 8#32
  let c0_i32_468 : BitVec 32 := 0#32
  let v707 : BitVec 1 := Scalar.cmpi .eq c8_i32_467 c0_i32_468
  let c1_i32_469 : BitVec 32 := 1#32
  let v708 : BitVec 32 := Scalar.select v707 c1_i32_469 c8_i32_467
  let v709 : BitVec 32 := Scalar.remsi v706 v708
  let c0_i32_471 : BitVec 32 := 0#32
  let v711 : BitVec 1 := Scalar.cmpi .slt v709 c0_i32_471
  let c0_i32_472 : BitVec 32 := 0#32
  let v712 : BitVec 1 := Scalar.cmpi .slt v708 c0_i32_472
  let v713 : BitVec 1 := Scalar.xori v711 v712
  let c0_i32_470 : BitVec 32 := 0#32
  let v710 : BitVec 1 := Scalar.cmpi .ne v709 c0_i32_470
  let v714 : BitVec 1 := Scalar.andi v713 v710
  let v715 : BitVec 32 := Scalar.addi v709 v708
  let v716 : BitVec 32 := Scalar.select v714 v715 v709
  let v717 : BitVec 32 := Scalar.muli c2_i32_473 v716
  let c0_i32_474 : BitVec 32 := 0#32
  let v718 : BitVec 32 := Scalar.addi v717 c0_i32_474
  let v1240 : Index := Scalar.indexCast v718
  let c0_827 : Index := 0#32
  let c0_828 : Index := 0#32
  ![v1240.toNat, 0, 0]
def k0_off101 (d0 : Dev nD) : Fin 2 → Nat :=
  let c2_i32_473 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_465 : BitVec 32 := 0#32
  let v705 : BitVec 32 := Scalar.subi v19 c0_i32_465
  let c8_i32_466 : BitVec 32 := 8#32
  let v706 : BitVec 32 := Scalar.addi v705 c8_i32_466
  let c8_i32_467 : BitVec 32 := 8#32
  let c0_i32_468 : BitVec 32 := 0#32
  let v707 : BitVec 1 := Scalar.cmpi .eq c8_i32_467 c0_i32_468
  let c1_i32_469 : BitVec 32 := 1#32
  let v708 : BitVec 32 := Scalar.select v707 c1_i32_469 c8_i32_467
  let v709 : BitVec 32 := Scalar.remsi v706 v708
  let c0_i32_471 : BitVec 32 := 0#32
  let v711 : BitVec 1 := Scalar.cmpi .slt v709 c0_i32_471
  let c0_i32_472 : BitVec 32 := 0#32
  let v712 : BitVec 1 := Scalar.cmpi .slt v708 c0_i32_472
  let v713 : BitVec 1 := Scalar.xori v711 v712
  let c0_i32_470 : BitVec 32 := 0#32
  let v710 : BitVec 1 := Scalar.cmpi .ne v709 c0_i32_470
  let v714 : BitVec 1 := Scalar.andi v713 v710
  let v715 : BitVec 32 := Scalar.addi v709 v708
  let v716 : BitVec 32 := Scalar.select v714 v715 v709
  let v717 : BitVec 32 := Scalar.muli c2_i32_473 v716
  let c0_i32_474 : BitVec 32 := 0#32
  let v718 : BitVec 32 := Scalar.addi v717 c0_i32_474
  let c256_i32_829 : BitVec 32 := 256#32
  let v1244 : BitVec 32 := Scalar.muli v718 c256_i32_829
  let v1245 : Index := Scalar.indexCast v1244
  let c0_830 : Index := 0#32
  ![v1245.toNat, 0]
def k0_cond34 (d0 : Dev nD) : BitVec 1 :=
  let c2_i32_484 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_476 : BitVec 32 := 0#32
  let v722 : BitVec 32 := Scalar.subi v19 c0_i32_476
  let c8_i32_477 : BitVec 32 := 8#32
  let v723 : BitVec 32 := Scalar.addi v722 c8_i32_477
  let c8_i32_478 : BitVec 32 := 8#32
  let c0_i32_479 : BitVec 32 := 0#32
  let v724 : BitVec 1 := Scalar.cmpi .eq c8_i32_478 c0_i32_479
  let c1_i32_480 : BitVec 32 := 1#32
  let v725 : BitVec 32 := Scalar.select v724 c1_i32_480 c8_i32_478
  let v726 : BitVec 32 := Scalar.remsi v723 v725
  let c0_i32_482 : BitVec 32 := 0#32
  let v728 : BitVec 1 := Scalar.cmpi .slt v726 c0_i32_482
  let c0_i32_483 : BitVec 32 := 0#32
  let v729 : BitVec 1 := Scalar.cmpi .slt v725 c0_i32_483
  let v730 : BitVec 1 := Scalar.xori v728 v729
  let c0_i32_481 : BitVec 32 := 0#32
  let v727 : BitVec 1 := Scalar.cmpi .ne v726 c0_i32_481
  let v731 : BitVec 1 := Scalar.andi v730 v727
  let v732 : BitVec 32 := Scalar.addi v726 v725
  let v733 : BitVec 32 := Scalar.select v731 v732 v726
  let v734 : BitVec 32 := Scalar.muli c2_i32_484 v733
  let c1_i32_485 : BitVec 32 := 1#32
  let v735 : BitVec 32 := Scalar.addi v734 c1_i32_485
  let v736 : BitVec 1 := Scalar.cmpi .ne v735 v2
  let v737 : BitVec 32 := Scalar.extui v736
  let c0_i32_486 : BitVec 32 := 0#32
  let v738 : BitVec 1 := Scalar.cmpi .ne v737 c0_i32_486
  v738

def k0_off102 (d0 : Dev nD) : Fin 1 → Nat :=
  let c2_i32_484 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_476 : BitVec 32 := 0#32
  let v722 : BitVec 32 := Scalar.subi v19 c0_i32_476
  let c8_i32_477 : BitVec 32 := 8#32
  let v723 : BitVec 32 := Scalar.addi v722 c8_i32_477
  let c8_i32_478 : BitVec 32 := 8#32
  let c0_i32_479 : BitVec 32 := 0#32
  let v724 : BitVec 1 := Scalar.cmpi .eq c8_i32_478 c0_i32_479
  let c1_i32_480 : BitVec 32 := 1#32
  let v725 : BitVec 32 := Scalar.select v724 c1_i32_480 c8_i32_478
  let v726 : BitVec 32 := Scalar.remsi v723 v725
  let c0_i32_482 : BitVec 32 := 0#32
  let v728 : BitVec 1 := Scalar.cmpi .slt v726 c0_i32_482
  let c0_i32_483 : BitVec 32 := 0#32
  let v729 : BitVec 1 := Scalar.cmpi .slt v725 c0_i32_483
  let v730 : BitVec 1 := Scalar.xori v728 v729
  let c0_i32_481 : BitVec 32 := 0#32
  let v727 : BitVec 1 := Scalar.cmpi .ne v726 c0_i32_481
  let v731 : BitVec 1 := Scalar.andi v730 v727
  let v732 : BitVec 32 := Scalar.addi v726 v725
  let v733 : BitVec 32 := Scalar.select v731 v732 v726
  let v734 : BitVec 32 := Scalar.muli c2_i32_484 v733
  let c1_i32_485 : BitVec 32 := 1#32
  let v735 : BitVec 32 := Scalar.addi v734 c1_i32_485
  ![v735.toNat]
def k0_off103 (d0 : Dev nD) : Fin 3 → Nat :=
  let c2_i32_484 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_476 : BitVec 32 := 0#32
  let v722 : BitVec 32 := Scalar.subi v19 c0_i32_476
  let c8_i32_477 : BitVec 32 := 8#32
  let v723 : BitVec 32 := Scalar.addi v722 c8_i32_477
  let c8_i32_478 : BitVec 32 := 8#32
  let c0_i32_479 : BitVec 32 := 0#32
  let v724 : BitVec 1 := Scalar.cmpi .eq c8_i32_478 c0_i32_479
  let c1_i32_480 : BitVec 32 := 1#32
  let v725 : BitVec 32 := Scalar.select v724 c1_i32_480 c8_i32_478
  let v726 : BitVec 32 := Scalar.remsi v723 v725
  let c0_i32_482 : BitVec 32 := 0#32
  let v728 : BitVec 1 := Scalar.cmpi .slt v726 c0_i32_482
  let c0_i32_483 : BitVec 32 := 0#32
  let v729 : BitVec 1 := Scalar.cmpi .slt v725 c0_i32_483
  let v730 : BitVec 1 := Scalar.xori v728 v729
  let c0_i32_481 : BitVec 32 := 0#32
  let v727 : BitVec 1 := Scalar.cmpi .ne v726 c0_i32_481
  let v731 : BitVec 1 := Scalar.andi v730 v727
  let v732 : BitVec 32 := Scalar.addi v726 v725
  let v733 : BitVec 32 := Scalar.select v731 v732 v726
  let v734 : BitVec 32 := Scalar.muli c2_i32_484 v733
  let c1_i32_485 : BitVec 32 := 1#32
  let v735 : BitVec 32 := Scalar.addi v734 c1_i32_485
  let c0_i32_823 : BitVec 32 := 0#32
  let c0_i32_824 : BitVec 32 := 0#32
  ![v735.toNat, 0, 0]
def k0_off104 (d0 : Dev nD) : Fin 3 → Nat :=
  let c2_i32_484 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_476 : BitVec 32 := 0#32
  let v722 : BitVec 32 := Scalar.subi v19 c0_i32_476
  let c8_i32_477 : BitVec 32 := 8#32
  let v723 : BitVec 32 := Scalar.addi v722 c8_i32_477
  let c8_i32_478 : BitVec 32 := 8#32
  let c0_i32_479 : BitVec 32 := 0#32
  let v724 : BitVec 1 := Scalar.cmpi .eq c8_i32_478 c0_i32_479
  let c1_i32_480 : BitVec 32 := 1#32
  let v725 : BitVec 32 := Scalar.select v724 c1_i32_480 c8_i32_478
  let v726 : BitVec 32 := Scalar.remsi v723 v725
  let c0_i32_482 : BitVec 32 := 0#32
  let v728 : BitVec 1 := Scalar.cmpi .slt v726 c0_i32_482
  let c0_i32_483 : BitVec 32 := 0#32
  let v729 : BitVec 1 := Scalar.cmpi .slt v725 c0_i32_483
  let v730 : BitVec 1 := Scalar.xori v728 v729
  let c0_i32_481 : BitVec 32 := 0#32
  let v727 : BitVec 1 := Scalar.cmpi .ne v726 c0_i32_481
  let v731 : BitVec 1 := Scalar.andi v730 v727
  let v732 : BitVec 32 := Scalar.addi v726 v725
  let v733 : BitVec 32 := Scalar.select v731 v732 v726
  let v734 : BitVec 32 := Scalar.muli c2_i32_484 v733
  let c1_i32_485 : BitVec 32 := 1#32
  let v735 : BitVec 32 := Scalar.addi v734 c1_i32_485
  let v1240 : Index := Scalar.indexCast v735
  let c0_827 : Index := 0#32
  let c0_828 : Index := 0#32
  ![v1240.toNat, 0, 0]
def k0_off105 (d0 : Dev nD) : Fin 2 → Nat :=
  let c2_i32_484 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_476 : BitVec 32 := 0#32
  let v722 : BitVec 32 := Scalar.subi v19 c0_i32_476
  let c8_i32_477 : BitVec 32 := 8#32
  let v723 : BitVec 32 := Scalar.addi v722 c8_i32_477
  let c8_i32_478 : BitVec 32 := 8#32
  let c0_i32_479 : BitVec 32 := 0#32
  let v724 : BitVec 1 := Scalar.cmpi .eq c8_i32_478 c0_i32_479
  let c1_i32_480 : BitVec 32 := 1#32
  let v725 : BitVec 32 := Scalar.select v724 c1_i32_480 c8_i32_478
  let v726 : BitVec 32 := Scalar.remsi v723 v725
  let c0_i32_482 : BitVec 32 := 0#32
  let v728 : BitVec 1 := Scalar.cmpi .slt v726 c0_i32_482
  let c0_i32_483 : BitVec 32 := 0#32
  let v729 : BitVec 1 := Scalar.cmpi .slt v725 c0_i32_483
  let v730 : BitVec 1 := Scalar.xori v728 v729
  let c0_i32_481 : BitVec 32 := 0#32
  let v727 : BitVec 1 := Scalar.cmpi .ne v726 c0_i32_481
  let v731 : BitVec 1 := Scalar.andi v730 v727
  let v732 : BitVec 32 := Scalar.addi v726 v725
  let v733 : BitVec 32 := Scalar.select v731 v732 v726
  let v734 : BitVec 32 := Scalar.muli c2_i32_484 v733
  let c1_i32_485 : BitVec 32 := 1#32
  let v735 : BitVec 32 := Scalar.addi v734 c1_i32_485
  let c256_i32_829 : BitVec 32 := 256#32
  let v1244 : BitVec 32 := Scalar.muli v735 c256_i32_829
  let v1245 : Index := Scalar.indexCast v1244
  let c0_830 : Index := 0#32
  ![v1245.toNat, 0]
def k0_cond35 (d0 : Dev nD) : BitVec 1 :=
  let c2_i32_495 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_487 : BitVec 32 := 1#32
  let v739 : BitVec 32 := Scalar.subi v19 c1_i32_487
  let c8_i32_488 : BitVec 32 := 8#32
  let v740 : BitVec 32 := Scalar.addi v739 c8_i32_488
  let c8_i32_489 : BitVec 32 := 8#32
  let c0_i32_490 : BitVec 32 := 0#32
  let v741 : BitVec 1 := Scalar.cmpi .eq c8_i32_489 c0_i32_490
  let c1_i32_491 : BitVec 32 := 1#32
  let v742 : BitVec 32 := Scalar.select v741 c1_i32_491 c8_i32_489
  let v743 : BitVec 32 := Scalar.remsi v740 v742
  let c0_i32_493 : BitVec 32 := 0#32
  let v745 : BitVec 1 := Scalar.cmpi .slt v743 c0_i32_493
  let c0_i32_494 : BitVec 32 := 0#32
  let v746 : BitVec 1 := Scalar.cmpi .slt v742 c0_i32_494
  let v747 : BitVec 1 := Scalar.xori v745 v746
  let c0_i32_492 : BitVec 32 := 0#32
  let v744 : BitVec 1 := Scalar.cmpi .ne v743 c0_i32_492
  let v748 : BitVec 1 := Scalar.andi v747 v744
  let v749 : BitVec 32 := Scalar.addi v743 v742
  let v750 : BitVec 32 := Scalar.select v748 v749 v743
  let v751 : BitVec 32 := Scalar.muli c2_i32_495 v750
  let c0_i32_496 : BitVec 32 := 0#32
  let v752 : BitVec 32 := Scalar.addi v751 c0_i32_496
  let v753 : BitVec 1 := Scalar.cmpi .ne v752 v2
  let v754 : BitVec 32 := Scalar.extui v753
  let c0_i32_497 : BitVec 32 := 0#32
  let v755 : BitVec 1 := Scalar.cmpi .ne v754 c0_i32_497
  v755

def k0_off106 (d0 : Dev nD) : Fin 1 → Nat :=
  let c2_i32_495 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_487 : BitVec 32 := 1#32
  let v739 : BitVec 32 := Scalar.subi v19 c1_i32_487
  let c8_i32_488 : BitVec 32 := 8#32
  let v740 : BitVec 32 := Scalar.addi v739 c8_i32_488
  let c8_i32_489 : BitVec 32 := 8#32
  let c0_i32_490 : BitVec 32 := 0#32
  let v741 : BitVec 1 := Scalar.cmpi .eq c8_i32_489 c0_i32_490
  let c1_i32_491 : BitVec 32 := 1#32
  let v742 : BitVec 32 := Scalar.select v741 c1_i32_491 c8_i32_489
  let v743 : BitVec 32 := Scalar.remsi v740 v742
  let c0_i32_493 : BitVec 32 := 0#32
  let v745 : BitVec 1 := Scalar.cmpi .slt v743 c0_i32_493
  let c0_i32_494 : BitVec 32 := 0#32
  let v746 : BitVec 1 := Scalar.cmpi .slt v742 c0_i32_494
  let v747 : BitVec 1 := Scalar.xori v745 v746
  let c0_i32_492 : BitVec 32 := 0#32
  let v744 : BitVec 1 := Scalar.cmpi .ne v743 c0_i32_492
  let v748 : BitVec 1 := Scalar.andi v747 v744
  let v749 : BitVec 32 := Scalar.addi v743 v742
  let v750 : BitVec 32 := Scalar.select v748 v749 v743
  let v751 : BitVec 32 := Scalar.muli c2_i32_495 v750
  let c0_i32_496 : BitVec 32 := 0#32
  let v752 : BitVec 32 := Scalar.addi v751 c0_i32_496
  ![v752.toNat]
def k0_off107 (d0 : Dev nD) : Fin 3 → Nat :=
  let c2_i32_495 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_487 : BitVec 32 := 1#32
  let v739 : BitVec 32 := Scalar.subi v19 c1_i32_487
  let c8_i32_488 : BitVec 32 := 8#32
  let v740 : BitVec 32 := Scalar.addi v739 c8_i32_488
  let c8_i32_489 : BitVec 32 := 8#32
  let c0_i32_490 : BitVec 32 := 0#32
  let v741 : BitVec 1 := Scalar.cmpi .eq c8_i32_489 c0_i32_490
  let c1_i32_491 : BitVec 32 := 1#32
  let v742 : BitVec 32 := Scalar.select v741 c1_i32_491 c8_i32_489
  let v743 : BitVec 32 := Scalar.remsi v740 v742
  let c0_i32_493 : BitVec 32 := 0#32
  let v745 : BitVec 1 := Scalar.cmpi .slt v743 c0_i32_493
  let c0_i32_494 : BitVec 32 := 0#32
  let v746 : BitVec 1 := Scalar.cmpi .slt v742 c0_i32_494
  let v747 : BitVec 1 := Scalar.xori v745 v746
  let c0_i32_492 : BitVec 32 := 0#32
  let v744 : BitVec 1 := Scalar.cmpi .ne v743 c0_i32_492
  let v748 : BitVec 1 := Scalar.andi v747 v744
  let v749 : BitVec 32 := Scalar.addi v743 v742
  let v750 : BitVec 32 := Scalar.select v748 v749 v743
  let v751 : BitVec 32 := Scalar.muli c2_i32_495 v750
  let c0_i32_496 : BitVec 32 := 0#32
  let v752 : BitVec 32 := Scalar.addi v751 c0_i32_496
  let c0_i32_823 : BitVec 32 := 0#32
  let c0_i32_824 : BitVec 32 := 0#32
  ![v752.toNat, 0, 0]
def k0_off108 (d0 : Dev nD) : Fin 3 → Nat :=
  let c2_i32_495 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_487 : BitVec 32 := 1#32
  let v739 : BitVec 32 := Scalar.subi v19 c1_i32_487
  let c8_i32_488 : BitVec 32 := 8#32
  let v740 : BitVec 32 := Scalar.addi v739 c8_i32_488
  let c8_i32_489 : BitVec 32 := 8#32
  let c0_i32_490 : BitVec 32 := 0#32
  let v741 : BitVec 1 := Scalar.cmpi .eq c8_i32_489 c0_i32_490
  let c1_i32_491 : BitVec 32 := 1#32
  let v742 : BitVec 32 := Scalar.select v741 c1_i32_491 c8_i32_489
  let v743 : BitVec 32 := Scalar.remsi v740 v742
  let c0_i32_493 : BitVec 32 := 0#32
  let v745 : BitVec 1 := Scalar.cmpi .slt v743 c0_i32_493
  let c0_i32_494 : BitVec 32 := 0#32
  let v746 : BitVec 1 := Scalar.cmpi .slt v742 c0_i32_494
  let v747 : BitVec 1 := Scalar.xori v745 v746
  let c0_i32_492 : BitVec 32 := 0#32
  let v744 : BitVec 1 := Scalar.cmpi .ne v743 c0_i32_492
  let v748 : BitVec 1 := Scalar.andi v747 v744
  let v749 : BitVec 32 := Scalar.addi v743 v742
  let v750 : BitVec 32 := Scalar.select v748 v749 v743
  let v751 : BitVec 32 := Scalar.muli c2_i32_495 v750
  let c0_i32_496 : BitVec 32 := 0#32
  let v752 : BitVec 32 := Scalar.addi v751 c0_i32_496
  let v1240 : Index := Scalar.indexCast v752
  let c0_827 : Index := 0#32
  let c0_828 : Index := 0#32
  ![v1240.toNat, 0, 0]
def k0_off109 (d0 : Dev nD) : Fin 2 → Nat :=
  let c2_i32_495 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_487 : BitVec 32 := 1#32
  let v739 : BitVec 32 := Scalar.subi v19 c1_i32_487
  let c8_i32_488 : BitVec 32 := 8#32
  let v740 : BitVec 32 := Scalar.addi v739 c8_i32_488
  let c8_i32_489 : BitVec 32 := 8#32
  let c0_i32_490 : BitVec 32 := 0#32
  let v741 : BitVec 1 := Scalar.cmpi .eq c8_i32_489 c0_i32_490
  let c1_i32_491 : BitVec 32 := 1#32
  let v742 : BitVec 32 := Scalar.select v741 c1_i32_491 c8_i32_489
  let v743 : BitVec 32 := Scalar.remsi v740 v742
  let c0_i32_493 : BitVec 32 := 0#32
  let v745 : BitVec 1 := Scalar.cmpi .slt v743 c0_i32_493
  let c0_i32_494 : BitVec 32 := 0#32
  let v746 : BitVec 1 := Scalar.cmpi .slt v742 c0_i32_494
  let v747 : BitVec 1 := Scalar.xori v745 v746
  let c0_i32_492 : BitVec 32 := 0#32
  let v744 : BitVec 1 := Scalar.cmpi .ne v743 c0_i32_492
  let v748 : BitVec 1 := Scalar.andi v747 v744
  let v749 : BitVec 32 := Scalar.addi v743 v742
  let v750 : BitVec 32 := Scalar.select v748 v749 v743
  let v751 : BitVec 32 := Scalar.muli c2_i32_495 v750
  let c0_i32_496 : BitVec 32 := 0#32
  let v752 : BitVec 32 := Scalar.addi v751 c0_i32_496
  let c256_i32_829 : BitVec 32 := 256#32
  let v1244 : BitVec 32 := Scalar.muli v752 c256_i32_829
  let v1245 : Index := Scalar.indexCast v1244
  let c0_830 : Index := 0#32
  ![v1245.toNat, 0]
def k0_cond36 (d0 : Dev nD) : BitVec 1 :=
  let c2_i32_506 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_498 : BitVec 32 := 1#32
  let v756 : BitVec 32 := Scalar.subi v19 c1_i32_498
  let c8_i32_499 : BitVec 32 := 8#32
  let v757 : BitVec 32 := Scalar.addi v756 c8_i32_499
  let c8_i32_500 : BitVec 32 := 8#32
  let c0_i32_501 : BitVec 32 := 0#32
  let v758 : BitVec 1 := Scalar.cmpi .eq c8_i32_500 c0_i32_501
  let c1_i32_502 : BitVec 32 := 1#32
  let v759 : BitVec 32 := Scalar.select v758 c1_i32_502 c8_i32_500
  let v760 : BitVec 32 := Scalar.remsi v757 v759
  let c0_i32_504 : BitVec 32 := 0#32
  let v762 : BitVec 1 := Scalar.cmpi .slt v760 c0_i32_504
  let c0_i32_505 : BitVec 32 := 0#32
  let v763 : BitVec 1 := Scalar.cmpi .slt v759 c0_i32_505
  let v764 : BitVec 1 := Scalar.xori v762 v763
  let c0_i32_503 : BitVec 32 := 0#32
  let v761 : BitVec 1 := Scalar.cmpi .ne v760 c0_i32_503
  let v765 : BitVec 1 := Scalar.andi v764 v761
  let v766 : BitVec 32 := Scalar.addi v760 v759
  let v767 : BitVec 32 := Scalar.select v765 v766 v760
  let v768 : BitVec 32 := Scalar.muli c2_i32_506 v767
  let c1_i32_507 : BitVec 32 := 1#32
  let v769 : BitVec 32 := Scalar.addi v768 c1_i32_507
  let v770 : BitVec 1 := Scalar.cmpi .ne v769 v2
  let v771 : BitVec 32 := Scalar.extui v770
  let c0_i32_508 : BitVec 32 := 0#32
  let v772 : BitVec 1 := Scalar.cmpi .ne v771 c0_i32_508
  v772

def k0_off110 (d0 : Dev nD) : Fin 1 → Nat :=
  let c2_i32_506 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_498 : BitVec 32 := 1#32
  let v756 : BitVec 32 := Scalar.subi v19 c1_i32_498
  let c8_i32_499 : BitVec 32 := 8#32
  let v757 : BitVec 32 := Scalar.addi v756 c8_i32_499
  let c8_i32_500 : BitVec 32 := 8#32
  let c0_i32_501 : BitVec 32 := 0#32
  let v758 : BitVec 1 := Scalar.cmpi .eq c8_i32_500 c0_i32_501
  let c1_i32_502 : BitVec 32 := 1#32
  let v759 : BitVec 32 := Scalar.select v758 c1_i32_502 c8_i32_500
  let v760 : BitVec 32 := Scalar.remsi v757 v759
  let c0_i32_504 : BitVec 32 := 0#32
  let v762 : BitVec 1 := Scalar.cmpi .slt v760 c0_i32_504
  let c0_i32_505 : BitVec 32 := 0#32
  let v763 : BitVec 1 := Scalar.cmpi .slt v759 c0_i32_505
  let v764 : BitVec 1 := Scalar.xori v762 v763
  let c0_i32_503 : BitVec 32 := 0#32
  let v761 : BitVec 1 := Scalar.cmpi .ne v760 c0_i32_503
  let v765 : BitVec 1 := Scalar.andi v764 v761
  let v766 : BitVec 32 := Scalar.addi v760 v759
  let v767 : BitVec 32 := Scalar.select v765 v766 v760
  let v768 : BitVec 32 := Scalar.muli c2_i32_506 v767
  let c1_i32_507 : BitVec 32 := 1#32
  let v769 : BitVec 32 := Scalar.addi v768 c1_i32_507
  ![v769.toNat]
def k0_off111 (d0 : Dev nD) : Fin 3 → Nat :=
  let c2_i32_506 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_498 : BitVec 32 := 1#32
  let v756 : BitVec 32 := Scalar.subi v19 c1_i32_498
  let c8_i32_499 : BitVec 32 := 8#32
  let v757 : BitVec 32 := Scalar.addi v756 c8_i32_499
  let c8_i32_500 : BitVec 32 := 8#32
  let c0_i32_501 : BitVec 32 := 0#32
  let v758 : BitVec 1 := Scalar.cmpi .eq c8_i32_500 c0_i32_501
  let c1_i32_502 : BitVec 32 := 1#32
  let v759 : BitVec 32 := Scalar.select v758 c1_i32_502 c8_i32_500
  let v760 : BitVec 32 := Scalar.remsi v757 v759
  let c0_i32_504 : BitVec 32 := 0#32
  let v762 : BitVec 1 := Scalar.cmpi .slt v760 c0_i32_504
  let c0_i32_505 : BitVec 32 := 0#32
  let v763 : BitVec 1 := Scalar.cmpi .slt v759 c0_i32_505
  let v764 : BitVec 1 := Scalar.xori v762 v763
  let c0_i32_503 : BitVec 32 := 0#32
  let v761 : BitVec 1 := Scalar.cmpi .ne v760 c0_i32_503
  let v765 : BitVec 1 := Scalar.andi v764 v761
  let v766 : BitVec 32 := Scalar.addi v760 v759
  let v767 : BitVec 32 := Scalar.select v765 v766 v760
  let v768 : BitVec 32 := Scalar.muli c2_i32_506 v767
  let c1_i32_507 : BitVec 32 := 1#32
  let v769 : BitVec 32 := Scalar.addi v768 c1_i32_507
  let c0_i32_823 : BitVec 32 := 0#32
  let c0_i32_824 : BitVec 32 := 0#32
  ![v769.toNat, 0, 0]
def k0_off112 (d0 : Dev nD) : Fin 3 → Nat :=
  let c2_i32_506 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_498 : BitVec 32 := 1#32
  let v756 : BitVec 32 := Scalar.subi v19 c1_i32_498
  let c8_i32_499 : BitVec 32 := 8#32
  let v757 : BitVec 32 := Scalar.addi v756 c8_i32_499
  let c8_i32_500 : BitVec 32 := 8#32
  let c0_i32_501 : BitVec 32 := 0#32
  let v758 : BitVec 1 := Scalar.cmpi .eq c8_i32_500 c0_i32_501
  let c1_i32_502 : BitVec 32 := 1#32
  let v759 : BitVec 32 := Scalar.select v758 c1_i32_502 c8_i32_500
  let v760 : BitVec 32 := Scalar.remsi v757 v759
  let c0_i32_504 : BitVec 32 := 0#32
  let v762 : BitVec 1 := Scalar.cmpi .slt v760 c0_i32_504
  let c0_i32_505 : BitVec 32 := 0#32
  let v763 : BitVec 1 := Scalar.cmpi .slt v759 c0_i32_505
  let v764 : BitVec 1 := Scalar.xori v762 v763
  let c0_i32_503 : BitVec 32 := 0#32
  let v761 : BitVec 1 := Scalar.cmpi .ne v760 c0_i32_503
  let v765 : BitVec 1 := Scalar.andi v764 v761
  let v766 : BitVec 32 := Scalar.addi v760 v759
  let v767 : BitVec 32 := Scalar.select v765 v766 v760
  let v768 : BitVec 32 := Scalar.muli c2_i32_506 v767
  let c1_i32_507 : BitVec 32 := 1#32
  let v769 : BitVec 32 := Scalar.addi v768 c1_i32_507
  let v1240 : Index := Scalar.indexCast v769
  let c0_827 : Index := 0#32
  let c0_828 : Index := 0#32
  ![v1240.toNat, 0, 0]
def k0_off113 (d0 : Dev nD) : Fin 2 → Nat :=
  let c2_i32_506 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_498 : BitVec 32 := 1#32
  let v756 : BitVec 32 := Scalar.subi v19 c1_i32_498
  let c8_i32_499 : BitVec 32 := 8#32
  let v757 : BitVec 32 := Scalar.addi v756 c8_i32_499
  let c8_i32_500 : BitVec 32 := 8#32
  let c0_i32_501 : BitVec 32 := 0#32
  let v758 : BitVec 1 := Scalar.cmpi .eq c8_i32_500 c0_i32_501
  let c1_i32_502 : BitVec 32 := 1#32
  let v759 : BitVec 32 := Scalar.select v758 c1_i32_502 c8_i32_500
  let v760 : BitVec 32 := Scalar.remsi v757 v759
  let c0_i32_504 : BitVec 32 := 0#32
  let v762 : BitVec 1 := Scalar.cmpi .slt v760 c0_i32_504
  let c0_i32_505 : BitVec 32 := 0#32
  let v763 : BitVec 1 := Scalar.cmpi .slt v759 c0_i32_505
  let v764 : BitVec 1 := Scalar.xori v762 v763
  let c0_i32_503 : BitVec 32 := 0#32
  let v761 : BitVec 1 := Scalar.cmpi .ne v760 c0_i32_503
  let v765 : BitVec 1 := Scalar.andi v764 v761
  let v766 : BitVec 32 := Scalar.addi v760 v759
  let v767 : BitVec 32 := Scalar.select v765 v766 v760
  let v768 : BitVec 32 := Scalar.muli c2_i32_506 v767
  let c1_i32_507 : BitVec 32 := 1#32
  let v769 : BitVec 32 := Scalar.addi v768 c1_i32_507
  let c256_i32_829 : BitVec 32 := 256#32
  let v1244 : BitVec 32 := Scalar.muli v769 c256_i32_829
  let v1245 : Index := Scalar.indexCast v1244
  let c0_830 : Index := 0#32
  ![v1245.toNat, 0]
def k0_cond37 (d0 : Dev nD) : BitVec 1 :=
  let c2_i32_517 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_509 : BitVec 32 := 2#32
  let v773 : BitVec 32 := Scalar.subi v19 c2_i32_509
  let c8_i32_510 : BitVec 32 := 8#32
  let v774 : BitVec 32 := Scalar.addi v773 c8_i32_510
  let c8_i32_511 : BitVec 32 := 8#32
  let c0_i32_512 : BitVec 32 := 0#32
  let v775 : BitVec 1 := Scalar.cmpi .eq c8_i32_511 c0_i32_512
  let c1_i32_513 : BitVec 32 := 1#32
  let v776 : BitVec 32 := Scalar.select v775 c1_i32_513 c8_i32_511
  let v777 : BitVec 32 := Scalar.remsi v774 v776
  let c0_i32_515 : BitVec 32 := 0#32
  let v779 : BitVec 1 := Scalar.cmpi .slt v777 c0_i32_515
  let c0_i32_516 : BitVec 32 := 0#32
  let v780 : BitVec 1 := Scalar.cmpi .slt v776 c0_i32_516
  let v781 : BitVec 1 := Scalar.xori v779 v780
  let c0_i32_514 : BitVec 32 := 0#32
  let v778 : BitVec 1 := Scalar.cmpi .ne v777 c0_i32_514
  let v782 : BitVec 1 := Scalar.andi v781 v778
  let v783 : BitVec 32 := Scalar.addi v777 v776
  let v784 : BitVec 32 := Scalar.select v782 v783 v777
  let v785 : BitVec 32 := Scalar.muli c2_i32_517 v784
  let c0_i32_518 : BitVec 32 := 0#32
  let v786 : BitVec 32 := Scalar.addi v785 c0_i32_518
  let v787 : BitVec 1 := Scalar.cmpi .ne v786 v2
  let v788 : BitVec 32 := Scalar.extui v787
  let c0_i32_519 : BitVec 32 := 0#32
  let v789 : BitVec 1 := Scalar.cmpi .ne v788 c0_i32_519
  v789

def k0_off114 (d0 : Dev nD) : Fin 1 → Nat :=
  let c2_i32_517 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_509 : BitVec 32 := 2#32
  let v773 : BitVec 32 := Scalar.subi v19 c2_i32_509
  let c8_i32_510 : BitVec 32 := 8#32
  let v774 : BitVec 32 := Scalar.addi v773 c8_i32_510
  let c8_i32_511 : BitVec 32 := 8#32
  let c0_i32_512 : BitVec 32 := 0#32
  let v775 : BitVec 1 := Scalar.cmpi .eq c8_i32_511 c0_i32_512
  let c1_i32_513 : BitVec 32 := 1#32
  let v776 : BitVec 32 := Scalar.select v775 c1_i32_513 c8_i32_511
  let v777 : BitVec 32 := Scalar.remsi v774 v776
  let c0_i32_515 : BitVec 32 := 0#32
  let v779 : BitVec 1 := Scalar.cmpi .slt v777 c0_i32_515
  let c0_i32_516 : BitVec 32 := 0#32
  let v780 : BitVec 1 := Scalar.cmpi .slt v776 c0_i32_516
  let v781 : BitVec 1 := Scalar.xori v779 v780
  let c0_i32_514 : BitVec 32 := 0#32
  let v778 : BitVec 1 := Scalar.cmpi .ne v777 c0_i32_514
  let v782 : BitVec 1 := Scalar.andi v781 v778
  let v783 : BitVec 32 := Scalar.addi v777 v776
  let v784 : BitVec 32 := Scalar.select v782 v783 v777
  let v785 : BitVec 32 := Scalar.muli c2_i32_517 v784
  let c0_i32_518 : BitVec 32 := 0#32
  let v786 : BitVec 32 := Scalar.addi v785 c0_i32_518
  ![v786.toNat]
def k0_off115 (d0 : Dev nD) : Fin 3 → Nat :=
  let c2_i32_517 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_509 : BitVec 32 := 2#32
  let v773 : BitVec 32 := Scalar.subi v19 c2_i32_509
  let c8_i32_510 : BitVec 32 := 8#32
  let v774 : BitVec 32 := Scalar.addi v773 c8_i32_510
  let c8_i32_511 : BitVec 32 := 8#32
  let c0_i32_512 : BitVec 32 := 0#32
  let v775 : BitVec 1 := Scalar.cmpi .eq c8_i32_511 c0_i32_512
  let c1_i32_513 : BitVec 32 := 1#32
  let v776 : BitVec 32 := Scalar.select v775 c1_i32_513 c8_i32_511
  let v777 : BitVec 32 := Scalar.remsi v774 v776
  let c0_i32_515 : BitVec 32 := 0#32
  let v779 : BitVec 1 := Scalar.cmpi .slt v777 c0_i32_515
  let c0_i32_516 : BitVec 32 := 0#32
  let v780 : BitVec 1 := Scalar.cmpi .slt v776 c0_i32_516
  let v781 : BitVec 1 := Scalar.xori v779 v780
  let c0_i32_514 : BitVec 32 := 0#32
  let v778 : BitVec 1 := Scalar.cmpi .ne v777 c0_i32_514
  let v782 : BitVec 1 := Scalar.andi v781 v778
  let v783 : BitVec 32 := Scalar.addi v777 v776
  let v784 : BitVec 32 := Scalar.select v782 v783 v777
  let v785 : BitVec 32 := Scalar.muli c2_i32_517 v784
  let c0_i32_518 : BitVec 32 := 0#32
  let v786 : BitVec 32 := Scalar.addi v785 c0_i32_518
  let c0_i32_823 : BitVec 32 := 0#32
  let c0_i32_824 : BitVec 32 := 0#32
  ![v786.toNat, 0, 0]
def k0_off116 (d0 : Dev nD) : Fin 3 → Nat :=
  let c2_i32_517 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_509 : BitVec 32 := 2#32
  let v773 : BitVec 32 := Scalar.subi v19 c2_i32_509
  let c8_i32_510 : BitVec 32 := 8#32
  let v774 : BitVec 32 := Scalar.addi v773 c8_i32_510
  let c8_i32_511 : BitVec 32 := 8#32
  let c0_i32_512 : BitVec 32 := 0#32
  let v775 : BitVec 1 := Scalar.cmpi .eq c8_i32_511 c0_i32_512
  let c1_i32_513 : BitVec 32 := 1#32
  let v776 : BitVec 32 := Scalar.select v775 c1_i32_513 c8_i32_511
  let v777 : BitVec 32 := Scalar.remsi v774 v776
  let c0_i32_515 : BitVec 32 := 0#32
  let v779 : BitVec 1 := Scalar.cmpi .slt v777 c0_i32_515
  let c0_i32_516 : BitVec 32 := 0#32
  let v780 : BitVec 1 := Scalar.cmpi .slt v776 c0_i32_516
  let v781 : BitVec 1 := Scalar.xori v779 v780
  let c0_i32_514 : BitVec 32 := 0#32
  let v778 : BitVec 1 := Scalar.cmpi .ne v777 c0_i32_514
  let v782 : BitVec 1 := Scalar.andi v781 v778
  let v783 : BitVec 32 := Scalar.addi v777 v776
  let v784 : BitVec 32 := Scalar.select v782 v783 v777
  let v785 : BitVec 32 := Scalar.muli c2_i32_517 v784
  let c0_i32_518 : BitVec 32 := 0#32
  let v786 : BitVec 32 := Scalar.addi v785 c0_i32_518
  let v1240 : Index := Scalar.indexCast v786
  let c0_827 : Index := 0#32
  let c0_828 : Index := 0#32
  ![v1240.toNat, 0, 0]
def k0_off117 (d0 : Dev nD) : Fin 2 → Nat :=
  let c2_i32_517 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_509 : BitVec 32 := 2#32
  let v773 : BitVec 32 := Scalar.subi v19 c2_i32_509
  let c8_i32_510 : BitVec 32 := 8#32
  let v774 : BitVec 32 := Scalar.addi v773 c8_i32_510
  let c8_i32_511 : BitVec 32 := 8#32
  let c0_i32_512 : BitVec 32 := 0#32
  let v775 : BitVec 1 := Scalar.cmpi .eq c8_i32_511 c0_i32_512
  let c1_i32_513 : BitVec 32 := 1#32
  let v776 : BitVec 32 := Scalar.select v775 c1_i32_513 c8_i32_511
  let v777 : BitVec 32 := Scalar.remsi v774 v776
  let c0_i32_515 : BitVec 32 := 0#32
  let v779 : BitVec 1 := Scalar.cmpi .slt v777 c0_i32_515
  let c0_i32_516 : BitVec 32 := 0#32
  let v780 : BitVec 1 := Scalar.cmpi .slt v776 c0_i32_516
  let v781 : BitVec 1 := Scalar.xori v779 v780
  let c0_i32_514 : BitVec 32 := 0#32
  let v778 : BitVec 1 := Scalar.cmpi .ne v777 c0_i32_514
  let v782 : BitVec 1 := Scalar.andi v781 v778
  let v783 : BitVec 32 := Scalar.addi v777 v776
  let v784 : BitVec 32 := Scalar.select v782 v783 v777
  let v785 : BitVec 32 := Scalar.muli c2_i32_517 v784
  let c0_i32_518 : BitVec 32 := 0#32
  let v786 : BitVec 32 := Scalar.addi v785 c0_i32_518
  let c256_i32_829 : BitVec 32 := 256#32
  let v1244 : BitVec 32 := Scalar.muli v786 c256_i32_829
  let v1245 : Index := Scalar.indexCast v1244
  let c0_830 : Index := 0#32
  ![v1245.toNat, 0]
def k0_cond38 (d0 : Dev nD) : BitVec 1 :=
  let c2_i32_528 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_520 : BitVec 32 := 2#32
  let v790 : BitVec 32 := Scalar.subi v19 c2_i32_520
  let c8_i32_521 : BitVec 32 := 8#32
  let v791 : BitVec 32 := Scalar.addi v790 c8_i32_521
  let c8_i32_522 : BitVec 32 := 8#32
  let c0_i32_523 : BitVec 32 := 0#32
  let v792 : BitVec 1 := Scalar.cmpi .eq c8_i32_522 c0_i32_523
  let c1_i32_524 : BitVec 32 := 1#32
  let v793 : BitVec 32 := Scalar.select v792 c1_i32_524 c8_i32_522
  let v794 : BitVec 32 := Scalar.remsi v791 v793
  let c0_i32_526 : BitVec 32 := 0#32
  let v796 : BitVec 1 := Scalar.cmpi .slt v794 c0_i32_526
  let c0_i32_527 : BitVec 32 := 0#32
  let v797 : BitVec 1 := Scalar.cmpi .slt v793 c0_i32_527
  let v798 : BitVec 1 := Scalar.xori v796 v797
  let c0_i32_525 : BitVec 32 := 0#32
  let v795 : BitVec 1 := Scalar.cmpi .ne v794 c0_i32_525
  let v799 : BitVec 1 := Scalar.andi v798 v795
  let v800 : BitVec 32 := Scalar.addi v794 v793
  let v801 : BitVec 32 := Scalar.select v799 v800 v794
  let v802 : BitVec 32 := Scalar.muli c2_i32_528 v801
  let c1_i32_529 : BitVec 32 := 1#32
  let v803 : BitVec 32 := Scalar.addi v802 c1_i32_529
  let v804 : BitVec 1 := Scalar.cmpi .ne v803 v2
  let v805 : BitVec 32 := Scalar.extui v804
  let c0_i32_530 : BitVec 32 := 0#32
  let v806 : BitVec 1 := Scalar.cmpi .ne v805 c0_i32_530
  v806

def k0_off118 (d0 : Dev nD) : Fin 1 → Nat :=
  let c2_i32_528 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_520 : BitVec 32 := 2#32
  let v790 : BitVec 32 := Scalar.subi v19 c2_i32_520
  let c8_i32_521 : BitVec 32 := 8#32
  let v791 : BitVec 32 := Scalar.addi v790 c8_i32_521
  let c8_i32_522 : BitVec 32 := 8#32
  let c0_i32_523 : BitVec 32 := 0#32
  let v792 : BitVec 1 := Scalar.cmpi .eq c8_i32_522 c0_i32_523
  let c1_i32_524 : BitVec 32 := 1#32
  let v793 : BitVec 32 := Scalar.select v792 c1_i32_524 c8_i32_522
  let v794 : BitVec 32 := Scalar.remsi v791 v793
  let c0_i32_526 : BitVec 32 := 0#32
  let v796 : BitVec 1 := Scalar.cmpi .slt v794 c0_i32_526
  let c0_i32_527 : BitVec 32 := 0#32
  let v797 : BitVec 1 := Scalar.cmpi .slt v793 c0_i32_527
  let v798 : BitVec 1 := Scalar.xori v796 v797
  let c0_i32_525 : BitVec 32 := 0#32
  let v795 : BitVec 1 := Scalar.cmpi .ne v794 c0_i32_525
  let v799 : BitVec 1 := Scalar.andi v798 v795
  let v800 : BitVec 32 := Scalar.addi v794 v793
  let v801 : BitVec 32 := Scalar.select v799 v800 v794
  let v802 : BitVec 32 := Scalar.muli c2_i32_528 v801
  let c1_i32_529 : BitVec 32 := 1#32
  let v803 : BitVec 32 := Scalar.addi v802 c1_i32_529
  ![v803.toNat]
def k0_off119 (d0 : Dev nD) : Fin 3 → Nat :=
  let c2_i32_528 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_520 : BitVec 32 := 2#32
  let v790 : BitVec 32 := Scalar.subi v19 c2_i32_520
  let c8_i32_521 : BitVec 32 := 8#32
  let v791 : BitVec 32 := Scalar.addi v790 c8_i32_521
  let c8_i32_522 : BitVec 32 := 8#32
  let c0_i32_523 : BitVec 32 := 0#32
  let v792 : BitVec 1 := Scalar.cmpi .eq c8_i32_522 c0_i32_523
  let c1_i32_524 : BitVec 32 := 1#32
  let v793 : BitVec 32 := Scalar.select v792 c1_i32_524 c8_i32_522
  let v794 : BitVec 32 := Scalar.remsi v791 v793
  let c0_i32_526 : BitVec 32 := 0#32
  let v796 : BitVec 1 := Scalar.cmpi .slt v794 c0_i32_526
  let c0_i32_527 : BitVec 32 := 0#32
  let v797 : BitVec 1 := Scalar.cmpi .slt v793 c0_i32_527
  let v798 : BitVec 1 := Scalar.xori v796 v797
  let c0_i32_525 : BitVec 32 := 0#32
  let v795 : BitVec 1 := Scalar.cmpi .ne v794 c0_i32_525
  let v799 : BitVec 1 := Scalar.andi v798 v795
  let v800 : BitVec 32 := Scalar.addi v794 v793
  let v801 : BitVec 32 := Scalar.select v799 v800 v794
  let v802 : BitVec 32 := Scalar.muli c2_i32_528 v801
  let c1_i32_529 : BitVec 32 := 1#32
  let v803 : BitVec 32 := Scalar.addi v802 c1_i32_529
  let c0_i32_823 : BitVec 32 := 0#32
  let c0_i32_824 : BitVec 32 := 0#32
  ![v803.toNat, 0, 0]
def k0_off120 (d0 : Dev nD) : Fin 3 → Nat :=
  let c2_i32_528 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_520 : BitVec 32 := 2#32
  let v790 : BitVec 32 := Scalar.subi v19 c2_i32_520
  let c8_i32_521 : BitVec 32 := 8#32
  let v791 : BitVec 32 := Scalar.addi v790 c8_i32_521
  let c8_i32_522 : BitVec 32 := 8#32
  let c0_i32_523 : BitVec 32 := 0#32
  let v792 : BitVec 1 := Scalar.cmpi .eq c8_i32_522 c0_i32_523
  let c1_i32_524 : BitVec 32 := 1#32
  let v793 : BitVec 32 := Scalar.select v792 c1_i32_524 c8_i32_522
  let v794 : BitVec 32 := Scalar.remsi v791 v793
  let c0_i32_526 : BitVec 32 := 0#32
  let v796 : BitVec 1 := Scalar.cmpi .slt v794 c0_i32_526
  let c0_i32_527 : BitVec 32 := 0#32
  let v797 : BitVec 1 := Scalar.cmpi .slt v793 c0_i32_527
  let v798 : BitVec 1 := Scalar.xori v796 v797
  let c0_i32_525 : BitVec 32 := 0#32
  let v795 : BitVec 1 := Scalar.cmpi .ne v794 c0_i32_525
  let v799 : BitVec 1 := Scalar.andi v798 v795
  let v800 : BitVec 32 := Scalar.addi v794 v793
  let v801 : BitVec 32 := Scalar.select v799 v800 v794
  let v802 : BitVec 32 := Scalar.muli c2_i32_528 v801
  let c1_i32_529 : BitVec 32 := 1#32
  let v803 : BitVec 32 := Scalar.addi v802 c1_i32_529
  let v1240 : Index := Scalar.indexCast v803
  let c0_827 : Index := 0#32
  let c0_828 : Index := 0#32
  ![v1240.toNat, 0, 0]
def k0_off121 (d0 : Dev nD) : Fin 2 → Nat :=
  let c2_i32_528 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c2_i32_520 : BitVec 32 := 2#32
  let v790 : BitVec 32 := Scalar.subi v19 c2_i32_520
  let c8_i32_521 : BitVec 32 := 8#32
  let v791 : BitVec 32 := Scalar.addi v790 c8_i32_521
  let c8_i32_522 : BitVec 32 := 8#32
  let c0_i32_523 : BitVec 32 := 0#32
  let v792 : BitVec 1 := Scalar.cmpi .eq c8_i32_522 c0_i32_523
  let c1_i32_524 : BitVec 32 := 1#32
  let v793 : BitVec 32 := Scalar.select v792 c1_i32_524 c8_i32_522
  let v794 : BitVec 32 := Scalar.remsi v791 v793
  let c0_i32_526 : BitVec 32 := 0#32
  let v796 : BitVec 1 := Scalar.cmpi .slt v794 c0_i32_526
  let c0_i32_527 : BitVec 32 := 0#32
  let v797 : BitVec 1 := Scalar.cmpi .slt v793 c0_i32_527
  let v798 : BitVec 1 := Scalar.xori v796 v797
  let c0_i32_525 : BitVec 32 := 0#32
  let v795 : BitVec 1 := Scalar.cmpi .ne v794 c0_i32_525
  let v799 : BitVec 1 := Scalar.andi v798 v795
  let v800 : BitVec 32 := Scalar.addi v794 v793
  let v801 : BitVec 32 := Scalar.select v799 v800 v794
  let v802 : BitVec 32 := Scalar.muli c2_i32_528 v801
  let c1_i32_529 : BitVec 32 := 1#32
  let v803 : BitVec 32 := Scalar.addi v802 c1_i32_529
  let c256_i32_829 : BitVec 32 := 256#32
  let v1244 : BitVec 32 := Scalar.muli v803 c256_i32_829
  let v1245 : Index := Scalar.indexCast v1244
  let c0_830 : Index := 0#32
  ![v1245.toNat, 0]
def k0_cond39 (d0 : Dev nD) : BitVec 1 :=
  let c2_i32_539 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_531 : BitVec 32 := 3#32
  let v807 : BitVec 32 := Scalar.subi v19 c3_i32_531
  let c8_i32_532 : BitVec 32 := 8#32
  let v808 : BitVec 32 := Scalar.addi v807 c8_i32_532
  let c8_i32_533 : BitVec 32 := 8#32
  let c0_i32_534 : BitVec 32 := 0#32
  let v809 : BitVec 1 := Scalar.cmpi .eq c8_i32_533 c0_i32_534
  let c1_i32_535 : BitVec 32 := 1#32
  let v810 : BitVec 32 := Scalar.select v809 c1_i32_535 c8_i32_533
  let v811 : BitVec 32 := Scalar.remsi v808 v810
  let c0_i32_537 : BitVec 32 := 0#32
  let v813 : BitVec 1 := Scalar.cmpi .slt v811 c0_i32_537
  let c0_i32_538 : BitVec 32 := 0#32
  let v814 : BitVec 1 := Scalar.cmpi .slt v810 c0_i32_538
  let v815 : BitVec 1 := Scalar.xori v813 v814
  let c0_i32_536 : BitVec 32 := 0#32
  let v812 : BitVec 1 := Scalar.cmpi .ne v811 c0_i32_536
  let v816 : BitVec 1 := Scalar.andi v815 v812
  let v817 : BitVec 32 := Scalar.addi v811 v810
  let v818 : BitVec 32 := Scalar.select v816 v817 v811
  let v819 : BitVec 32 := Scalar.muli c2_i32_539 v818
  let c0_i32_540 : BitVec 32 := 0#32
  let v820 : BitVec 32 := Scalar.addi v819 c0_i32_540
  let v821 : BitVec 1 := Scalar.cmpi .ne v820 v2
  let v822 : BitVec 32 := Scalar.extui v821
  let c0_i32_541 : BitVec 32 := 0#32
  let v823 : BitVec 1 := Scalar.cmpi .ne v822 c0_i32_541
  v823

def k0_off122 (d0 : Dev nD) : Fin 1 → Nat :=
  let c2_i32_539 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_531 : BitVec 32 := 3#32
  let v807 : BitVec 32 := Scalar.subi v19 c3_i32_531
  let c8_i32_532 : BitVec 32 := 8#32
  let v808 : BitVec 32 := Scalar.addi v807 c8_i32_532
  let c8_i32_533 : BitVec 32 := 8#32
  let c0_i32_534 : BitVec 32 := 0#32
  let v809 : BitVec 1 := Scalar.cmpi .eq c8_i32_533 c0_i32_534
  let c1_i32_535 : BitVec 32 := 1#32
  let v810 : BitVec 32 := Scalar.select v809 c1_i32_535 c8_i32_533
  let v811 : BitVec 32 := Scalar.remsi v808 v810
  let c0_i32_537 : BitVec 32 := 0#32
  let v813 : BitVec 1 := Scalar.cmpi .slt v811 c0_i32_537
  let c0_i32_538 : BitVec 32 := 0#32
  let v814 : BitVec 1 := Scalar.cmpi .slt v810 c0_i32_538
  let v815 : BitVec 1 := Scalar.xori v813 v814
  let c0_i32_536 : BitVec 32 := 0#32
  let v812 : BitVec 1 := Scalar.cmpi .ne v811 c0_i32_536
  let v816 : BitVec 1 := Scalar.andi v815 v812
  let v817 : BitVec 32 := Scalar.addi v811 v810
  let v818 : BitVec 32 := Scalar.select v816 v817 v811
  let v819 : BitVec 32 := Scalar.muli c2_i32_539 v818
  let c0_i32_540 : BitVec 32 := 0#32
  let v820 : BitVec 32 := Scalar.addi v819 c0_i32_540
  ![v820.toNat]
def k0_off123 (d0 : Dev nD) : Fin 3 → Nat :=
  let c2_i32_539 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_531 : BitVec 32 := 3#32
  let v807 : BitVec 32 := Scalar.subi v19 c3_i32_531
  let c8_i32_532 : BitVec 32 := 8#32
  let v808 : BitVec 32 := Scalar.addi v807 c8_i32_532
  let c8_i32_533 : BitVec 32 := 8#32
  let c0_i32_534 : BitVec 32 := 0#32
  let v809 : BitVec 1 := Scalar.cmpi .eq c8_i32_533 c0_i32_534
  let c1_i32_535 : BitVec 32 := 1#32
  let v810 : BitVec 32 := Scalar.select v809 c1_i32_535 c8_i32_533
  let v811 : BitVec 32 := Scalar.remsi v808 v810
  let c0_i32_537 : BitVec 32 := 0#32
  let v813 : BitVec 1 := Scalar.cmpi .slt v811 c0_i32_537
  let c0_i32_538 : BitVec 32 := 0#32
  let v814 : BitVec 1 := Scalar.cmpi .slt v810 c0_i32_538
  let v815 : BitVec 1 := Scalar.xori v813 v814
  let c0_i32_536 : BitVec 32 := 0#32
  let v812 : BitVec 1 := Scalar.cmpi .ne v811 c0_i32_536
  let v816 : BitVec 1 := Scalar.andi v815 v812
  let v817 : BitVec 32 := Scalar.addi v811 v810
  let v818 : BitVec 32 := Scalar.select v816 v817 v811
  let v819 : BitVec 32 := Scalar.muli c2_i32_539 v818
  let c0_i32_540 : BitVec 32 := 0#32
  let v820 : BitVec 32 := Scalar.addi v819 c0_i32_540
  let c0_i32_823 : BitVec 32 := 0#32
  let c0_i32_824 : BitVec 32 := 0#32
  ![v820.toNat, 0, 0]
def k0_off124 (d0 : Dev nD) : Fin 3 → Nat :=
  let c2_i32_539 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_531 : BitVec 32 := 3#32
  let v807 : BitVec 32 := Scalar.subi v19 c3_i32_531
  let c8_i32_532 : BitVec 32 := 8#32
  let v808 : BitVec 32 := Scalar.addi v807 c8_i32_532
  let c8_i32_533 : BitVec 32 := 8#32
  let c0_i32_534 : BitVec 32 := 0#32
  let v809 : BitVec 1 := Scalar.cmpi .eq c8_i32_533 c0_i32_534
  let c1_i32_535 : BitVec 32 := 1#32
  let v810 : BitVec 32 := Scalar.select v809 c1_i32_535 c8_i32_533
  let v811 : BitVec 32 := Scalar.remsi v808 v810
  let c0_i32_537 : BitVec 32 := 0#32
  let v813 : BitVec 1 := Scalar.cmpi .slt v811 c0_i32_537
  let c0_i32_538 : BitVec 32 := 0#32
  let v814 : BitVec 1 := Scalar.cmpi .slt v810 c0_i32_538
  let v815 : BitVec 1 := Scalar.xori v813 v814
  let c0_i32_536 : BitVec 32 := 0#32
  let v812 : BitVec 1 := Scalar.cmpi .ne v811 c0_i32_536
  let v816 : BitVec 1 := Scalar.andi v815 v812
  let v817 : BitVec 32 := Scalar.addi v811 v810
  let v818 : BitVec 32 := Scalar.select v816 v817 v811
  let v819 : BitVec 32 := Scalar.muli c2_i32_539 v818
  let c0_i32_540 : BitVec 32 := 0#32
  let v820 : BitVec 32 := Scalar.addi v819 c0_i32_540
  let v1240 : Index := Scalar.indexCast v820
  let c0_827 : Index := 0#32
  let c0_828 : Index := 0#32
  ![v1240.toNat, 0, 0]
def k0_off125 (d0 : Dev nD) : Fin 2 → Nat :=
  let c2_i32_539 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_531 : BitVec 32 := 3#32
  let v807 : BitVec 32 := Scalar.subi v19 c3_i32_531
  let c8_i32_532 : BitVec 32 := 8#32
  let v808 : BitVec 32 := Scalar.addi v807 c8_i32_532
  let c8_i32_533 : BitVec 32 := 8#32
  let c0_i32_534 : BitVec 32 := 0#32
  let v809 : BitVec 1 := Scalar.cmpi .eq c8_i32_533 c0_i32_534
  let c1_i32_535 : BitVec 32 := 1#32
  let v810 : BitVec 32 := Scalar.select v809 c1_i32_535 c8_i32_533
  let v811 : BitVec 32 := Scalar.remsi v808 v810
  let c0_i32_537 : BitVec 32 := 0#32
  let v813 : BitVec 1 := Scalar.cmpi .slt v811 c0_i32_537
  let c0_i32_538 : BitVec 32 := 0#32
  let v814 : BitVec 1 := Scalar.cmpi .slt v810 c0_i32_538
  let v815 : BitVec 1 := Scalar.xori v813 v814
  let c0_i32_536 : BitVec 32 := 0#32
  let v812 : BitVec 1 := Scalar.cmpi .ne v811 c0_i32_536
  let v816 : BitVec 1 := Scalar.andi v815 v812
  let v817 : BitVec 32 := Scalar.addi v811 v810
  let v818 : BitVec 32 := Scalar.select v816 v817 v811
  let v819 : BitVec 32 := Scalar.muli c2_i32_539 v818
  let c0_i32_540 : BitVec 32 := 0#32
  let v820 : BitVec 32 := Scalar.addi v819 c0_i32_540
  let c256_i32_829 : BitVec 32 := 256#32
  let v1244 : BitVec 32 := Scalar.muli v820 c256_i32_829
  let v1245 : Index := Scalar.indexCast v1244
  let c0_830 : Index := 0#32
  ![v1245.toNat, 0]
def k0_cond40 (d0 : Dev nD) : BitVec 1 :=
  let c2_i32_550 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_542 : BitVec 32 := 3#32
  let v824 : BitVec 32 := Scalar.subi v19 c3_i32_542
  let c8_i32_543 : BitVec 32 := 8#32
  let v825 : BitVec 32 := Scalar.addi v824 c8_i32_543
  let c8_i32_544 : BitVec 32 := 8#32
  let c0_i32_545 : BitVec 32 := 0#32
  let v826 : BitVec 1 := Scalar.cmpi .eq c8_i32_544 c0_i32_545
  let c1_i32_546 : BitVec 32 := 1#32
  let v827 : BitVec 32 := Scalar.select v826 c1_i32_546 c8_i32_544
  let v828 : BitVec 32 := Scalar.remsi v825 v827
  let c0_i32_548 : BitVec 32 := 0#32
  let v830 : BitVec 1 := Scalar.cmpi .slt v828 c0_i32_548
  let c0_i32_549 : BitVec 32 := 0#32
  let v831 : BitVec 1 := Scalar.cmpi .slt v827 c0_i32_549
  let v832 : BitVec 1 := Scalar.xori v830 v831
  let c0_i32_547 : BitVec 32 := 0#32
  let v829 : BitVec 1 := Scalar.cmpi .ne v828 c0_i32_547
  let v833 : BitVec 1 := Scalar.andi v832 v829
  let v834 : BitVec 32 := Scalar.addi v828 v827
  let v835 : BitVec 32 := Scalar.select v833 v834 v828
  let v836 : BitVec 32 := Scalar.muli c2_i32_550 v835
  let c1_i32_551 : BitVec 32 := 1#32
  let v837 : BitVec 32 := Scalar.addi v836 c1_i32_551
  let v838 : BitVec 1 := Scalar.cmpi .ne v837 v2
  let v839 : BitVec 32 := Scalar.extui v838
  let c0_i32_552 : BitVec 32 := 0#32
  let v840 : BitVec 1 := Scalar.cmpi .ne v839 c0_i32_552
  v840

def k0_off126 (d0 : Dev nD) : Fin 1 → Nat :=
  let c2_i32_550 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_542 : BitVec 32 := 3#32
  let v824 : BitVec 32 := Scalar.subi v19 c3_i32_542
  let c8_i32_543 : BitVec 32 := 8#32
  let v825 : BitVec 32 := Scalar.addi v824 c8_i32_543
  let c8_i32_544 : BitVec 32 := 8#32
  let c0_i32_545 : BitVec 32 := 0#32
  let v826 : BitVec 1 := Scalar.cmpi .eq c8_i32_544 c0_i32_545
  let c1_i32_546 : BitVec 32 := 1#32
  let v827 : BitVec 32 := Scalar.select v826 c1_i32_546 c8_i32_544
  let v828 : BitVec 32 := Scalar.remsi v825 v827
  let c0_i32_548 : BitVec 32 := 0#32
  let v830 : BitVec 1 := Scalar.cmpi .slt v828 c0_i32_548
  let c0_i32_549 : BitVec 32 := 0#32
  let v831 : BitVec 1 := Scalar.cmpi .slt v827 c0_i32_549
  let v832 : BitVec 1 := Scalar.xori v830 v831
  let c0_i32_547 : BitVec 32 := 0#32
  let v829 : BitVec 1 := Scalar.cmpi .ne v828 c0_i32_547
  let v833 : BitVec 1 := Scalar.andi v832 v829
  let v834 : BitVec 32 := Scalar.addi v828 v827
  let v835 : BitVec 32 := Scalar.select v833 v834 v828
  let v836 : BitVec 32 := Scalar.muli c2_i32_550 v835
  let c1_i32_551 : BitVec 32 := 1#32
  let v837 : BitVec 32 := Scalar.addi v836 c1_i32_551
  ![v837.toNat]
def k0_off127 (d0 : Dev nD) : Fin 3 → Nat :=
  let c2_i32_550 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_542 : BitVec 32 := 3#32
  let v824 : BitVec 32 := Scalar.subi v19 c3_i32_542
  let c8_i32_543 : BitVec 32 := 8#32
  let v825 : BitVec 32 := Scalar.addi v824 c8_i32_543
  let c8_i32_544 : BitVec 32 := 8#32
  let c0_i32_545 : BitVec 32 := 0#32
  let v826 : BitVec 1 := Scalar.cmpi .eq c8_i32_544 c0_i32_545
  let c1_i32_546 : BitVec 32 := 1#32
  let v827 : BitVec 32 := Scalar.select v826 c1_i32_546 c8_i32_544
  let v828 : BitVec 32 := Scalar.remsi v825 v827
  let c0_i32_548 : BitVec 32 := 0#32
  let v830 : BitVec 1 := Scalar.cmpi .slt v828 c0_i32_548
  let c0_i32_549 : BitVec 32 := 0#32
  let v831 : BitVec 1 := Scalar.cmpi .slt v827 c0_i32_549
  let v832 : BitVec 1 := Scalar.xori v830 v831
  let c0_i32_547 : BitVec 32 := 0#32
  let v829 : BitVec 1 := Scalar.cmpi .ne v828 c0_i32_547
  let v833 : BitVec 1 := Scalar.andi v832 v829
  let v834 : BitVec 32 := Scalar.addi v828 v827
  let v835 : BitVec 32 := Scalar.select v833 v834 v828
  let v836 : BitVec 32 := Scalar.muli c2_i32_550 v835
  let c1_i32_551 : BitVec 32 := 1#32
  let v837 : BitVec 32 := Scalar.addi v836 c1_i32_551
  let c0_i32_823 : BitVec 32 := 0#32
  let c0_i32_824 : BitVec 32 := 0#32
  ![v837.toNat, 0, 0]
def k0_off128 (d0 : Dev nD) : Fin 3 → Nat :=
  let c2_i32_550 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_542 : BitVec 32 := 3#32
  let v824 : BitVec 32 := Scalar.subi v19 c3_i32_542
  let c8_i32_543 : BitVec 32 := 8#32
  let v825 : BitVec 32 := Scalar.addi v824 c8_i32_543
  let c8_i32_544 : BitVec 32 := 8#32
  let c0_i32_545 : BitVec 32 := 0#32
  let v826 : BitVec 1 := Scalar.cmpi .eq c8_i32_544 c0_i32_545
  let c1_i32_546 : BitVec 32 := 1#32
  let v827 : BitVec 32 := Scalar.select v826 c1_i32_546 c8_i32_544
  let v828 : BitVec 32 := Scalar.remsi v825 v827
  let c0_i32_548 : BitVec 32 := 0#32
  let v830 : BitVec 1 := Scalar.cmpi .slt v828 c0_i32_548
  let c0_i32_549 : BitVec 32 := 0#32
  let v831 : BitVec 1 := Scalar.cmpi .slt v827 c0_i32_549
  let v832 : BitVec 1 := Scalar.xori v830 v831
  let c0_i32_547 : BitVec 32 := 0#32
  let v829 : BitVec 1 := Scalar.cmpi .ne v828 c0_i32_547
  let v833 : BitVec 1 := Scalar.andi v832 v829
  let v834 : BitVec 32 := Scalar.addi v828 v827
  let v835 : BitVec 32 := Scalar.select v833 v834 v828
  let v836 : BitVec 32 := Scalar.muli c2_i32_550 v835
  let c1_i32_551 : BitVec 32 := 1#32
  let v837 : BitVec 32 := Scalar.addi v836 c1_i32_551
  let v1240 : Index := Scalar.indexCast v837
  let c0_827 : Index := 0#32
  let c0_828 : Index := 0#32
  ![v1240.toNat, 0, 0]
def k0_off129 (d0 : Dev nD) : Fin 2 → Nat :=
  let c2_i32_550 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c3_i32_542 : BitVec 32 := 3#32
  let v824 : BitVec 32 := Scalar.subi v19 c3_i32_542
  let c8_i32_543 : BitVec 32 := 8#32
  let v825 : BitVec 32 := Scalar.addi v824 c8_i32_543
  let c8_i32_544 : BitVec 32 := 8#32
  let c0_i32_545 : BitVec 32 := 0#32
  let v826 : BitVec 1 := Scalar.cmpi .eq c8_i32_544 c0_i32_545
  let c1_i32_546 : BitVec 32 := 1#32
  let v827 : BitVec 32 := Scalar.select v826 c1_i32_546 c8_i32_544
  let v828 : BitVec 32 := Scalar.remsi v825 v827
  let c0_i32_548 : BitVec 32 := 0#32
  let v830 : BitVec 1 := Scalar.cmpi .slt v828 c0_i32_548
  let c0_i32_549 : BitVec 32 := 0#32
  let v831 : BitVec 1 := Scalar.cmpi .slt v827 c0_i32_549
  let v832 : BitVec 1 := Scalar.xori v830 v831
  let c0_i32_547 : BitVec 32 := 0#32
  let v829 : BitVec 1 := Scalar.cmpi .ne v828 c0_i32_547
  let v833 : BitVec 1 := Scalar.andi v832 v829
  let v834 : BitVec 32 := Scalar.addi v828 v827
  let v835 : BitVec 32 := Scalar.select v833 v834 v828
  let v836 : BitVec 32 := Scalar.muli c2_i32_550 v835
  let c1_i32_551 : BitVec 32 := 1#32
  let v837 : BitVec 32 := Scalar.addi v836 c1_i32_551
  let c256_i32_829 : BitVec 32 := 256#32
  let v1244 : BitVec 32 := Scalar.muli v837 c256_i32_829
  let v1245 : Index := Scalar.indexCast v1244
  let c0_830 : Index := 0#32
  ![v1245.toNat, 0]
def k0_cond41 (d0 : Dev nD) : BitVec 1 :=
  let c2_i32_561 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_553 : BitVec 32 := 4#32
  let v841 : BitVec 32 := Scalar.subi v19 c4_i32_553
  let c8_i32_554 : BitVec 32 := 8#32
  let v842 : BitVec 32 := Scalar.addi v841 c8_i32_554
  let c8_i32_555 : BitVec 32 := 8#32
  let c0_i32_556 : BitVec 32 := 0#32
  let v843 : BitVec 1 := Scalar.cmpi .eq c8_i32_555 c0_i32_556
  let c1_i32_557 : BitVec 32 := 1#32
  let v844 : BitVec 32 := Scalar.select v843 c1_i32_557 c8_i32_555
  let v845 : BitVec 32 := Scalar.remsi v842 v844
  let c0_i32_559 : BitVec 32 := 0#32
  let v847 : BitVec 1 := Scalar.cmpi .slt v845 c0_i32_559
  let c0_i32_560 : BitVec 32 := 0#32
  let v848 : BitVec 1 := Scalar.cmpi .slt v844 c0_i32_560
  let v849 : BitVec 1 := Scalar.xori v847 v848
  let c0_i32_558 : BitVec 32 := 0#32
  let v846 : BitVec 1 := Scalar.cmpi .ne v845 c0_i32_558
  let v850 : BitVec 1 := Scalar.andi v849 v846
  let v851 : BitVec 32 := Scalar.addi v845 v844
  let v852 : BitVec 32 := Scalar.select v850 v851 v845
  let v853 : BitVec 32 := Scalar.muli c2_i32_561 v852
  let c0_i32_562 : BitVec 32 := 0#32
  let v854 : BitVec 32 := Scalar.addi v853 c0_i32_562
  let v855 : BitVec 1 := Scalar.cmpi .ne v854 v2
  let v856 : BitVec 32 := Scalar.extui v855
  let c0_i32_563 : BitVec 32 := 0#32
  let v857 : BitVec 1 := Scalar.cmpi .ne v856 c0_i32_563
  v857

def k0_off130 (d0 : Dev nD) : Fin 1 → Nat :=
  let c2_i32_561 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_553 : BitVec 32 := 4#32
  let v841 : BitVec 32 := Scalar.subi v19 c4_i32_553
  let c8_i32_554 : BitVec 32 := 8#32
  let v842 : BitVec 32 := Scalar.addi v841 c8_i32_554
  let c8_i32_555 : BitVec 32 := 8#32
  let c0_i32_556 : BitVec 32 := 0#32
  let v843 : BitVec 1 := Scalar.cmpi .eq c8_i32_555 c0_i32_556
  let c1_i32_557 : BitVec 32 := 1#32
  let v844 : BitVec 32 := Scalar.select v843 c1_i32_557 c8_i32_555
  let v845 : BitVec 32 := Scalar.remsi v842 v844
  let c0_i32_559 : BitVec 32 := 0#32
  let v847 : BitVec 1 := Scalar.cmpi .slt v845 c0_i32_559
  let c0_i32_560 : BitVec 32 := 0#32
  let v848 : BitVec 1 := Scalar.cmpi .slt v844 c0_i32_560
  let v849 : BitVec 1 := Scalar.xori v847 v848
  let c0_i32_558 : BitVec 32 := 0#32
  let v846 : BitVec 1 := Scalar.cmpi .ne v845 c0_i32_558
  let v850 : BitVec 1 := Scalar.andi v849 v846
  let v851 : BitVec 32 := Scalar.addi v845 v844
  let v852 : BitVec 32 := Scalar.select v850 v851 v845
  let v853 : BitVec 32 := Scalar.muli c2_i32_561 v852
  let c0_i32_562 : BitVec 32 := 0#32
  let v854 : BitVec 32 := Scalar.addi v853 c0_i32_562
  ![v854.toNat]
def k0_off131 (d0 : Dev nD) : Fin 3 → Nat :=
  let c2_i32_561 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_553 : BitVec 32 := 4#32
  let v841 : BitVec 32 := Scalar.subi v19 c4_i32_553
  let c8_i32_554 : BitVec 32 := 8#32
  let v842 : BitVec 32 := Scalar.addi v841 c8_i32_554
  let c8_i32_555 : BitVec 32 := 8#32
  let c0_i32_556 : BitVec 32 := 0#32
  let v843 : BitVec 1 := Scalar.cmpi .eq c8_i32_555 c0_i32_556
  let c1_i32_557 : BitVec 32 := 1#32
  let v844 : BitVec 32 := Scalar.select v843 c1_i32_557 c8_i32_555
  let v845 : BitVec 32 := Scalar.remsi v842 v844
  let c0_i32_559 : BitVec 32 := 0#32
  let v847 : BitVec 1 := Scalar.cmpi .slt v845 c0_i32_559
  let c0_i32_560 : BitVec 32 := 0#32
  let v848 : BitVec 1 := Scalar.cmpi .slt v844 c0_i32_560
  let v849 : BitVec 1 := Scalar.xori v847 v848
  let c0_i32_558 : BitVec 32 := 0#32
  let v846 : BitVec 1 := Scalar.cmpi .ne v845 c0_i32_558
  let v850 : BitVec 1 := Scalar.andi v849 v846
  let v851 : BitVec 32 := Scalar.addi v845 v844
  let v852 : BitVec 32 := Scalar.select v850 v851 v845
  let v853 : BitVec 32 := Scalar.muli c2_i32_561 v852
  let c0_i32_562 : BitVec 32 := 0#32
  let v854 : BitVec 32 := Scalar.addi v853 c0_i32_562
  let c0_i32_823 : BitVec 32 := 0#32
  let c0_i32_824 : BitVec 32 := 0#32
  ![v854.toNat, 0, 0]
def k0_off132 (d0 : Dev nD) : Fin 3 → Nat :=
  let c2_i32_561 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_553 : BitVec 32 := 4#32
  let v841 : BitVec 32 := Scalar.subi v19 c4_i32_553
  let c8_i32_554 : BitVec 32 := 8#32
  let v842 : BitVec 32 := Scalar.addi v841 c8_i32_554
  let c8_i32_555 : BitVec 32 := 8#32
  let c0_i32_556 : BitVec 32 := 0#32
  let v843 : BitVec 1 := Scalar.cmpi .eq c8_i32_555 c0_i32_556
  let c1_i32_557 : BitVec 32 := 1#32
  let v844 : BitVec 32 := Scalar.select v843 c1_i32_557 c8_i32_555
  let v845 : BitVec 32 := Scalar.remsi v842 v844
  let c0_i32_559 : BitVec 32 := 0#32
  let v847 : BitVec 1 := Scalar.cmpi .slt v845 c0_i32_559
  let c0_i32_560 : BitVec 32 := 0#32
  let v848 : BitVec 1 := Scalar.cmpi .slt v844 c0_i32_560
  let v849 : BitVec 1 := Scalar.xori v847 v848
  let c0_i32_558 : BitVec 32 := 0#32
  let v846 : BitVec 1 := Scalar.cmpi .ne v845 c0_i32_558
  let v850 : BitVec 1 := Scalar.andi v849 v846
  let v851 : BitVec 32 := Scalar.addi v845 v844
  let v852 : BitVec 32 := Scalar.select v850 v851 v845
  let v853 : BitVec 32 := Scalar.muli c2_i32_561 v852
  let c0_i32_562 : BitVec 32 := 0#32
  let v854 : BitVec 32 := Scalar.addi v853 c0_i32_562
  let v1240 : Index := Scalar.indexCast v854
  let c0_827 : Index := 0#32
  let c0_828 : Index := 0#32
  ![v1240.toNat, 0, 0]
def k0_off133 (d0 : Dev nD) : Fin 2 → Nat :=
  let c2_i32_561 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_553 : BitVec 32 := 4#32
  let v841 : BitVec 32 := Scalar.subi v19 c4_i32_553
  let c8_i32_554 : BitVec 32 := 8#32
  let v842 : BitVec 32 := Scalar.addi v841 c8_i32_554
  let c8_i32_555 : BitVec 32 := 8#32
  let c0_i32_556 : BitVec 32 := 0#32
  let v843 : BitVec 1 := Scalar.cmpi .eq c8_i32_555 c0_i32_556
  let c1_i32_557 : BitVec 32 := 1#32
  let v844 : BitVec 32 := Scalar.select v843 c1_i32_557 c8_i32_555
  let v845 : BitVec 32 := Scalar.remsi v842 v844
  let c0_i32_559 : BitVec 32 := 0#32
  let v847 : BitVec 1 := Scalar.cmpi .slt v845 c0_i32_559
  let c0_i32_560 : BitVec 32 := 0#32
  let v848 : BitVec 1 := Scalar.cmpi .slt v844 c0_i32_560
  let v849 : BitVec 1 := Scalar.xori v847 v848
  let c0_i32_558 : BitVec 32 := 0#32
  let v846 : BitVec 1 := Scalar.cmpi .ne v845 c0_i32_558
  let v850 : BitVec 1 := Scalar.andi v849 v846
  let v851 : BitVec 32 := Scalar.addi v845 v844
  let v852 : BitVec 32 := Scalar.select v850 v851 v845
  let v853 : BitVec 32 := Scalar.muli c2_i32_561 v852
  let c0_i32_562 : BitVec 32 := 0#32
  let v854 : BitVec 32 := Scalar.addi v853 c0_i32_562
  let c256_i32_829 : BitVec 32 := 256#32
  let v1244 : BitVec 32 := Scalar.muli v854 c256_i32_829
  let v1245 : Index := Scalar.indexCast v1244
  let c0_830 : Index := 0#32
  ![v1245.toNat, 0]
def k0_cond42 (d0 : Dev nD) : BitVec 1 :=
  let c2_i32_572 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_564 : BitVec 32 := 4#32
  let v858 : BitVec 32 := Scalar.subi v19 c4_i32_564
  let c8_i32_565 : BitVec 32 := 8#32
  let v859 : BitVec 32 := Scalar.addi v858 c8_i32_565
  let c8_i32_566 : BitVec 32 := 8#32
  let c0_i32_567 : BitVec 32 := 0#32
  let v860 : BitVec 1 := Scalar.cmpi .eq c8_i32_566 c0_i32_567
  let c1_i32_568 : BitVec 32 := 1#32
  let v861 : BitVec 32 := Scalar.select v860 c1_i32_568 c8_i32_566
  let v862 : BitVec 32 := Scalar.remsi v859 v861
  let c0_i32_570 : BitVec 32 := 0#32
  let v864 : BitVec 1 := Scalar.cmpi .slt v862 c0_i32_570
  let c0_i32_571 : BitVec 32 := 0#32
  let v865 : BitVec 1 := Scalar.cmpi .slt v861 c0_i32_571
  let v866 : BitVec 1 := Scalar.xori v864 v865
  let c0_i32_569 : BitVec 32 := 0#32
  let v863 : BitVec 1 := Scalar.cmpi .ne v862 c0_i32_569
  let v867 : BitVec 1 := Scalar.andi v866 v863
  let v868 : BitVec 32 := Scalar.addi v862 v861
  let v869 : BitVec 32 := Scalar.select v867 v868 v862
  let v870 : BitVec 32 := Scalar.muli c2_i32_572 v869
  let c1_i32_573 : BitVec 32 := 1#32
  let v871 : BitVec 32 := Scalar.addi v870 c1_i32_573
  let v872 : BitVec 1 := Scalar.cmpi .ne v871 v2
  let v873 : BitVec 32 := Scalar.extui v872
  let c0_i32_574 : BitVec 32 := 0#32
  let v874 : BitVec 1 := Scalar.cmpi .ne v873 c0_i32_574
  v874

def k0_off134 (d0 : Dev nD) : Fin 1 → Nat :=
  let c2_i32_572 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_564 : BitVec 32 := 4#32
  let v858 : BitVec 32 := Scalar.subi v19 c4_i32_564
  let c8_i32_565 : BitVec 32 := 8#32
  let v859 : BitVec 32 := Scalar.addi v858 c8_i32_565
  let c8_i32_566 : BitVec 32 := 8#32
  let c0_i32_567 : BitVec 32 := 0#32
  let v860 : BitVec 1 := Scalar.cmpi .eq c8_i32_566 c0_i32_567
  let c1_i32_568 : BitVec 32 := 1#32
  let v861 : BitVec 32 := Scalar.select v860 c1_i32_568 c8_i32_566
  let v862 : BitVec 32 := Scalar.remsi v859 v861
  let c0_i32_570 : BitVec 32 := 0#32
  let v864 : BitVec 1 := Scalar.cmpi .slt v862 c0_i32_570
  let c0_i32_571 : BitVec 32 := 0#32
  let v865 : BitVec 1 := Scalar.cmpi .slt v861 c0_i32_571
  let v866 : BitVec 1 := Scalar.xori v864 v865
  let c0_i32_569 : BitVec 32 := 0#32
  let v863 : BitVec 1 := Scalar.cmpi .ne v862 c0_i32_569
  let v867 : BitVec 1 := Scalar.andi v866 v863
  let v868 : BitVec 32 := Scalar.addi v862 v861
  let v869 : BitVec 32 := Scalar.select v867 v868 v862
  let v870 : BitVec 32 := Scalar.muli c2_i32_572 v869
  let c1_i32_573 : BitVec 32 := 1#32
  let v871 : BitVec 32 := Scalar.addi v870 c1_i32_573
  ![v871.toNat]
def k0_off135 (d0 : Dev nD) : Fin 3 → Nat :=
  let c2_i32_572 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_564 : BitVec 32 := 4#32
  let v858 : BitVec 32 := Scalar.subi v19 c4_i32_564
  let c8_i32_565 : BitVec 32 := 8#32
  let v859 : BitVec 32 := Scalar.addi v858 c8_i32_565
  let c8_i32_566 : BitVec 32 := 8#32
  let c0_i32_567 : BitVec 32 := 0#32
  let v860 : BitVec 1 := Scalar.cmpi .eq c8_i32_566 c0_i32_567
  let c1_i32_568 : BitVec 32 := 1#32
  let v861 : BitVec 32 := Scalar.select v860 c1_i32_568 c8_i32_566
  let v862 : BitVec 32 := Scalar.remsi v859 v861
  let c0_i32_570 : BitVec 32 := 0#32
  let v864 : BitVec 1 := Scalar.cmpi .slt v862 c0_i32_570
  let c0_i32_571 : BitVec 32 := 0#32
  let v865 : BitVec 1 := Scalar.cmpi .slt v861 c0_i32_571
  let v866 : BitVec 1 := Scalar.xori v864 v865
  let c0_i32_569 : BitVec 32 := 0#32
  let v863 : BitVec 1 := Scalar.cmpi .ne v862 c0_i32_569
  let v867 : BitVec 1 := Scalar.andi v866 v863
  let v868 : BitVec 32 := Scalar.addi v862 v861
  let v869 : BitVec 32 := Scalar.select v867 v868 v862
  let v870 : BitVec 32 := Scalar.muli c2_i32_572 v869
  let c1_i32_573 : BitVec 32 := 1#32
  let v871 : BitVec 32 := Scalar.addi v870 c1_i32_573
  let c0_i32_823 : BitVec 32 := 0#32
  let c0_i32_824 : BitVec 32 := 0#32
  ![v871.toNat, 0, 0]
def k0_off136 (d0 : Dev nD) : Fin 3 → Nat :=
  let c2_i32_572 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_564 : BitVec 32 := 4#32
  let v858 : BitVec 32 := Scalar.subi v19 c4_i32_564
  let c8_i32_565 : BitVec 32 := 8#32
  let v859 : BitVec 32 := Scalar.addi v858 c8_i32_565
  let c8_i32_566 : BitVec 32 := 8#32
  let c0_i32_567 : BitVec 32 := 0#32
  let v860 : BitVec 1 := Scalar.cmpi .eq c8_i32_566 c0_i32_567
  let c1_i32_568 : BitVec 32 := 1#32
  let v861 : BitVec 32 := Scalar.select v860 c1_i32_568 c8_i32_566
  let v862 : BitVec 32 := Scalar.remsi v859 v861
  let c0_i32_570 : BitVec 32 := 0#32
  let v864 : BitVec 1 := Scalar.cmpi .slt v862 c0_i32_570
  let c0_i32_571 : BitVec 32 := 0#32
  let v865 : BitVec 1 := Scalar.cmpi .slt v861 c0_i32_571
  let v866 : BitVec 1 := Scalar.xori v864 v865
  let c0_i32_569 : BitVec 32 := 0#32
  let v863 : BitVec 1 := Scalar.cmpi .ne v862 c0_i32_569
  let v867 : BitVec 1 := Scalar.andi v866 v863
  let v868 : BitVec 32 := Scalar.addi v862 v861
  let v869 : BitVec 32 := Scalar.select v867 v868 v862
  let v870 : BitVec 32 := Scalar.muli c2_i32_572 v869
  let c1_i32_573 : BitVec 32 := 1#32
  let v871 : BitVec 32 := Scalar.addi v870 c1_i32_573
  let v1240 : Index := Scalar.indexCast v871
  let c0_827 : Index := 0#32
  let c0_828 : Index := 0#32
  ![v1240.toNat, 0, 0]
def k0_off137 (d0 : Dev nD) : Fin 2 → Nat :=
  let c2_i32_572 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c4_i32_564 : BitVec 32 := 4#32
  let v858 : BitVec 32 := Scalar.subi v19 c4_i32_564
  let c8_i32_565 : BitVec 32 := 8#32
  let v859 : BitVec 32 := Scalar.addi v858 c8_i32_565
  let c8_i32_566 : BitVec 32 := 8#32
  let c0_i32_567 : BitVec 32 := 0#32
  let v860 : BitVec 1 := Scalar.cmpi .eq c8_i32_566 c0_i32_567
  let c1_i32_568 : BitVec 32 := 1#32
  let v861 : BitVec 32 := Scalar.select v860 c1_i32_568 c8_i32_566
  let v862 : BitVec 32 := Scalar.remsi v859 v861
  let c0_i32_570 : BitVec 32 := 0#32
  let v864 : BitVec 1 := Scalar.cmpi .slt v862 c0_i32_570
  let c0_i32_571 : BitVec 32 := 0#32
  let v865 : BitVec 1 := Scalar.cmpi .slt v861 c0_i32_571
  let v866 : BitVec 1 := Scalar.xori v864 v865
  let c0_i32_569 : BitVec 32 := 0#32
  let v863 : BitVec 1 := Scalar.cmpi .ne v862 c0_i32_569
  let v867 : BitVec 1 := Scalar.andi v866 v863
  let v868 : BitVec 32 := Scalar.addi v862 v861
  let v869 : BitVec 32 := Scalar.select v867 v868 v862
  let v870 : BitVec 32 := Scalar.muli c2_i32_572 v869
  let c1_i32_573 : BitVec 32 := 1#32
  let v871 : BitVec 32 := Scalar.addi v870 c1_i32_573
  let c256_i32_829 : BitVec 32 := 256#32
  let v1244 : BitVec 32 := Scalar.muli v871 c256_i32_829
  let v1245 : Index := Scalar.indexCast v1244
  let c0_830 : Index := 0#32
  ![v1245.toNat, 0]
def k0_cond43 (d0 : Dev nD) : BitVec 1 :=
  let c2_i32_583 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_575 : BitVec 32 := 5#32
  let v875 : BitVec 32 := Scalar.subi v19 c5_i32_575
  let c8_i32_576 : BitVec 32 := 8#32
  let v876 : BitVec 32 := Scalar.addi v875 c8_i32_576
  let c8_i32_577 : BitVec 32 := 8#32
  let c0_i32_578 : BitVec 32 := 0#32
  let v877 : BitVec 1 := Scalar.cmpi .eq c8_i32_577 c0_i32_578
  let c1_i32_579 : BitVec 32 := 1#32
  let v878 : BitVec 32 := Scalar.select v877 c1_i32_579 c8_i32_577
  let v879 : BitVec 32 := Scalar.remsi v876 v878
  let c0_i32_581 : BitVec 32 := 0#32
  let v881 : BitVec 1 := Scalar.cmpi .slt v879 c0_i32_581
  let c0_i32_582 : BitVec 32 := 0#32
  let v882 : BitVec 1 := Scalar.cmpi .slt v878 c0_i32_582
  let v883 : BitVec 1 := Scalar.xori v881 v882
  let c0_i32_580 : BitVec 32 := 0#32
  let v880 : BitVec 1 := Scalar.cmpi .ne v879 c0_i32_580
  let v884 : BitVec 1 := Scalar.andi v883 v880
  let v885 : BitVec 32 := Scalar.addi v879 v878
  let v886 : BitVec 32 := Scalar.select v884 v885 v879
  let v887 : BitVec 32 := Scalar.muli c2_i32_583 v886
  let c0_i32_584 : BitVec 32 := 0#32
  let v888 : BitVec 32 := Scalar.addi v887 c0_i32_584
  let v889 : BitVec 1 := Scalar.cmpi .ne v888 v2
  let v890 : BitVec 32 := Scalar.extui v889
  let c0_i32_585 : BitVec 32 := 0#32
  let v891 : BitVec 1 := Scalar.cmpi .ne v890 c0_i32_585
  v891

def k0_off138 (d0 : Dev nD) : Fin 1 → Nat :=
  let c2_i32_583 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_575 : BitVec 32 := 5#32
  let v875 : BitVec 32 := Scalar.subi v19 c5_i32_575
  let c8_i32_576 : BitVec 32 := 8#32
  let v876 : BitVec 32 := Scalar.addi v875 c8_i32_576
  let c8_i32_577 : BitVec 32 := 8#32
  let c0_i32_578 : BitVec 32 := 0#32
  let v877 : BitVec 1 := Scalar.cmpi .eq c8_i32_577 c0_i32_578
  let c1_i32_579 : BitVec 32 := 1#32
  let v878 : BitVec 32 := Scalar.select v877 c1_i32_579 c8_i32_577
  let v879 : BitVec 32 := Scalar.remsi v876 v878
  let c0_i32_581 : BitVec 32 := 0#32
  let v881 : BitVec 1 := Scalar.cmpi .slt v879 c0_i32_581
  let c0_i32_582 : BitVec 32 := 0#32
  let v882 : BitVec 1 := Scalar.cmpi .slt v878 c0_i32_582
  let v883 : BitVec 1 := Scalar.xori v881 v882
  let c0_i32_580 : BitVec 32 := 0#32
  let v880 : BitVec 1 := Scalar.cmpi .ne v879 c0_i32_580
  let v884 : BitVec 1 := Scalar.andi v883 v880
  let v885 : BitVec 32 := Scalar.addi v879 v878
  let v886 : BitVec 32 := Scalar.select v884 v885 v879
  let v887 : BitVec 32 := Scalar.muli c2_i32_583 v886
  let c0_i32_584 : BitVec 32 := 0#32
  let v888 : BitVec 32 := Scalar.addi v887 c0_i32_584
  ![v888.toNat]
def k0_off139 (d0 : Dev nD) : Fin 3 → Nat :=
  let c2_i32_583 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_575 : BitVec 32 := 5#32
  let v875 : BitVec 32 := Scalar.subi v19 c5_i32_575
  let c8_i32_576 : BitVec 32 := 8#32
  let v876 : BitVec 32 := Scalar.addi v875 c8_i32_576
  let c8_i32_577 : BitVec 32 := 8#32
  let c0_i32_578 : BitVec 32 := 0#32
  let v877 : BitVec 1 := Scalar.cmpi .eq c8_i32_577 c0_i32_578
  let c1_i32_579 : BitVec 32 := 1#32
  let v878 : BitVec 32 := Scalar.select v877 c1_i32_579 c8_i32_577
  let v879 : BitVec 32 := Scalar.remsi v876 v878
  let c0_i32_581 : BitVec 32 := 0#32
  let v881 : BitVec 1 := Scalar.cmpi .slt v879 c0_i32_581
  let c0_i32_582 : BitVec 32 := 0#32
  let v882 : BitVec 1 := Scalar.cmpi .slt v878 c0_i32_582
  let v883 : BitVec 1 := Scalar.xori v881 v882
  let c0_i32_580 : BitVec 32 := 0#32
  let v880 : BitVec 1 := Scalar.cmpi .ne v879 c0_i32_580
  let v884 : BitVec 1 := Scalar.andi v883 v880
  let v885 : BitVec 32 := Scalar.addi v879 v878
  let v886 : BitVec 32 := Scalar.select v884 v885 v879
  let v887 : BitVec 32 := Scalar.muli c2_i32_583 v886
  let c0_i32_584 : BitVec 32 := 0#32
  let v888 : BitVec 32 := Scalar.addi v887 c0_i32_584
  let c0_i32_823 : BitVec 32 := 0#32
  let c0_i32_824 : BitVec 32 := 0#32
  ![v888.toNat, 0, 0]
def k0_off140 (d0 : Dev nD) : Fin 3 → Nat :=
  let c2_i32_583 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_575 : BitVec 32 := 5#32
  let v875 : BitVec 32 := Scalar.subi v19 c5_i32_575
  let c8_i32_576 : BitVec 32 := 8#32
  let v876 : BitVec 32 := Scalar.addi v875 c8_i32_576
  let c8_i32_577 : BitVec 32 := 8#32
  let c0_i32_578 : BitVec 32 := 0#32
  let v877 : BitVec 1 := Scalar.cmpi .eq c8_i32_577 c0_i32_578
  let c1_i32_579 : BitVec 32 := 1#32
  let v878 : BitVec 32 := Scalar.select v877 c1_i32_579 c8_i32_577
  let v879 : BitVec 32 := Scalar.remsi v876 v878
  let c0_i32_581 : BitVec 32 := 0#32
  let v881 : BitVec 1 := Scalar.cmpi .slt v879 c0_i32_581
  let c0_i32_582 : BitVec 32 := 0#32
  let v882 : BitVec 1 := Scalar.cmpi .slt v878 c0_i32_582
  let v883 : BitVec 1 := Scalar.xori v881 v882
  let c0_i32_580 : BitVec 32 := 0#32
  let v880 : BitVec 1 := Scalar.cmpi .ne v879 c0_i32_580
  let v884 : BitVec 1 := Scalar.andi v883 v880
  let v885 : BitVec 32 := Scalar.addi v879 v878
  let v886 : BitVec 32 := Scalar.select v884 v885 v879
  let v887 : BitVec 32 := Scalar.muli c2_i32_583 v886
  let c0_i32_584 : BitVec 32 := 0#32
  let v888 : BitVec 32 := Scalar.addi v887 c0_i32_584
  let v1240 : Index := Scalar.indexCast v888
  let c0_827 : Index := 0#32
  let c0_828 : Index := 0#32
  ![v1240.toNat, 0, 0]
def k0_off141 (d0 : Dev nD) : Fin 2 → Nat :=
  let c2_i32_583 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_575 : BitVec 32 := 5#32
  let v875 : BitVec 32 := Scalar.subi v19 c5_i32_575
  let c8_i32_576 : BitVec 32 := 8#32
  let v876 : BitVec 32 := Scalar.addi v875 c8_i32_576
  let c8_i32_577 : BitVec 32 := 8#32
  let c0_i32_578 : BitVec 32 := 0#32
  let v877 : BitVec 1 := Scalar.cmpi .eq c8_i32_577 c0_i32_578
  let c1_i32_579 : BitVec 32 := 1#32
  let v878 : BitVec 32 := Scalar.select v877 c1_i32_579 c8_i32_577
  let v879 : BitVec 32 := Scalar.remsi v876 v878
  let c0_i32_581 : BitVec 32 := 0#32
  let v881 : BitVec 1 := Scalar.cmpi .slt v879 c0_i32_581
  let c0_i32_582 : BitVec 32 := 0#32
  let v882 : BitVec 1 := Scalar.cmpi .slt v878 c0_i32_582
  let v883 : BitVec 1 := Scalar.xori v881 v882
  let c0_i32_580 : BitVec 32 := 0#32
  let v880 : BitVec 1 := Scalar.cmpi .ne v879 c0_i32_580
  let v884 : BitVec 1 := Scalar.andi v883 v880
  let v885 : BitVec 32 := Scalar.addi v879 v878
  let v886 : BitVec 32 := Scalar.select v884 v885 v879
  let v887 : BitVec 32 := Scalar.muli c2_i32_583 v886
  let c0_i32_584 : BitVec 32 := 0#32
  let v888 : BitVec 32 := Scalar.addi v887 c0_i32_584
  let c256_i32_829 : BitVec 32 := 256#32
  let v1244 : BitVec 32 := Scalar.muli v888 c256_i32_829
  let v1245 : Index := Scalar.indexCast v1244
  let c0_830 : Index := 0#32
  ![v1245.toNat, 0]
def k0_cond44 (d0 : Dev nD) : BitVec 1 :=
  let c2_i32_594 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_586 : BitVec 32 := 5#32
  let v892 : BitVec 32 := Scalar.subi v19 c5_i32_586
  let c8_i32_587 : BitVec 32 := 8#32
  let v893 : BitVec 32 := Scalar.addi v892 c8_i32_587
  let c8_i32_588 : BitVec 32 := 8#32
  let c0_i32_589 : BitVec 32 := 0#32
  let v894 : BitVec 1 := Scalar.cmpi .eq c8_i32_588 c0_i32_589
  let c1_i32_590 : BitVec 32 := 1#32
  let v895 : BitVec 32 := Scalar.select v894 c1_i32_590 c8_i32_588
  let v896 : BitVec 32 := Scalar.remsi v893 v895
  let c0_i32_592 : BitVec 32 := 0#32
  let v898 : BitVec 1 := Scalar.cmpi .slt v896 c0_i32_592
  let c0_i32_593 : BitVec 32 := 0#32
  let v899 : BitVec 1 := Scalar.cmpi .slt v895 c0_i32_593
  let v900 : BitVec 1 := Scalar.xori v898 v899
  let c0_i32_591 : BitVec 32 := 0#32
  let v897 : BitVec 1 := Scalar.cmpi .ne v896 c0_i32_591
  let v901 : BitVec 1 := Scalar.andi v900 v897
  let v902 : BitVec 32 := Scalar.addi v896 v895
  let v903 : BitVec 32 := Scalar.select v901 v902 v896
  let v904 : BitVec 32 := Scalar.muli c2_i32_594 v903
  let c1_i32_595 : BitVec 32 := 1#32
  let v905 : BitVec 32 := Scalar.addi v904 c1_i32_595
  let v906 : BitVec 1 := Scalar.cmpi .ne v905 v2
  let v907 : BitVec 32 := Scalar.extui v906
  let c0_i32_596 : BitVec 32 := 0#32
  let v908 : BitVec 1 := Scalar.cmpi .ne v907 c0_i32_596
  v908

def k0_off142 (d0 : Dev nD) : Fin 1 → Nat :=
  let c2_i32_594 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_586 : BitVec 32 := 5#32
  let v892 : BitVec 32 := Scalar.subi v19 c5_i32_586
  let c8_i32_587 : BitVec 32 := 8#32
  let v893 : BitVec 32 := Scalar.addi v892 c8_i32_587
  let c8_i32_588 : BitVec 32 := 8#32
  let c0_i32_589 : BitVec 32 := 0#32
  let v894 : BitVec 1 := Scalar.cmpi .eq c8_i32_588 c0_i32_589
  let c1_i32_590 : BitVec 32 := 1#32
  let v895 : BitVec 32 := Scalar.select v894 c1_i32_590 c8_i32_588
  let v896 : BitVec 32 := Scalar.remsi v893 v895
  let c0_i32_592 : BitVec 32 := 0#32
  let v898 : BitVec 1 := Scalar.cmpi .slt v896 c0_i32_592
  let c0_i32_593 : BitVec 32 := 0#32
  let v899 : BitVec 1 := Scalar.cmpi .slt v895 c0_i32_593
  let v900 : BitVec 1 := Scalar.xori v898 v899
  let c0_i32_591 : BitVec 32 := 0#32
  let v897 : BitVec 1 := Scalar.cmpi .ne v896 c0_i32_591
  let v901 : BitVec 1 := Scalar.andi v900 v897
  let v902 : BitVec 32 := Scalar.addi v896 v895
  let v903 : BitVec 32 := Scalar.select v901 v902 v896
  let v904 : BitVec 32 := Scalar.muli c2_i32_594 v903
  let c1_i32_595 : BitVec 32 := 1#32
  let v905 : BitVec 32 := Scalar.addi v904 c1_i32_595
  ![v905.toNat]
def k0_off143 (d0 : Dev nD) : Fin 3 → Nat :=
  let c2_i32_594 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_586 : BitVec 32 := 5#32
  let v892 : BitVec 32 := Scalar.subi v19 c5_i32_586
  let c8_i32_587 : BitVec 32 := 8#32
  let v893 : BitVec 32 := Scalar.addi v892 c8_i32_587
  let c8_i32_588 : BitVec 32 := 8#32
  let c0_i32_589 : BitVec 32 := 0#32
  let v894 : BitVec 1 := Scalar.cmpi .eq c8_i32_588 c0_i32_589
  let c1_i32_590 : BitVec 32 := 1#32
  let v895 : BitVec 32 := Scalar.select v894 c1_i32_590 c8_i32_588
  let v896 : BitVec 32 := Scalar.remsi v893 v895
  let c0_i32_592 : BitVec 32 := 0#32
  let v898 : BitVec 1 := Scalar.cmpi .slt v896 c0_i32_592
  let c0_i32_593 : BitVec 32 := 0#32
  let v899 : BitVec 1 := Scalar.cmpi .slt v895 c0_i32_593
  let v900 : BitVec 1 := Scalar.xori v898 v899
  let c0_i32_591 : BitVec 32 := 0#32
  let v897 : BitVec 1 := Scalar.cmpi .ne v896 c0_i32_591
  let v901 : BitVec 1 := Scalar.andi v900 v897
  let v902 : BitVec 32 := Scalar.addi v896 v895
  let v903 : BitVec 32 := Scalar.select v901 v902 v896
  let v904 : BitVec 32 := Scalar.muli c2_i32_594 v903
  let c1_i32_595 : BitVec 32 := 1#32
  let v905 : BitVec 32 := Scalar.addi v904 c1_i32_595
  let c0_i32_823 : BitVec 32 := 0#32
  let c0_i32_824 : BitVec 32 := 0#32
  ![v905.toNat, 0, 0]
def k0_off144 (d0 : Dev nD) : Fin 3 → Nat :=
  let c2_i32_594 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_586 : BitVec 32 := 5#32
  let v892 : BitVec 32 := Scalar.subi v19 c5_i32_586
  let c8_i32_587 : BitVec 32 := 8#32
  let v893 : BitVec 32 := Scalar.addi v892 c8_i32_587
  let c8_i32_588 : BitVec 32 := 8#32
  let c0_i32_589 : BitVec 32 := 0#32
  let v894 : BitVec 1 := Scalar.cmpi .eq c8_i32_588 c0_i32_589
  let c1_i32_590 : BitVec 32 := 1#32
  let v895 : BitVec 32 := Scalar.select v894 c1_i32_590 c8_i32_588
  let v896 : BitVec 32 := Scalar.remsi v893 v895
  let c0_i32_592 : BitVec 32 := 0#32
  let v898 : BitVec 1 := Scalar.cmpi .slt v896 c0_i32_592
  let c0_i32_593 : BitVec 32 := 0#32
  let v899 : BitVec 1 := Scalar.cmpi .slt v895 c0_i32_593
  let v900 : BitVec 1 := Scalar.xori v898 v899
  let c0_i32_591 : BitVec 32 := 0#32
  let v897 : BitVec 1 := Scalar.cmpi .ne v896 c0_i32_591
  let v901 : BitVec 1 := Scalar.andi v900 v897
  let v902 : BitVec 32 := Scalar.addi v896 v895
  let v903 : BitVec 32 := Scalar.select v901 v902 v896
  let v904 : BitVec 32 := Scalar.muli c2_i32_594 v903
  let c1_i32_595 : BitVec 32 := 1#32
  let v905 : BitVec 32 := Scalar.addi v904 c1_i32_595
  let v1240 : Index := Scalar.indexCast v905
  let c0_827 : Index := 0#32
  let c0_828 : Index := 0#32
  ![v1240.toNat, 0, 0]
def k0_off145 (d0 : Dev nD) : Fin 2 → Nat :=
  let c2_i32_594 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c5_i32_586 : BitVec 32 := 5#32
  let v892 : BitVec 32 := Scalar.subi v19 c5_i32_586
  let c8_i32_587 : BitVec 32 := 8#32
  let v893 : BitVec 32 := Scalar.addi v892 c8_i32_587
  let c8_i32_588 : BitVec 32 := 8#32
  let c0_i32_589 : BitVec 32 := 0#32
  let v894 : BitVec 1 := Scalar.cmpi .eq c8_i32_588 c0_i32_589
  let c1_i32_590 : BitVec 32 := 1#32
  let v895 : BitVec 32 := Scalar.select v894 c1_i32_590 c8_i32_588
  let v896 : BitVec 32 := Scalar.remsi v893 v895
  let c0_i32_592 : BitVec 32 := 0#32
  let v898 : BitVec 1 := Scalar.cmpi .slt v896 c0_i32_592
  let c0_i32_593 : BitVec 32 := 0#32
  let v899 : BitVec 1 := Scalar.cmpi .slt v895 c0_i32_593
  let v900 : BitVec 1 := Scalar.xori v898 v899
  let c0_i32_591 : BitVec 32 := 0#32
  let v897 : BitVec 1 := Scalar.cmpi .ne v896 c0_i32_591
  let v901 : BitVec 1 := Scalar.andi v900 v897
  let v902 : BitVec 32 := Scalar.addi v896 v895
  let v903 : BitVec 32 := Scalar.select v901 v902 v896
  let v904 : BitVec 32 := Scalar.muli c2_i32_594 v903
  let c1_i32_595 : BitVec 32 := 1#32
  let v905 : BitVec 32 := Scalar.addi v904 c1_i32_595
  let c256_i32_829 : BitVec 32 := 256#32
  let v1244 : BitVec 32 := Scalar.muli v905 c256_i32_829
  let v1245 : Index := Scalar.indexCast v1244
  let c0_830 : Index := 0#32
  ![v1245.toNat, 0]
def k0_cond45 (d0 : Dev nD) : BitVec 1 :=
  let c2_i32_605 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_597 : BitVec 32 := 6#32
  let v909 : BitVec 32 := Scalar.subi v19 c6_i32_597
  let c8_i32_598 : BitVec 32 := 8#32
  let v910 : BitVec 32 := Scalar.addi v909 c8_i32_598
  let c8_i32_599 : BitVec 32 := 8#32
  let c0_i32_600 : BitVec 32 := 0#32
  let v911 : BitVec 1 := Scalar.cmpi .eq c8_i32_599 c0_i32_600
  let c1_i32_601 : BitVec 32 := 1#32
  let v912 : BitVec 32 := Scalar.select v911 c1_i32_601 c8_i32_599
  let v913 : BitVec 32 := Scalar.remsi v910 v912
  let c0_i32_603 : BitVec 32 := 0#32
  let v915 : BitVec 1 := Scalar.cmpi .slt v913 c0_i32_603
  let c0_i32_604 : BitVec 32 := 0#32
  let v916 : BitVec 1 := Scalar.cmpi .slt v912 c0_i32_604
  let v917 : BitVec 1 := Scalar.xori v915 v916
  let c0_i32_602 : BitVec 32 := 0#32
  let v914 : BitVec 1 := Scalar.cmpi .ne v913 c0_i32_602
  let v918 : BitVec 1 := Scalar.andi v917 v914
  let v919 : BitVec 32 := Scalar.addi v913 v912
  let v920 : BitVec 32 := Scalar.select v918 v919 v913
  let v921 : BitVec 32 := Scalar.muli c2_i32_605 v920
  let c0_i32_606 : BitVec 32 := 0#32
  let v922 : BitVec 32 := Scalar.addi v921 c0_i32_606
  let v923 : BitVec 1 := Scalar.cmpi .ne v922 v2
  let v924 : BitVec 32 := Scalar.extui v923
  let c0_i32_607 : BitVec 32 := 0#32
  let v925 : BitVec 1 := Scalar.cmpi .ne v924 c0_i32_607
  v925

def k0_off146 (d0 : Dev nD) : Fin 1 → Nat :=
  let c2_i32_605 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_597 : BitVec 32 := 6#32
  let v909 : BitVec 32 := Scalar.subi v19 c6_i32_597
  let c8_i32_598 : BitVec 32 := 8#32
  let v910 : BitVec 32 := Scalar.addi v909 c8_i32_598
  let c8_i32_599 : BitVec 32 := 8#32
  let c0_i32_600 : BitVec 32 := 0#32
  let v911 : BitVec 1 := Scalar.cmpi .eq c8_i32_599 c0_i32_600
  let c1_i32_601 : BitVec 32 := 1#32
  let v912 : BitVec 32 := Scalar.select v911 c1_i32_601 c8_i32_599
  let v913 : BitVec 32 := Scalar.remsi v910 v912
  let c0_i32_603 : BitVec 32 := 0#32
  let v915 : BitVec 1 := Scalar.cmpi .slt v913 c0_i32_603
  let c0_i32_604 : BitVec 32 := 0#32
  let v916 : BitVec 1 := Scalar.cmpi .slt v912 c0_i32_604
  let v917 : BitVec 1 := Scalar.xori v915 v916
  let c0_i32_602 : BitVec 32 := 0#32
  let v914 : BitVec 1 := Scalar.cmpi .ne v913 c0_i32_602
  let v918 : BitVec 1 := Scalar.andi v917 v914
  let v919 : BitVec 32 := Scalar.addi v913 v912
  let v920 : BitVec 32 := Scalar.select v918 v919 v913
  let v921 : BitVec 32 := Scalar.muli c2_i32_605 v920
  let c0_i32_606 : BitVec 32 := 0#32
  let v922 : BitVec 32 := Scalar.addi v921 c0_i32_606
  ![v922.toNat]
def k0_off147 (d0 : Dev nD) : Fin 3 → Nat :=
  let c2_i32_605 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_597 : BitVec 32 := 6#32
  let v909 : BitVec 32 := Scalar.subi v19 c6_i32_597
  let c8_i32_598 : BitVec 32 := 8#32
  let v910 : BitVec 32 := Scalar.addi v909 c8_i32_598
  let c8_i32_599 : BitVec 32 := 8#32
  let c0_i32_600 : BitVec 32 := 0#32
  let v911 : BitVec 1 := Scalar.cmpi .eq c8_i32_599 c0_i32_600
  let c1_i32_601 : BitVec 32 := 1#32
  let v912 : BitVec 32 := Scalar.select v911 c1_i32_601 c8_i32_599
  let v913 : BitVec 32 := Scalar.remsi v910 v912
  let c0_i32_603 : BitVec 32 := 0#32
  let v915 : BitVec 1 := Scalar.cmpi .slt v913 c0_i32_603
  let c0_i32_604 : BitVec 32 := 0#32
  let v916 : BitVec 1 := Scalar.cmpi .slt v912 c0_i32_604
  let v917 : BitVec 1 := Scalar.xori v915 v916
  let c0_i32_602 : BitVec 32 := 0#32
  let v914 : BitVec 1 := Scalar.cmpi .ne v913 c0_i32_602
  let v918 : BitVec 1 := Scalar.andi v917 v914
  let v919 : BitVec 32 := Scalar.addi v913 v912
  let v920 : BitVec 32 := Scalar.select v918 v919 v913
  let v921 : BitVec 32 := Scalar.muli c2_i32_605 v920
  let c0_i32_606 : BitVec 32 := 0#32
  let v922 : BitVec 32 := Scalar.addi v921 c0_i32_606
  let c0_i32_823 : BitVec 32 := 0#32
  let c0_i32_824 : BitVec 32 := 0#32
  ![v922.toNat, 0, 0]
def k0_off148 (d0 : Dev nD) : Fin 3 → Nat :=
  let c2_i32_605 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_597 : BitVec 32 := 6#32
  let v909 : BitVec 32 := Scalar.subi v19 c6_i32_597
  let c8_i32_598 : BitVec 32 := 8#32
  let v910 : BitVec 32 := Scalar.addi v909 c8_i32_598
  let c8_i32_599 : BitVec 32 := 8#32
  let c0_i32_600 : BitVec 32 := 0#32
  let v911 : BitVec 1 := Scalar.cmpi .eq c8_i32_599 c0_i32_600
  let c1_i32_601 : BitVec 32 := 1#32
  let v912 : BitVec 32 := Scalar.select v911 c1_i32_601 c8_i32_599
  let v913 : BitVec 32 := Scalar.remsi v910 v912
  let c0_i32_603 : BitVec 32 := 0#32
  let v915 : BitVec 1 := Scalar.cmpi .slt v913 c0_i32_603
  let c0_i32_604 : BitVec 32 := 0#32
  let v916 : BitVec 1 := Scalar.cmpi .slt v912 c0_i32_604
  let v917 : BitVec 1 := Scalar.xori v915 v916
  let c0_i32_602 : BitVec 32 := 0#32
  let v914 : BitVec 1 := Scalar.cmpi .ne v913 c0_i32_602
  let v918 : BitVec 1 := Scalar.andi v917 v914
  let v919 : BitVec 32 := Scalar.addi v913 v912
  let v920 : BitVec 32 := Scalar.select v918 v919 v913
  let v921 : BitVec 32 := Scalar.muli c2_i32_605 v920
  let c0_i32_606 : BitVec 32 := 0#32
  let v922 : BitVec 32 := Scalar.addi v921 c0_i32_606
  let v1240 : Index := Scalar.indexCast v922
  let c0_827 : Index := 0#32
  let c0_828 : Index := 0#32
  ![v1240.toNat, 0, 0]
def k0_off149 (d0 : Dev nD) : Fin 2 → Nat :=
  let c2_i32_605 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_597 : BitVec 32 := 6#32
  let v909 : BitVec 32 := Scalar.subi v19 c6_i32_597
  let c8_i32_598 : BitVec 32 := 8#32
  let v910 : BitVec 32 := Scalar.addi v909 c8_i32_598
  let c8_i32_599 : BitVec 32 := 8#32
  let c0_i32_600 : BitVec 32 := 0#32
  let v911 : BitVec 1 := Scalar.cmpi .eq c8_i32_599 c0_i32_600
  let c1_i32_601 : BitVec 32 := 1#32
  let v912 : BitVec 32 := Scalar.select v911 c1_i32_601 c8_i32_599
  let v913 : BitVec 32 := Scalar.remsi v910 v912
  let c0_i32_603 : BitVec 32 := 0#32
  let v915 : BitVec 1 := Scalar.cmpi .slt v913 c0_i32_603
  let c0_i32_604 : BitVec 32 := 0#32
  let v916 : BitVec 1 := Scalar.cmpi .slt v912 c0_i32_604
  let v917 : BitVec 1 := Scalar.xori v915 v916
  let c0_i32_602 : BitVec 32 := 0#32
  let v914 : BitVec 1 := Scalar.cmpi .ne v913 c0_i32_602
  let v918 : BitVec 1 := Scalar.andi v917 v914
  let v919 : BitVec 32 := Scalar.addi v913 v912
  let v920 : BitVec 32 := Scalar.select v918 v919 v913
  let v921 : BitVec 32 := Scalar.muli c2_i32_605 v920
  let c0_i32_606 : BitVec 32 := 0#32
  let v922 : BitVec 32 := Scalar.addi v921 c0_i32_606
  let c256_i32_829 : BitVec 32 := 256#32
  let v1244 : BitVec 32 := Scalar.muli v922 c256_i32_829
  let v1245 : Index := Scalar.indexCast v1244
  let c0_830 : Index := 0#32
  ![v1245.toNat, 0]
def k0_cond46 (d0 : Dev nD) : BitVec 1 :=
  let c2_i32_616 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_608 : BitVec 32 := 6#32
  let v926 : BitVec 32 := Scalar.subi v19 c6_i32_608
  let c8_i32_609 : BitVec 32 := 8#32
  let v927 : BitVec 32 := Scalar.addi v926 c8_i32_609
  let c8_i32_610 : BitVec 32 := 8#32
  let c0_i32_611 : BitVec 32 := 0#32
  let v928 : BitVec 1 := Scalar.cmpi .eq c8_i32_610 c0_i32_611
  let c1_i32_612 : BitVec 32 := 1#32
  let v929 : BitVec 32 := Scalar.select v928 c1_i32_612 c8_i32_610
  let v930 : BitVec 32 := Scalar.remsi v927 v929
  let c0_i32_614 : BitVec 32 := 0#32
  let v932 : BitVec 1 := Scalar.cmpi .slt v930 c0_i32_614
  let c0_i32_615 : BitVec 32 := 0#32
  let v933 : BitVec 1 := Scalar.cmpi .slt v929 c0_i32_615
  let v934 : BitVec 1 := Scalar.xori v932 v933
  let c0_i32_613 : BitVec 32 := 0#32
  let v931 : BitVec 1 := Scalar.cmpi .ne v930 c0_i32_613
  let v935 : BitVec 1 := Scalar.andi v934 v931
  let v936 : BitVec 32 := Scalar.addi v930 v929
  let v937 : BitVec 32 := Scalar.select v935 v936 v930
  let v938 : BitVec 32 := Scalar.muli c2_i32_616 v937
  let c1_i32_617 : BitVec 32 := 1#32
  let v939 : BitVec 32 := Scalar.addi v938 c1_i32_617
  let v940 : BitVec 1 := Scalar.cmpi .ne v939 v2
  let v941 : BitVec 32 := Scalar.extui v940
  let c0_i32_618 : BitVec 32 := 0#32
  let v942 : BitVec 1 := Scalar.cmpi .ne v941 c0_i32_618
  v942

def k0_off150 (d0 : Dev nD) : Fin 1 → Nat :=
  let c2_i32_616 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_608 : BitVec 32 := 6#32
  let v926 : BitVec 32 := Scalar.subi v19 c6_i32_608
  let c8_i32_609 : BitVec 32 := 8#32
  let v927 : BitVec 32 := Scalar.addi v926 c8_i32_609
  let c8_i32_610 : BitVec 32 := 8#32
  let c0_i32_611 : BitVec 32 := 0#32
  let v928 : BitVec 1 := Scalar.cmpi .eq c8_i32_610 c0_i32_611
  let c1_i32_612 : BitVec 32 := 1#32
  let v929 : BitVec 32 := Scalar.select v928 c1_i32_612 c8_i32_610
  let v930 : BitVec 32 := Scalar.remsi v927 v929
  let c0_i32_614 : BitVec 32 := 0#32
  let v932 : BitVec 1 := Scalar.cmpi .slt v930 c0_i32_614
  let c0_i32_615 : BitVec 32 := 0#32
  let v933 : BitVec 1 := Scalar.cmpi .slt v929 c0_i32_615
  let v934 : BitVec 1 := Scalar.xori v932 v933
  let c0_i32_613 : BitVec 32 := 0#32
  let v931 : BitVec 1 := Scalar.cmpi .ne v930 c0_i32_613
  let v935 : BitVec 1 := Scalar.andi v934 v931
  let v936 : BitVec 32 := Scalar.addi v930 v929
  let v937 : BitVec 32 := Scalar.select v935 v936 v930
  let v938 : BitVec 32 := Scalar.muli c2_i32_616 v937
  let c1_i32_617 : BitVec 32 := 1#32
  let v939 : BitVec 32 := Scalar.addi v938 c1_i32_617
  ![v939.toNat]
def k0_off151 (d0 : Dev nD) : Fin 3 → Nat :=
  let c2_i32_616 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_608 : BitVec 32 := 6#32
  let v926 : BitVec 32 := Scalar.subi v19 c6_i32_608
  let c8_i32_609 : BitVec 32 := 8#32
  let v927 : BitVec 32 := Scalar.addi v926 c8_i32_609
  let c8_i32_610 : BitVec 32 := 8#32
  let c0_i32_611 : BitVec 32 := 0#32
  let v928 : BitVec 1 := Scalar.cmpi .eq c8_i32_610 c0_i32_611
  let c1_i32_612 : BitVec 32 := 1#32
  let v929 : BitVec 32 := Scalar.select v928 c1_i32_612 c8_i32_610
  let v930 : BitVec 32 := Scalar.remsi v927 v929
  let c0_i32_614 : BitVec 32 := 0#32
  let v932 : BitVec 1 := Scalar.cmpi .slt v930 c0_i32_614
  let c0_i32_615 : BitVec 32 := 0#32
  let v933 : BitVec 1 := Scalar.cmpi .slt v929 c0_i32_615
  let v934 : BitVec 1 := Scalar.xori v932 v933
  let c0_i32_613 : BitVec 32 := 0#32
  let v931 : BitVec 1 := Scalar.cmpi .ne v930 c0_i32_613
  let v935 : BitVec 1 := Scalar.andi v934 v931
  let v936 : BitVec 32 := Scalar.addi v930 v929
  let v937 : BitVec 32 := Scalar.select v935 v936 v930
  let v938 : BitVec 32 := Scalar.muli c2_i32_616 v937
  let c1_i32_617 : BitVec 32 := 1#32
  let v939 : BitVec 32 := Scalar.addi v938 c1_i32_617
  let c0_i32_823 : BitVec 32 := 0#32
  let c0_i32_824 : BitVec 32 := 0#32
  ![v939.toNat, 0, 0]
def k0_off152 (d0 : Dev nD) : Fin 3 → Nat :=
  let c2_i32_616 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_608 : BitVec 32 := 6#32
  let v926 : BitVec 32 := Scalar.subi v19 c6_i32_608
  let c8_i32_609 : BitVec 32 := 8#32
  let v927 : BitVec 32 := Scalar.addi v926 c8_i32_609
  let c8_i32_610 : BitVec 32 := 8#32
  let c0_i32_611 : BitVec 32 := 0#32
  let v928 : BitVec 1 := Scalar.cmpi .eq c8_i32_610 c0_i32_611
  let c1_i32_612 : BitVec 32 := 1#32
  let v929 : BitVec 32 := Scalar.select v928 c1_i32_612 c8_i32_610
  let v930 : BitVec 32 := Scalar.remsi v927 v929
  let c0_i32_614 : BitVec 32 := 0#32
  let v932 : BitVec 1 := Scalar.cmpi .slt v930 c0_i32_614
  let c0_i32_615 : BitVec 32 := 0#32
  let v933 : BitVec 1 := Scalar.cmpi .slt v929 c0_i32_615
  let v934 : BitVec 1 := Scalar.xori v932 v933
  let c0_i32_613 : BitVec 32 := 0#32
  let v931 : BitVec 1 := Scalar.cmpi .ne v930 c0_i32_613
  let v935 : BitVec 1 := Scalar.andi v934 v931
  let v936 : BitVec 32 := Scalar.addi v930 v929
  let v937 : BitVec 32 := Scalar.select v935 v936 v930
  let v938 : BitVec 32 := Scalar.muli c2_i32_616 v937
  let c1_i32_617 : BitVec 32 := 1#32
  let v939 : BitVec 32 := Scalar.addi v938 c1_i32_617
  let v1240 : Index := Scalar.indexCast v939
  let c0_827 : Index := 0#32
  let c0_828 : Index := 0#32
  ![v1240.toNat, 0, 0]
def k0_off153 (d0 : Dev nD) : Fin 2 → Nat :=
  let c2_i32_616 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c6_i32_608 : BitVec 32 := 6#32
  let v926 : BitVec 32 := Scalar.subi v19 c6_i32_608
  let c8_i32_609 : BitVec 32 := 8#32
  let v927 : BitVec 32 := Scalar.addi v926 c8_i32_609
  let c8_i32_610 : BitVec 32 := 8#32
  let c0_i32_611 : BitVec 32 := 0#32
  let v928 : BitVec 1 := Scalar.cmpi .eq c8_i32_610 c0_i32_611
  let c1_i32_612 : BitVec 32 := 1#32
  let v929 : BitVec 32 := Scalar.select v928 c1_i32_612 c8_i32_610
  let v930 : BitVec 32 := Scalar.remsi v927 v929
  let c0_i32_614 : BitVec 32 := 0#32
  let v932 : BitVec 1 := Scalar.cmpi .slt v930 c0_i32_614
  let c0_i32_615 : BitVec 32 := 0#32
  let v933 : BitVec 1 := Scalar.cmpi .slt v929 c0_i32_615
  let v934 : BitVec 1 := Scalar.xori v932 v933
  let c0_i32_613 : BitVec 32 := 0#32
  let v931 : BitVec 1 := Scalar.cmpi .ne v930 c0_i32_613
  let v935 : BitVec 1 := Scalar.andi v934 v931
  let v936 : BitVec 32 := Scalar.addi v930 v929
  let v937 : BitVec 32 := Scalar.select v935 v936 v930
  let v938 : BitVec 32 := Scalar.muli c2_i32_616 v937
  let c1_i32_617 : BitVec 32 := 1#32
  let v939 : BitVec 32 := Scalar.addi v938 c1_i32_617
  let c256_i32_829 : BitVec 32 := 256#32
  let v1244 : BitVec 32 := Scalar.muli v939 c256_i32_829
  let v1245 : Index := Scalar.indexCast v1244
  let c0_830 : Index := 0#32
  ![v1245.toNat, 0]
def k0_cond47 (d0 : Dev nD) : BitVec 1 :=
  let c2_i32_627 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_619 : BitVec 32 := 7#32
  let v943 : BitVec 32 := Scalar.subi v19 c7_i32_619
  let c8_i32_620 : BitVec 32 := 8#32
  let v944 : BitVec 32 := Scalar.addi v943 c8_i32_620
  let c8_i32_621 : BitVec 32 := 8#32
  let c0_i32_622 : BitVec 32 := 0#32
  let v945 : BitVec 1 := Scalar.cmpi .eq c8_i32_621 c0_i32_622
  let c1_i32_623 : BitVec 32 := 1#32
  let v946 : BitVec 32 := Scalar.select v945 c1_i32_623 c8_i32_621
  let v947 : BitVec 32 := Scalar.remsi v944 v946
  let c0_i32_625 : BitVec 32 := 0#32
  let v949 : BitVec 1 := Scalar.cmpi .slt v947 c0_i32_625
  let c0_i32_626 : BitVec 32 := 0#32
  let v950 : BitVec 1 := Scalar.cmpi .slt v946 c0_i32_626
  let v951 : BitVec 1 := Scalar.xori v949 v950
  let c0_i32_624 : BitVec 32 := 0#32
  let v948 : BitVec 1 := Scalar.cmpi .ne v947 c0_i32_624
  let v952 : BitVec 1 := Scalar.andi v951 v948
  let v953 : BitVec 32 := Scalar.addi v947 v946
  let v954 : BitVec 32 := Scalar.select v952 v953 v947
  let v955 : BitVec 32 := Scalar.muli c2_i32_627 v954
  let c0_i32_628 : BitVec 32 := 0#32
  let v956 : BitVec 32 := Scalar.addi v955 c0_i32_628
  let v957 : BitVec 1 := Scalar.cmpi .ne v956 v2
  let v958 : BitVec 32 := Scalar.extui v957
  let c0_i32_629 : BitVec 32 := 0#32
  let v959 : BitVec 1 := Scalar.cmpi .ne v958 c0_i32_629
  v959

def k0_off154 (d0 : Dev nD) : Fin 1 → Nat :=
  let c2_i32_627 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_619 : BitVec 32 := 7#32
  let v943 : BitVec 32 := Scalar.subi v19 c7_i32_619
  let c8_i32_620 : BitVec 32 := 8#32
  let v944 : BitVec 32 := Scalar.addi v943 c8_i32_620
  let c8_i32_621 : BitVec 32 := 8#32
  let c0_i32_622 : BitVec 32 := 0#32
  let v945 : BitVec 1 := Scalar.cmpi .eq c8_i32_621 c0_i32_622
  let c1_i32_623 : BitVec 32 := 1#32
  let v946 : BitVec 32 := Scalar.select v945 c1_i32_623 c8_i32_621
  let v947 : BitVec 32 := Scalar.remsi v944 v946
  let c0_i32_625 : BitVec 32 := 0#32
  let v949 : BitVec 1 := Scalar.cmpi .slt v947 c0_i32_625
  let c0_i32_626 : BitVec 32 := 0#32
  let v950 : BitVec 1 := Scalar.cmpi .slt v946 c0_i32_626
  let v951 : BitVec 1 := Scalar.xori v949 v950
  let c0_i32_624 : BitVec 32 := 0#32
  let v948 : BitVec 1 := Scalar.cmpi .ne v947 c0_i32_624
  let v952 : BitVec 1 := Scalar.andi v951 v948
  let v953 : BitVec 32 := Scalar.addi v947 v946
  let v954 : BitVec 32 := Scalar.select v952 v953 v947
  let v955 : BitVec 32 := Scalar.muli c2_i32_627 v954
  let c0_i32_628 : BitVec 32 := 0#32
  let v956 : BitVec 32 := Scalar.addi v955 c0_i32_628
  ![v956.toNat]
def k0_off155 (d0 : Dev nD) : Fin 3 → Nat :=
  let c2_i32_627 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_619 : BitVec 32 := 7#32
  let v943 : BitVec 32 := Scalar.subi v19 c7_i32_619
  let c8_i32_620 : BitVec 32 := 8#32
  let v944 : BitVec 32 := Scalar.addi v943 c8_i32_620
  let c8_i32_621 : BitVec 32 := 8#32
  let c0_i32_622 : BitVec 32 := 0#32
  let v945 : BitVec 1 := Scalar.cmpi .eq c8_i32_621 c0_i32_622
  let c1_i32_623 : BitVec 32 := 1#32
  let v946 : BitVec 32 := Scalar.select v945 c1_i32_623 c8_i32_621
  let v947 : BitVec 32 := Scalar.remsi v944 v946
  let c0_i32_625 : BitVec 32 := 0#32
  let v949 : BitVec 1 := Scalar.cmpi .slt v947 c0_i32_625
  let c0_i32_626 : BitVec 32 := 0#32
  let v950 : BitVec 1 := Scalar.cmpi .slt v946 c0_i32_626
  let v951 : BitVec 1 := Scalar.xori v949 v950
  let c0_i32_624 : BitVec 32 := 0#32
  let v948 : BitVec 1 := Scalar.cmpi .ne v947 c0_i32_624
  let v952 : BitVec 1 := Scalar.andi v951 v948
  let v953 : BitVec 32 := Scalar.addi v947 v946
  let v954 : BitVec 32 := Scalar.select v952 v953 v947
  let v955 : BitVec 32 := Scalar.muli c2_i32_627 v954
  let c0_i32_628 : BitVec 32 := 0#32
  let v956 : BitVec 32 := Scalar.addi v955 c0_i32_628
  let c0_i32_823 : BitVec 32 := 0#32
  let c0_i32_824 : BitVec 32 := 0#32
  ![v956.toNat, 0, 0]
def k0_off156 (d0 : Dev nD) : Fin 3 → Nat :=
  let c2_i32_627 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_619 : BitVec 32 := 7#32
  let v943 : BitVec 32 := Scalar.subi v19 c7_i32_619
  let c8_i32_620 : BitVec 32 := 8#32
  let v944 : BitVec 32 := Scalar.addi v943 c8_i32_620
  let c8_i32_621 : BitVec 32 := 8#32
  let c0_i32_622 : BitVec 32 := 0#32
  let v945 : BitVec 1 := Scalar.cmpi .eq c8_i32_621 c0_i32_622
  let c1_i32_623 : BitVec 32 := 1#32
  let v946 : BitVec 32 := Scalar.select v945 c1_i32_623 c8_i32_621
  let v947 : BitVec 32 := Scalar.remsi v944 v946
  let c0_i32_625 : BitVec 32 := 0#32
  let v949 : BitVec 1 := Scalar.cmpi .slt v947 c0_i32_625
  let c0_i32_626 : BitVec 32 := 0#32
  let v950 : BitVec 1 := Scalar.cmpi .slt v946 c0_i32_626
  let v951 : BitVec 1 := Scalar.xori v949 v950
  let c0_i32_624 : BitVec 32 := 0#32
  let v948 : BitVec 1 := Scalar.cmpi .ne v947 c0_i32_624
  let v952 : BitVec 1 := Scalar.andi v951 v948
  let v953 : BitVec 32 := Scalar.addi v947 v946
  let v954 : BitVec 32 := Scalar.select v952 v953 v947
  let v955 : BitVec 32 := Scalar.muli c2_i32_627 v954
  let c0_i32_628 : BitVec 32 := 0#32
  let v956 : BitVec 32 := Scalar.addi v955 c0_i32_628
  let v1240 : Index := Scalar.indexCast v956
  let c0_827 : Index := 0#32
  let c0_828 : Index := 0#32
  ![v1240.toNat, 0, 0]
def k0_off157 (d0 : Dev nD) : Fin 2 → Nat :=
  let c2_i32_627 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_619 : BitVec 32 := 7#32
  let v943 : BitVec 32 := Scalar.subi v19 c7_i32_619
  let c8_i32_620 : BitVec 32 := 8#32
  let v944 : BitVec 32 := Scalar.addi v943 c8_i32_620
  let c8_i32_621 : BitVec 32 := 8#32
  let c0_i32_622 : BitVec 32 := 0#32
  let v945 : BitVec 1 := Scalar.cmpi .eq c8_i32_621 c0_i32_622
  let c1_i32_623 : BitVec 32 := 1#32
  let v946 : BitVec 32 := Scalar.select v945 c1_i32_623 c8_i32_621
  let v947 : BitVec 32 := Scalar.remsi v944 v946
  let c0_i32_625 : BitVec 32 := 0#32
  let v949 : BitVec 1 := Scalar.cmpi .slt v947 c0_i32_625
  let c0_i32_626 : BitVec 32 := 0#32
  let v950 : BitVec 1 := Scalar.cmpi .slt v946 c0_i32_626
  let v951 : BitVec 1 := Scalar.xori v949 v950
  let c0_i32_624 : BitVec 32 := 0#32
  let v948 : BitVec 1 := Scalar.cmpi .ne v947 c0_i32_624
  let v952 : BitVec 1 := Scalar.andi v951 v948
  let v953 : BitVec 32 := Scalar.addi v947 v946
  let v954 : BitVec 32 := Scalar.select v952 v953 v947
  let v955 : BitVec 32 := Scalar.muli c2_i32_627 v954
  let c0_i32_628 : BitVec 32 := 0#32
  let v956 : BitVec 32 := Scalar.addi v955 c0_i32_628
  let c256_i32_829 : BitVec 32 := 256#32
  let v1244 : BitVec 32 := Scalar.muli v956 c256_i32_829
  let v1245 : Index := Scalar.indexCast v1244
  let c0_830 : Index := 0#32
  ![v1245.toNat, 0]
def k0_cond48 (d0 : Dev nD) : BitVec 1 :=
  let c2_i32_638 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_630 : BitVec 32 := 7#32
  let v960 : BitVec 32 := Scalar.subi v19 c7_i32_630
  let c8_i32_631 : BitVec 32 := 8#32
  let v961 : BitVec 32 := Scalar.addi v960 c8_i32_631
  let c8_i32_632 : BitVec 32 := 8#32
  let c0_i32_633 : BitVec 32 := 0#32
  let v962 : BitVec 1 := Scalar.cmpi .eq c8_i32_632 c0_i32_633
  let c1_i32_634 : BitVec 32 := 1#32
  let v963 : BitVec 32 := Scalar.select v962 c1_i32_634 c8_i32_632
  let v964 : BitVec 32 := Scalar.remsi v961 v963
  let c0_i32_636 : BitVec 32 := 0#32
  let v966 : BitVec 1 := Scalar.cmpi .slt v964 c0_i32_636
  let c0_i32_637 : BitVec 32 := 0#32
  let v967 : BitVec 1 := Scalar.cmpi .slt v963 c0_i32_637
  let v968 : BitVec 1 := Scalar.xori v966 v967
  let c0_i32_635 : BitVec 32 := 0#32
  let v965 : BitVec 1 := Scalar.cmpi .ne v964 c0_i32_635
  let v969 : BitVec 1 := Scalar.andi v968 v965
  let v970 : BitVec 32 := Scalar.addi v964 v963
  let v971 : BitVec 32 := Scalar.select v969 v970 v964
  let v972 : BitVec 32 := Scalar.muli c2_i32_638 v971
  let c1_i32_639 : BitVec 32 := 1#32
  let v973 : BitVec 32 := Scalar.addi v972 c1_i32_639
  let v974 : BitVec 1 := Scalar.cmpi .ne v973 v2
  let v975 : BitVec 32 := Scalar.extui v974
  let c0_i32_640 : BitVec 32 := 0#32
  let v976 : BitVec 1 := Scalar.cmpi .ne v975 c0_i32_640
  v976

def k0_off158 (d0 : Dev nD) : Fin 1 → Nat :=
  let c2_i32_638 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_630 : BitVec 32 := 7#32
  let v960 : BitVec 32 := Scalar.subi v19 c7_i32_630
  let c8_i32_631 : BitVec 32 := 8#32
  let v961 : BitVec 32 := Scalar.addi v960 c8_i32_631
  let c8_i32_632 : BitVec 32 := 8#32
  let c0_i32_633 : BitVec 32 := 0#32
  let v962 : BitVec 1 := Scalar.cmpi .eq c8_i32_632 c0_i32_633
  let c1_i32_634 : BitVec 32 := 1#32
  let v963 : BitVec 32 := Scalar.select v962 c1_i32_634 c8_i32_632
  let v964 : BitVec 32 := Scalar.remsi v961 v963
  let c0_i32_636 : BitVec 32 := 0#32
  let v966 : BitVec 1 := Scalar.cmpi .slt v964 c0_i32_636
  let c0_i32_637 : BitVec 32 := 0#32
  let v967 : BitVec 1 := Scalar.cmpi .slt v963 c0_i32_637
  let v968 : BitVec 1 := Scalar.xori v966 v967
  let c0_i32_635 : BitVec 32 := 0#32
  let v965 : BitVec 1 := Scalar.cmpi .ne v964 c0_i32_635
  let v969 : BitVec 1 := Scalar.andi v968 v965
  let v970 : BitVec 32 := Scalar.addi v964 v963
  let v971 : BitVec 32 := Scalar.select v969 v970 v964
  let v972 : BitVec 32 := Scalar.muli c2_i32_638 v971
  let c1_i32_639 : BitVec 32 := 1#32
  let v973 : BitVec 32 := Scalar.addi v972 c1_i32_639
  ![v973.toNat]
def k0_off159 (d0 : Dev nD) : Fin 3 → Nat :=
  let c2_i32_638 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_630 : BitVec 32 := 7#32
  let v960 : BitVec 32 := Scalar.subi v19 c7_i32_630
  let c8_i32_631 : BitVec 32 := 8#32
  let v961 : BitVec 32 := Scalar.addi v960 c8_i32_631
  let c8_i32_632 : BitVec 32 := 8#32
  let c0_i32_633 : BitVec 32 := 0#32
  let v962 : BitVec 1 := Scalar.cmpi .eq c8_i32_632 c0_i32_633
  let c1_i32_634 : BitVec 32 := 1#32
  let v963 : BitVec 32 := Scalar.select v962 c1_i32_634 c8_i32_632
  let v964 : BitVec 32 := Scalar.remsi v961 v963
  let c0_i32_636 : BitVec 32 := 0#32
  let v966 : BitVec 1 := Scalar.cmpi .slt v964 c0_i32_636
  let c0_i32_637 : BitVec 32 := 0#32
  let v967 : BitVec 1 := Scalar.cmpi .slt v963 c0_i32_637
  let v968 : BitVec 1 := Scalar.xori v966 v967
  let c0_i32_635 : BitVec 32 := 0#32
  let v965 : BitVec 1 := Scalar.cmpi .ne v964 c0_i32_635
  let v969 : BitVec 1 := Scalar.andi v968 v965
  let v970 : BitVec 32 := Scalar.addi v964 v963
  let v971 : BitVec 32 := Scalar.select v969 v970 v964
  let v972 : BitVec 32 := Scalar.muli c2_i32_638 v971
  let c1_i32_639 : BitVec 32 := 1#32
  let v973 : BitVec 32 := Scalar.addi v972 c1_i32_639
  let c0_i32_823 : BitVec 32 := 0#32
  let c0_i32_824 : BitVec 32 := 0#32
  ![v973.toNat, 0, 0]
def k0_off160 (d0 : Dev nD) : Fin 3 → Nat :=
  let c2_i32_638 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_630 : BitVec 32 := 7#32
  let v960 : BitVec 32 := Scalar.subi v19 c7_i32_630
  let c8_i32_631 : BitVec 32 := 8#32
  let v961 : BitVec 32 := Scalar.addi v960 c8_i32_631
  let c8_i32_632 : BitVec 32 := 8#32
  let c0_i32_633 : BitVec 32 := 0#32
  let v962 : BitVec 1 := Scalar.cmpi .eq c8_i32_632 c0_i32_633
  let c1_i32_634 : BitVec 32 := 1#32
  let v963 : BitVec 32 := Scalar.select v962 c1_i32_634 c8_i32_632
  let v964 : BitVec 32 := Scalar.remsi v961 v963
  let c0_i32_636 : BitVec 32 := 0#32
  let v966 : BitVec 1 := Scalar.cmpi .slt v964 c0_i32_636
  let c0_i32_637 : BitVec 32 := 0#32
  let v967 : BitVec 1 := Scalar.cmpi .slt v963 c0_i32_637
  let v968 : BitVec 1 := Scalar.xori v966 v967
  let c0_i32_635 : BitVec 32 := 0#32
  let v965 : BitVec 1 := Scalar.cmpi .ne v964 c0_i32_635
  let v969 : BitVec 1 := Scalar.andi v968 v965
  let v970 : BitVec 32 := Scalar.addi v964 v963
  let v971 : BitVec 32 := Scalar.select v969 v970 v964
  let v972 : BitVec 32 := Scalar.muli c2_i32_638 v971
  let c1_i32_639 : BitVec 32 := 1#32
  let v973 : BitVec 32 := Scalar.addi v972 c1_i32_639
  let v1240 : Index := Scalar.indexCast v973
  let c0_827 : Index := 0#32
  let c0_828 : Index := 0#32
  ![v1240.toNat, 0, 0]
def k0_off161 (d0 : Dev nD) : Fin 2 → Nat :=
  let c2_i32_638 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c7_i32_630 : BitVec 32 := 7#32
  let v960 : BitVec 32 := Scalar.subi v19 c7_i32_630
  let c8_i32_631 : BitVec 32 := 8#32
  let v961 : BitVec 32 := Scalar.addi v960 c8_i32_631
  let c8_i32_632 : BitVec 32 := 8#32
  let c0_i32_633 : BitVec 32 := 0#32
  let v962 : BitVec 1 := Scalar.cmpi .eq c8_i32_632 c0_i32_633
  let c1_i32_634 : BitVec 32 := 1#32
  let v963 : BitVec 32 := Scalar.select v962 c1_i32_634 c8_i32_632
  let v964 : BitVec 32 := Scalar.remsi v961 v963
  let c0_i32_636 : BitVec 32 := 0#32
  let v966 : BitVec 1 := Scalar.cmpi .slt v964 c0_i32_636
  let c0_i32_637 : BitVec 32 := 0#32
  let v967 : BitVec 1 := Scalar.cmpi .slt v963 c0_i32_637
  let v968 : BitVec 1 := Scalar.xori v966 v967
  let c0_i32_635 : BitVec 32 := 0#32
  let v965 : BitVec 1 := Scalar.cmpi .ne v964 c0_i32_635
  let v969 : BitVec 1 := Scalar.andi v968 v965
  let v970 : BitVec 32 := Scalar.addi v964 v963
  let v971 : BitVec 32 := Scalar.select v969 v970 v964
  let v972 : BitVec 32 := Scalar.muli c2_i32_638 v971
  let c1_i32_639 : BitVec 32 := 1#32
  let v973 : BitVec 32 := Scalar.addi v972 c1_i32_639
  let c256_i32_829 : BitVec 32 := 256#32
  let v1244 : BitVec 32 := Scalar.muli v973 c256_i32_829
  let v1245 : Index := Scalar.indexCast v1244
  let c0_830 : Index := 0#32
  ![v1245.toNat, 0]
def k0_off162 (d0 : Dev nD) (c1_i32_641 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v977 : BitVec 32 := Scalar.addi v2 c1_i32_641
  let c16_i32_642 : BitVec 32 := 16#32
  let c0_i32_643 : BitVec 32 := 0#32
  let v978 : BitVec 1 := Scalar.cmpi .eq c16_i32_642 c0_i32_643
  let c1_i32_644 : BitVec 32 := 1#32
  let v979 : BitVec 32 := Scalar.select v978 c1_i32_644 c16_i32_642
  let v980 : BitVec 32 := Scalar.remsi v977 v979
  let c0_i32_646 : BitVec 32 := 0#32
  let v982 : BitVec 1 := Scalar.cmpi .slt v980 c0_i32_646
  let c0_i32_647 : BitVec 32 := 0#32
  let v983 : BitVec 1 := Scalar.cmpi .slt v979 c0_i32_647
  let v984 : BitVec 1 := Scalar.xori v982 v983
  let c0_i32_645 : BitVec 32 := 0#32
  let v981 : BitVec 1 := Scalar.cmpi .ne v980 c0_i32_645
  let v985 : BitVec 1 := Scalar.andi v984 v981
  let v986 : BitVec 32 := Scalar.addi v980 v979
  let v987 : BitVec 32 := Scalar.select v985 v986 v980
  ![v987.toNat]
def k0_off163 (d0 : Dev nD) (c1_i32_641 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v977 : BitVec 32 := Scalar.addi v2 c1_i32_641
  let c16_i32_642 : BitVec 32 := 16#32
  let c0_i32_643 : BitVec 32 := 0#32
  let v978 : BitVec 1 := Scalar.cmpi .eq c16_i32_642 c0_i32_643
  let c1_i32_644 : BitVec 32 := 1#32
  let v979 : BitVec 32 := Scalar.select v978 c1_i32_644 c16_i32_642
  let v980 : BitVec 32 := Scalar.remsi v977 v979
  let c0_i32_646 : BitVec 32 := 0#32
  let v982 : BitVec 1 := Scalar.cmpi .slt v980 c0_i32_646
  let c0_i32_647 : BitVec 32 := 0#32
  let v983 : BitVec 1 := Scalar.cmpi .slt v979 c0_i32_647
  let v984 : BitVec 1 := Scalar.xori v982 v983
  let c0_i32_645 : BitVec 32 := 0#32
  let v981 : BitVec 1 := Scalar.cmpi .ne v980 c0_i32_645
  let v985 : BitVec 1 := Scalar.andi v984 v981
  let v986 : BitVec 32 := Scalar.addi v980 v979
  let v987 : BitVec 32 := Scalar.select v985 v986 v980
  let c0_i32_649 : BitVec 32 := 0#32
  let c0_i32_650 : BitVec 32 := 0#32
  ![v987.toNat, 0, 0]
def k0_off164 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_651 : BitVec 32 := 0#32
  let c0_i32_652 : BitVec 32 := 0#32
  ![v2.toNat, 0, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Pieces.lean ====
module

public import proofs.«01_k».proof.Proof.Gen.KernelIdeal
public import proofs.«01_k».proof.Proof.Gen.KernelIdeal.Launch
public import Idealize.ShloMosaic.Lib.Ring
public import Idealize.ShloMosaic.Lib.Pipeline.Kit
public import Idealize.ShloMosaic.Lib.Pipeline.ValueKit
public import Idealize.ShloMosaic.Lib.Tactic

@[expose] public section

noncomputable section

/-!
# The pieces of the buffers

The two slot buffers are worked on slot by slot, the staged result row block by row block, the two
halves of the weight buffer one at a time, and the weight array column block by column block.  Here
are those pieces as sets of elements, and what the views of the kernel are in terms of them.
-/

namespace Cert.GemmA2A

open Cert.KernelIdeal Cert.KernelIdeal.Gen
open Idealize.ShloMosaic Idealize.ShloMosaic.TcCoe

/-! ## The sets -/

/-- Slot `e` of a slot buffer. -/
def slotSet (e : Fin 16) : Finset S16x256x128.Idx := Finset.univ.filter fun i => (i (0 : Fin 3)).val = e.val
/-- Row block `e` of the staged result. -/
def rowSet (e : Fin 16) : Finset S4096x128.Idx := Finset.univ.filter fun i => (i (0 : Fin 2)).val / 256 = e.val
/-- Half `s` of the weight buffer. -/
def halfSet (s : Fin 2) : Finset S2x4096x256.Idx := Finset.univ.filter fun i => (i (0 : Fin 3)).val = s.val
/-- Column block `b` of the weight array. -/
def colSet (b : Fin 8) : Finset S4096x2048.Idx := Finset.univ.filter fun i => (i (1 : Fin 2)).val / 256 = b.val

theorem mem_slotSet {e : Fin 16} {i : S16x256x128.Idx} : i ∈ slotSet e ↔ (i (0 : Fin 3)).val = e.val := by simp [slotSet]
theorem mem_rowSet {e : Fin 16} {i : S4096x128.Idx} : i ∈ rowSet e ↔ (i (0 : Fin 2)).val / 256 = e.val := by simp [rowSet]
theorem mem_halfSet {s : Fin 2} {i : S2x4096x256.Idx} : i ∈ halfSet s ↔ (i (0 : Fin 3)).val = s.val := by simp [halfSet]
theorem mem_colSet {b : Fin 8} {i : S4096x2048.Idx} : i ∈ colSet b ↔ (i (1 : Fin 2)).val / 256 = b.val := by simp [colSet]

theorem slot_disjoint (e e' : Fin 16) (h : e ≠ e') : Disjoint (slotSet e) (slotSet e') :=
  Finset.disjoint_left.2 fun i hi hi' => h (Fin.ext ((mem_slotSet.1 hi).symm.trans (mem_slotSet.1 hi')))
theorem row_disjoint (e e' : Fin 16) (h : e ≠ e') : Disjoint (rowSet e) (rowSet e') :=
  Finset.disjoint_left.2 fun i hi hi' => h (Fin.ext ((mem_rowSet.1 hi).symm.trans (mem_rowSet.1 hi')))
theorem half_disjoint (e e' : Fin 2) (h : e ≠ e') : Disjoint (halfSet e) (halfSet e') :=
  Finset.disjoint_left.2 fun i hi hi' => h (Fin.ext ((mem_halfSet.1 hi).symm.trans (mem_halfSet.1 hi')))
theorem col_disjoint (e e' : Fin 8) (h : e ≠ e') : Disjoint (colSet e) (colSet e') :=
  Finset.disjoint_left.2 fun i hi hi' => h (Fin.ext ((mem_colSet.1 hi).symm.trans (mem_colSet.1 hi')))

theorem slot_cover : Finset.univ.biUnion slotSet = Finset.univ := by
  ext i; simp only [Finset.mem_biUnion, Finset.mem_univ, true_and, iff_true]
  exact ⟨i (0 : Fin 3), mem_slotSet.2 rfl⟩
theorem row_cover : Finset.univ.biUnion rowSet = Finset.univ := by
  ext i; simp only [Finset.mem_biUnion, Finset.mem_univ, true_and, iff_true]
  have h : (i (0 : Fin 2)).val < 4096 := (i (0 : Fin 2)).isLt
  exact ⟨⟨(i (0 : Fin 2)).val / 256, by omega⟩, mem_rowSet.2 rfl⟩
theorem half_cover : Finset.univ.biUnion halfSet = Finset.univ := by
  ext i; simp only [Finset.mem_biUnion, Finset.mem_univ, true_and, iff_true]
  exact ⟨i (0 : Fin 3), mem_halfSet.2 rfl⟩
theorem col_cover : Finset.univ.biUnion colSet = Finset.univ := by
  ext i; simp only [Finset.mem_biUnion, Finset.mem_univ, true_and, iff_true]
  have h : (i (1 : Fin 2)).val < 2048 := (i (1 : Fin 2)).isLt
  exact ⟨⟨(i (1 : Fin 2)).val / 256, by omega⟩, mem_colSet.2 rfl⟩

/-! ## Rectangles at a piece -/

theorem slot_inb (e : Fin 16) (a : Fin S16x256x128.rank) : (![e.val, 0, 0] : Fin 3 → ℕ) a + S1x256x128.size a ≤ S16x256x128.size a := by
  revert e a; decide
theorem row_inb (e : Fin 16) (a : Fin S4096x128.rank) : (![256 * e.val, 0] : Fin 2 → ℕ) a + S256x128.size a ≤ S4096x128.size a := by
  revert e a; decide
theorem half_inb (s : Fin 2) (a : Fin S2x4096x256.rank) : (![s.val, 0, 0] : Fin 3 → ℕ) a + S1x4096x256.size a ≤ S2x4096x256.size a := by
  revert s a; decide
theorem col_inb (b : Fin 8) (a : Fin S4096x2048.rank) : (![0, 256 * b.val] : Fin 2 → ℕ) a + S4096x256.size a ≤ S4096x2048.size a := by
  revert b a; decide

/-- The rectangle of slot `e`. -/
abbrev slotR (e : Fin 16) : Rect S16x256x128 := Rect.unit (s := S16x256x128) ![e.val, 0, 0] S1x256x128.size (slot_inb e)
/-- The rectangle of row block `e`. -/
abbrev rowR (e : Fin 16) : Rect S4096x128 := Rect.unit (s := S4096x128) ![256 * e.val, 0] S256x128.size (row_inb e)
/-- The rectangle of half `s`. -/
abbrev halfR (s : Fin 2) : Rect S2x4096x256 := Rect.unit (s := S2x4096x256) ![s.val, 0, 0] S1x4096x256.size (half_inb s)
/-- The rectangle of column block `b`. -/
abbrev colR (b : Fin 8) : Rect S4096x2048 := Rect.unit (s := S4096x2048) ![0, 256 * b.val] S4096x256.size (col_inb b)

theorem slotR_set (e : Fin 16) : (slotR e).set = slotSet e := by
  ext i
  rw [Rect.mem_set_unit, mem_slotSet]
  have h1 : (i (1 : Fin 3)).val < 256 := (i (1 : Fin 3)).isLt
  have h2 : (i (2 : Fin 3)).val < 128 := (i (2 : Fin 3)).isLt
  constructor
  · intro h; have h0 : e.val ≤ (i (0 : Fin 3)).val ∧ (i (0 : Fin 3)).val < e.val + 1 := h (0 : Fin 3); omega
  · intro h a
    match a with
    | ⟨0, _⟩ => show e.val ≤ (i (0 : Fin 3)).val ∧ (i (0 : Fin 3)).val < e.val + 1; omega
    | ⟨1, _⟩ => show 0 ≤ (i (1 : Fin 3)).val ∧ (i (1 : Fin 3)).val < 0 + 256; omega
    | ⟨2, _⟩ => show 0 ≤ (i (2 : Fin 3)).val ∧ (i (2 : Fin 3)).val < 0 + 128; omega
theorem rowR_set (e : Fin 16) : (rowR e).set = rowSet e := by
  ext i
  rw [Rect.mem_set_unit, mem_rowSet]
  have h1 : (i (1 : Fin 2)).val < 128 := (i (1 : Fin 2)).isLt
  constructor
  · intro h; have h0 : 256 * e.val ≤ (i (0 : Fin 2)).val ∧ (i (0 : Fin 2)).val < 256 * e.val + 256 := h (0 : Fin 2); omega
  · intro h a
    match a with
    | ⟨0, _⟩ => show 256 * e.val ≤ (i (0 : Fin 2)).val ∧ (i (0 : Fin 2)).val < 256 * e.val + 256; omega
    | ⟨1, _⟩ => show 0 ≤ (i (1 : Fin 2)).val ∧ (i (1 : Fin 2)).val < 0 + 128; omega
theorem halfR_set (s : Fin 2) : (halfR s).set = halfSet s := by
  ext i
  rw [Rect.mem_set_unit, mem_halfSet]
  have h1 : (i (1 : Fin 3)).val < 4096 := (i (1 : Fin 3)).isLt
  have h2 : (i (2 : Fin 3)).val < 256 := (i (2 : Fin 3)).isLt
  constructor
  · intro h; have h0 : s.val ≤ (i (0 : Fin 3)).val ∧ (i (0 : Fin 3)).val < s.val + 1 := h (0 : Fin 3); omega
  · intro h a
    match a with
    | ⟨0, _⟩ => show s.val ≤ (i (0 : Fin 3)).val ∧ (i (0 : Fin 3)).val < s.val + 1; omega
    | ⟨1, _⟩ => show 0 ≤ (i (1 : Fin 3)).val ∧ (i (1 : Fin 3)).val < 0 + 4096; omega
    | ⟨2, _⟩ => show 0 ≤ (i (2 : Fin 3)).val ∧ (i (2 : Fin 3)).val < 0 + 256; omega
theorem colR_set (b : Fin 8) : (colR b).set = colSet b := by
  ext i
  rw [Rect.mem_set_unit, mem_colSet]
  have h1 : (i (0 : Fin 2)).val < 4096 := (i (0 : Fin 2)).isLt
  constructor
  · intro h; have h0 : 256 * b.val ≤ (i (1 : Fin 2)).val ∧ (i (1 : Fin 2)).val < 256 * b.val + 256 := h (1 : Fin 2); omega
  · intro h a
    match a with
    | ⟨0, _⟩ => show 0 ≤ (i (0 : Fin 2)).val ∧ (i (0 : Fin 2)).val < 0 + 4096; omega
    | ⟨1, _⟩ => show 256 * b.val ≤ (i (1 : Fin 2)).val ∧ (i (1 : Fin 2)).val < 256 * b.val + 256; omega

/-! ## The views of the kernel's copies -/

abbrev xM : Memref sig .tc .vmem S256x4096 .f32 := Memref.whole cc0_stg2_0
abbrev wM : Memref sig .tc .hbm S4096x2048 .f32 := Memref.whole main_arg1
abbrev oM : Memref sig .tc .vmem S4096x128 .f32 := Memref.whole cc0_stg3_0
abbrev x8M : Memref sig .tc .vmem S256x4096 .fp8e4m3 := Memref.whole cc0_scratch0
abbrev wbM : Memref sig .tc .vmem S2x4096x256 .f32 := Memref.whole cc0_scratch1
abbrev sM : Memref sig .tc .vmem S16x256x128 .bf16 := Memref.whole cc0_scratch2
abbrev rM : Memref sig .tc .vmem S16x256x128 .bf16 := Memref.whole cc0_scratch3

/-- The slot of the send buffer as a copy's source. -/
abbrev sSlot (e : Fin 16) : Memref sig .tc .vmem S256x128 .bf16 :=
  (sM.slice (slotR e) (fun _ => rfl)).squeeze S256x128 squeezes_S1x256x128_S256x128
/-- The slot of the receive buffer as a copy's target. -/
abbrev rSlot (e : Fin 16) : Memref sig .tc .vmem S256x128 .bf16 :=
  (rM.slice (slotR e) (fun _ => rfl)).squeeze S256x128 squeezes_S1x256x128_S256x128
/-- A half of the weight buffer as a copy's target. -/
abbrev wHalf (s : Fin 2) : Memref sig .tc .vmem S4096x256 .f32 :=
  (wbM.slice (halfR s) (fun _ => rfl)).squeeze S4096x256 squeezes_S1x4096x256_S4096x256
/-- A column block of the weights as a copy's source. -/
abbrev wCol (b : Fin 8) : Memref sig .tc .hbm S4096x256 .f32 := wM.slice (colR b) (fun _ => rfl)

theorem map_refl {α : Type} (S : Finset α) : S.map (Function.Embedding.refl α) = S := Finset.map_refl

theorem sSlot_set (e : Fin 16) : (sSlot e).view.set = slotSet e := by
  rw [Memref.set_view_squeeze]
  show ((View.whole cc0_scratch2).slice (slotR e)).set = _
  rw [View.set_slice]
  exact (map_refl _).trans (slotR_set e)
theorem rSlot_set (e : Fin 16) : (rSlot e).view.set = slotSet e := by
  rw [Memref.set_view_squeeze]
  show ((View.whole cc0_scratch3).slice (slotR e)).set = _
  rw [View.set_slice]
  exact (map_refl _).trans (slotR_set e)
theorem wHalf_set (s : Fin 2) : (wHalf s).view.set = halfSet s := by
  rw [Memref.set_view_squeeze]
  show ((View.whole cc0_scratch1).slice (halfR s)).set = _
  rw [View.set_slice]
  exact (map_refl _).trans (halfR_set s)
theorem wCol_set (b : Fin 8) : (wCol b).view.set = colSet b := by
  show ((View.whole main_arg1).slice (colR b)).set = _
  rw [View.set_slice]
  exact (map_refl _).trans (colR_set b)

/-- Element `(r, n)` of a slot, as an index of its buffer. -/
def slotIx (e : Fin 16) (j : S256x128.Idx) : S16x256x128.Idx := (slotR e).emb (Fin.cons ⟨0, Nat.one_pos⟩ j)
/-- Element `(r, n)` of a half of the weight buffer, as an index of it. -/
def halfIx (s : Fin 2) (j : S4096x256.Idx) : S2x4096x256.Idx := (halfR s).emb (Fin.cons ⟨0, Nat.one_pos⟩ j)

theorem slotIx_val (e : Fin 16) (j : S256x128.Idx) :
    (slotIx e j (0 : Fin 3)).val = e.val ∧ (slotIx e j (1 : Fin 3)).val = (j (0 : Fin 2)).val ∧ (slotIx e j (2 : Fin 3)).val = (j (1 : Fin 2)).val := by
  refine ⟨?_, ?_, ?_⟩
  · unfold slotIx; rw [Rect.emb_apply]; show e.val + 1 * 0 = e.val; omega
  · unfold slotIx; rw [Rect.emb_apply]; show 0 + 1 * (j (0 : Fin 2)).val = (j (0 : Fin 2)).val; omega
  · unfold slotIx; rw [Rect.emb_apply]; show 0 + 1 * (j (1 : Fin 2)).val = (j (1 : Fin 2)).val; omega
theorem halfIx_val (s : Fin 2) (j : S4096x256.Idx) :
    (halfIx s j (0 : Fin 3)).val = s.val ∧ (halfIx s j (1 : Fin 3)).val = (j (0 : Fin 2)).val ∧ (halfIx s j (2 : Fin 3)).val = (j (1 : Fin 2)).val := by
  refine ⟨?_, ?_, ?_⟩
  · unfold halfIx; rw [Rect.emb_apply]; show s.val + 1 * 0 = s.val; omega
  · unfold halfIx; rw [Rect.emb_apply]; show 0 + 1 * (j (0 : Fin 2)).val = (j (0 : Fin 2)).val; omega
  · unfold halfIx; rw [Rect.emb_apply]; show 0 + 1 * (j (1 : Fin 2)).val = (j (1 : Fin 2)).val; omega

theorem sSlot_emb (e : Fin 16) (j : S256x128.Idx) : (sSlot e).view.emb j = slotIx e j :=
  (show (sSlot e).view.emb j = (slotR e).emb (Shape.reshapeEquiv squeezes_S1x256x128_S256x128.numel_eq j) from rfl).trans
    (by rw [Shape.reshapeEquiv_cons_one]; rfl)
theorem rSlot_emb (e : Fin 16) (j : S256x128.Idx) : (rSlot e).view.emb j = slotIx e j :=
  (show (rSlot e).view.emb j = (slotR e).emb (Shape.reshapeEquiv squeezes_S1x256x128_S256x128.numel_eq j) from rfl).trans
    (by rw [Shape.reshapeEquiv_cons_one]; rfl)
theorem wHalf_emb (s : Fin 2) (j : S4096x256.Idx) : (wHalf s).view.emb j = halfIx s j :=
  (show (wHalf s).view.emb j = (halfR s).emb (Shape.reshapeEquiv squeezes_S1x4096x256_S4096x256.numel_eq j) from rfl).trans
    (by rw [Shape.reshapeEquiv_cons_one]; rfl)

end Cert.GemmA2A

end
-- ==== Proof.Protocol.lean ====
module

public import proofs.«01_k».proof.Proof.Pieces
public import proofs.«01_k».proof.Proof.Gen.KernelIdeal.Skeleton
public import Idealize.ShloMosaic.Lib.ValueIdxCore
public import Idealize.ShloMosaic.Lib.Pipeline.Launch

@[expose] public section

noncomputable section

/-!
# The protocol

Per semaphore: who waits, who pays, how much, and what is handed over.

* The barrier semaphore of device `e`: every other device `d` adds one unit and with it hands `e` the slot of
  `d`'s receive buffer that `e` will write; `e` waits for the fifteen units.
* The weight semaphore of half `s` of device `c`: paid by the local copies into that half, one per use of
  the half; each hands back the half, filled with its column block, and the column block.
* The send semaphore `j` of device `c`: paid when the copy of slot `j` of the send buffer has been read; it hands
  the slot back.
* The receive semaphore `j` of device `c`: paid when the copy from device `j` has landed; it hands over slot `j` of
  `c`'s receive buffer, filled with what device `j` computed for `c`.
-/

namespace Cert.GemmA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Duties are named by devices. -/
abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The order of the work -/

/-- The device `k` places after `c`. -/
def rot (c : Dev nD) (k : ℕ) : Dev nD := ⟨(c.val + k) % 16, Nat.mod_lt _ (by decide)⟩
/-- The column block device `c` multiplies by at step `t`. -/
def colAt (c : Dev nD) (t : ℕ) : Fin 8 := ⟨(c.val / 2 + t) % 8, Nat.mod_lt _ (by decide)⟩
/-- The device whose chunk device `c` makes `k`-th. -/
def dst (c : Dev nD) (k : ℕ) : Dev nD := ⟨2 * ((c.val / 2 + k / 2) % 8) + k % 2, by show _ < 16; omega⟩
/-- The device whose chunk device `c` takes in `k`-th. -/
def src (c : Dev nD) (k : ℕ) : Dev nD := ⟨2 * ((c.val / 2 + 8 - k / 2) % 8) + k % 2, by show _ < 16; omega⟩

/-! ## The cells -/

/-- The barrier semaphore. -/
abbrev barS : Sem sig := (SemArray.scalar (sig.barrier 0 rfl) : Sems sig S_).sem
def wSem (s : Fin 2) : DmaSem sig := ⟨4 + s.val, by show _ < 38; omega⟩
def sSem (j : Fin 16) : DmaSem sig := ⟨6 + j.val, by show _ < 38; omega⟩
def rSem (j : Fin 16) : DmaSem sig := ⟨22 + j.val, by show _ < 38; omega⟩

abbrev barCell (c : Dev nD) : GSem nD τ sig := ((c : Thread nD τ), .reg barS)
abbrev wCell (c : Dev nD) (s : Fin 2) : GSem nD τ sig := ((c : Thread nD τ), .dma (wSem s))
abbrev sCell (c : Dev nD) (j : Fin 16) : GSem nD τ sig := ((c : Thread nD τ), .dma (sSem j))
abbrev rCell (c : Dev nD) (j : Fin 16) : GSem nD τ sig := ((c : Thread nD τ), .dma (rSem j))

theorem wSem_eq (s : Fin 2) (h : ∀ a, (![s.val] : Fin 1 → ℕ) a + S1.size a ≤ S2.size a) :
    ((cc0_scratch4.slice (Rect.unit (s := S2) ![s.val] S1.size h)).squeeze S_ squeezes_S1_S_).sem = wSem s := by
  revert s; decide
theorem sSem_eq (s : Fin 16) (h : ∀ a, (![s.val] : Fin 1 → ℕ) a + S1.size a ≤ S16.size a) :
    ((cc0_scratch5.slice (Rect.unit (s := S16) ![s.val] S1.size h)).squeeze S_ squeezes_S1_S_).sem = sSem s := by
  revert s; decide
theorem rSem_eq (s : Fin 16) (h : ∀ a, (![s.val] : Fin 1 → ℕ) a + S1.size a ≤ S16.size a) :
    ((cc0_scratch6.slice (Rect.unit (s := S16) ![s.val] S1.size h)).squeeze S_ squeezes_S1_S_).sem = rSem s := by
  revert s; decide

/-- What one copied chunk credits, and what one copied column block does. -/
@[irreducible] def N : ℕ := (rSlot 0).view.dmaCredit
@[irreducible] def Nw : ℕ := (wHalf 0).view.dmaCredit
theorem N_eq : N = (rSlot 0).view.dmaCredit := by unfold N; rfl
theorem Nw_eq : Nw = (wHalf 0).view.dmaCredit := by unfold Nw; rfl
theorem N_pos : 0 < N := by rw [N_eq]; exact View.dmaCredit_pos _ (by decide)
theorem Nw_pos : 0 < Nw := by rw [Nw_eq]; exact View.dmaCredit_pos _ (by decide)

/-! ## Contents -/

/-- The rows of `x` and the two scales as staged on device `c`. -/
def xs (c : Dev nD) : S256x4096.Idx → Elt F .f32 := (win0_2.blk (0 : Fin 1)).view.read (Elt F) (m ((c : Thread nD τ).loc main_arg0))
def sx (c : Dev nD) : S1.Idx → Elt F .f32 := (win0_0.blk (0 : Fin 1)).view.read (Elt F) (m ((c : Thread nD τ).loc main_arg2))
def sw (c : Dev nD) : S1.Idx → Elt F .f32 := (win0_1.blk (0 : Fin 1)).view.read (Elt F) (m ((c : Thread nD τ).loc main_arg3))
/-- The weight array on device `c`. -/
def wA (c : Dev nD) : S4096x2048.Idx → Elt F .f32 := m ((c : Thread nD τ).loc main_arg1)

/-- The rounded rows, and the product of the scales. -/
def x8 (c : Dev nD) : S256x4096.Idx → Elt F .fp8e4m3 := k0_pay2 (xs m c)
def sc (c : Dev nD) : Elt F .f32 := k0_pay1 (sx m c (Shape.Idx.first (by decide))) (sw m c (Shape.Idx.first (by decide)))

/-- Column block `b` of the weights, as a half of the weight buffer is filled with it. -/
def wB (c : Dev nD) (b : Fin 8) : S2x4096x256.Idx → Elt F .f32 := fun i =>
  wA m c (ix2 (i (1 : Fin 3)) (⟨256 * b.val + (i (2 : Fin 3)).val, by have h : (i (2 : Fin 3)).val < 256 := (i (2 : Fin 3)).isLt; omega⟩ : Fin 2048))
/-- The same as it is loaded. -/
def wL (c : Dev nD) (b : Fin 8) : Vec F S1x4096x256 .f32 := fun i =>
  wA m c (ix2 (i (1 : Fin 3)) (⟨256 * b.val + (i (2 : Fin 3)).val, by have h : (i (2 : Fin 3)).val < 256 := (i (2 : Fin 3)).isLt; omega⟩ : Fin 2048))

/-- The column block that holds device `e`'s columns. -/
def blkOf (e : Fin 16) : Fin 8 := ⟨e.val / 2, by omega⟩
/-- What device `c` makes for device `e`: `e`'s columns of its rows' product, scaled and rectified; -/
def chunk (c : Dev nD) (e : Fin 16) : FVec F S256x128 .f32 :=
  if e.val % 2 = 0 then k0_pay4 (sc m c) (wL m c (blkOf e)) (x8 m c) else k0_pay6 (sc m c) (wL m c (blkOf e)) (x8 m c)
/-- and the same rounded for the copy. -/
def sent (c : Dev nD) (e : Fin 16) : FVec F S1x256x128 .bf16 := k0_pay7 (chunk m c e)

/-- The send buffer of device `c`: slot `e` for device `e`. -/
def sB (c : Dev nD) : S16x256x128.Idx → Elt F .bf16 := fun i => sent m c (i (0 : Fin 3)) (ix3 (0 : Fin 1) (i (1 : Fin 3)) (i (2 : Fin 3)))
/-- The receive buffer of device `c`: slot `e` from device `e`. -/
def rB (c : Dev nD) : S16x256x128.Idx → Elt F .bf16 := fun i => sent m (i (0 : Fin 3)) c (ix3 (0 : Fin 1) (i (1 : Fin 3)) (i (2 : Fin 3)))
/-- Row block `e` of device `c`'s result. -/
def oBlk (c : Dev nD) (e : Fin 16) : S256x128.Idx → Elt F .f32 := if e = c then chunk m c c else k0_pay44 (sent m e c)
/-- The staged result of device `c`. -/
def oB (c : Dev nD) : S4096x128.Idx → Elt F .f32 := fun i =>
  oBlk m c ⟨(i (0 : Fin 2)).val / 256, by have h : (i (0 : Fin 2)).val < 4096 := (i (0 : Fin 2)).isLt; omega⟩
    (ix2 (⟨(i (0 : Fin 2)).val % 256, Nat.mod_lt _ (by decide)⟩ : Fin 256) (i (1 : Fin 2)))

/-! ## The pieces held -/

def rPts (c : Dev nD) (e : Fin 16) (f : S16x256x128.Idx → Elt F .bf16) : sProp 𝕄 := ((c : Thread nD τ).loc cc0_scratch3) ↦[slotSet e]{fullShare} f
def sPts (c : Dev nD) (e : Fin 16) (f : S16x256x128.Idx → Elt F .bf16) : sProp 𝕄 := ((c : Thread nD τ).loc cc0_scratch2) ↦[slotSet e]{fullShare} f
def oPts (c : Dev nD) (e : Fin 16) (f : S4096x128.Idx → Elt F .f32) : sProp 𝕄 := ((c : Thread nD τ).loc cc0_stg3_0) ↦[rowSet e]{fullShare} f
def hPts (c : Dev nD) (s : Fin 2) (f : S2x4096x256.Idx → Elt F .f32) : sProp 𝕄 := ((c : Thread nD τ).loc cc0_scratch1) ↦[halfSet s]{fullShare} f
def wPts (c : Dev nD) (b : Fin 8) (f : S4096x2048.Idx → Elt F .f32) : sProp 𝕄 := ((c : Thread nD τ).loc main_arg1) ↦[colSet b]{fullShare} f

instance rPts_storable (c : Dev nD) (e f) : BI.Storable (upEmb : UEmb _ 𝕄) (rPts (F := F) c e f) := by unfold rPts; infer_instance
instance sPts_storable (c : Dev nD) (e f) : BI.Storable (upEmb : UEmb _ 𝕄) (sPts (F := F) c e f) := by unfold sPts; infer_instance
instance oPts_storable (c : Dev nD) (e f) : BI.Storable (upEmb : UEmb _ 𝕄) (oPts (F := F) c e f) := by unfold oPts; infer_instance
instance hPts_storable (c : Dev nD) (e f) : BI.Storable (upEmb : UEmb _ 𝕄) (hPts (F := F) c e f) := by unfold hPts; infer_instance
instance wPts_storable (c : Dev nD) (e f) : BI.Storable (upEmb : UEmb _ 𝕄) (wPts (F := F) c e f) := by unfold wPts; infer_instance

/-! ## The schedule -/

/-- What device `d`'s signal hands device `c`: the slot of `d`'s receive buffer for `c`. -/
def barPay (c d : Dev nD) : sProp 𝕄 := iprop(∃ f, rPts d c f)
/-- What the `r`-th copy into half `s` of device `c`'s weight buffer hands back: step `2r + s`'s. -/
def wPay (c : Dev nD) (s : Fin 2) (r : ℕ) : sProp 𝕄 :=
  iprop(hPts c s (wB m c (colAt c (2 * r + s.val))) ∗ wPts c (colAt c (2 * r + s.val)) (wA m c))
def sPay (c : Dev nD) (j : Fin 16) : sProp 𝕄 := sPts c j (sB m c)
def rPay (c : Dev nD) (j : Fin 16) : sProp 𝕄 := rPts c j (rB m c)

/-- What a semaphore is for. -/
inductive Role where
  | bar | half (s : Fin 2) | send (j : Fin 16) | recv (j : Fin 16) | other
deriving DecidableEq

def role : SemLoc sig → Role
  | .reg _ => .bar
  | .dma q => if h : q.val < 4 then .other else if h : q.val < 6 then .half ⟨q.val - 4, by omega⟩
      else if h : q.val < 22 then .send ⟨q.val - 6, by omega⟩ else .recv ⟨q.val - 22, by have h : q.val < 38 := q.isLt; omega⟩

theorem role_bar (s : Sem sig) : role (.reg s) = .bar := rfl
theorem role_half (s : Fin 2) : role (.dma (wSem s)) = .half s := by revert s; decide
theorem role_send (j : Fin 16) : role (.dma (sSem j)) = .send j := by revert j; decide
theorem role_recv (j : Fin 16) : role (.dma (rSem j)) = .recv j := by revert j; decide

def dutiesOf (c : Dev nD) (r : ℕ) : Role → Finset (Fin 16)
  | .bar => if r = 0 then Finset.univ.erase c else ∅
  | .half _ => if r < 4 then {0} else ∅
  | .send j => if r = 0 ∧ j ≠ c then {0} else ∅
  | .recv j => if r = 0 ∧ j ≠ c then {0} else ∅
  | .other => ∅
def amountOf : Role → ℕ
  | .bar => 1
  | .half _ => Nw
  | _ => N
def payOf (c : Dev nD) (r : ℕ) (d : Fin 16) : Role → sProp 𝕄
  | .bar => barPay c d
  | .half s => wPay m c s r
  | .send j => sPay m c j
  | .recv j => rPay m c j
  | .other => iprop(emp)

def rd : Rounds.Schedule (GSem nD τ sig) (Fin 16) 𝕄 where
  duties g r := dutiesOf g.1.1 r (role g.2)
  unitless _ := False
  amount g _ _ := amountOf (role g.2)
  payload g r d := payOf m g.1.1 r d (role g.2)
  amount_pos g _ _ _ := by
    show 0 < amountOf (role g.2)
    generalize role g.2 = k
    cases k
    · exact Nat.one_pos
    · exact Nw_pos
    all_goals exact N_pos

instance rd_payload_storable (g : GSem nD τ sig) (r : ℕ) (d : Fin 16) :
    BI.Storable (upEmb : UEmb _ 𝕄) ((rd (F := F) m).payload g r d) := by
  show BI.Storable upEmb (payOf m g.1.1 r d (role g.2))
  generalize role g.2 = k
  cases k <;> simp only [payOf, barPay, wPay, sPay, rPay] <;> infer_instance

section Sched
variable (c : Dev nD)

theorem duties_bar : (rd (F := F) m).duties (barCell c) 0 = Finset.univ.erase c := rfl
theorem duties_half (s : Fin 2) (r : ℕ) (hr : r < 4) : (rd (F := F) m).duties (wCell c s) r = {0} := by
  show dutiesOf c r (role (.dma (wSem s))) = _; rw [role_half]; exact if_pos hr
theorem duties_send (j : Fin 16) (h : j ≠ c) : (rd (F := F) m).duties (sCell c j) 0 = {0} := by
  show dutiesOf c 0 (role (.dma (sSem j))) = _; rw [role_send]; exact if_pos ⟨rfl, h⟩
theorem duties_recv (j : Fin 16) (h : j ≠ c) : (rd (F := F) m).duties (rCell c j) 0 = {0} := by
  show dutiesOf c 0 (role (.dma (rSem j))) = _; rw [role_recv]; exact if_pos ⟨rfl, h⟩
theorem duties_bar_later (r : ℕ) (hr : 1 ≤ r) : (rd (F := F) m).duties (barCell c) r = ∅ := if_neg (by omega)
theorem duties_half_later (s : Fin 2) (r : ℕ) (hr : 4 ≤ r) : (rd (F := F) m).duties (wCell c s) r = ∅ := by
  show dutiesOf c r (role (.dma (wSem s))) = _; rw [role_half]; exact if_neg (by omega)
theorem duties_send_later (j : Fin 16) (r : ℕ) (hr : j = c ∨ 1 ≤ r) : (rd (F := F) m).duties (sCell c j) r = ∅ := by
  show dutiesOf c r (role (.dma (sSem j))) = _; rw [role_send]
  exact if_neg (by rintro ⟨h, h'⟩; rcases hr with hr | hr; exacts [h' hr, by omega])
theorem duties_recv_later (j : Fin 16) (r : ℕ) (hr : j = c ∨ 1 ≤ r) : (rd (F := F) m).duties (rCell c j) r = ∅ := by
  show dutiesOf c r (role (.dma (rSem j))) = _; rw [role_recv]
  exact if_neg (by rintro ⟨h, h'⟩; rcases hr with hr | hr; exacts [h' hr, by omega])

theorem amount_bar (r : ℕ) (d : Fin 16) : (rd (F := F) m).amount (barCell c) r d = 1 := rfl
theorem amount_half (s : Fin 2) (r : ℕ) (d : Fin 16) : (rd (F := F) m).amount (wCell c s) r d = Nw := by
  show amountOf (role (.dma (wSem s))) = _; rw [role_half]; rfl
theorem amount_send (j : Fin 16) (r : ℕ) (d : Fin 16) : (rd (F := F) m).amount (sCell c j) r d = N := by
  show amountOf (role (.dma (sSem j))) = _; rw [role_send]; rfl
theorem amount_recv (j : Fin 16) (r : ℕ) (d : Fin 16) : (rd (F := F) m).amount (rCell c j) r d = N := by
  show amountOf (role (.dma (rSem j))) = _; rw [role_recv]; rfl

theorem payload_bar (r : ℕ) (d : Fin 16) : (rd (F := F) m).payload (barCell c) r d = barPay c d := rfl
theorem payload_half (s : Fin 2) (r : ℕ) (d : Fin 16) : (rd (F := F) m).payload (wCell c s) r d = wPay m c s r := by
  show payOf m c r d (role (.dma (wSem s))) = _; rw [role_half]; rfl
theorem payload_send (j : Fin 16) (r : ℕ) (d : Fin 16) : (rd (F := F) m).payload (sCell c j) r d = sPay m c j := by
  show payOf m c r d (role (.dma (sSem j))) = _; rw [role_send]; rfl
theorem payload_recv (j : Fin 16) (r : ℕ) (d : Fin 16) : (rd (F := F) m).payload (rCell c j) r d = rPay m c j := by
  show payOf m c r d (role (.dma (rSem j))) = _; rw [role_recv]; rfl

theorem expect_bar : (rd (F := F) m).expect (barCell c) 0 = 15 := by
  unfold Schedule.expect Schedule.amountOf
  rw [duties_bar, Finset.sum_congr rfl fun d _ => amount_bar m c 0 d, Finset.sum_const, Finset.card_erase_of_mem (Finset.mem_univ _),
    Finset.card_univ, Fintype.card_fin, smul_eq_mul]
theorem expect_half (s : Fin 2) (r : ℕ) (hr : r < 4) : (rd (F := F) m).expect (wCell c s) r = Nw := by
  unfold Schedule.expect Schedule.amountOf; rw [duties_half m c s r hr, Finset.sum_singleton, amount_half]
theorem expect_send (j : Fin 16) (h : j ≠ c) : (rd (F := F) m).expect (sCell c j) 0 = N := by
  unfold Schedule.expect Schedule.amountOf; rw [duties_send m c j h, Finset.sum_singleton, amount_send]
theorem expect_recv (j : Fin 16) (h : j ≠ c) : (rd (F := F) m).expect (rCell c j) 0 = N := by
  unfold Schedule.expect Schedule.amountOf; rw [duties_recv m c j h, Finset.sum_singleton, amount_recv]

theorem rest_bar : bigSep ((rd (F := F) m).duties (barCell c) 0 \ ∅) (fun d => (rd (F := F) m).payload (barCell c) 0 d)
    = bigSep (Finset.univ.erase c) (fun d => barPay (F := F) c d) := by
  rw [Finset.sdiff_empty, duties_bar]; rfl
theorem rest_half (s : Fin 2) (r : ℕ) (hr : r < 4) :
    bigSep ((rd (F := F) m).duties (wCell c s) r \ ∅) (fun d => (rd (F := F) m).payload (wCell c s) r d) = wPay m c s r := by
  rw [Finset.sdiff_empty, duties_half m c s r hr, bigSep_singleton, payload_half]
theorem rest_send (j : Fin 16) (h : j ≠ c) :
    bigSep ((rd (F := F) m).duties (sCell c j) 0 \ ∅) (fun d => (rd (F := F) m).payload (sCell c j) 0 d) = sPay m c j := by
  rw [Finset.sdiff_empty, duties_send m c j h, bigSep_singleton, payload_send]
theorem rest_recv (j : Fin 16) (h : j ≠ c) :
    bigSep ((rd (F := F) m).duties (rCell c j) 0 \ ∅) (fun d => (rd (F := F) m).payload (rCell c j) 0 d) = rPay m c j := by
  rw [Finset.sdiff_empty, duties_recv m c j h, bigSep_singleton, payload_recv]

end Sched

/-! ## What each device owes, and the levels -/

/-- What device `c` owes device `e`'s receive semaphore for it. -/
def oweTo (c e : Dev nD) : CellTallies nD τ sig Unit := if e = c then 0 else tallyAt (rCell e c) () N
/-- The signals still owed when those before place `i` have been given; -/
def oweBar (c : Dev nD) (i : ℕ) : CellTallies nD τ sig Unit := ∑ k ∈ Finset.Ico i 16, tallyAt (barCell (rot c k)) () 1
/-- the copies still owed when those before the `i`-th have been started. -/
def oweRecv (c : Dev nD) (i : ℕ) : CellTallies nD τ sig Unit := ∑ k ∈ Finset.Ico i 16, oweTo c (dst c k)
/-- All that is owed at launch. -/
def O₀ (c : Dev nD) : CellTallies nD τ sig Unit := oweRecv c 0 + oweBar c 1

theorem oweBar_pop (c : Dev nD) (i : ℕ) (h : i < 16) : oweBar c i = oweBar c (i + 1) + tallyAt (barCell (rot c i)) () 1 := by
  unfold oweBar; rw [Finset.sum_eq_sum_Ico_succ_bot h, add_comm]
theorem oweBar_end (c : Dev nD) : oweBar c 16 = 0 := by unfold oweBar; rw [Finset.Ico_self, Finset.sum_empty]
theorem oweRecv_pop (c : Dev nD) (i : ℕ) (h : i < 16) : oweRecv c i = oweRecv c (i + 1) + oweTo c (dst c i) := by
  unfold oweRecv; rw [Finset.sum_eq_sum_Ico_succ_bot h, add_comm]
theorem oweRecv_end (c : Dev nD) : oweRecv c 16 = 0 := by unfold oweRecv; rw [Finset.Ico_self, Finset.sum_empty]

def L (g : GSem nD τ sig) : Finset Unit := if g.1.2 = .tc then {()} else ∅
def lvOf : Role → ℕ
  | .bar => 1
  | .recv _ => 2
  | _ => 0
/-- Barrier cells at 1, receive cells at 2, all others at 0. -/
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

theorem sum_pos_of {ι : Type} (S : Finset ι) (f : ι → CellTallies nD τ sig Unit) (g : GSem nD τ sig) (u : Unit)
    (h : 0 < (∑ k ∈ S, f k) g u) : ∃ k ∈ S, 0 < f k g u := by
  rw [Finset.sum_apply, Finsupp.finset_sum_apply] at h
  by_contra hn
  exact absurd h (by rw [Finset.sum_eq_zero fun k hk => Nat.le_zero.1 (Nat.le_of_not_lt fun h' => hn ⟨k, hk, h'⟩)]; exact Nat.lt_irrefl 0)

theorem oweRecv_pos {c : Dev nD} {i : ℕ} {g : GSem nD τ sig} {u : Unit} (h : 0 < oweRecv c i g u) : ∃ e : Dev nD, e ≠ c ∧ g = rCell e c := by
  obtain ⟨k, -, hk⟩ := sum_pos_of _ _ _ _ h
  unfold oweTo at hk
  split at hk
  · exact absurd hk (Nat.lt_irrefl 0)
  · rename_i hne
    rw [tallyAt_apply] at hk
    by_cases h' : g = rCell (dst c k) c ∧ u = ()
    · exact ⟨_, hne, h'.1⟩
    · rw [if_neg h'] at hk; exact absurd hk (Nat.lt_irrefl 0)
theorem oweBar_pos {c : Dev nD} {i : ℕ} {g : GSem nD τ sig} {u : Unit} (h : 0 < oweBar c i g u) : ∃ e : Dev nD, g = barCell e := by
  obtain ⟨k, -, hk⟩ := sum_pos_of _ _ _ _ h
  rw [tallyAt_apply] at hk
  by_cases h' : g = barCell (rot c k) ∧ u = ()
  · exact ⟨_, h'.1⟩
  · rw [if_neg h'] at hk; exact absurd hk (Nat.lt_irrefl 0)
theorem O₀_pos {c : Dev nD} {g : GSem nD τ sig} {u : Unit} (h : 0 < O₀ c g u) : (∃ e : Dev nD, e ≠ c ∧ g = rCell e c) ∨ ∃ e : Dev nD, g = barCell e := by
  unfold O₀ at h
  rw [Pi.add_apply, Finsupp.add_apply] at h
  rcases Nat.eq_zero_or_pos (oweRecv c 0 g u) with h0 | h0
  · rw [h0, Nat.zero_add] at h; exact .inr (oweBar_pos h)
  · exact .inl (oweRecv_pos h0)

/-- A cell at level 0 may be waited on while any of the launch's dues are open. -/
theorem mayWait_low (c : Dev nD) (q : DmaSem sig) (hq : lvOf (role (.dma q)) = 0) (O : CellTallies nD τ sig Unit)
    (hO : ∀ g u, 0 < O g u → (∃ e : Dev nD, e ≠ c ∧ g = rCell e c) ∨ ∃ e : Dev nD, g = barCell e) :
    (levAts L lv : sProp 𝕄) ⊢ MayWait (c : Thread nD τ) (.dma q) () O := by
  refine MayOwe.of_cut (L := L) (lev := lv) 0 (fun p hp => by rw [Finset.mem_singleton.mp hp, L_tc]; exact Finset.mem_singleton_self _)
      (fun g u hg => by rcases hO g u hg with ⟨e, -, rfl⟩ | ⟨e, rfl⟩ <;> exact Finset.mem_singleton_self _)
      (fun p hp => by rw [Finset.mem_singleton.mp hp]; exact hq.le)
      (fun g u hg => by
        rcases hO g u hg with ⟨e, -, rfl⟩ | ⟨e, rfl⟩
        · show 0 < lvOf (role (.dma (rSem c))); rw [role_recv]; show _ < 2; decide
        · show 0 < lvOf (role (.reg barS)); decide)
/-- The barrier may be waited on while copies are owed. -/
theorem mayWait_bar (c : Dev nD) : (levAts L lv : sProp 𝕄) ⊢ MayWait (c : Thread nD τ) (.reg barS) () (oweRecv c 0) :=
  MayOwe.of_cut (L := L) (lev := lv) 1 (fun p hp => by rw [Finset.mem_singleton.mp hp, L_tc]; exact Finset.mem_singleton_self _)
    (fun g u hg => by obtain ⟨e, -, rfl⟩ := oweRecv_pos hg; exact Finset.mem_singleton_self _)
    (fun p hp => by rw [Finset.mem_singleton.mp hp]; exact Nat.le_refl 1)
    (fun g u hg => by
      obtain ⟨e, -, rfl⟩ := oweRecv_pos hg
      show 1 < lvOf (role (.dma (rSem c))); rw [role_recv]; show _ < 2; decide)

end Cert.GemmA2A

end
-- ==== Proof.Contents.lean ====
module

public import proofs.«01_k».proof.Proof.Protocol

@[expose] public section

noncomputable section

/-! # What stores, loads and copies make of the contents -/

namespace Cert.GemmA2A

open Cert.KernelIdeal Cert.KernelIdeal.Gen
open Idealize.ShloMosaic Idealize.ShloMosaic.TcCoe

variable {F : FTy → Type} [FloatOps F]
variable (m : (ℓ : Loc nD τ sig) → Buf (Elt F) ℓ)

/-- A whole-window write agrees on the window with any contents that show the written values there. -/
theorem write_on {κ : Kind} {sp : Space} {s : Shape} {e : EltTy} (v : View sig κ sp s e) (f g : v.ty.Contents (Elt F)) (w : s.Idx → Elt F e)
    (h : ∀ x, v.read (Elt F) g x = w x) (i : v.ty.Idx) (hi : i ∈ v.set) : v.write (Elt F) f w Finset.univ i = g i := by
  have h' : v.read (Elt F) (v.write (Elt F) f w Finset.univ) = v.read (Elt F) g := by
    rw [View.read_write_univ]; exact funext fun x => (h x).symm
  have h3 : v.write (Elt F) f w Finset.univ = v.write (Elt F) f (v.read (Elt F) g) Finset.univ := by
    rw [show v.read (Elt F) g = w from funext h]
  obtain ⟨x, -, rfl⟩ := Finset.mem_map.1 hi
  rw [h3, View.write_emb_of_mem _ _ (Finset.mem_univ x)]
  unfold View.read
  simp

/-! ## The buffers at an index -/

theorem sB_at (c : Dev nD) (i : S16x256x128.Idx) (e : Fin 16) (j : S1x256x128.Idx) (h0 : (i (0 : Fin 3)).val = e.val)
    (h1 : (i (1 : Fin 3)).val = (j (1 : Fin 3)).val) (h2 : (i (2 : Fin 3)).val = (j (2 : Fin 3)).val) : sB m c i = sent m c e j := by
  unfold sB
  rw [show i (0 : Fin 3) = e from Fin.ext h0]
  congr 1
  funext a
  match a with
  | ⟨0, _⟩ => exact Fin.ext (by have h : (j (0 : Fin 3)).val < 1 := (j (0 : Fin 3)).isLt; show 0 = (j (0 : Fin 3)).val; omega)
  | ⟨1, _⟩ => exact Fin.ext h1
  | ⟨2, _⟩ => exact Fin.ext h2
theorem rB_at (c : Dev nD) (i : S16x256x128.Idx) (e : Fin 16) (j : S1x256x128.Idx) (h0 : (i (0 : Fin 3)).val = e.val)
    (h1 : (i (1 : Fin 3)).val = (j (1 : Fin 3)).val) (h2 : (i (2 : Fin 3)).val = (j (2 : Fin 3)).val) : rB m c i = sent m e c j := by
  unfold rB
  rw [show i (0 : Fin 3) = e from Fin.ext h0]
  congr 1
  funext a
  match a with
  | ⟨0, _⟩ => exact Fin.ext (by have h : (j (0 : Fin 3)).val < 1 := (j (0 : Fin 3)).isLt; show 0 = (j (0 : Fin 3)).val; omega)
  | ⟨1, _⟩ => exact Fin.ext h1
  | ⟨2, _⟩ => exact Fin.ext h2
theorem oB_at (c : Dev nD) (i : S4096x128.Idx) (e : Fin 16) (j : S256x128.Idx) (h0 : (i (0 : Fin 2)).val = 256 * e.val + (j (0 : Fin 2)).val)
    (h1 : (i (1 : Fin 2)).val = (j (1 : Fin 2)).val) : oB m c i = oBlk m c e j := by
  have hj : (j (0 : Fin 2)).val < 256 := (j (0 : Fin 2)).isLt
  have he : (⟨(i (0 : Fin 2)).val / 256, by have h : (i (0 : Fin 2)).val < 4096 := (i (0 : Fin 2)).isLt; omega⟩ : Fin 16) = e :=
    Fin.ext (by show (i (0 : Fin 2)).val / 256 = e.val; omega)
  have hx : (ix2 (⟨(i (0 : Fin 2)).val % 256, Nat.mod_lt _ (by decide)⟩ : Fin 256) (i (1 : Fin 2)) : S256x128.Idx) = j := by
    funext a
    match a with
    | ⟨0, _⟩ => exact Fin.ext (by show (i (0 : Fin 2)).val % 256 = (j (0 : Fin 2)).val; omega)
    | ⟨1, _⟩ => exact Fin.ext h1
  show oBlk m c (⟨(i (0 : Fin 2)).val / 256, _⟩ : Fin 16) _ = _
  rw [he]; exact congrArg (oBlk m c e) hx
theorem wB_at (c : Dev nD) (b : Fin 8) (i : S2x4096x256.Idx) (j : S4096x2048.Idx) (h0 : (i (1 : Fin 3)).val = (j (0 : Fin 2)).val)
    (h1 : 256 * b.val + (i (2 : Fin 3)).val = (j (1 : Fin 2)).val) : wB m c b i = wA m c j := by
  unfold wB
  congr 1
  funext a
  match a with
  | ⟨0, _⟩ => exact Fin.ext h0
  | ⟨1, _⟩ => exact Fin.ext h1

/-! ## Coordinates of the windows -/

theorem slotR_val (e : Fin 16) (j : S1x256x128.Idx) : ((slotR e).emb j (0 : Fin 3)).val = e.val
    ∧ ((slotR e).emb j (1 : Fin 3)).val = (j (1 : Fin 3)).val ∧ ((slotR e).emb j (2 : Fin 3)).val = (j (2 : Fin 3)).val := by
  have h : (j (0 : Fin 3)).val < 1 := (j (0 : Fin 3)).isLt
  refine ⟨?_, ?_, ?_⟩ <;> rw [Rect.emb_apply]
  · show e.val + 1 * (j (0 : Fin 3)).val = e.val; omega
  · show 0 + 1 * (j (1 : Fin 3)).val = _; omega
  · show 0 + 1 * (j (2 : Fin 3)).val = _; omega
theorem halfR_val (s : Fin 2) (j : S1x4096x256.Idx) : ((halfR s).emb j (1 : Fin 3)).val = (j (1 : Fin 3)).val
    ∧ ((halfR s).emb j (2 : Fin 3)).val = (j (2 : Fin 3)).val := by
  refine ⟨?_, ?_⟩ <;> rw [Rect.emb_apply]
  · show 0 + 1 * (j (1 : Fin 3)).val = _; omega
  · show 0 + 1 * (j (2 : Fin 3)).val = _; omega
theorem rowR_val (e : Fin 16) (j : S256x128.Idx) : ((rowR e).emb j (0 : Fin 2)).val = 256 * e.val + (j (0 : Fin 2)).val
    ∧ ((rowR e).emb j (1 : Fin 2)).val = (j (1 : Fin 2)).val := by
  refine ⟨?_, ?_⟩ <;> rw [Rect.emb_apply]
  · show 256 * e.val + 1 * (j (0 : Fin 2)).val = _; omega
  · show 0 + 1 * (j (1 : Fin 2)).val = _; omega
theorem colR_val (b : Fin 8) (j : S4096x256.Idx) : ((colR b).emb j (0 : Fin 2)).val = (j (0 : Fin 2)).val
    ∧ ((colR b).emb j (1 : Fin 2)).val = 256 * b.val + (j (1 : Fin 2)).val := by
  refine ⟨?_, ?_⟩ <;> rw [Rect.emb_apply]
  · show 0 + 1 * (j (0 : Fin 2)).val = _; omega
  · show 256 * b.val + 1 * (j (1 : Fin 2)).val = _; omega

/-! ## Windows as sets -/

theorem sM_set (e : Fin 16) : (sM.access (slotR e) : View sig .tc _ _ _).set = slotSet e := by
  show ((View.whole cc0_scratch2).slice (slotR e)).set = _
  rw [View.set_slice]; exact (map_refl _).trans (slotR_set e)
theorem rM_set (e : Fin 16) : (rM.access (slotR e) : View sig .tc _ _ _).set = slotSet e := by
  show ((View.whole cc0_scratch3).slice (slotR e)).set = _
  rw [View.set_slice]; exact (map_refl _).trans (slotR_set e)
theorem oM_set (e : Fin 16) : (oM.access (rowR e) : View sig .tc _ _ _).set = rowSet e := by
  show ((View.whole cc0_stg3_0).slice (rowR e)).set = _
  rw [View.set_slice]; exact (map_refl _).trans (rowR_set e)
theorem wbM_set (s : Fin 2) : (wbM.access (halfR s) : View sig .tc _ _ _).set = halfSet s := by
  show ((View.whole cc0_scratch1).slice (halfR s)).set = _
  rw [View.set_slice]; exact (map_refl _).trans (halfR_set s)

/-! ## Stores -/

theorem store_out (c : Dev nD) (e : Fin 16) (f : S4096x128.Idx → Elt F .f32) (v : Vec F S256x128 .f32) (hv : v = oBlk m c e)
    (i : S4096x128.Idx) (hi : i ∈ rowSet e) :
    (oM.access (rowR e) : View sig .tc _ _ _).write (Elt F) f v Finset.univ i = oB m c i := by
  subst hv
  refine write_on (oM.access (rowR e) : View sig .tc _ _ _) f (oB m c) _ (fun x => ?_) i (by rw [oM_set]; exact hi)
  exact oB_at m c _ e x (rowR_val e x).1 (rowR_val e x).2
theorem store_slot (c : Dev nD) (e : Fin 16) (f : S16x256x128.Idx → Elt F .bf16) (v : Vec F S1x256x128 .bf16) (hv : v = sent m c e)
    (i : S16x256x128.Idx) (hi : i ∈ slotSet e) :
    (sM.access (slotR e) : View sig .tc _ _ _).write (Elt F) f v Finset.univ i = sB m c i := by
  subst hv
  refine write_on (sM.access (slotR e) : View sig .tc _ _ _) f (sB m c) _ (fun x => ?_) i (by rw [sM_set]; exact hi)
  exact sB_at m c _ e x (slotR_val e x).1 (slotR_val e x).2.1 (slotR_val e x).2.2

/-! ## Copies -/

theorem copy_slot (c e : Dev nD) (f : S16x256x128.Idx → Elt F .bf16) (i : S16x256x128.Idx) (hi : i ∈ slotSet c) :
    (rSlot c).view.write (Elt F) f ((sSlot e).view.read (Elt F) (sB m c)) Finset.univ i = rB m e i := by
  refine write_on (rSlot c).view f (rB m e) _ (fun x => ?_) i (by rw [rSlot_set]; exact hi)
  show rB m e ((rSlot c).view.emb x) = sB m c ((sSlot e).view.emb x)
  rw [rSlot_emb, sSlot_emb, rB_at m e (slotIx c x) c (ix3 (0 : Fin 1) (x (0 : Fin 2)) (x (1 : Fin 2))) (slotIx_val c x).1 (slotIx_val c x).2.1 (slotIx_val c x).2.2,
    sB_at m c (slotIx e x) e (ix3 (0 : Fin 1) (x (0 : Fin 2)) (x (1 : Fin 2))) (slotIx_val e x).1 (slotIx_val e x).2.1 (slotIx_val e x).2.2]
theorem copy_half (c : Dev nD) (s : Fin 2) (b : Fin 8) (f : S2x4096x256.Idx → Elt F .f32) (i : S2x4096x256.Idx) (hi : i ∈ halfSet s) :
    (wHalf s).view.write (Elt F) f ((wCol b).view.read (Elt F) (wA m c)) Finset.univ i = wB m c b i := by
  refine write_on (wHalf s).view f (wB m c b) _ (fun x => ?_) i (by rw [wHalf_set]; exact hi)
  show wB m c b ((wHalf s).view.emb x) = wA m c ((colR b).emb x)
  rw [wHalf_emb, wB_at m c b (halfIx s x) ((colR b).emb x) ((halfIx_val s x).2.1.trans (colR_val b x).1.symm)
    ((congrArg (256 * b.val + ·) (halfIx_val s x).2.2).trans (colR_val b x).2.symm)]

/-! ## Loads -/

theorem load_slot (c : Dev nD) (e : Fin 16) : rM.view.readAt (Elt F) (slotR e).toLoadRect (rB m c) = sent m e c := by
  funext x
  exact rB_at m c _ e x (slotR_val e x).1 (slotR_val e x).2.1 (slotR_val e x).2.2
theorem load_half (c : Dev nD) (s : Fin 2) (b : Fin 8) : wbM.view.readAt (Elt F) (halfR s).toLoadRect (wB m c b) = wL m c b := by
  funext x
  show wB m c b ((halfR s).emb x) = wL m c b x
  rw [wB_at m c b ((halfR s).emb x) (ix2 (x (1 : Fin 3)) (⟨256 * b.val + (x (2 : Fin 3)).val, by have h : (x (2 : Fin 3)).val < 256 := (x (2 : Fin 3)).isLt; omega⟩ : Fin 2048))
    (halfR_val s x).1 (congrArg (256 * b.val + ·) (halfR_val s x).2)]
  rfl

theorem read_slot (c : Dev nD) (e : Fin 16) : (rM.access (slotR e) : View sig .tc _ _ _).read (Elt F) (rB m c) = sent m e c := load_slot m c e
theorem read_half (c : Dev nD) (s : Fin 2) (b : Fin 8) : (wbM.access (halfR s) : View sig .tc _ _ _).read (Elt F) (wB m c b) = wL m c b :=
  load_half m c s b

theorem zero2 : (![0, 0] : Fin 2 → ℕ) = fun _ => 0 := funext fun a => by fin_cases a <;> rfl
theorem load_x (h : ∀ a, (![0, 0] : Fin 2 → ℕ) a + S256x4096.size a ≤ S256x4096.size a) (f : S256x4096.Idx → Elt F .f32) :
    xM.view.readAt (Elt F) (Rect.unit (s := S256x4096) ![0, 0] S256x4096.size h).toLoadRect f = f :=
  Memref.readAt_unit_zero (Elt F) cc0_stg2_0 zero2 _ f
theorem load_x8 (h : ∀ a, (![0, 0] : Fin 2 → ℕ) a + S256x4096.size a ≤ S256x4096.size a) (f : S256x4096.Idx → Elt F .fp8e4m3) :
    x8M.view.readAt (Elt F) (Rect.unit (s := S256x4096) ![0, 0] S256x4096.size h).toLoadRect f = f :=
  Memref.readAt_unit_zero (Elt F) cc0_scratch0 zero2 _ f
theorem store_x8 (h : ∀ a, (![0, 0] : Fin 2 → ℕ) a + S256x4096.size a ≤ S256x4096.size a) (f w : S256x4096.Idx → Elt F .fp8e4m3) :
    (x8M.access (Rect.unit (s := S256x4096) ![0, 0] S256x4096.size h) : View sig .tc _ _ _).write (Elt F) f w Finset.univ = w :=
  Memref.write_access_unit_zero_univ (Elt F) cc0_scratch0 zero2 _ f w

end Cert.GemmA2A

end
-- ==== Proof.Steps.lean ====
module

public import proofs.«01_k».proof.Proof.Contents

@[expose] public section

noncomputable section

/-!
# The steps

One lemma per kind of step the kernel takes: a signal, the wait on the barrier, the start of a weight copy and the
wait for it, a chunk made and sent, a chunk taken in, and the wait that a chunk was sent.
-/

namespace Cert.GemmA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The invariants -/

/-- A device's semaphores: the barrier, the two of the weights, the sixteen of the sends, the sixteen of the receives. -/
def csem (k : Fin 35) : SemLoc sig := if k.val = 0 then .reg barS else .dma ⟨k.val + 3, by show _ < 38; omega⟩
abbrev kcell (p : Dev nD × Fin 35) : GSem nD τ sig := ((p.1 : Thread nD τ), csem p.2)
def kW (s : Fin 2) : Fin 35 := ⟨1 + s.val, by omega⟩
def kS (j : Fin 16) : Fin 35 := ⟨3 + j.val, by omega⟩
def kR (j : Fin 16) : Fin 35 := ⟨19 + j.val, by omega⟩
theorem csem_0 : csem 0 = .reg barS := rfl
theorem csem_W (s : Fin 2) : csem (kW s) = .dma (wSem s) := by revert s; decide
theorem csem_S (j : Fin 16) : csem (kS j) = .dma (sSem j) := by revert j; decide
theorem csem_R (j : Fin 16) : csem (kR j) = .dma (rSem j) := by revert j; decide

variable (K : Dev nD × Fin 35 → ℕ)

/-- Every cell's invariant, and that its first round is open. -/
def Rec : sProp 𝕄 := bigSep Finset.univ fun p : Dev nD × Fin 35 => iprop(cellInv ER (rd m) (K p) (kcell p) ∗ reached ER (kcell p) 0)

instance rec_persistent : Persistent (Rec m K) := by unfold Rec; infer_instance

theorem rec_at (p : Dev nD × Fin 35) : Rec m K ⊢ iprop(cellInv ER (rd m) (K p) (kcell p) ∗ reached ER (kcell p) 0) := by
  unfold Rec; exact bigSep_elim (Finset.mem_univ p)
theorem rec_B (c : Dev nD) : Rec m K ⊢ iprop(cellInv ER (rd m) (K (c, 0)) (barCell c) ∗ reached ER (barCell c) 0) := rec_at m K (c, 0)
theorem rec_W (c : Dev nD) (s : Fin 2) : Rec m K ⊢ iprop(cellInv ER (rd m) (K (c, kW s)) (wCell c s) ∗ reached ER (wCell c s) 0) := by
  have h := rec_at m K (c, kW s); unfold kcell at h; rw [csem_W] at h; exact h
theorem rec_S (c : Dev nD) (j : Fin 16) : Rec m K ⊢ iprop(cellInv ER (rd m) (K (c, kS j)) (sCell c j) ∗ reached ER (sCell c j) 0) := by
  have h := rec_at m K (c, kS j); unfold kcell at h; rw [csem_S] at h; exact h
theorem rec_R (c : Dev nD) (j : Fin 16) : Rec m K ⊢ iprop(cellInv ER (rd m) (K (c, kR j)) (rCell c j) ∗ reached ER (rCell c j) 0) := by
  have h := rec_at m K (c, kR j); unfold kcell at h; rw [csem_R] at h; exact h

/-! ## Popping and pushing a row of pieces -/

theorem row_pop (a b : ℕ) (h : a < b) (Φ : ℕ → sProp 𝕄) : bigSep (Finset.Ico a b) Φ = iprop(Φ a ∗ bigSep (Finset.Ico (a + 1) b) Φ) := by
  have hs : Finset.Ico a b = insert a (Finset.Ico (a + 1) b) := by ext x; simp only [Finset.mem_insert, Finset.mem_Ico]; omega
  rw [hs, bigSep_insert (by simp)]; rfl
theorem row_push (a b : ℕ) (h : a ≤ b) (Φ : ℕ → sProp 𝕄) : bigSep (Finset.Ico a (b + 1)) Φ = iprop(Φ b ∗ bigSep (Finset.Ico a b) Φ) := by
  have hs : Finset.Ico a (b + 1) = insert b (Finset.Ico a b) := by ext x; simp only [Finset.mem_insert, Finset.mem_Ico]; omega
  rw [hs, bigSep_insert (by simp)]; rfl

/-! ## Owing -/

/-- Device `c` owes `O`, whatever it has waited for. -/
def OW (c : Dev nD) (O : CellTallies nD τ sig Unit) : sProp 𝕄 := iprop(∃ W : Waits sig Unit, owes (c : Thread nD τ) O W)

/-! ## Signals -/

/-- What the signal to the device `k` places on takes: its token and the slot for that device. -/
def sigPre (c : Dev nD) (k : ℕ) : sProp 𝕄 := iprop(dutyTok ER (barCell (rot c k)) 0 c ∗ ∃ f, rPts c (rot c k) f)
def SigSt (c : Dev nD) (k : ℕ) : sProp 𝕄 := iprop(OW c (oweRecv c 0 + oweBar c k) ∗ bigSep (Finset.Ico k 16) (sigPre c))

theorem rot_ne (c : Dev nD) (k : ℕ) (h1 : 1 ≤ k) (h2 : k < 16) : c ≠ rot c k := by
  intro h
  have hv : c.val = (c.val + k) % 16 := congrArg Fin.val h
  have hc : c.val < 16 := c.isLt
  omega

theorem step_signal (c : Dev nD) (k : ℕ) (h1 : 1 ≤ k) (h2 : k < 16) (n : ℕ) (hn : n = (rot c k).val) {hlt : n < nD} (a : ℕ) (ha : a = 1)
    {α : Type} {Q : α → sProp 𝕄} {J : PUnit → Prog (TpuEff nD τ sig (Elt F) Λ₀ .tc) α} :
    iprop(Rec m K ∗ SigSt c k)
      ⊢ iprop((SigSt c (k + 1) -∗ WP c (J ⟨⟩) Q) -∗ WP c (.op (.semSignal ((⟨n, hlt⟩ : Dev nD) : Thread nD τ) barS a) J) Q) := by
  subst hn; subst ha
  unfold SigSt OW
  rw [row_pop k 16 h2, oweBar_pop c k h2, ← add_assoc]
  unfold sigPre
  iintro ⟨#HR, ⟨%W, HO⟩, ⟨Ht, Hf⟩, Hrest⟩ Hk
  ihave ⟨#HI, #Hr⟩ := (rec_B m K (rot c k)) $$ HR
  iapply (Rounds.wp_signal 𝒱₀ ER (rd m) (c : Thread nD τ) none (dst := (rot c k : Thread nD τ)) (κ := K (rot c k, 0)) (r := 0)
      (d := c) (by rw [duties_bar]; exact Finset.mem_erase.2 ⟨rot_ne c k h1 h2, Finset.mem_univ _⟩) (amount_bar m (rot c k) 0 c) ()
      (oweRecv c 0 + oweBar c (k + 1)) rfl) $$ [HO Ht Hf]
  · isplitr; · iexact HI
    isplitl [HO]; · iexact HO
    isplitl [Ht]; · iexact Ht
    isplitl [Hf]
    · rw [payload_bar]; unfold barPay; iexact Hf
    iexact Hr
  iintro HO
  iapply Hk
  isplitl [HO]; · iexists W; iexact HO
  iexact Hrest

/-! ## The wait on the barrier -/

theorem step_barrier (c : Dev nD) (a : ℕ) (ha : a = 15)
    {α : Type} {Q : α → sProp 𝕄} {J : PUnit → Prog (TpuEff nD τ sig (Elt F) Λ₀ .tc) α} :
    iprop(Rec m K ∗ levAts L lv ∗ SigSt c 16 ∗ cred (tallyAt (barCell c) () 15) ∗ atPos ER (barCell c) 0 ∅ 0)
      ⊢ iprop(((OW c (oweRecv c 0) ∗ atPos ER (barCell c) 1 ∅ 0 ∗ bigSep (Finset.univ.erase c) (fun d => barPay (F := F) c d)) -∗ WP c (J ⟨⟩) Q)
          -∗ WP c (.op (.semWait barS a) J) Q) := by
  subst ha
  unfold SigSt OW
  rw [oweBar_end, add_zero]
  iintro ⟨#HR, #Hlev, ⟨⟨%W, HO⟩, -⟩, Hc, Hat⟩ Hk
  ihave ⟨#HI, -⟩ := (rec_B m K c) $$ HR
  iapply (Rounds.wp_wait_rest_token 𝒱₀ ER (rd m) (c : Thread nD τ) none (κ := K (c, 0))
      (wpE_semWait_eq 𝒱₀ (c : Thread nD τ) none Set.univ) (Set.mem_univ _) () (O := oweRecv c 0) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hp⟩
  iapply Hk
  isplitl [HO]; · iexists _; iexact HO
  isplitl [Hat]; · iexact Hat
  iapply (Entails.of_eq (rest_bar m c)); iexact Hp

/-! ## The weights -/

/-- The half of the weight buffer used at step `t`. -/
def par (t : ℕ) : Fin 2 := ⟨t % 2, Nat.mod_lt _ (by decide)⟩
theorem par_round (t : ℕ) : 2 * (t / 2) + (par t).val = t := by unfold par; show 2 * (t / 2) + t % 2 = t; omega
theorem par_add_two (t : ℕ) : par (t + 2) = par t := Fin.ext (by show (t + 2) % 2 = t % 2; omega)

/-- What the copy of step `t` takes besides its half: the column block and the token. -/
def wUse (c : Dev nD) (t : ℕ) : sProp 𝕄 := iprop(wPts c (colAt c t) (wA m c) ∗ dutyTok ER (wCell c (par t)) (t / 2) (0 : Fin 16))
def wBack (c : Dev nD) (t : ℕ) : sProp 𝕄 := wPts c (colAt c t) (wA m c)
def wFly (c : Dev nD) (t : ℕ) : sProp 𝕄 :=
  if t < 8 then iprop(cred (tallyAt (wCell c (par t)) () Nw)) else iprop(∃ f, hPts c (par t) f)

theorem wFly_lt (c : Dev nD) (t : ℕ) (h : t < 8) : wFly (F := F) c t = cred (tallyAt (wCell c (par t)) () Nw) := if_pos h
theorem wFly_ge (c : Dev nD) (t : ℕ) (h : 8 ≤ t) : wFly (F := F) c t = iprop(∃ f, hPts c (par t) f) := if_neg (by omega)

/-- Before the wait of step `t`: its copy and the next one under way. -/
def WA (c : Dev nD) (t : ℕ) : sProp 𝕄 :=
  iprop(atPos ER (wCell c (par t)) (t / 2) ∅ 0 ∗ atPos ER (wCell c (par (t + 1))) ((t + 1) / 2) ∅ 0
    ∗ cred (tallyAt (wCell c (par t)) () Nw) ∗ wFly c (t + 1)
    ∗ bigSep (Finset.Ico (t + 2) 8) (wUse m c) ∗ bigSep (Finset.Ico 0 t) (wBack m c))
/-- After it: the half filled, the next copy under way. -/
def WB (c : Dev nD) (t : ℕ) : sProp 𝕄 :=
  iprop(atPos ER (wCell c (par t)) (t / 2 + 1) ∅ 0 ∗ reached ER (wCell c (par t)) (t / 2 + 1)
    ∗ hPts c (par t) (wB m c (colAt c t)) ∗ atPos ER (wCell c (par (t + 1))) ((t + 1) / 2) ∅ 0 ∗ wFly c (t + 1)
    ∗ bigSep (Finset.Ico (t + 2) 8) (wUse m c) ∗ bigSep (Finset.Ico 0 (t + 1)) (wBack m c))

/-- The start of the copy of step `t`. -/
theorem step_copy (c : Dev nD) (t : ℕ) (ht : t < 8) (s : Fin 2) (hs : par t = s)
    (off : Fin 2 → ℕ) (hoff : off = ![0, 256 * (colAt c t).val]) (offs : Fin 3 → ℕ) (hoffs : offs = ![s.val, 0, 0])
    (offq : Fin 1 → ℕ) (hoffq : offq = ![s.val])
    {h1 : ∀ a, off a + S4096x256.size a ≤ S4096x2048.size a} {h2 : ∀ a, offs a + S1x4096x256.size a ≤ S2x4096x256.size a}
    {h3 : ∀ a, offq a + S1.size a ≤ S2.size a} {hs1 hs2 hs3}
    {α : Type} {Q : α → sProp 𝕄} {J : PUnit → Prog (TpuEff nD τ sig (Elt F) Λ₀ .tc) α} :
    iprop(Rec m K ∗ wUse m c t ∗ (∃ f, hPts c s f) ∗ reached ER (wCell c s) (t / 2))
      ⊢ iprop((cred (tallyAt (wCell c s) () Nw) -∗ WP c (J ⟨⟩) Q)
          -∗ WP c (.op (.enqueueDma (wM.slice (Rect.unit (s := S4096x2048) off S4096x256.size h1) (fun _ => rfl))
              (.here ((wbM.slice (Rect.unit (s := S2x4096x256) offs S1x4096x256.size h2) (fun _ => rfl)).squeeze S4096x256 squeezes_S1x4096x256_S4096x256))
              (.dma ((cc0_scratch4.slice (Rect.unit (s := S2) offq S1.size h3)).squeeze S_ squeezes_S1_S_).sem) hs1 hs2 hs3) J) Q) := by
  subst hoff; subst hoffs; subst hoffq; subst hs
  unfold wUse
  iintro ⟨#HR, ⟨Hw, Ht⟩, ⟨%f, Hh⟩, Hr⟩ Hk
  ihave ⟨#HI, -⟩ := (rec_W m K c (par t)) $$ HR
  have hq := wSem_eq (par t) h3
  generalize hg : ((cc0_scratch4.slice (Rect.unit (s := S2) ![(par t).val] S1.size h3)).squeeze S_ squeezes_S1_S_).sem = q at hs3 ⊢
  obtain rfl : q = wSem (par t) := hg.symm.trans hq
  iapply (Rounds.wp_copy_pointsTo 𝒱₀ ER (rd m) (c : Thread nD τ) none (src := wCol (colAt c t)) (dst := wHalf (par t)) (sem := .dma (wSem (par t)))
      (κ := K (c, kW (par t))) (q := fullShare) (fs := wA m c) (fd := f) (r := t / 2) (d := (0 : Fin 16))
      (by rw [duties_half m c (par t) (t / 2) (by omega)]; exact Finset.mem_singleton_self _) () Nw (by rw [Nw_eq]) (amount_half m c (par t) (t / 2) 0)
      (by
        rw [payload_half]; unfold wPay hPts wPts
        rw [par_round, wHalf_set, wCol_set, pointsTo_congr (copy_half m c (par t) (colAt c t) f)])) $$ [Hw Hh Ht Hr]
  · isplitr; · iexact HI
    isplitl [Hw]; · unfold wPts; rw [wCol_set]; iexact Hw
    isplitl [Hh]; · unfold hPts; rw [wHalf_set]; iexact Hh
    isplitl [Ht]; · iexact Ht
    iexact Hr
  iexact Hk

/-- The first two copies are under way. -/
theorem wa_start (c : Dev nD) :
    iprop(atPos ER (wCell c 0) 0 ∅ 0 ∗ atPos ER (wCell c 1) 0 ∅ 0 ∗ cred (tallyAt (wCell c 0) () Nw) ∗ cred (tallyAt (wCell c 1) () Nw)
        ∗ bigSep (Finset.Ico 2 8) (wUse m c)) ⊢ WA m c 0 := by
  unfold WA wFly
  rw [if_pos (by decide), Finset.Ico_self, bigSep_empty]
  iintro ⟨H1, H2, H3, H4, H5⟩
  isplitl [H1]; · iexact H1
  isplitl [H2]; · iexact H2
  isplitl [H3]; · iexact H3
  isplitl [H4]; · iexact H4
  isplitl [H5]; · iexact H5
  iempintro

/-- The start of a later copy: that of step `t + 2`, into the half step `t` has used. -/
theorem step_next (c : Dev nD) (t : ℕ) (ht : t + 2 < 8) (s : Fin 2) (hs : par t = s)
    (off : Fin 2 → ℕ) (hoff : off = ![0, 256 * (colAt c (t + 2)).val]) (offs : Fin 3 → ℕ) (hoffs : offs = ![s.val, 0, 0])
    (offq : Fin 1 → ℕ) (hoffq : offq = ![s.val])
    {h1 : ∀ a, off a + S4096x256.size a ≤ S4096x2048.size a} {h2 : ∀ a, offs a + S1x4096x256.size a ≤ S2x4096x256.size a}
    {h3 : ∀ a, offq a + S1.size a ≤ S2.size a} {hs1 hs2 hs3}
    {α : Type} {Q : α → sProp 𝕄} {J : PUnit → Prog (TpuEff nD τ sig (Elt F) Λ₀ .tc) α} :
    iprop(Rec m K ∗ WB m c t)
      ⊢ iprop((WA m c (t + 1) -∗ WP c (J ⟨⟩) Q)
          -∗ WP c (.op (.enqueueDma (wM.slice (Rect.unit (s := S4096x2048) off S4096x256.size h1) (fun _ => rfl))
              (.here ((wbM.slice (Rect.unit (s := S2x4096x256) offs S1x4096x256.size h2) (fun _ => rfl)).squeeze S4096x256 squeezes_S1x4096x256_S4096x256))
              (.dma ((cc0_scratch4.slice (Rect.unit (s := S2) offq S1.size h3)).squeeze S_ squeezes_S1_S_).sem) hs1 hs2 hs3) J) Q) := by
  subst hs
  unfold WB WA
  rw [row_pop (t + 2) 8 ht]
  iintro ⟨#HR, Ha, Hr, Hh, Ha', Hf, ⟨Hu, Hus⟩, Hb⟩ Hk
  iapply (step_copy m K c (t + 2) ht (par t) (par_add_two t) off hoff offs hoffs offq hoffq) $$ [Hh Hr Hu]
  · isplitr; · iexact HR
    isplitl [Hu]; · iexact Hu
    isplitl [Hh]; · iexists _; iexact Hh
    rw [show (t + 2) / 2 = t / 2 + 1 by omega]; iexact Hr
  iintro Hc
  iapply Hk
  isplitl [Ha']; · iexact Ha'
  isplitl [Ha]
  · rw [show t + 1 + 1 = t + 2 from rfl, par_add_two, show (t + 2) / 2 = t / 2 + 1 by omega]; iexact Ha
  isplitl [Hf]; · iapply (Entails.of_eq (wFly_lt c (t + 1) (by omega))); iexact Hf
  isplitl [Hc]
  · iapply (Entails.of_eq (wFly_lt c (t + 1 + 1) (by omega)).symm); rw [show t + 1 + 1 = t + 2 from rfl, par_add_two]; iexact Hc
  isplitl [Hus]; · iexact Hus
  iexact Hb

/-- Before the last step no copy is started. -/
theorem wb_wa_last (c : Dev nD) : WB m c 6 ⊢ WA m c 7 := by
  unfold WB WA
  iintro ⟨Ha, Hr, Hh, Ha', Hf, Hus, Hb⟩
  isplitl [Ha']; · iexact Ha'
  isplitl [Ha]; · iexact Ha
  isplitl [Hf]; · iapply (Entails.of_eq (wFly_lt c (6 + 1) (by omega))); iexact Hf
  isplitl [Hh]; · iapply (Entails.of_eq (wFly_ge c (7 + 1) (by omega)).symm); iexists _; iexact Hh
  isplitl [Hus]; · rw [show Finset.Ico (6 + 2) 8 = Finset.Ico (7 + 2) 8 by decide]; iexact Hus
  iexact Hb

/-- The wait for the copy of step `t`. -/
theorem step_wait (c : Dev nD) (t : ℕ) (ht : t < 8) (i : ℕ) (s : Fin 2) (hs : par t = s) (offq : Fin 1 → ℕ) (hoffq : offq = ![s.val])
    {h3 : ∀ a, offq a + S1.size a ≤ S2.size a} {sp sp' : Space} {e : EltTy} (v : Memref sig .tc sp' S4096x256 e)
    (offs : Fin 3 → ℕ) {h2 : ∀ a, offs a + S1x4096x256.size a ≤ S2x4096x256.size a} {hs1 hs2}
    {α : Type} {Q : α → sProp 𝕄} {J : PUnit → Prog (TpuEff nD τ sig (Elt F) Λ₀ .tc) α} :
    iprop(Rec m K ∗ levAts L lv ∗ OW c (oweRecv c i) ∗ WA m c t)
      ⊢ iprop(((OW c (oweRecv c i) ∗ WB m c t) -∗ WP c (J ⟨⟩) Q)
          -∗ WP c (.op (.waitDma2 ((cc0_scratch4.slice (Rect.unit (s := S2) offq S1.size h3)).squeeze S_ squeezes_S1_S_).sem v
              ((wbM.slice (Rect.unit (s := S2x4096x256) offs S1x4096x256.size h2) (fun _ => rfl)).squeeze S4096x256 squeezes_S1x4096x256_S4096x256) hs1 hs2) J) Q) := by
  subst hoffq; subst hs
  unfold WA WB OW
  iintro ⟨#HR, #Hlev, ⟨%W, HO⟩, Ha, Ha', Hc, Hf, Hus, Hb⟩ Hk
  ihave ⟨#HI, -⟩ := (rec_W m K c (par t)) $$ HR
  rw [wSem_eq (par t) h3]
  iapply (Rounds.wp_wait_rest_token 𝒱₀ ER (rd m) (c : Thread nD τ) none (κ := K (c, kW (par t))) (k' := Nw)
      (fun K => (wpE_waitDma2_eq 𝒱₀ (c : Thread nD τ) none Set.univ K).trans (by rw [Nw_eq]))
      (Set.mem_univ _) () (O := oweRecv c i) (W := W) (R := t / 2) (m := 0) (T := ∅)
      (by rw [expect_half m c (par t) (t / 2) (by omega), Nat.zero_add])) $$ [Hc HO Ha]
  · isplitr; · iexact HI
    isplitl [Hc]; · iexact Hc
    isplitl [HO]; · iexact HO
    isplitr
    · iapply (mayWait_low c (wSem (par t)) (by rw [role_half]; rfl) (oweRecv c i) (fun g u h => .inl (oweRecv_pos h))); iexact Hlev
    iexact Ha
  iintro ⟨HO, Ha, Hr, Hp⟩
  ihave Hp' := (Entails.of_eq (rest_half m c (par t) (t / 2) (by omega))) $$ Hp
  unfold wPay
  rw [par_round]
  icases Hp' with ⟨Hh, Hw⟩
  iapply Hk
  isplitl [HO]; · iexists _; iexact HO
  isplitl [Ha]; · iexact Ha
  isplitl [Hr]; · iexact Hr
  isplitl [Hh]; · iexact Hh
  isplitl [Ha']; · iexact Ha'
  isplitl [Hf]; · iexact Hf
  isplitl [Hus]; · iexact Hus
  rw [row_push 0 t (Nat.zero_le _)]
  isplitl [Hw]; · unfold wBack; iexact Hw
  iexact Hb

end Cert.GemmA2A

end
-- ==== Proof.Moves.lean ====
module

public import proofs.«01_k».proof.Proof.Steps

@[expose] public section

noncomputable section

/-! # The chunks: made, sent, taken in -/

namespace Cert.GemmA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 35 → ℕ)

/-! ## Loads -/

def x8Pts (c : Dev nD) (f : S256x4096.Idx → Elt F .fp8e4m3) : sProp 𝕄 := ((c : Thread nD τ).loc cc0_scratch0) ↦{fullShare} f

theorem step_load_half (c : Dev nD) (t : ℕ) (s : Fin 2) (hs : par t = s) (offs : Fin 3 → ℕ) (hoffs : offs = ![s.val, 0, 0])
    {h2 : ∀ a, offs a + S1x4096x256.size a ≤ S2x4096x256.size a} {hl}
    {α : Type} {Q : α → sProp 𝕄} {J : Vec F S1x4096x256 .f32 → Prog (TpuEff nD τ sig (Elt F) Λ₀ .tc) α} :
    WB m c t ⊢ iprop((WB m c t -∗ WP c (J (wL m c (colAt c t))) Q)
      -∗ WP c (.op (.load wbM (Rect.unit (s := S2x4096x256) offs S1x4096x256.size h2).toLoadRect hl) J) Q) := by
  subst hs; subst hoffs
  unfold WB hPts
  iintro ⟨Ha, Hr, Hh, Ha', Hf, Hus, Hb⟩ Hk
  iapply (wp_load_rect 𝒱₀ (c : Thread nD τ) none Set.univ (m := wbM) (r := halfR (par t)) (S := halfSet (par t)) (q := fullShare) (f := wB m c (colAt c t))
    (by rw [wbM_set])) $$ [Hh]
  · iexact Hh
  iintro Hh
  rw [read_half]
  iapply Hk
  isplitl [Ha]; · iexact Ha
  isplitl [Hr]; · iexact Hr
  isplitl [Hh]; · iexact Hh
  isplitl [Ha']; · iexact Ha'
  isplitl [Hf]; · iexact Hf
  isplitl [Hus]; · iexact Hus
  iexact Hb

theorem step_load_x8 (c : Dev nD) (f : S256x4096.Idx → Elt F .fp8e4m3)
    {h2 : ∀ a, (![0, 0] : Fin 2 → ℕ) a + S256x4096.size a ≤ S256x4096.size a} {hl}
    {α : Type} {Q : α → sProp 𝕄} {J : Vec F S256x4096 .fp8e4m3 → Prog (TpuEff nD τ sig (Elt F) Λ₀ .tc) α} :
    x8Pts c f ⊢ iprop((x8Pts c f -∗ WP c (J f) Q)
      -∗ WP c (.op (.load x8M (Rect.unit (s := S256x4096) ![0, 0] S256x4096.size h2).toLoadRect hl) J) Q) := by
  unfold x8Pts
  iintro Hf Hk
  iapply (wp_load 𝒱₀ (c : Thread nD τ) none Set.univ (m := x8M) (r := (Rect.unit (s := S256x4096) ![0, 0] S256x4096.size h2).toLoadRect)
    (S := Finset.univ) (q := fullShare) (f := f) (Finset.subset_univ _)) $$ [Hf]
  · iexact Hf
  iintro Hf
  rw [load_x8]
  iapply Hk
  iexact Hf

/-! ## A chunk made and sent -/

/-- What the `k`-th chunk needs: its rows of the result if it is the device's own; else the tokens of the two semaphores, the
    slot of the send buffer, and the slot of the target's receive buffer. -/
def sendPre (c e : Dev nD) : sProp 𝕄 :=
  iprop(dutyTok ER (sCell c e) 0 (0 : Fin 16) ∗ dutyTok ER (rCell e c) 0 (0 : Fin 16) ∗ (∃ f, sPts c e f) ∗ ∃ f, rPts e c f)
def putPre (c : Dev nD) (k : ℕ) : sProp 𝕄 := if dst c k = c then iprop(∃ f, oPts c c f) else sendPre c (dst c k)
def putMid (c : Dev nD) (k : ℕ) : sProp 𝕄 := if dst c k = c then oPts c c (oB m c) else sendPre c (dst c k)
def putPost (c : Dev nD) (k : ℕ) : sProp 𝕄 := if dst c k = c then oPts c c (oB m c) else iprop(cred (tallyAt (sCell c (dst c k)) () N))

def PutSt (c : Dev nD) (k : ℕ) : sProp 𝕄 :=
  iprop(OW c (oweRecv c k) ∗ bigSep (Finset.Ico k 16) (putPre c) ∗ bigSep (Finset.Ico 0 k) (putPost m c))
def PutMid (c : Dev nD) (k : ℕ) : sProp 𝕄 :=
  iprop(OW c (oweRecv c k) ∗ putMid m c k ∗ bigSep (Finset.Ico (k + 1) 16) (putPre c) ∗ bigSep (Finset.Ico 0 k) (putPost m c))

/-- The device's own chunk goes straight to its rows of the result. -/
theorem step_own (c : Dev nD) (k : ℕ) (hk : k < 16) (cA : BitVec 1) (hc : cA = 1#1 ↔ dst c k = c)
    (off : Fin 2 → ℕ) (hoff : off = ![256 * c.val, 0]) (v : Vec F S256x128 .f32) (hv : v = chunk m c (dst c k))
    {h1 : cA = 1#1 → ∀ a, off a + S256x128.size a ≤ S4096x128.size a} {hl : ∀ h : cA = 1#1, _} {hx : ∀ h : cA = 1#1, _} {hm : ∀ h : cA = 1#1, _}
    {α : Type} {Q : α → sProp 𝕄} {J : Prog (TpuEff nD τ sig (Elt F) Λ₀ .tc) α} :
    PutSt m c k ⊢ iprop((PutMid m c k -∗ WP c J Q)
      -∗ WP c (if h : cA = 1#1 then .op (.load oM (Rect.unit (s := S4096x128) off S256x128.size (h1 h)).toLoadRect (hl h)) fun _ =>
            .op (.store oM (Rect.unit (s := S4096x128) off S256x128.size (h1 h)) v Finset.univ (hx h) (hm h)) fun _ => J
          else J) Q) := by
  subst hoff
  unfold PutSt PutMid putMid
  rw [row_pop k 16 hk, show putPre (F := F) c k = _ from rfl]
  unfold putPre
  by_cases he : dst c k = c
  · rw [if_pos he, if_pos he, dif_pos (hc.2 he)]
    unfold oPts
    iintro ⟨HO, ⟨⟨%f, Hf⟩, Hpre⟩, Hpost⟩ Hk
    iapply (wp_load_rect 𝒱₀ (c : Thread nD τ) none Set.univ (m := oM) (r := rowR c) (S := rowSet c) (q := fullShare) (f := f)
      (by rw [oM_set])) $$ [Hf]
    · iexact Hf
    iintro Hf
    iapply (wp_store 𝒱₀ (c : Thread nD τ) none Set.univ (m := oM) (r := rowR c) (S := rowSet c) (w := v) (Mk := Finset.univ) (f := f)
      (by rw [View.setOn_univ, oM_set])) $$ [Hf]
    · iexact Hf
    iintro Hf
    iapply Hk
    isplitl [HO]; · iexact HO
    isplitl [Hf]
    · iapply (Entails.of_eq (pointsTo_congr (store_out m c c f v (by rw [hv, he]; unfold oBlk; rw [if_pos rfl])))); iexact Hf
    isplitl [Hpre]; · iexact Hpre
    iexact Hpost
  · rw [if_neg he, if_neg he, dif_neg (fun h => he (hc.1 h))]
    iintro ⟨HO, ⟨Hf, Hpre⟩, Hpost⟩ Hk
    iapply Hk
    isplitl [HO]; · iexact HO
    isplitl [Hf]; · iexact Hf
    isplitl [Hpre]; · iexact Hpre
    iexact Hpost

theorem oweTo_ne (c e : Dev nD) (h : e ≠ c) : oweTo c e = tallyAt (rCell e c) () N := if_neg h
theorem oweTo_self (c e : Dev nD) (h : e = c) : oweTo c e = 0 := if_pos h

/-- Another device's chunk: stored in the send buffer, and sent from there. -/
theorem send_core (c e : Dev nD) (he : e ≠ c) (O : CellTallies nD τ sig Unit) (v : Vec F S1x256x128 .bf16) (hv : v = sent m c e)
    {q q' : DmaSem sig} (hq : q = sSem e) (hq' : q' = rSem c)
    {h1 : ∀ a, ![e.val, 0, 0] a + S1x256x128.size a ≤ S16x256x128.size a} {hl hx hm}
    {h4 : ∀ a, ![c.val, 0, 0] a + S1x256x128.size a ≤ S16x256x128.size a} {h5 : ∀ a, ![e.val, 0, 0] a + S1x256x128.size a ≤ S16x256x128.size a}
    {h6 : e.val < nD} {h7} {h8 : ((rM.slice (Rect.unit (s := S16x256x128) ![c.val, 0, 0] S1x256x128.size h4) (fun _ => rfl)).squeeze S256x128 squeezes_S1x256x128_S256x128).view.WordExact} {h10}
    {h9 : DmaTarget.Typed (nD := nD) .vmem (.dma q')
      (.remote (Dev.tc (⟨e.val, h6⟩ : Dev nD)) ((rM.slice (Rect.unit (s := S16x256x128) ![c.val, 0, 0] S1x256x128.size h4) (fun _ => rfl)).squeeze S256x128 squeezes_S1x256x128_S256x128)
        (.dma q) h10)}
    {α : Type} {Q : α → sProp 𝕄} {J : Prog (TpuEff nD τ sig (Elt F) Λ₀ .tc) α} :
    iprop(Rec m K ∗ OW c (O + tallyAt (rCell e c) () N) ∗ sendPre c e) ⊢ iprop(((OW c O ∗ cred (tallyAt (sCell c e) () N)) -∗ WP c J Q)
      -∗ WP c (.op (.load sM (Rect.unit (s := S16x256x128) ![e.val, 0, 0] S1x256x128.size h1).toLoadRect hl) fun _ =>
            .op (.store sM (Rect.unit (s := S16x256x128) ![e.val, 0, 0] S1x256x128.size h1) v Finset.univ hx hm) fun _ =>
            .op (.enqueueDma ((sM.slice (Rect.unit (s := S16x256x128) ![e.val, 0, 0] S1x256x128.size h5) (fun _ => rfl)).squeeze S256x128 squeezes_S1x256x128_S256x128)
              (.remote (Dev.tc (⟨e.val, h6⟩ : Dev nD)) ((rM.slice (Rect.unit (s := S16x256x128) ![c.val, 0, 0] S1x256x128.size h4) (fun _ => rfl)).squeeze S256x128 squeezes_S1x256x128_S256x128)
                (.dma q) h10)
              (.dma q') h7 h8 h9) fun _ => J) Q) := by
  subst hq; subst hq'
  unfold sendPre OW
  iintro ⟨#HR, ⟨%W, HO⟩, Ht, Ht', ⟨%f, Hf⟩, ⟨%g, Hg⟩⟩ Hk
  ihave ⟨#HI, #Hr⟩ := (rec_S m K c e) $$ HR
  ihave ⟨#HI', #Hr'⟩ := (rec_R m K e c) $$ HR
  unfold sPts rPts
  iapply (wp_load_rect 𝒱₀ (c : Thread nD τ) none Set.univ (m := sM) (r := slotR e) (S := slotSet e) (q := fullShare) (f := f)
    (by rw [sM_set])) $$ [Hf]
  · iexact Hf
  iintro Hf
  iapply (wp_store 𝒱₀ (c : Thread nD τ) none Set.univ (m := sM) (r := slotR e) (S := slotSet e) (w := v) (Mk := Finset.univ) (f := f)
    (by rw [View.setOn_univ, sM_set])) $$ [Hf]
  · iexact Hf
  iintro Hf
  iapply (Rounds.wp_send_pointsTo 𝒱₀ ER (rd m) (c : Thread nD τ) none (c' := (e : Thread nD τ)) (src := sSlot e) (dst := rSlot c)
      (κ₁ := K (c, kS e)) (κ₂ := K (e, kR c)) (r₁ := 0) (r₂ := 0) (d₁ := (0 : Fin 16)) (d₂ := (0 : Fin 16)) (fd := g) (fs := sB m c) (q := fullShare)
      (sS := .dma (sSem e)) (sem := .dma (rSem c))
      (by rw [duties_send m c e he]; exact Finset.mem_singleton_self _) (by rw [duties_recv m e c (Ne.symm he)]; exact Finset.mem_singleton_self _)
      () () N (by rw [N_eq]) (amount_send m c e 0 0) (amount_recv m e c 0 0) O rfl (W := W)
      (by rw [payload_send]; unfold sPay sPts; rw [sSlot_set])
      (by rw [payload_recv]; unfold rPay rPts; rw [rSlot_set, pointsTo_congr (copy_slot m c e g)])) $$ [Hf Hg HO Ht Ht']
  · isplitr; · iexact HI
    isplitr; · iexact HI'
    isplitl [Hf]
    · rw [sSlot_set]; iapply (Entails.of_eq (pointsTo_congr (store_slot m c e f v hv))); iexact Hf
    isplitl [Hg]; · rw [rSlot_set]; iexact Hg
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  iexact Hc

/-- Any other chunk goes to the send buffer, and from there to its device. -/
theorem step_send (c : Dev nD) (k : ℕ) (hk : k < 16) (cB : BitVec 1) (hc : cB = 1#1 ↔ dst c k ≠ c)
    (off : Fin 3 → ℕ) (hoff : off = ![(dst c k).val, 0, 0]) (v : Vec F S1x256x128 .bf16) (hv : v = sent m c (dst c k))
    (offs : Fin 1 → ℕ) (hoffs : offs = ![(dst c k).val]) (offr : Fin 1 → ℕ) (hoffr : offr = ![c.val])
    (offd : Fin 3 → ℕ) (hoffd : offd = ![c.val, 0, 0]) (offe : Fin 3 → ℕ) (hoffe : offe = ![(dst c k).val, 0, 0])
    (n : ℕ) (hn : n = (dst c k).val)
    {h1 : cB = 1#1 → ∀ a, off a + S1x256x128.size a ≤ S16x256x128.size a} {hl : ∀ h : cB = 1#1, _} {hx : ∀ h : cB = 1#1, _} {hm : ∀ h : cB = 1#1, _}
    {h2 : cB = 1#1 → ∀ a, offs a + S1.size a ≤ S16.size a} {h3 : cB = 1#1 → ∀ a, offr a + S1.size a ≤ S16.size a}
    {h4 : cB = 1#1 → ∀ a, offd a + S1x256x128.size a ≤ S16x256x128.size a} {h5 : cB = 1#1 → ∀ a, offe a + S1x256x128.size a ≤ S16x256x128.size a}
    {h6 : cB = 1#1 → n < nD} {h7 : ∀ h : cB = 1#1, _} {h8 : ∀ h : cB = 1#1, ((rM.slice (Rect.unit (s := S16x256x128) offd S1x256x128.size (h4 h)) (fun _ => rfl)).squeeze S256x128 squeezes_S1x256x128_S256x128).view.WordExact} {h10 : ∀ h : cB = 1#1, _}
    {h9 : ∀ h : cB = 1#1, DmaTarget.Typed (nD := nD) .vmem (.dma ((cc0_scratch6.slice (Rect.unit (s := S16) offr S1.size (h3 h))).squeeze S_ squeezes_S1_S_).sem)
      (.remote (Dev.tc (⟨n, h6 h⟩ : Dev nD)) ((rM.slice (Rect.unit (s := S16x256x128) offd S1x256x128.size (h4 h)) (fun _ => rfl)).squeeze S256x128 squeezes_S1x256x128_S256x128)
        (.dma ((cc0_scratch5.slice (Rect.unit (s := S16) offs S1.size (h2 h))).squeeze S_ squeezes_S1_S_).sem) (h10 h))}
    {α : Type} {Q : α → sProp 𝕄} {J : Prog (TpuEff nD τ sig (Elt F) Λ₀ .tc) α} :
    iprop(Rec m K ∗ PutMid m c k) ⊢ iprop((PutSt m c (k + 1) -∗ WP c J Q)
      -∗ WP c (if h : cB = 1#1 then .op (.load sM (Rect.unit (s := S16x256x128) off S1x256x128.size (h1 h)).toLoadRect (hl h)) fun _ =>
            .op (.store sM (Rect.unit (s := S16x256x128) off S1x256x128.size (h1 h)) v Finset.univ (hx h) (hm h)) fun _ =>
            .op (.enqueueDma ((sM.slice (Rect.unit (s := S16x256x128) offe S1x256x128.size (h5 h)) (fun _ => rfl)).squeeze S256x128 squeezes_S1x256x128_S256x128)
              (.remote (Dev.tc (⟨n, h6 h⟩ : Dev nD)) ((rM.slice (Rect.unit (s := S16x256x128) offd S1x256x128.size (h4 h)) (fun _ => rfl)).squeeze S256x128 squeezes_S1x256x128_S256x128)
                (.dma ((cc0_scratch5.slice (Rect.unit (s := S16) offs S1.size (h2 h))).squeeze S_ squeezes_S1_S_).sem) (h10 h))
              (.dma ((cc0_scratch6.slice (Rect.unit (s := S16) offr S1.size (h3 h))).squeeze S_ squeezes_S1_S_).sem) (h7 h) (h8 h) (h9 h)) fun _ => J
          else J) Q) := by
  unfold PutSt PutMid putMid
  rw [row_push 0 k (Nat.zero_le _), show putPost m c k = _ from rfl, oweRecv_pop c k hk]
  unfold putPost
  by_cases he : dst c k = c
  · rw [if_pos he, if_pos he, dif_neg (fun h => hc.1 h he), oweTo_self c _ he, add_zero]
    iintro ⟨-, HO, Hf, Hpre, Hpost⟩ Hk
    iapply Hk
    isplitl [HO]; · iexact HO
    isplitl [Hpre]; · iexact Hpre
    isplitl [Hf]; · iexact Hf
    iexact Hpost
  · have hB := hc.2 he
    rw [if_neg he, if_neg he, dif_pos hB, oweTo_ne c _ he]
    have h6' := h6 hB
    generalize hE : dst c k = e at *
    subst hoff; subst hoffs; subst hoffr; subst hoffd; subst hoffe; subst hn
    iintro ⟨#HR, HO, Hs, Hpre, Hpost⟩ Hk
    iapply (send_core m K c e he (oweRecv c (k + 1)) v hv (sSem_eq e (h2 hB)) (rSem_eq c (h3 hB))) $$ [HO Hs]
    · isplitr; · iexact HR
      isplitl [HO]; · iexact HO
      iexact Hs
    iintro ⟨HO, Hc⟩
    iapply Hk
    isplitl [HO]; · iexact HO
    isplitl [Hpre]; · iexact Hpre
    isplitl [Hc]; · iexact Hc
    iexact Hpost

/-! ## A chunk taken in -/

def recvPre (c : Dev nD) (k : ℕ) : sProp 𝕄 :=
  if src c k = c then iprop(emp) else iprop(cred (tallyAt (rCell c (src c k)) () N) ∗ atPos ER (rCell c (src c k)) 0 ∅ 0 ∗ ∃ f, oPts c (src c k) f)
def recvPost (c : Dev nD) (k : ℕ) : sProp 𝕄 :=
  if src c k = c then iprop(emp) else iprop(atPos ER (rCell c (src c k)) 1 ∅ 0 ∗ oPts c (src c k) (oB m c) ∗ rPts c (src c k) (rB m c))
def RecvSt (c : Dev nD) (k : ℕ) : sProp 𝕄 :=
  iprop(OW c 0 ∗ bigSep (Finset.Ico k 16) (recvPre c) ∗ bigSep (Finset.Ico 0 k) (recvPost m c))

theorem step_recv (c : Dev nD) (k : ℕ) (hk : k < 16) (cR : BitVec 1) (hc : cR = 1#1 ↔ src c k ≠ c)
    (offs : Fin 1 → ℕ) (hoffs : offs = ![(src c k).val]) (offl : Fin 3 → ℕ) (hoffl : offl = ![(src c k).val, 0, 0])
    (offo : Fin 2 → ℕ) (hoffo : offo = ![256 * (src c k).val, 0]) (offd : Fin 3 → ℕ)
    (pay : Vec F S1x256x128 .bf16 → Vec F S256x128 .f32) (hpay : ∀ v, pay v = k0_pay44 v)
    {h1 : cR = 1#1 → ∀ a, offs a + S1.size a ≤ S16.size a} {h2 : cR = 1#1 → ∀ a, offl a + S1x256x128.size a ≤ S16x256x128.size a}
    {h3 : cR = 1#1 → ∀ a, offo a + S256x128.size a ≤ S4096x128.size a} {h4 : cR = 1#1 → ∀ a, offd a + S1x256x128.size a ≤ S16x256x128.size a}
    {hl : ∀ h : cR = 1#1, _} {hl' : ∀ h : cR = 1#1, _} {hx : ∀ h : cR = 1#1, _} {hm : ∀ h : cR = 1#1, _} {hw : ∀ h : cR = 1#1, _} {hw' : ∀ h : cR = 1#1, _}
    {α : Type} {Q : α → sProp 𝕄} {J : Prog (TpuEff nD τ sig (Elt F) Λ₀ .tc) α} :
    iprop(Rec m K ∗ RecvSt m c k) ⊢ iprop((RecvSt m c (k + 1) -∗ WP c J Q)
      -∗ WP c (if h : cR = 1#1 then .op (.waitDma2 ((cc0_scratch6.slice (Rect.unit (s := S16) offs S1.size (h1 h))).squeeze S_ squeezes_S1_S_).sem
              ((rM.slice (Rect.unit (s := S16x256x128) offd S1x256x128.size (h4 h)) (fun _ => rfl)).squeeze S256x128 squeezes_S1x256x128_S256x128)
              ((rM.slice (Rect.unit (s := S16x256x128) offd S1x256x128.size (h4 h)) (fun _ => rfl)).squeeze S256x128 squeezes_S1x256x128_S256x128) (hw h) (hw' h)) fun _ =>
            .op (.load rM (Rect.unit (s := S16x256x128) offl S1x256x128.size (h2 h)).toLoadRect (hl h)) fun v =>
            .op (.load oM (Rect.unit (s := S4096x128) offo S256x128.size (h3 h)).toLoadRect (hl' h)) fun _ =>
            .op (.store oM (Rect.unit (s := S4096x128) offo S256x128.size (h3 h)) (pay v) Finset.univ (hx h) (hm h)) fun _ => J
          else J) Q) := by
  unfold RecvSt OW
  rw [row_pop k 16 hk, row_push 0 k (Nat.zero_le _), show recvPost m c k = _ from rfl, show recvPre (F := F) c k = _ from rfl]
  unfold recvPre recvPost
  by_cases he : src c k = c
  · rw [if_pos he, if_pos he, dif_neg (fun h => hc.1 h he)]
    iintro ⟨-, HO, ⟨Hf, Hpre⟩, Hpost⟩ Hk
    iapply Hk
    isplitl [HO]; · iexact HO
    isplitl [Hpre]; · iexact Hpre
    isplitl [Hf]; · iexact Hf
    iexact Hpost
  · have hB := hc.2 he
    rw [if_neg he, if_neg he, dif_pos hB]
    generalize hE : src c k = e at *
    subst hoffs; subst hoffl; subst hoffo
    iintro ⟨#HR, ⟨%W, HO⟩, ⟨⟨Hc, Ha, ⟨%f, Hf⟩⟩, Hpre⟩, Hpost⟩ Hk
    ihave ⟨#HI, -⟩ := (rec_R m K c e) $$ HR
    rw [rSem_eq e (h1 hB)]
    iapply (Rounds.wp_wait_rest_token 𝒱₀ ER (rd m) (c : Thread nD τ) none (κ := K (c, kR e)) (k' := N)
        (fun K => (wpE_waitDma2_eq 𝒱₀ (c : Thread nD τ) none Set.univ K).trans (by rw [N_eq]))
        (Set.mem_univ _) () (O := 0) (W := W) (R := 0) (m := 0) (T := ∅)
        (by rw [expect_recv m c e he, Nat.zero_add])) $$ [Hc HO Ha]
    · isplitr; · iexact HI
      isplitl [Hc]; · iexact Hc
      isplitl [HO]; · iexact HO
      isplitr; · rw [MayWait_zero]; iempintro
      iexact Ha
    iintro ⟨HO, Ha, -, Hp⟩
    ihave Hp' := (Entails.of_eq (rest_recv m c e he)) $$ Hp
    unfold rPay rPts oPts
    iapply (wp_load_rect 𝒱₀ (c : Thread nD τ) none Set.univ (m := rM) (r := slotR e) (S := slotSet e) (q := fullShare) (f := rB m c)
      (by rw [rM_set])) $$ [Hp']
    · iexact Hp'
    iintro Hr
    rw [read_slot, hpay]
    iapply (wp_load_rect 𝒱₀ (c : Thread nD τ) none Set.univ (m := oM) (r := rowR e) (S := rowSet e) (q := fullShare) (f := f)
      (by rw [oM_set])) $$ [Hf]
    · iexact Hf
    iintro Hf
    iapply (wp_store 𝒱₀ (c : Thread nD τ) none Set.univ (m := oM) (r := rowR e) (S := rowSet e) (w := k0_pay44 (sent m e c)) (Mk := Finset.univ) (f := f)
      (by rw [View.setOn_univ, oM_set])) $$ [Hf]
    · iexact Hf
    iintro Hf
    iapply Hk
    isplitl [HO]; · iexists _; iexact HO
    isplitl [Hpre]; · iexact Hpre
    isplitr [Hpost]
    · isplitl [Ha]; · iexact Ha
      isplitl [Hf]
      · iapply (Entails.of_eq (pointsTo_congr (store_out m c e f (k0_pay44 (sent m e c)) (by unfold oBlk; rw [if_neg he])))); iexact Hf
      iexact Hr
    iexact Hpost

/-! ## The wait that a chunk was sent -/

def sentPre (c : Dev nD) (k : ℕ) : sProp 𝕄 := iprop(cred (tallyAt (sCell c (rot c k)) () N) ∗ atPos ER (sCell c (rot c k)) 0 ∅ 0)
def sentPost (c : Dev nD) (k : ℕ) : sProp 𝕄 := iprop(atPos ER (sCell c (rot c k)) 1 ∅ 0 ∗ sPts c (rot c k) (sB m c))
def SentSt (c : Dev nD) (k : ℕ) : sProp 𝕄 := iprop(OW c 0 ∗ bigSep (Finset.Ico k 16) (sentPre c) ∗ bigSep (Finset.Ico 1 k) (sentPost m c))

theorem step_sent (c : Dev nD) (k : ℕ) (h1 : 1 ≤ k) (h2 : k < 16) (offs : Fin 1 → ℕ) (hoffs : offs = ![(rot c k).val])
    {h3 : ∀ a, offs a + S1.size a ≤ S16.size a} (v : Memref sig .tc .vmem S256x128 .bf16)
    (offd : Fin 3 → ℕ) {h4 : ∀ a, offd a + S1x256x128.size a ≤ S16x256x128.size a} {hw hw'}
    {α : Type} {Q : α → sProp 𝕄} {J : PUnit → Prog (TpuEff nD τ sig (Elt F) Λ₀ .tc) α} :
    iprop(Rec m K ∗ SentSt m c k) ⊢ iprop((SentSt m c (k + 1) -∗ WP c (J ⟨⟩) Q)
      -∗ WP c (.op (.waitDma2 ((cc0_scratch5.slice (Rect.unit (s := S16) offs S1.size h3)).squeeze S_ squeezes_S1_S_).sem v
              ((sM.slice (Rect.unit (s := S16x256x128) offd S1x256x128.size h4) (fun _ => rfl)).squeeze S256x128 squeezes_S1x256x128_S256x128) hw hw') J) Q) := by
  subst hoffs
  unfold SentSt OW
  rw [row_pop k 16 h2, row_push 1 k h1, show sentPost m c k = _ from rfl, show sentPre (F := F) c k = _ from rfl]
  unfold sentPre sentPost
  iintro ⟨#HR, ⟨%W, HO⟩, ⟨⟨Hc, Ha⟩, Hpre⟩, Hpost⟩ Hk
  have he : rot c k ≠ c := (rot_ne c k h1 h2).symm
  ihave ⟨#HI, -⟩ := (rec_S m K c (rot c k)) $$ HR
  rw [sSem_eq (rot c k) h3]
  iapply (Rounds.wp_wait_rest_token 𝒱₀ ER (rd m) (c : Thread nD τ) none (κ := K (c, kS (rot c k))) (k' := N)
      (fun K => (wpE_waitDma2_eq 𝒱₀ (c : Thread nD τ) none Set.univ K).trans (by rw [N_eq]))
      (Set.mem_univ _) () (O := 0) (W := W) (R := 0) (m := 0) (T := ∅)
      (by rw [expect_send m c (rot c k) he, Nat.zero_add])) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave Hp' := (Entails.of_eq (rest_send m c (rot c k) he)) $$ Hp
  unfold sPay
  iapply Hk
  isplitl [HO]; · iexists _; iexact HO
  isplitl [Hpre]; · iexact Hpre
  isplitr [Hpost]
  · isplitl [Ha]; · iexact Ha
    iexact Hp'
  iexact Hpost

end Cert.GemmA2A

end
-- ==== Proof.State.lean ====
module

public import proofs.«01_k».proof.Proof.Moves

@[expose] public section

noncomputable section

namespace Cert.GemmA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 35 → ℕ)

/-! # The moves over the device's whole state

Each lemma takes the state before one printed stretch to the state after it. -/

theorem wp_ret' (c : Dev nD) {α : Type} {Q : α → sProp 𝕄} (a : α) : Q a ⊢ WP c (.ret a) Q := by
  unfold WP; rw [wp_ret]; iintro H; imodintro; iexact H

theorem wp_dev (c : Dev nD) {α : Type} {Q : α → sProp 𝕄} {J : Dev nD → Prog (TpuEff nD τ sig (Elt F) Λ₀ .tc) α} :
    WP c (J c) Q ⊢ WP c (.op .deviceId J) Q := Entails.of_eq (wp_deviceId 𝒱₀ (c : Thread nD τ) none Set.univ).symm

/-- While the device signals. -/
def SG (c : Dev nD) (k : ℕ) : sProp 𝕄 := iprop(Rec m K ∗ SigSt c k)
/-- While it multiplies and sends: before a wait for a weight block, -/
def BA (c : Dev nD) (k t : ℕ) : sProp 𝕄 := iprop(Rec m K ∗ levAts L lv ∗ PutSt m c k ∗ WA m c t ∗ x8Pts c (x8 m c))
/-- and after it. -/
def BB (c : Dev nD) (k t : ℕ) : sProp 𝕄 := iprop(Rec m K ∗ levAts L lv ∗ PutSt m c k ∗ WB m c t ∗ x8Pts c (x8 m c))
/-- While it takes in the others' chunks. -/
def RV (c : Dev nD) (k : ℕ) : sProp 𝕄 := iprop(Rec m K ∗ RecvSt m c k)
/-- While it waits for its own to have left. -/
def ST (c : Dev nD) (k : ℕ) : sProp 𝕄 := iprop(Rec m K ∗ SentSt m c k)

theorem chunk_even (c : Dev nD) (k : ℕ) (h : k % 2 = 0) :
    k0_pay4 (sc m c) (wL m c (colAt c (k / 2))) (x8 m c) = chunk m c (dst c k) := by
  have hp : (dst c k).val % 2 = 0 := by show (2 * ((c.val / 2 + k / 2) % 8) + k % 2) % 2 = 0; omega
  have hb : blkOf (dst c k) = colAt c (k / 2) :=
    Fin.ext (by show (2 * ((c.val / 2 + k / 2) % 8) + k % 2) / 2 = (c.val / 2 + k / 2) % 8; omega)
  unfold chunk
  rw [if_pos hp, hb]

theorem chunk_odd (c : Dev nD) (k : ℕ) (h : k % 2 = 1) :
    k0_pay6 (sc m c) (wL m c (colAt c (k / 2))) (x8 m c) = chunk m c (dst c k) := by
  have hp : ¬ (dst c k).val % 2 = 0 := by show ¬ (2 * ((c.val / 2 + k / 2) % 8) + k % 2) % 2 = 0; omega
  have hb : blkOf (dst c k) = colAt c (k / 2) :=
    Fin.ext (by show (2 * ((c.val / 2 + k / 2) % 8) + k % 2) / 2 = (c.val / 2 + k / 2) % 8; omega)
  unfold chunk
  rw [if_neg hp, hb]

theorem b_sig (c : Dev nD) (k : ℕ) (h1 : 1 ≤ k) (h2 : k < 16) (n : ℕ) (hn : n = (rot c k).val) {hlt : n < nD} (a : ℕ) (ha : a = 1)
    {α : Type} {Q : α → sProp 𝕄} {J : PUnit → Prog (TpuEff nD τ sig (Elt F) Λ₀ .tc) α} :
    SG m K c k ⊢ iprop((SG m K c (k + 1) -∗ WP c (J ⟨⟩) Q) -∗ WP c (.op (.semSignal ((⟨n, hlt⟩ : Dev nD) : Thread nD τ) barS a) J) Q) := by
  unfold SG
  iintro ⟨#HR, HS⟩ Hk
  iapply (step_signal m K c k h1 h2 n hn a ha) $$ [HS]
  · isplitr; · iexact HR
    iexact HS
  iintro HS
  iapply Hk
  isplitr; · iexact HR
  iexact HS

/-- One chunk handled: stored if it is the device's own, sent otherwise. -/
theorem b_put (c : Dev nD) (k t : ℕ) (hk : k < 16) (cA cB : BitVec 1) (oA : Fin 2 → ℕ) (oS : Fin 3 → ℕ) (oq oq' : Fin 1 → ℕ) (oD oE : Fin 3 → ℕ) (n : ℕ)
    (hp : (cA = 1#1 ↔ dst c k = c) ∧ (cB = 1#1 ↔ dst c k ≠ c) ∧ oA = ![256 * c.val, 0] ∧ oS = ![(dst c k).val, 0, 0]
      ∧ oq = ![(dst c k).val] ∧ oq' = ![c.val] ∧ oD = ![c.val, 0, 0] ∧ oE = ![(dst c k).val, 0, 0] ∧ n = (dst c k).val)
    (v : Vec F S256x128 .f32) (hv : v = chunk m c (dst c k)) (w : Vec F S1x256x128 .bf16) (hw : w = k0_pay7 v)
    {h1 : cA = 1#1 → ∀ a, oA a + S256x128.size a ≤ S4096x128.size a} {g1 : ∀ h : cA = 1#1, _} {g2 : ∀ h : cA = 1#1, _} {g3 : ∀ h : cA = 1#1, _}
    {i1 : cB = 1#1 → ∀ a, oS a + S1x256x128.size a ≤ S16x256x128.size a} {hl : ∀ h : cB = 1#1, _} {hx : ∀ h : cB = 1#1, _} {hm : ∀ h : cB = 1#1, _}
    {i2 : cB = 1#1 → ∀ a, oq a + S1.size a ≤ S16.size a} {i3 : cB = 1#1 → ∀ a, oq' a + S1.size a ≤ S16.size a}
    {i4 : cB = 1#1 → ∀ a, oD a + S1x256x128.size a ≤ S16x256x128.size a} {i5 : cB = 1#1 → ∀ a, oE a + S1x256x128.size a ≤ S16x256x128.size a}
    {i6 : cB = 1#1 → n < nD} {i7 : ∀ h : cB = 1#1, _} {i8 : ∀ h : cB = 1#1, ((rM.slice (Rect.unit (s := S16x256x128) oD S1x256x128.size (i4 h)) (fun _ => rfl)).squeeze S256x128 squeezes_S1x256x128_S256x128).view.WordExact} {i10 : ∀ h : cB = 1#1, _}
    {i9 : ∀ h : cB = 1#1, DmaTarget.Typed (nD := nD) .vmem (.dma ((cc0_scratch6.slice (Rect.unit (s := S16) oq' S1.size (i3 h))).squeeze S_ squeezes_S1_S_).sem)
      (.remote (Dev.tc (⟨n, i6 h⟩ : Dev nD)) ((rM.slice (Rect.unit (s := S16x256x128) oD S1x256x128.size (i4 h)) (fun _ => rfl)).squeeze S256x128 squeezes_S1x256x128_S256x128)
        (.dma ((cc0_scratch5.slice (Rect.unit (s := S16) oq S1.size (i2 h))).squeeze S_ squeezes_S1_S_).sem) (i10 h))}
    {α : Type} {Q : α → sProp 𝕄} {J : Prog (TpuEff nD τ sig (Elt F) Λ₀ .tc) α} :
    BB m K c k t ⊢ iprop((BB m K c (k + 1) t -∗ WP c J Q)
      -∗ WP c (have jp : PUnit.{1} → Prog (TpuEff nD τ sig (Elt F) Λ₀ .tc) α := fun _ =>
          (if h : cB = 1#1 then .op (.load sM (Rect.unit (s := S16x256x128) oS S1x256x128.size (i1 h)).toLoadRect (hl h)) fun _ =>
            .op (.store sM (Rect.unit (s := S16x256x128) oS S1x256x128.size (i1 h)) w Finset.univ (hx h) (hm h)) fun _ =>
            .op (.enqueueDma ((sM.slice (Rect.unit (s := S16x256x128) oE S1x256x128.size (i5 h)) (fun _ => rfl)).squeeze S256x128 squeezes_S1x256x128_S256x128)
              (.remote (Dev.tc (⟨n, i6 h⟩ : Dev nD)) ((rM.slice (Rect.unit (s := S16x256x128) oD S1x256x128.size (i4 h)) (fun _ => rfl)).squeeze S256x128 squeezes_S1x256x128_S256x128)
                (.dma ((cc0_scratch5.slice (Rect.unit (s := S16) oq S1.size (i2 h))).squeeze S_ squeezes_S1_S_).sem) (i10 h))
              (.dma ((cc0_scratch6.slice (Rect.unit (s := S16) oq' S1.size (i3 h))).squeeze S_ squeezes_S1_S_).sem) (i7 h) (i8 h) (i9 h)) fun _ => J
          else J)
        if h : cA = 1#1 then .op (.load oM (Rect.unit (s := S4096x128) oA S256x128.size (h1 h)).toLoadRect (g1 h)) fun _ =>
            .op (.store oM (Rect.unit (s := S4096x128) oA S256x128.size (h1 h)) v Finset.univ (g2 h) (g3 h)) fun _ => jp ⟨⟩
          else jp ⟨⟩) Q) := by
  obtain ⟨p1, p2, p3, p4, p5, p6, p7, p8, p9⟩ := hp
  subst hw
  unfold BB
  iintro ⟨#HR, #Hlev, HP, HW, Hx⟩ Hk
  iapply (step_own m c k hk cA p1 oA p3 v hv) $$ HP
  iintro HP
  iapply (step_send m K c k hk cB p2 oS p4 (k0_pay7 v) (by rw [hv]; rfl) oq p5 oq' p6 oD p7 oE p8 n p9) $$ [HP]
  · isplitr; · iexact HR
    iexact HP
  iintro HP
  iapply Hk
  isplitr; · iexact HR
  isplitr; · iexact Hlev
  isplitl [HP]; · iexact HP
  isplitl [HW]; · iexact HW
  iexact Hx

theorem b_wait (c : Dev nD) (k t : ℕ) (ht : t < 8) (s : Fin 2) (hs : par t = s) (offq : Fin 1 → ℕ) (hoffq : offq = ![s.val])
    {h3 : ∀ a, offq a + S1.size a ≤ S2.size a} {sp sp' : Space} {e : EltTy} (v : Memref sig .tc sp' S4096x256 e)
    (offs : Fin 3 → ℕ) {h2 : ∀ a, offs a + S1x4096x256.size a ≤ S2x4096x256.size a} {hs1 hs2}
    {α : Type} {Q : α → sProp 𝕄} {J : PUnit → Prog (TpuEff nD τ sig (Elt F) Λ₀ .tc) α} :
    BA m K c k t
      ⊢ iprop((BB m K c k t -∗ WP c (J ⟨⟩) Q)
          -∗ WP c (.op (.waitDma2 ((cc0_scratch4.slice (Rect.unit (s := S2) offq S1.size h3)).squeeze S_ squeezes_S1_S_).sem v
              ((wbM.slice (Rect.unit (s := S2x4096x256) offs S1x4096x256.size h2) (fun _ => rfl)).squeeze S4096x256 squeezes_S1x4096x256_S4096x256) hs1 hs2) J) Q) := by
  unfold BA BB PutSt
  iintro ⟨#HR, #Hlev, ⟨HO, HP⟩, HW, Hx⟩ Hk
  iapply (step_wait m K c t ht k s hs offq hoffq v offs (sp := sp)) $$ [HO HW]
  · isplitr; · iexact HR
    isplitr; · iexact Hlev
    isplitl [HO]; · iexact HO
    iexact HW
  iintro ⟨HO, HW⟩
  iapply Hk
  isplitr; · iexact HR
  isplitr; · iexact Hlev
  isplitl [HO HP]
  · isplitl [HO]; · iexact HO
    iexact HP
  isplitl [HW]; · iexact HW
  iexact Hx

theorem b_next (c : Dev nD) (k t : ℕ) (ht : t + 2 < 8) (s : Fin 2) (hs : par t = s)
    (off : Fin 2 → ℕ) (hoff : off = ![0, 256 * (colAt c (t + 2)).val]) (offs : Fin 3 → ℕ) (hoffs : offs = ![s.val, 0, 0])
    (offq : Fin 1 → ℕ) (hoffq : offq = ![s.val])
    {h1 : ∀ a, off a + S4096x256.size a ≤ S4096x2048.size a} {h2 : ∀ a, offs a + S1x4096x256.size a ≤ S2x4096x256.size a}
    {h3 : ∀ a, offq a + S1.size a ≤ S2.size a} {hs1 hs2 hs3}
    {α : Type} {Q : α → sProp 𝕄} {J : PUnit → Prog (TpuEff nD τ sig (Elt F) Λ₀ .tc) α} :
    BB m K c k t
      ⊢ iprop((BA m K c k (t + 1) -∗ WP c (J ⟨⟩) Q)
          -∗ WP c (.op (.enqueueDma (wM.slice (Rect.unit (s := S4096x2048) off S4096x256.size h1) (fun _ => rfl))
              (.here ((wbM.slice (Rect.unit (s := S2x4096x256) offs S1x4096x256.size h2) (fun _ => rfl)).squeeze S4096x256 squeezes_S1x4096x256_S4096x256))
              (.dma ((cc0_scratch4.slice (Rect.unit (s := S2) offq S1.size h3)).squeeze S_ squeezes_S1_S_).sem) hs1 hs2 hs3) J) Q) := by
  unfold BA BB
  iintro ⟨#HR, #Hlev, HP, HW, Hx⟩ Hk
  iapply (step_next m K c t ht s hs off hoff offs hoffs offq hoffq) $$ [HW]
  · isplitr; · iexact HR
    iexact HW
  iintro HW
  iapply Hk
  isplitr; · iexact HR
  isplitr; · iexact Hlev
  isplitl [HP]; · iexact HP
  isplitl [HW]; · iexact HW
  iexact Hx

theorem b_last (c : Dev nD) (k : ℕ) : BB m K c k 6 ⊢ BA m K c k 7 := by
  unfold BA BB
  iintro ⟨#HR, #Hlev, HP, HW, Hx⟩
  isplitr; · iexact HR
  isplitr; · iexact Hlev
  isplitl [HP]; · iexact HP
  isplitl [HW]; · iapply (wb_wa_last m c); iexact HW
  iexact Hx

theorem b_half (c : Dev nD) (k t : ℕ) (s : Fin 2) (hs : par t = s) (offs : Fin 3 → ℕ) (hoffs : offs = ![s.val, 0, 0])
    {h2 : ∀ a, offs a + S1x4096x256.size a ≤ S2x4096x256.size a} {hl}
    {α : Type} {Q : α → sProp 𝕄} {J : Vec F S1x4096x256 .f32 → Prog (TpuEff nD τ sig (Elt F) Λ₀ .tc) α} :
    BB m K c k t ⊢ iprop((BB m K c k t -∗ WP c (J (wL m c (colAt c t))) Q)
      -∗ WP c (.op (.load wbM (Rect.unit (s := S2x4096x256) offs S1x4096x256.size h2).toLoadRect hl) J) Q) := by
  unfold BB
  iintro ⟨#HR, #Hlev, HP, HW, Hx⟩ Hk
  iapply (step_load_half m c t s hs offs hoffs) $$ HW
  iintro HW
  iapply Hk
  isplitr; · iexact HR
  isplitr; · iexact Hlev
  isplitl [HP]; · iexact HP
  isplitl [HW]; · iexact HW
  iexact Hx

theorem b_x8 (c : Dev nD) (k t : ℕ)
    {h2 : ∀ a, (![0, 0] : Fin 2 → ℕ) a + S256x4096.size a ≤ S256x4096.size a} {hl}
    {α : Type} {Q : α → sProp 𝕄} {J : Vec F S256x4096 .fp8e4m3 → Prog (TpuEff nD τ sig (Elt F) Λ₀ .tc) α} :
    BB m K c k t ⊢ iprop((BB m K c k t -∗ WP c (J (x8 m c)) Q)
      -∗ WP c (.op (.load x8M (Rect.unit (s := S256x4096) ![0, 0] S256x4096.size h2).toLoadRect hl) J) Q) := by
  unfold BB
  iintro ⟨#HR, #Hlev, HP, HW, Hx⟩ Hk
  iapply (step_load_x8 c (x8 m c)) $$ Hx
  iintro Hx
  iapply Hk
  isplitr; · iexact HR
  isplitr; · iexact Hlev
  isplitl [HP]; · iexact HP
  isplitl [HW]; · iexact HW
  iexact Hx

theorem b_recv (c : Dev nD) (k : ℕ) (hk : k < 16) (cR : BitVec 1) (offs : Fin 1 → ℕ) (offl : Fin 3 → ℕ) (offo : Fin 2 → ℕ) (offd : Fin 3 → ℕ)
    (hp : (cR = 1#1 ↔ src c k ≠ c) ∧ offs = ![(src c k).val] ∧ offl = ![(src c k).val, 0, 0] ∧ offo = ![256 * (src c k).val, 0])
    (pay : Vec F S1x256x128 .bf16 → Vec F S256x128 .f32) (hpay : ∀ v, pay v = k0_pay44 v)
    {h1 : cR = 1#1 → ∀ a, offs a + S1.size a ≤ S16.size a} {h2 : cR = 1#1 → ∀ a, offl a + S1x256x128.size a ≤ S16x256x128.size a}
    {h3 : cR = 1#1 → ∀ a, offo a + S256x128.size a ≤ S4096x128.size a} {h4 : cR = 1#1 → ∀ a, offd a + S1x256x128.size a ≤ S16x256x128.size a}
    {hl : ∀ h : cR = 1#1, _} {hl' : ∀ h : cR = 1#1, _} {hx : ∀ h : cR = 1#1, _} {hm : ∀ h : cR = 1#1, _} {hw : ∀ h : cR = 1#1, _} {hw' : ∀ h : cR = 1#1, _}
    {α : Type} {Q : α → sProp 𝕄} {J : Prog (TpuEff nD τ sig (Elt F) Λ₀ .tc) α} :
    RV m K c k ⊢ iprop((RV m K c (k + 1) -∗ WP c J Q)
      -∗ WP c (if h : cR = 1#1 then .op (.waitDma2 ((cc0_scratch6.slice (Rect.unit (s := S16) offs S1.size (h1 h))).squeeze S_ squeezes_S1_S_).sem
              ((rM.slice (Rect.unit (s := S16x256x128) offd S1x256x128.size (h4 h)) (fun _ => rfl)).squeeze S256x128 squeezes_S1x256x128_S256x128)
              ((rM.slice (Rect.unit (s := S16x256x128) offd S1x256x128.size (h4 h)) (fun _ => rfl)).squeeze S256x128 squeezes_S1x256x128_S256x128) (hw h) (hw' h)) fun _ =>
            .op (.load rM (Rect.unit (s := S16x256x128) offl S1x256x128.size (h2 h)).toLoadRect (hl h)) fun v =>
            .op (.load oM (Rect.unit (s := S4096x128) offo S256x128.size (h3 h)).toLoadRect (hl' h)) fun _ =>
            .op (.store oM (Rect.unit (s := S4096x128) offo S256x128.size (h3 h)) (pay v) Finset.univ (hx h) (hm h)) fun _ => J
          else J) Q) := by
  unfold RV
  iintro ⟨#HR, HS⟩ Hk
  iapply (step_recv m K c k hk cR hp.1 offs hp.2.1 offl hp.2.2.1 offo hp.2.2.2 offd pay hpay) $$ [HS]
  · isplitr; · iexact HR
    iexact HS
  iintro HS
  iapply Hk
  isplitr; · iexact HR
  iexact HS

theorem b_sent (c : Dev nD) (k : ℕ) (h1 : 1 ≤ k) (h2 : k < 16) (offs : Fin 1 → ℕ) (hoffs : offs = ![(rot c k).val])
    {h3 : ∀ a, offs a + S1.size a ≤ S16.size a} (v : Memref sig .tc .vmem S256x128 .bf16)
    (offd : Fin 3 → ℕ) {h4 : ∀ a, offd a + S1x256x128.size a ≤ S16x256x128.size a} {hw hw'}
    {α : Type} {Q : α → sProp 𝕄} {J : PUnit → Prog (TpuEff nD τ sig (Elt F) Λ₀ .tc) α} :
    ST m K c k ⊢ iprop((ST m K c (k + 1) -∗ WP c (J ⟨⟩) Q)
      -∗ WP c (.op (.waitDma2 ((cc0_scratch5.slice (Rect.unit (s := S16) offs S1.size h3)).squeeze S_ squeezes_S1_S_).sem v
          ((sM.slice (Rect.unit (s := S16x256x128) offd S1x256x128.size h4) (fun _ => rfl)).squeeze S256x128 squeezes_S1x256x128_S256x128) hw hw') J) Q) := by
  unfold ST
  iintro ⟨#HR, HS⟩ Hk
  iapply (step_sent m K c k h1 h2 offs hoffs v offd) $$ [HS]
  · isplitr; · iexact HR
    iexact HS
  iintro HS
  iapply Hk
  isplitr; · iexact HR
  iexact HS

end Cert.GemmA2A

end
-- ==== Proof.Order.lean ====
module

public import proofs.«01_k».proof.Proof.State

@[expose] public section

noncomputable section

namespace Cert.GemmA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 35 → ℕ)

/-! # The orders in which a device goes over the others

Each order visits every device (or every other one) once, so a family over the steps is the family over the devices. -/

theorem dst_inj (c : Dev nD) : Set.InjOn (dst c) (Finset.Ico 0 16 : Finset ℕ) := by
  intro a ha b hb h
  have ha' := (Finset.mem_Ico.1 (Finset.mem_coe.1 ha)).2
  have hb' := (Finset.mem_Ico.1 (Finset.mem_coe.1 hb)).2
  have hv : 2 * ((c.val / 2 + a / 2) % 8) + a % 2 = 2 * ((c.val / 2 + b / 2) % 8) + b % 2 := congrArg Fin.val h
  omega

theorem src_inj (c : Dev nD) : Set.InjOn (src c) (Finset.Ico 0 16 : Finset ℕ) := by
  intro a ha b hb h
  have ha' := (Finset.mem_Ico.1 (Finset.mem_coe.1 ha)).2
  have hb' := (Finset.mem_Ico.1 (Finset.mem_coe.1 hb)).2
  have hv : 2 * ((c.val / 2 + 8 - a / 2) % 8) + a % 2 = 2 * ((c.val / 2 + 8 - b / 2) % 8) + b % 2 := congrArg Fin.val h
  omega

theorem rot_inj (c : Dev nD) : Set.InjOn (rot c) (Finset.Ico 1 16 : Finset ℕ) := by
  intro a ha b hb h
  have ha' := (Finset.mem_Ico.1 (Finset.mem_coe.1 ha)).2
  have hb' := (Finset.mem_Ico.1 (Finset.mem_coe.1 hb)).2
  have hv : (c.val + a) % 16 = (c.val + b) % 16 := congrArg Fin.val h
  omega

theorem col_inj (c : Dev nD) : Set.InjOn (colAt c) (Finset.Ico 0 8 : Finset ℕ) := by
  intro a ha b hb h
  have ha' := (Finset.mem_Ico.1 (Finset.mem_coe.1 ha)).2
  have hb' := (Finset.mem_Ico.1 (Finset.mem_coe.1 hb)).2
  have hv : (c.val / 2 + a) % 8 = (c.val / 2 + b) % 8 := congrArg Fin.val h
  omega

theorem dst_order (c : Dev nD) (f : Dev nD → sProp 𝕄) : bigSep (Finset.Ico 0 16) (fun k => f (dst c k)) = bigSep Finset.univ f := by
  rw [← bigSep_image_of_injOn (dst_inj c) f, Finset.eq_univ_of_card ((Finset.Ico 0 16).image (dst c)) (by rw [Finset.card_image_of_injOn (dst_inj c)]; rfl)]

theorem src_order (c : Dev nD) (f : Dev nD → sProp 𝕄) : bigSep (Finset.Ico 0 16) (fun k => f (src c k)) = bigSep Finset.univ f := by
  rw [← bigSep_image_of_injOn (src_inj c) f, Finset.eq_univ_of_card ((Finset.Ico 0 16).image (src c)) (by rw [Finset.card_image_of_injOn (src_inj c)]; rfl)]

theorem col_order (c : Dev nD) (f : Fin 8 → sProp 𝕄) : bigSep (Finset.Ico 0 8) (fun t => f (colAt c t)) = bigSep Finset.univ f := by
  rw [← bigSep_image_of_injOn (col_inj c) f, Finset.eq_univ_of_card ((Finset.Ico 0 8).image (colAt c)) (by rw [Finset.card_image_of_injOn (col_inj c)]; rfl)]

theorem rot_order (c : Dev nD) (f : Dev nD → sProp 𝕄) : bigSep (Finset.Ico 1 16) (fun k => f (rot c k)) = bigSep (Finset.univ.erase c) f := by
  rw [← bigSep_image_of_injOn (rot_inj c) f, Finset.eq_of_subset_of_card_le (s := (Finset.Ico 1 16).image (rot c)) (t := Finset.univ.erase c)
    (fun e he => by
      obtain ⟨k, hk, rfl⟩ := Finset.mem_image.1 he
      exact Finset.mem_erase.2 ⟨(rot_ne c k (Finset.mem_Ico.1 hk).1 (Finset.mem_Ico.1 hk).2).symm, Finset.mem_univ _⟩)
    (by rw [Finset.card_image_of_injOn (rot_inj c), Finset.card_erase_of_mem (Finset.mem_univ c)]; exact le_refl 15)]

/-- The device's own part of a family, and the others'. -/
theorem own_split (c : Dev nD) (X : sProp 𝕄) (Y : Dev nD → sProp 𝕄) :
    bigSep Finset.univ (fun e => if e = c then X else Y e) = iprop(X ∗ bigSep (Finset.univ.erase c) Y) := by
  rw [BI.bigSep_erase (Finset.mem_univ c), if_pos rfl,
    bigSep_congr (Ψ := Y) (fun e he => if_neg (Finset.ne_of_mem_erase he))]
  rfl

theorem put_start (c : Dev nD) :
    bigSep (Finset.Ico 0 16) (putPre (F := F) c) = iprop((∃ f, oPts c c f) ∗ bigSep (Finset.univ.erase c) (sendPre c)) := by
  rw [← own_split, ← dst_order c]
  rfl

theorem put_end (c : Dev nD) :
    bigSep (Finset.Ico 0 16) (putPost m c) = iprop(oPts c c (oB m c) ∗ bigSep (Finset.univ.erase c) (fun e => cred (tallyAt (sCell c e) () N))) := by
  rw [← own_split, ← dst_order c]
  rfl

theorem recv_start (c : Dev nD) :
    bigSep (Finset.Ico 0 16) (recvPre (F := F) c)
      = iprop(emp ∗ bigSep (Finset.univ.erase c) (fun e => iprop(cred (tallyAt (rCell c e) () N) ∗ atPos ER (rCell c e) 0 ∅ 0 ∗ ∃ f, oPts c e f))) := by
  rw [← own_split, ← src_order c]
  rfl

theorem recv_end (c : Dev nD) :
    bigSep (Finset.Ico 0 16) (recvPost m c)
      = iprop(emp ∗ bigSep (Finset.univ.erase c) (fun e => iprop(atPos ER (rCell c e) 1 ∅ 0 ∗ oPts c e (oB m c) ∗ rPts c e (rB m c)))) := by
  rw [← own_split, ← src_order c]
  rfl

theorem sent_start (c : Dev nD) :
    bigSep (Finset.Ico 1 16) (sentPre (F := F) c)
      = bigSep (Finset.univ.erase c) (fun e => iprop(cred (tallyAt (sCell c e) () N) ∗ atPos ER (sCell c e) 0 ∅ 0)) := by
  rw [← rot_order c]
  rfl

theorem sent_end (c : Dev nD) :
    bigSep (Finset.Ico 1 16) (sentPost m c)
      = bigSep (Finset.univ.erase c) (fun e => iprop(atPos ER (sCell c e) 1 ∅ 0 ∗ sPts c e (sB m c))) := by
  rw [← rot_order c]
  rfl

theorem sig_start (c : Dev nD) :
    bigSep (Finset.Ico 1 16) (sigPre (F := F) c)
      = bigSep (Finset.univ.erase c) (fun e => iprop(dutyTok ER (barCell e) 0 c ∗ ∃ f, rPts c e f)) := by
  rw [← rot_order c]
  rfl

end Cert.GemmA2A

end
-- ==== Proof.Parts1.lean ====
module

public import proofs.«01_k».proof.Proof.State

@[expose] public section

noncomputable section

namespace Cert.GemmA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 35 → ℕ)

/-! # The stretch that signals the other devices, and the set-up after it -/

theorem zero1 : (![0] : Fin 1 → ℕ) = fun _ => 0 := funext fun a => by fin_cases a; rfl

theorem load_word0 (h : ∀ a, (![0] : Fin 1 → ℕ) a + S1.size a ≤ S1.size a) (f : S1.Idx → Elt F .f32) :
    (Memref.whole cc0_stg0_0).view.readAt (Elt F) (Rect.unit (s := S1) ![0] S1.size h).toLoadRect f = f :=
  Memref.readAt_unit_zero (Elt F) cc0_stg0_0 zero1 _ f
theorem load_word1 (h : ∀ a, (![0] : Fin 1 → ℕ) a + S1.size a ≤ S1.size a) (f : S1.Idx → Elt F .f32) :
    (Memref.whole cc0_stg1_0).view.readAt (Elt F) (Rect.unit (s := S1) ![0] S1.size h).toLoadRect f = f :=
  Memref.readAt_unit_zero (Elt F) cc0_stg1_0 zero1 _ f

/-- The two scales and the rows as they are loaded. -/
theorem step_word0 (c : Dev nD) (f : S1.Idx → Elt F .f32) {h2 : ∀ a, (![0] : Fin 1 → ℕ) a + S1.size a ≤ S1.size a} {hl}
    {α : Type} {Q : α → sProp 𝕄} {J : Vec F S1 .f32 → Prog (TpuEff nD τ sig (Elt F) Λ₀ .tc) α} :
    (((c : Thread nD τ).loc cc0_stg0_0) ↦{fullShare} f) ⊢ iprop(((((c : Thread nD τ).loc cc0_stg0_0) ↦{fullShare} f) -∗ WP c (J f) Q)
      -∗ WP c (.op (.load (Memref.whole cc0_stg0_0) (Rect.unit (s := S1) ![0] S1.size h2).toLoadRect hl) J) Q) := by
  iintro Hf Hk
  iapply (wp_load 𝒱₀ (c : Thread nD τ) none Set.univ (m := Memref.whole cc0_stg0_0) (r := (Rect.unit (s := S1) ![0] S1.size h2).toLoadRect)
    (S := Finset.univ) (q := fullShare) (f := f) (Finset.subset_univ _)) $$ [Hf]
  · iexact Hf
  iintro Hf
  rw [load_word0]
  iapply Hk
  iexact Hf

theorem step_word1 (c : Dev nD) (f : S1.Idx → Elt F .f32) {h2 : ∀ a, (![0] : Fin 1 → ℕ) a + S1.size a ≤ S1.size a} {hl}
    {α : Type} {Q : α → sProp 𝕄} {J : Vec F S1 .f32 → Prog (TpuEff nD τ sig (Elt F) Λ₀ .tc) α} :
    (((c : Thread nD τ).loc cc0_stg1_0) ↦{fullShare} f) ⊢ iprop(((((c : Thread nD τ).loc cc0_stg1_0) ↦{fullShare} f) -∗ WP c (J f) Q)
      -∗ WP c (.op (.load (Memref.whole cc0_stg1_0) (Rect.unit (s := S1) ![0] S1.size h2).toLoadRect hl) J) Q) := by
  iintro Hf Hk
  iapply (wp_load 𝒱₀ (c : Thread nD τ) none Set.univ (m := Memref.whole cc0_stg1_0) (r := (Rect.unit (s := S1) ![0] S1.size h2).toLoadRect)
    (S := Finset.univ) (q := fullShare) (f := f) (Finset.subset_univ _)) $$ [Hf]
  · iexact Hf
  iintro Hf
  rw [load_word1]
  iapply Hk
  iexact Hf

theorem step_rows (c : Dev nD) (f : S256x4096.Idx → Elt F .f32)
    {h2 : ∀ a, (![0, 0] : Fin 2 → ℕ) a + S256x4096.size a ≤ S256x4096.size a} {hl}
    {α : Type} {Q : α → sProp 𝕄} {J : Vec F S256x4096 .f32 → Prog (TpuEff nD τ sig (Elt F) Λ₀ .tc) α} :
    (((c : Thread nD τ).loc cc0_stg2_0) ↦{fullShare} f) ⊢ iprop(((((c : Thread nD τ).loc cc0_stg2_0) ↦{fullShare} f) -∗ WP c (J f) Q)
      -∗ WP c (.op (.load xM (Rect.unit (s := S256x4096) ![0, 0] S256x4096.size h2).toLoadRect hl) J) Q) := by
  iintro Hf Hk
  iapply (wp_load 𝒱₀ (c : Thread nD τ) none Set.univ (m := xM) (r := (Rect.unit (s := S256x4096) ![0, 0] S256x4096.size h2).toLoadRect)
    (S := Finset.univ) (q := fullShare) (f := f) (Finset.subset_univ _)) $$ [Hf]
  · iexact Hf
  iintro Hf
  rw [load_x]
  iapply Hk
  iexact Hf

/-- The rounded rows stored. -/
theorem step_store_x8 (c : Dev nD) (f w : S256x4096.Idx → Elt F .fp8e4m3)
    {h2 : ∀ a, (![0, 0] : Fin 2 → ℕ) a + S256x4096.size a ≤ S256x4096.size a} {hx hm}
    {α : Type} {Q : α → sProp 𝕄} {J : PUnit → Prog (TpuEff nD τ sig (Elt F) Λ₀ .tc) α} :
    x8Pts c f ⊢ iprop((x8Pts c w -∗ WP c (J ⟨⟩) Q)
      -∗ WP c (.op (.store x8M (Rect.unit (s := S256x4096) ![0, 0] S256x4096.size h2) w Finset.univ hx hm) J) Q) := by
  unfold x8Pts
  iintro Hf Hk
  iapply (wp_store 𝒱₀ (c : Thread nD τ) none Set.univ (m := x8M) (r := (Rect.unit (s := S256x4096) ![0, 0] S256x4096.size h2))
    (S := Finset.univ) (w := w) (Mk := Finset.univ) (f := f) (Finset.subset_univ _)) $$ [Hf]
  · iexact Hf
  iintro Hf
  rw [store_x8]
  iapply Hk
  iexact Hf

theorem part1 (c : Dev nD) {Q} :
    SG m K c 1 ⊢ iprop((∀ v2 v19 v34 c16 v35, SG m K c 2 -∗ Q ⟨c, v2, v19, SemArray.scalar (sig.barrier 0 rfl), v34, c16, v35⟩)
      -∗ WP c (k0_part1 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6) Q) := by
  simp only [k0_part1_eq_skeleton]; unfold k0_part1_skel
  simp -zeta only [semSignalWord, semWaitWord, Prog.lift, Prog.bind_op, Prog.bind_ret, Prog.pure_eq_ret]
  iintro HS Hk
  iapply (wp_dev c)
  iapply (b_sig m K c 1 (by decide) (by decide) (k0_dev1 c) (by revert c; decide +kernel) _ rfl) $$ HS
  iintro HS
  iapply (wp_ret' c)
  iapply Hk; iexact HS

theorem part2 (c : Dev nD) (v2 v34 c16 : BitVec 32) (v35 : BitVec 1) {Q} :
    SG m K c 2 ⊢ iprop((∀ r, SG m K c 4 -∗ Q r)
      -∗ WP c (k0_part2 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 (SemArray.scalar (sig.barrier 0 rfl)) v34 c16 v35) Q) := by
  simp only [k0_part2_eq_skeleton]; unfold k0_part2_skel
  simp -zeta only [semSignalWord, semWaitWord, Prog.lift, Prog.bind_op, Prog.bind_ret, Prog.pure_eq_ret]
  iintro HS Hk
  iapply (b_sig m K c 2 (by decide) (by decide) (k0_dev2 c) (by revert c; decide +kernel) _ rfl) $$ HS
  iintro HS
  iapply (b_sig m K c 3 (by decide) (by decide) (k0_dev3 c) (by revert c; decide +kernel) _ rfl) $$ HS
  iintro HS
  iapply (wp_ret' c)
  iapply Hk; iexact HS

theorem part3 (c : Dev nD) (v2 v63 v69 : BitVec 32) (v68 : BitVec 1) {Q} :
    SG m K c 4 ⊢ iprop((∀ r, SG m K c 7 -∗ Q r)
      -∗ WP c (k0_part3 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 (SemArray.scalar (sig.barrier 0 rfl)) v63 v68 v69) Q) := by
  simp only [k0_part3_eq_skeleton]; unfold k0_part3_skel
  simp -zeta only [semSignalWord, semWaitWord, Prog.lift, Prog.bind_op, Prog.bind_ret, Prog.pure_eq_ret]
  iintro HS Hk
  iapply (b_sig m K c 4 (by decide) (by decide) (k0_dev4 c) (by revert c; decide +kernel) _ rfl) $$ HS
  iintro HS
  iapply (b_sig m K c 5 (by decide) (by decide) (k0_dev5 c) (by revert c; decide +kernel) _ rfl) $$ HS
  iintro HS
  iapply (b_sig m K c 6 (by decide) (by decide) (k0_dev6 c) (by revert c; decide +kernel) _ rfl) $$ HS
  iintro HS
  iapply (wp_ret' c)
  iapply Hk; iexact HS

theorem part4 (c : Dev nD) (v2 v99 c16 : BitVec 32) (v100 : BitVec 1) {Q} :
    SG m K c 7 ⊢ iprop((∀ r, SG m K c 9 -∗ Q r)
      -∗ WP c (k0_part4 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 (SemArray.scalar (sig.barrier 0 rfl)) v99 c16 v100) Q) := by
  simp only [k0_part4_eq_skeleton]; unfold k0_part4_skel
  simp -zeta only [semSignalWord, semWaitWord, Prog.lift, Prog.bind_op, Prog.bind_ret, Prog.pure_eq_ret]
  iintro HS Hk
  iapply (b_sig m K c 7 (by decide) (by decide) (k0_dev7 c) (by revert c; decide +kernel) _ rfl) $$ HS
  iintro HS
  iapply (b_sig m K c 8 (by decide) (by decide) (k0_dev8 c) (by revert c; decide +kernel) _ rfl) $$ HS
  iintro HS
  iapply (wp_ret' c)
  iapply Hk; iexact HS

theorem part5 (c : Dev nD) (v2 v128 v134 : BitVec 32) (v133 : BitVec 1) {Q} :
    SG m K c 9 ⊢ iprop((∀ r, SG m K c 12 -∗ Q r)
      -∗ WP c (k0_part5 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 (SemArray.scalar (sig.barrier 0 rfl)) v128 v133 v134) Q) := by
  simp only [k0_part5_eq_skeleton]; unfold k0_part5_skel
  simp -zeta only [semSignalWord, semWaitWord, Prog.lift, Prog.bind_op, Prog.bind_ret, Prog.pure_eq_ret]
  iintro HS Hk
  iapply (b_sig m K c 9 (by decide) (by decide) (k0_dev9 c) (by revert c; decide +kernel) _ rfl) $$ HS
  iintro HS
  iapply (b_sig m K c 10 (by decide) (by decide) (k0_dev10 c) (by revert c; decide +kernel) _ rfl) $$ HS
  iintro HS
  iapply (b_sig m K c 11 (by decide) (by decide) (k0_dev11 c) (by revert c; decide +kernel) _ rfl) $$ HS
  iintro HS
  iapply (wp_ret' c)
  iapply Hk; iexact HS

theorem part6 (c : Dev nD) (v2 v164 c16 : BitVec 32) (v165 : BitVec 1) {Q} :
    SG m K c 12 ⊢ iprop((∀ r, SG m K c 14 -∗ Q r)
      -∗ WP c (k0_part6 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 (SemArray.scalar (sig.barrier 0 rfl)) v164 c16 v165) Q) := by
  simp only [k0_part6_eq_skeleton]; unfold k0_part6_skel
  simp -zeta only [semSignalWord, semWaitWord, Prog.lift, Prog.bind_op, Prog.bind_ret, Prog.pure_eq_ret]
  iintro HS Hk
  iapply (b_sig m K c 12 (by decide) (by decide) (k0_dev12 c) (by revert c; decide +kernel) _ rfl) $$ HS
  iintro HS
  iapply (b_sig m K c 13 (by decide) (by decide) (k0_dev13 c) (by revert c; decide +kernel) _ rfl) $$ HS
  iintro HS
  iapply (wp_ret' c)
  iapply Hk; iexact HS

/-- What the staged inputs hold. -/
def Staged (c : Dev nD) : sProp 𝕄 :=
  iprop((((c : Thread nD τ).loc cc0_stg0_0) ↦{fullShare} sx m c) ∗ (((c : Thread nD τ).loc cc0_stg1_0) ↦{fullShare} sw m c)
    ∗ (((c : Thread nD τ).loc cc0_stg2_0) ↦{fullShare} xs m c))

theorem part7 (c : Dev nD) (v2 v19 v193 : BitVec 32) (v198 : BitVec 1) (v199 : BitVec 32) {Q} :
    iprop(SG m K c 14 ∗ levAts L lv ∗ cred (tallyAt (barCell c) () 15) ∗ atPos ER (barCell c) 0 ∅ 0 ∗ Staged m c ∗ ∃ f, x8Pts c f)
      ⊢ iprop((∀ v227 v228 v229, (OW c (oweRecv c 0) ∗ atPos ER (barCell c) 1 ∅ 0 ∗ bigSep (Finset.univ.erase c) (fun d => barPay (F := F) c d)
          ∗ Staged m c ∗ x8Pts c (x8 m c)) -∗ Q ⟨sc m c, v227, v228, v229⟩)
      -∗ WP c (k0_part7 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 (SemArray.scalar (sig.barrier 0 rfl)) v193 v198 v199) Q) := by
  simp only [k0_part7_eq_skeleton]; unfold k0_part7_skel
  simp -zeta only [semSignalWord, semWaitWord, smemLoad, smemLoadElt, Prog.lift, Prog.bind_op, Prog.bind_ret, Prog.pure_eq_ret]
  unfold sc
  iintro ⟨HS, #Hlev, Hc, Ha, HG, ⟨%f, Hx⟩⟩ Hk
  iapply (b_sig m K c 14 (by decide) (by decide) (k0_dev14 c) (by revert c; decide +kernel) _ rfl) $$ HS
  iintro HS
  iapply (b_sig m K c 15 (by decide) (by decide) (k0_dev15 c) (by revert c; decide +kernel) _ rfl) $$ HS
  iintro HS
  unfold SG Staged
  icases HS with ⟨#HR, HS⟩
  icases HG with ⟨H0, H1, H2⟩
  iapply (step_barrier m K c _ rfl) $$ [HS Hc Ha]
  · isplitr; · iexact HR
    isplitr; · iexact Hlev
    isplitl [HS]; · iexact HS
    isplitl [Hc]; · iexact Hc
    iexact Ha
  iintro ⟨HO, Ha, Hb⟩
  iapply (step_word0 c (sx m c)) $$ H0
  iintro H0
  iapply (step_word1 c (sw m c)) $$ H1
  iintro H1
  iapply (step_rows c (xs m c)) $$ H2
  iintro H2
  iapply (step_load_x8 c f) $$ Hx
  iintro Hx
  iapply (step_store_x8 c f (k0_pay2 (xs m c))) $$ Hx
  iintro Hx
  iapply (wp_ret' c)
  iapply Hk
  isplitl [HO]; · iexact HO
  isplitl [Ha]; · iexact Ha
  isplitl [Hb]; · iexact Hb
  isplitl [H0 H1 H2]
  · isplitl [H0]; · iexact H0
    isplitl [H1]; · iexact H1
    iexact H2
  iexact Hx

/-- The first two weight blocks under way. -/
theorem part8 (c : Dev nD) (v19 v227 v228 : BitVec 32) (v229 : BitVec 1) {Q} :
    iprop(Rec m K ∗ bigSep (Finset.Ico 0 8) (wUse m c) ∗ (∃ f, hPts c 0 f) ∗ (∃ f, hPts c 1 f)
        ∗ atPos ER (wCell c 0) 0 ∅ 0 ∗ atPos ER (wCell c 1) 0 ∅ 0)
      ⊢ iprop((WA m c 0 -∗ Q ⟨⟩)
      -∗ WP c (k0_part8 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v19 v227 v228 v229) Q) := by
  simp only [k0_part8_eq_skeleton]; unfold k0_part8_skel
  simp -zeta only [semSignalWord, semWaitWord, Prog.lift, Prog.bind_op, Prog.bind_ret, Prog.pure_eq_ret]
  rw [row_pop 0 8 (by decide), row_pop (0 + 1) 8 (by decide)]
  iintro ⟨#HR, ⟨Hu0, Hu1, Hu⟩, Hh0, Hh1, Ha0, Ha1⟩ Hk
  ihave ⟨-, #Hr0⟩ := (rec_W m K c 0) $$ HR
  ihave ⟨-, #Hr1⟩ := (rec_W m K c 1) $$ HR
  iapply (step_copy m K c 0 (by decide) 0 rfl (k0_off1 c 0#32) (by revert c; decide +kernel) ![0, 0, 0] rfl ![0] rfl) $$ [Hu0 Hh0]
  · isplitr; · iexact HR
    isplitl [Hu0]; · iexact Hu0
    isplitl [Hh0]; · iexact Hh0
    iexact Hr0
  iintro Hc0
  iapply (step_copy m K c 1 (by decide) 1 rfl (k0_off1 c 1#32) (by revert c; decide +kernel) ![1, 0, 0] rfl ![1] rfl) $$ [Hu1 Hh1]
  · isplitr; · iexact HR
    isplitl [Hu1]; · iexact Hu1
    isplitl [Hh1]; · iexact Hh1
    iexact Hr1
  iintro Hc1
  iapply (wp_ret' c)
  iapply Hk
  iapply (wa_start m c)
  isplitl [Ha0]; · iexact Ha0
  isplitl [Ha1]; · iexact Ha1
  isplitl [Hc0]; · iexact Hc0
  isplitl [Hc1]; · iexact Hc1
  iexact Hu

end Cert.GemmA2A

end
-- ==== Proof.Parts2.lean ====
module

public import proofs.«01_k».proof.Proof.State

@[expose] public section

noncomputable section

namespace Cert.GemmA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 35 → ℕ)

/-! # The first steps of the product: blocks 0 to 3 waited for, chunks 0 to 5 handled -/

theorem part9 (c : Dev nD) (v2 v19 : BitVec 32) {Q} :
    BA m K c 0 0 ⊢ iprop((∀ v294 v297 c0, BB m K c 1 0 -∗ Q ⟨v294, k0_pay6 (sc m c) (wL m c (colAt c 0)) (x8 m c), v297, c0⟩)
      -∗ WP c (k0_part9 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 (sc m c)) Q) := by
  simp only [k0_part9_eq_skeleton]; unfold k0_part9_skel
  simp -zeta only [Prog.lift, Prog.bind_op, Prog.bind_ret, Prog.pure_eq_ret]
  iintro H Hk
  iapply (b_wait m K c 0 0 (by decide) 0 rfl ![0] rfl (sp := .hbm) _ _) $$ H
  iintro H
  iapply (b_half m K c 0 0 0 rfl ![0, 0, 0] rfl) $$ H
  iintro H
  iapply (b_x8 m K c 0 0) $$ H
  iintro H
  iapply (b_put m K c 0 0 (by decide) (k0_cond1 c) (k0_cond2 c) (k0_off2 c) (k0_off3 c) (k0_off4 c) (k0_off5 c) (k0_off6 c) (k0_off7 c)
    (k0_dev16 c) (by revert c; decide +kernel) (k0_pay4 (sc m c) (wL m c (colAt c 0)) (x8 m c)) (chunk_even m c 0 rfl) (k0_pay5 (sc m c) (wL m c (colAt c 0)) (x8 m c)) rfl) $$ H
  iintro H
  iapply (wp_ret' c)
  iapply Hk; iexact H

theorem part10 (c : Dev nD) (v2 v19 v294 v297 c0 : BitVec 32) {Q} :
    BB m K c 1 0 ⊢ iprop((∀ r, BB m K c 2 1 -∗ Q r)
      -∗ WP c (k0_part10 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 v294 (k0_pay6 (sc m c) (wL m c (colAt c 0)) (x8 m c)) v297 c0) Q) := by
  simp only [k0_part10_eq_skeleton]; unfold k0_part10_skel
  simp -zeta only [Prog.lift, Prog.bind_op, Prog.bind_ret, Prog.pure_eq_ret]
  iintro H Hk
  iapply (b_put m K c 1 0 (by decide) (k0_cond3 c) (k0_cond4 c) (k0_off8 c) (k0_off9 c) (k0_off10 c) (k0_off11 c) (k0_off12 c) (k0_off13 c)
    (k0_dev17 c) (by revert c; decide +kernel) (k0_pay6 (sc m c) (wL m c (colAt c 0)) (x8 m c)) (chunk_odd m c 1 rfl) (k0_pay7 (k0_pay6 (sc m c) (wL m c (colAt c 0)) (x8 m c))) rfl) $$ H
  iintro H
  iapply (b_next m K c 2 0 (by decide) 0 rfl (k0_off1 c 2#32) (by revert c; decide +kernel) ![0, 0, 0] rfl ![0] rfl) $$ H
  iintro H
  iapply (b_wait m K c 2 1 (by decide) 1 rfl ![1] rfl (sp := .hbm) _ _) $$ H
  iintro H
  iapply (wp_ret' c)
  iapply Hk; iexact H

theorem part11 (c : Dev nD) (v2 v19 v326 v327 c0 : BitVec 32) (v328 : BitVec 1) {Q} :
    BB m K c 2 1 ⊢ iprop((∀ r, BB m K c 4 1 -∗ Q r)
      -∗ WP c (k0_part11 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 (sc m c) v326 v327 v328 c0) Q) := by
  simp only [k0_part11_eq_skeleton]; unfold k0_part11_skel
  simp -zeta only [Prog.lift, Prog.bind_op, Prog.bind_ret, Prog.pure_eq_ret]
  iintro H Hk
  iapply (b_half m K c 2 1 1 rfl ![1, 0, 0] rfl) $$ H
  iintro H
  iapply (b_x8 m K c 2 1) $$ H
  iintro H
  iapply (b_put m K c 2 1 (by decide) (k0_cond5 c) (k0_cond6 c) (k0_off14 c) (k0_off15 c) (k0_off16 c) (k0_off17 c) (k0_off18 c) (k0_off19 c)
    (k0_dev18 c) (by revert c; decide +kernel) (k0_pay9 (sc m c) (wL m c (colAt c 1)) (x8 m c)) (chunk_even m c 2 rfl) (k0_pay10 (sc m c) (wL m c (colAt c 1)) (x8 m c)) rfl) $$ H
  iintro H
  iapply (b_put m K c 3 1 (by decide) (k0_cond7 c) (k0_cond8 c) (k0_off20 c) (k0_off21 c) (k0_off22 c) (k0_off23 c) (k0_off24 c) (k0_off25 c)
    (k0_dev19 c) (by revert c; decide +kernel) (k0_pay11 (sc m c) (wL m c (colAt c 1)) (x8 m c)) (chunk_odd m c 3 rfl) (k0_pay12 (sc m c) (wL m c (colAt c 1)) (x8 m c)) rfl) $$ H
  iintro H
  iapply (wp_ret' c)
  iapply Hk; iexact H

theorem part12 (c : Dev nD) (v19 v362 v364 : BitVec 32) {Q} :
    BB m K c 4 1 ⊢ iprop((∀ v394, BB m K c 4 2 -∗ Q ⟨v394, k0_pay13 (wL m c (colAt c 2))⟩)
      -∗ WP c (k0_part12 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v19 v362 v364) Q) := by
  simp only [k0_part12_eq_skeleton]; unfold k0_part12_skel
  simp -zeta only [Prog.lift, Prog.bind_op, Prog.bind_ret, Prog.pure_eq_ret]
  iintro H Hk
  iapply (b_next m K c 4 1 (by decide) 1 rfl (k0_off1 c 3#32) (by revert c; decide +kernel) ![1, 0, 0] rfl ![1] rfl) $$ H
  iintro H
  iapply (b_wait m K c 4 2 (by decide) 0 rfl ![0] rfl (sp := .hbm) _ _) $$ H
  iintro H
  iapply (b_half m K c 4 2 0 rfl ![0, 0, 0] rfl) $$ H
  iintro H
  iapply (wp_ret' c)
  iapply Hk; iexact H

theorem part13 (c : Dev nD) (v2 v19 v394 : BitVec 32) {Q} :
    BB m K c 4 2 ⊢ iprop((∀ r, BB m K c 6 2 -∗ Q r)
      -∗ WP c (k0_part13 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 (sc m c) v394 (k0_pay13 (wL m c (colAt c 2)))) Q) := by
  simp only [k0_part13_eq_skeleton]; unfold k0_part13_skel
  simp -zeta only [Prog.lift, Prog.bind_op, Prog.bind_ret, Prog.pure_eq_ret]
  iintro H Hk
  iapply (b_x8 m K c 4 2) $$ H
  iintro H
  iapply (b_put m K c 4 2 (by decide) (k0_cond9 c) (k0_cond10 c) (k0_off26 c) (k0_off27 c) (k0_off28 c) (k0_off29 c) (k0_off30 c) (k0_off31 c)
    (k0_dev20 c) (by revert c; decide +kernel) (k0_pay15 (sc m c) (k0_pay13 (wL m c (colAt c 2))) (x8 m c)) (chunk_even m c 4 rfl) (k0_pay16 (sc m c) (k0_pay13 (wL m c (colAt c 2))) (x8 m c)) rfl) $$ H
  iintro H
  iapply (b_put m K c 5 2 (by decide) (k0_cond11 c) (k0_cond12 c) (k0_off32 c) (k0_off33 c) (k0_off34 c) (k0_off35 c) (k0_off36 c) (k0_off37 c)
    (k0_dev21 c) (by revert c; decide +kernel) (k0_pay17 (sc m c) (k0_pay13 (wL m c (colAt c 2))) (x8 m c)) (chunk_odd m c 5 rfl) (k0_pay18 (sc m c) (k0_pay13 (wL m c (colAt c 2))) (x8 m c)) rfl) $$ H
  iintro H
  iapply (wp_ret' c)
  iapply Hk; iexact H

theorem part14 (c : Dev nD) (v19 : BitVec 32) {Q} :
    BB m K c 6 2 ⊢ iprop((∀ v454 v465, BB m K c 6 3 -∗ Q ⟨v454, k0_pay19 (sc m c) (wL m c (colAt c 3)) (x8 m c), v465, k0_pay20 (sc m c) (wL m c (colAt c 3)) (x8 m c)⟩)
      -∗ WP c (k0_part14 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v19 (sc m c)) Q) := by
  simp only [k0_part14_eq_skeleton]; unfold k0_part14_skel
  simp -zeta only [Prog.lift, Prog.bind_op, Prog.bind_ret, Prog.pure_eq_ret]
  iintro H Hk
  iapply (b_next m K c 6 2 (by decide) 0 rfl (k0_off1 c 4#32) (by revert c; decide +kernel) ![0, 0, 0] rfl ![0] rfl) $$ H
  iintro H
  iapply (b_wait m K c 6 3 (by decide) 1 rfl ![1] rfl (sp := .hbm) _ _) $$ H
  iintro H
  iapply (b_half m K c 6 3 1 rfl ![1, 0, 0] rfl) $$ H
  iintro H
  iapply (b_x8 m K c 6 3) $$ H
  iintro H
  iapply (wp_ret' c)
  iapply Hk; iexact H

end Cert.GemmA2A

end
-- ==== Proof.Parts3.lean ====
module

public import proofs.«01_k».proof.Proof.State

@[expose] public section

noncomputable section

namespace Cert.GemmA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 35 → ℕ)

/-! # Its later steps: chunks 6 to 15 handled -/

theorem part15 (c : Dev nD) (v2 v19 v454 v465 : BitVec 32) {Q} :
    BB m K c 6 3 ⊢ iprop((∀ r, BA m K c 8 4 -∗ Q r)
      -∗ WP c (k0_part15 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 v454 (k0_pay19 (sc m c) (wL m c (colAt c 3)) (x8 m c)) v465 (k0_pay20 (sc m c) (wL m c (colAt c 3)) (x8 m c))) Q) := by
  simp only [k0_part15_eq_skeleton]; unfold k0_part15_skel
  simp -zeta only [Prog.lift, Prog.bind_op, Prog.bind_ret, Prog.pure_eq_ret]
  iintro H Hk
  iapply (b_put m K c 6 3 (by decide) (k0_cond13 c) (k0_cond14 c) (k0_off38 c) (k0_off39 c) (k0_off40 c) (k0_off41 c) (k0_off42 c) (k0_off43 c)
    (k0_dev22 c) (by revert c; decide +kernel) (k0_pay20 (sc m c) (wL m c (colAt c 3)) (x8 m c)) (chunk_even m c 6 rfl) (k0_pay21 (k0_pay20 (sc m c) (wL m c (colAt c 3)) (x8 m c))) rfl) $$ H
  iintro H
  iapply (b_put m K c 7 3 (by decide) (k0_cond15 c) (k0_cond16 c) (k0_off44 c) (k0_off45 c) (k0_off46 c) (k0_off47 c) (k0_off48 c) (k0_off49 c)
    (k0_dev23 c) (by revert c; decide +kernel) (k0_pay22 (k0_pay19 (sc m c) (wL m c (colAt c 3)) (x8 m c))) (chunk_odd m c 7 rfl) (k0_pay23 (k0_pay19 (sc m c) (wL m c (colAt c 3)) (x8 m c))) rfl) $$ H
  iintro H
  iapply (b_next m K c 8 3 (by decide) 1 rfl (k0_off1 c 5#32) (by revert c; decide +kernel) ![1, 0, 0] rfl ![1] rfl) $$ H
  iintro H
  iapply (wp_ret' c)
  iapply Hk; iexact H

theorem part16 (c : Dev nD) (v2 v19 : BitVec 32) {Q} :
    BA m K c 8 4 ⊢ iprop((∀ v534, BB m K c 9 4 -∗ Q ⟨k0_pay24 (sc m c) (wL m c (colAt c 4)) (x8 m c), v534⟩)
      -∗ WP c (k0_part16 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 (sc m c)) Q) := by
  simp only [k0_part16_eq_skeleton]; unfold k0_part16_skel
  simp -zeta only [Prog.lift, Prog.bind_op, Prog.bind_ret, Prog.pure_eq_ret]
  iintro H Hk
  iapply (b_wait m K c 8 4 (by decide) 0 rfl ![0] rfl (sp := .hbm) _ _) $$ H
  iintro H
  iapply (b_half m K c 8 4 0 rfl ![0, 0, 0] rfl) $$ H
  iintro H
  iapply (b_x8 m K c 8 4) $$ H
  iintro H
  iapply (b_put m K c 8 4 (by decide) (k0_cond17 c) (k0_cond18 c) (k0_off50 c) (k0_off51 c) (k0_off52 c) (k0_off53 c) (k0_off54 c) (k0_off55 c)
    (k0_dev24 c) (by revert c; decide +kernel) (k0_pay25 (sc m c) (wL m c (colAt c 4)) (x8 m c)) (chunk_even m c 8 rfl) (k0_pay26 (sc m c) (wL m c (colAt c 4)) (x8 m c)) rfl) $$ H
  iintro H
  iapply (wp_ret' c)
  iapply Hk; iexact H

theorem part17 (c : Dev nD) (v2 v19 v534 : BitVec 32) {Q} :
    BB m K c 9 4 ⊢ iprop((∀ r, BB m K c 10 5 -∗ Q r)
      -∗ WP c (k0_part17 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 (k0_pay24 (sc m c) (wL m c (colAt c 4)) (x8 m c)) v534) Q) := by
  simp only [k0_part17_eq_skeleton]; unfold k0_part17_skel
  simp -zeta only [Prog.lift, Prog.bind_op, Prog.bind_ret, Prog.pure_eq_ret]
  iintro H Hk
  iapply (b_put m K c 9 4 (by decide) (k0_cond19 c) (k0_cond20 c) (k0_off56 c) (k0_off57 c) (k0_off58 c) (k0_off59 c) (k0_off60 c) (k0_off61 c)
    (k0_dev25 c) (by revert c; decide +kernel) (k0_pay27 (k0_pay24 (sc m c) (wL m c (colAt c 4)) (x8 m c))) (chunk_odd m c 9 rfl) (k0_pay28 (k0_pay24 (sc m c) (wL m c (colAt c 4)) (x8 m c))) rfl) $$ H
  iintro H
  iapply (b_next m K c 10 4 (by decide) 0 rfl (k0_off1 c 6#32) (by revert c; decide +kernel) ![0, 0, 0] rfl ![0] rfl) $$ H
  iintro H
  iapply (b_wait m K c 10 5 (by decide) 1 rfl ![1] rfl (sp := .hbm) _ _) $$ H
  iintro H
  iapply (wp_ret' c)
  iapply Hk; iexact H

theorem part18 (c : Dev nD) (v2 v19 v564 v566 : BitVec 32) {Q} :
    BB m K c 10 5 ⊢ iprop((∀ r, BB m K c 12 5 -∗ Q r)
      -∗ WP c (k0_part18 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 (sc m c) v564 v566) Q) := by
  simp only [k0_part18_eq_skeleton]; unfold k0_part18_skel
  simp -zeta only [Prog.lift, Prog.bind_op, Prog.bind_ret, Prog.pure_eq_ret]
  iintro H Hk
  iapply (b_half m K c 10 5 1 rfl ![1, 0, 0] rfl) $$ H
  iintro H
  iapply (b_x8 m K c 10 5) $$ H
  iintro H
  iapply (b_put m K c 10 5 (by decide) (k0_cond21 c) (k0_cond22 c) (k0_off62 c) (k0_off63 c) (k0_off64 c) (k0_off65 c) (k0_off66 c) (k0_off67 c)
    (k0_dev26 c) (by revert c; decide +kernel) (k0_pay30 (sc m c) (wL m c (colAt c 5)) (x8 m c)) (chunk_even m c 10 rfl) (k0_pay31 (sc m c) (wL m c (colAt c 5)) (x8 m c)) rfl) $$ H
  iintro H
  iapply (b_put m K c 11 5 (by decide) (k0_cond23 c) (k0_cond24 c) (k0_off68 c) (k0_off69 c) (k0_off70 c) (k0_off71 c) (k0_off72 c) (k0_off73 c)
    (k0_dev27 c) (by revert c; decide +kernel) (k0_pay32 (sc m c) (wL m c (colAt c 5)) (x8 m c)) (chunk_odd m c 11 rfl) (k0_pay33 (sc m c) (wL m c (colAt c 5)) (x8 m c)) rfl) $$ H
  iintro H
  iapply (wp_ret' c)
  iapply Hk; iexact H

theorem part19 (c : Dev nD) (v19 v602 c8 : BitVec 32) {Q} :
    BB m K c 12 5 ⊢ iprop((∀ r, BB m K c 12 6 -∗ Q r)
      -∗ WP c (k0_part19 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v19 v602 c8) Q) := by
  simp only [k0_part19_eq_skeleton]; unfold k0_part19_skel
  simp -zeta only [Prog.lift, Prog.bind_op, Prog.bind_ret, Prog.pure_eq_ret]
  iintro H Hk
  iapply (b_next m K c 12 5 (by decide) 1 rfl (k0_off1 c 7#32) (by revert c; decide +kernel) ![1, 0, 0] rfl ![1] rfl) $$ H
  iintro H
  iapply (b_wait m K c 12 6 (by decide) 0 rfl ![0] rfl (sp := .hbm) _ _) $$ H
  iintro H
  iapply (wp_ret' c)
  iapply Hk; iexact H

theorem part20 (c : Dev nD) (v2 v19 v634 : BitVec 32) {Q} :
    BB m K c 12 6 ⊢ iprop((∀ r, BB m K c 14 7 -∗ Q r)
      -∗ WP c (k0_part20 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 (sc m c) v634) Q) := by
  simp only [k0_part20_eq_skeleton]; unfold k0_part20_skel
  simp -zeta only [Prog.lift, Prog.bind_op, Prog.bind_ret, Prog.pure_eq_ret]
  iintro H Hk
  iapply (b_half m K c 12 6 0 rfl ![0, 0, 0] rfl) $$ H
  iintro H
  iapply (b_x8 m K c 12 6) $$ H
  iintro H
  iapply (b_put m K c 12 6 (by decide) (k0_cond25 c) (k0_cond26 c) (k0_off74 c) (k0_off75 c) (k0_off76 c) (k0_off77 c) (k0_off78 c) (k0_off79 c)
    (k0_dev28 c) (by revert c; decide +kernel) (k0_pay35 (sc m c) (wL m c (colAt c 6)) (x8 m c)) (chunk_even m c 12 rfl) (k0_pay36 (sc m c) (wL m c (colAt c 6)) (x8 m c)) rfl) $$ H
  iintro H
  iapply (b_put m K c 13 6 (by decide) (k0_cond27 c) (k0_cond28 c) (k0_off80 c) (k0_off81 c) (k0_off82 c) (k0_off83 c) (k0_off84 c) (k0_off85 c)
    (k0_dev29 c) (by revert c; decide +kernel) (k0_pay37 (sc m c) (wL m c (colAt c 6)) (x8 m c)) (chunk_odd m c 13 rfl) (k0_pay38 (sc m c) (wL m c (colAt c 6)) (x8 m c)) rfl) $$ H
  iintro H
  ihave H := (b_last m K c 14) $$ H
  iapply (b_wait m K c 14 7 (by decide) 1 rfl ![1] rfl (sp := .hbm) _ _) $$ H
  iintro H
  iapply (wp_ret' c)
  iapply Hk; iexact H

theorem part21 (c : Dev nD) (v2 v19 v667 c8 c1 : BitVec 32) (v668 : BitVec 1) {Q} :
    BB m K c 14 7 ⊢ iprop((∀ r, BB m K c 16 7 -∗ Q r)
      -∗ WP c (k0_part21 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 (sc m c) v667 c8 v668 c1) Q) := by
  simp only [k0_part21_eq_skeleton]; unfold k0_part21_skel
  simp -zeta only [Prog.lift, Prog.bind_op, Prog.bind_ret, Prog.pure_eq_ret]
  iintro H Hk
  iapply (b_half m K c 14 7 1 rfl ![1, 0, 0] rfl) $$ H
  iintro H
  iapply (b_x8 m K c 14 7) $$ H
  iintro H
  iapply (b_put m K c 14 7 (by decide) (k0_cond29 c) (k0_cond30 c) (k0_off86 c) (k0_off87 c) (k0_off88 c) (k0_off89 c) (k0_off90 c) (k0_off91 c)
    (k0_dev30 c) (by revert c; decide +kernel) (k0_pay40 (sc m c) (wL m c (colAt c 7)) (x8 m c)) (chunk_even m c 14 rfl) (k0_pay41 (sc m c) (wL m c (colAt c 7)) (x8 m c)) rfl) $$ H
  iintro H
  iapply (b_put m K c 15 7 (by decide) (k0_cond31 c) (k0_cond32 c) (k0_off92 c) (k0_off93 c) (k0_off94 c) (k0_off95 c) (k0_off96 c) (k0_off97 c)
    (k0_dev31 c) (by revert c; decide +kernel) (k0_pay42 (sc m c) (wL m c (colAt c 7)) (x8 m c)) (chunk_odd m c 15 rfl) (k0_pay43 (sc m c) (wL m c (colAt c 7)) (x8 m c)) rfl) $$ H
  iintro H
  iapply (wp_ret' c)
  iapply Hk; iexact H

end Cert.GemmA2A

end
-- ==== Proof.Parts4.lean ====
module

public import proofs.«01_k».proof.Proof.State

@[expose] public section

noncomputable section

namespace Cert.GemmA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 35 → ℕ)

/-! # The others' chunks taken in, and the wait for the own ones to have left -/

theorem part22 (c : Dev nD) (v2 v19 v705 : BitVec 32) {Q} :
    RV m K c 0 ⊢ iprop((∀ r, RV m K c 2 -∗ Q r)
      -∗ WP c (k0_part22 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 v705) Q) := by
  simp only [k0_part22_eq_skeleton]; unfold k0_part22_skel
  simp -zeta only [Prog.lift, Prog.bind_op, Prog.bind_ret, Prog.pure_eq_ret]
  iintro H Hk
  iapply (b_recv m K c 0 (by decide) (k0_cond33 c) (k0_off98 c) (k0_off100 c) (k0_off101 c) (k0_off99 c)
    (by revert c; decide +kernel) k0_pay44 (fun _ => rfl)) $$ H
  iintro H
  iapply (b_recv m K c 1 (by decide) (k0_cond34 c) (k0_off102 c) (k0_off104 c) (k0_off105 c) (k0_off103 c)
    (by revert c; decide +kernel) k0_pay45 (fun _ => rfl)) $$ H
  iintro H
  iapply (wp_ret' c)
  iapply Hk; iexact H

theorem part23 (c : Dev nD) (v2 v19 v740 : BitVec 32) {Q} :
    RV m K c 2 ⊢ iprop((∀ r, RV m K c 4 -∗ Q r)
      -∗ WP c (k0_part23 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 v740) Q) := by
  simp only [k0_part23_eq_skeleton]; unfold k0_part23_skel
  simp -zeta only [Prog.lift, Prog.bind_op, Prog.bind_ret, Prog.pure_eq_ret]
  iintro H Hk
  iapply (b_recv m K c 2 (by decide) (k0_cond35 c) (k0_off106 c) (k0_off108 c) (k0_off109 c) (k0_off107 c)
    (by revert c; decide +kernel) k0_pay46 (fun _ => rfl)) $$ H
  iintro H
  iapply (b_recv m K c 3 (by decide) (k0_cond36 c) (k0_off110 c) (k0_off112 c) (k0_off113 c) (k0_off111 c)
    (by revert c; decide +kernel) k0_pay47 (fun _ => rfl)) $$ H
  iintro H
  iapply (wp_ret' c)
  iapply Hk; iexact H

theorem part24 (c : Dev nD) (v2 v19 v774 c8 c0 : BitVec 32) {Q} :
    RV m K c 4 ⊢ iprop((∀ r, RV m K c 6 -∗ Q r)
      -∗ WP c (k0_part24 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 v774 c8 c0) Q) := by
  simp only [k0_part24_eq_skeleton]; unfold k0_part24_skel
  simp -zeta only [Prog.lift, Prog.bind_op, Prog.bind_ret, Prog.pure_eq_ret]
  iintro H Hk
  iapply (b_recv m K c 4 (by decide) (k0_cond37 c) (k0_off114 c) (k0_off116 c) (k0_off117 c) (k0_off115 c)
    (by revert c; decide +kernel) k0_pay48 (fun _ => rfl)) $$ H
  iintro H
  iapply (b_recv m K c 5 (by decide) (k0_cond38 c) (k0_off118 c) (k0_off120 c) (k0_off121 c) (k0_off119 c)
    (by revert c; decide +kernel) k0_pay49 (fun _ => rfl)) $$ H
  iintro H
  iapply (wp_ret' c)
  iapply Hk; iexact H

theorem part25 (c : Dev nD) (v2 v19 v808 c8 c1 : BitVec 32) (v809 : BitVec 1) {Q} :
    RV m K c 6 ⊢ iprop((∀ r, RV m K c 8 -∗ Q r)
      -∗ WP c (k0_part25 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 v808 c8 v809 c1) Q) := by
  simp only [k0_part25_eq_skeleton]; unfold k0_part25_skel
  simp -zeta only [Prog.lift, Prog.bind_op, Prog.bind_ret, Prog.pure_eq_ret]
  iintro H Hk
  iapply (b_recv m K c 6 (by decide) (k0_cond39 c) (k0_off122 c) (k0_off124 c) (k0_off125 c) (k0_off123 c)
    (by revert c; decide +kernel) k0_pay50 (fun _ => rfl)) $$ H
  iintro H
  iapply (b_recv m K c 7 (by decide) (k0_cond40 c) (k0_off126 c) (k0_off128 c) (k0_off129 c) (k0_off127 c)
    (by revert c; decide +kernel) k0_pay51 (fun _ => rfl)) $$ H
  iintro H
  iapply (wp_ret' c)
  iapply Hk; iexact H

theorem part26 (c : Dev nD) (v2 v19 v844 v845 : BitVec 32) {Q} :
    RV m K c 8 ⊢ iprop((∀ r, RV m K c 10 -∗ Q r)
      -∗ WP c (k0_part26 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 v844 v845) Q) := by
  simp only [k0_part26_eq_skeleton]; unfold k0_part26_skel
  simp -zeta only [Prog.lift, Prog.bind_op, Prog.bind_ret, Prog.pure_eq_ret]
  iintro H Hk
  iapply (b_recv m K c 8 (by decide) (k0_cond41 c) (k0_off130 c) (k0_off132 c) (k0_off133 c) (k0_off131 c)
    (by revert c; decide +kernel) k0_pay52 (fun _ => rfl)) $$ H
  iintro H
  iapply (b_recv m K c 9 (by decide) (k0_cond42 c) (k0_off134 c) (k0_off136 c) (k0_off137 c) (k0_off135 c)
    (by revert c; decide +kernel) k0_pay53 (fun _ => rfl)) $$ H
  iintro H
  iapply (wp_ret' c)
  iapply Hk; iexact H

theorem part27 (c : Dev nD) (v2 v19 v878 v879 : BitVec 32) (v880 : BitVec 1) {Q} :
    RV m K c 10 ⊢ iprop((∀ r, RV m K c 12 -∗ Q r)
      -∗ WP c (k0_part27 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 v878 v879 v880) Q) := by
  simp only [k0_part27_eq_skeleton]; unfold k0_part27_skel
  simp -zeta only [Prog.lift, Prog.bind_op, Prog.bind_ret, Prog.pure_eq_ret]
  iintro H Hk
  iapply (b_recv m K c 10 (by decide) (k0_cond43 c) (k0_off138 c) (k0_off140 c) (k0_off141 c) (k0_off139 c)
    (by revert c; decide +kernel) k0_pay54 (fun _ => rfl)) $$ H
  iintro H
  iapply (b_recv m K c 11 (by decide) (k0_cond44 c) (k0_off142 c) (k0_off144 c) (k0_off145 c) (k0_off143 c)
    (by revert c; decide +kernel) k0_pay55 (fun _ => rfl)) $$ H
  iintro H
  iapply (wp_ret' c)
  iapply Hk; iexact H

theorem part28 (c : Dev nD) (v2 v19 v912 v913 : BitVec 32) (v914 v915 : BitVec 1) {Q} :
    RV m K c 12 ⊢ iprop((∀ r, RV m K c 14 -∗ Q r)
      -∗ WP c (k0_part28 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 v912 v913 v914 v915) Q) := by
  simp only [k0_part28_eq_skeleton]; unfold k0_part28_skel
  simp -zeta only [Prog.lift, Prog.bind_op, Prog.bind_ret, Prog.pure_eq_ret]
  iintro H Hk
  iapply (b_recv m K c 12 (by decide) (k0_cond45 c) (k0_off146 c) (k0_off148 c) (k0_off149 c) (k0_off147 c)
    (by revert c; decide +kernel) k0_pay56 (fun _ => rfl)) $$ H
  iintro H
  iapply (b_recv m K c 13 (by decide) (k0_cond46 c) (k0_off150 c) (k0_off152 c) (k0_off153 c) (k0_off151 c)
    (by revert c; decide +kernel) k0_pay57 (fun _ => rfl)) $$ H
  iintro H
  iapply (wp_ret' c)
  iapply Hk; iexact H

theorem part29 (c : Dev nD) (v2 v19 v946 v947 : BitVec 32) (v948 v949 v950 : BitVec 1) {Q} :
    RV m K c 14 ⊢ iprop((∀ r, RV m K c 16 -∗ Q r)
      -∗ WP c (k0_part29 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2 v19 v946 v947 v948 v949 v950) Q) := by
  simp only [k0_part29_eq_skeleton]; unfold k0_part29_skel
  simp -zeta only [Prog.lift, Prog.bind_op, Prog.bind_ret, Prog.pure_eq_ret]
  iintro H Hk
  iapply (b_recv m K c 14 (by decide) (k0_cond47 c) (k0_off154 c) (k0_off156 c) (k0_off157 c) (k0_off155 c)
    (by revert c; decide +kernel) k0_pay58 (fun _ => rfl)) $$ H
  iintro H
  iapply (b_recv m K c 15 (by decide) (k0_cond48 c) (k0_off158 c) (k0_off160 c) (k0_off161 c) (k0_off159 c)
    (by revert c; decide +kernel) k0_pay59 (fun _ => rfl)) $$ H
  iintro H
  iapply (wp_ret' c)
  iapply Hk; iexact H

theorem part30 (c : Dev nD) (v2 : BitVec 32) {Q} :
    ST m K c 1 ⊢ iprop((∀ r, ST m K c 3 -∗ Q r)
      -∗ WP c (k0_part30 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2) Q) := by
  simp only [k0_part30_eq_skeleton]; unfold k0_part30_skel
  simp -zeta only [Prog.lift, Prog.bind_op, Prog.bind_ret, Prog.pure_eq_ret]
  iintro H Hk
  iapply (b_sent m K c 1 (by decide) (by decide) (k0_off162 c 1#32) (by revert c; decide +kernel) _ _) $$ H
  iintro H
  iapply (b_sent m K c 2 (by decide) (by decide) (k0_off162 c 2#32) (by revert c; decide +kernel) _ _) $$ H
  iintro H
  iapply (wp_ret' c)
  iapply Hk; iexact H

theorem part31 (c : Dev nD) (v2 : BitVec 32) {Q} :
    ST m K c 3 ⊢ iprop((∀ r, ST m K c 5 -∗ Q r)
      -∗ WP c (k0_part31 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2) Q) := by
  simp only [k0_part31_eq_skeleton]; unfold k0_part31_skel
  simp -zeta only [Prog.lift, Prog.bind_op, Prog.bind_ret, Prog.pure_eq_ret]
  iintro H Hk
  iapply (b_sent m K c 3 (by decide) (by decide) (k0_off162 c 3#32) (by revert c; decide +kernel) _ _) $$ H
  iintro H
  iapply (b_sent m K c 4 (by decide) (by decide) (k0_off162 c 4#32) (by revert c; decide +kernel) _ _) $$ H
  iintro H
  iapply (wp_ret' c)
  iapply Hk; iexact H

theorem part32 (c : Dev nD) (v2 : BitVec 32) {Q} :
    ST m K c 5 ⊢ iprop((∀ r, ST m K c 7 -∗ Q r)
      -∗ WP c (k0_part32 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2) Q) := by
  simp only [k0_part32_eq_skeleton]; unfold k0_part32_skel
  simp -zeta only [Prog.lift, Prog.bind_op, Prog.bind_ret, Prog.pure_eq_ret]
  iintro H Hk
  iapply (b_sent m K c 5 (by decide) (by decide) (k0_off162 c 5#32) (by revert c; decide +kernel) _ _) $$ H
  iintro H
  iapply (b_sent m K c 6 (by decide) (by decide) (k0_off162 c 6#32) (by revert c; decide +kernel) _ _) $$ H
  iintro H
  iapply (wp_ret' c)
  iapply Hk; iexact H

theorem part33 (c : Dev nD) (v2 : BitVec 32) {Q} :
    ST m K c 7 ⊢ iprop((∀ r, ST m K c 9 -∗ Q r)
      -∗ WP c (k0_part33 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2) Q) := by
  simp only [k0_part33_eq_skeleton]; unfold k0_part33_skel
  simp -zeta only [Prog.lift, Prog.bind_op, Prog.bind_ret, Prog.pure_eq_ret]
  iintro H Hk
  iapply (b_sent m K c 7 (by decide) (by decide) (k0_off162 c 7#32) (by revert c; decide +kernel) _ _) $$ H
  iintro H
  iapply (b_sent m K c 8 (by decide) (by decide) (k0_off162 c 8#32) (by revert c; decide +kernel) _ _) $$ H
  iintro H
  iapply (wp_ret' c)
  iapply Hk; iexact H

theorem part34 (c : Dev nD) (v2 : BitVec 32) {Q} :
    ST m K c 9 ⊢ iprop((∀ r, ST m K c 11 -∗ Q r)
      -∗ WP c (k0_part34 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2) Q) := by
  simp only [k0_part34_eq_skeleton]; unfold k0_part34_skel
  simp -zeta only [Prog.lift, Prog.bind_op, Prog.bind_ret, Prog.pure_eq_ret]
  iintro H Hk
  iapply (b_sent m K c 9 (by decide) (by decide) (k0_off162 c 9#32) (by revert c; decide +kernel) _ _) $$ H
  iintro H
  iapply (b_sent m K c 10 (by decide) (by decide) (k0_off162 c 10#32) (by revert c; decide +kernel) _ _) $$ H
  iintro H
  iapply (wp_ret' c)
  iapply Hk; iexact H

theorem part35 (c : Dev nD) (v2 : BitVec 32) {Q} :
    ST m K c 11 ⊢ iprop((∀ r, ST m K c 13 -∗ Q r)
      -∗ WP c (k0_part35 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2) Q) := by
  simp only [k0_part35_eq_skeleton]; unfold k0_part35_skel
  simp -zeta only [Prog.lift, Prog.bind_op, Prog.bind_ret, Prog.pure_eq_ret]
  iintro H Hk
  iapply (b_sent m K c 11 (by decide) (by decide) (k0_off162 c 11#32) (by revert c; decide +kernel) _ _) $$ H
  iintro H
  iapply (b_sent m K c 12 (by decide) (by decide) (k0_off162 c 12#32) (by revert c; decide +kernel) _ _) $$ H
  iintro H
  iapply (wp_ret' c)
  iapply Hk; iexact H

theorem part36 (c : Dev nD) (v2 : BitVec 32) {Q} :
    ST m K c 13 ⊢ iprop((∀ r, ST m K c 15 -∗ Q r)
      -∗ WP c (k0_part36 (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6
        c v2) Q) := by
  simp only [k0_part36_eq_skeleton]; unfold k0_part36_skel
  simp -zeta only [Prog.lift, Prog.bind_op, Prog.bind_ret, Prog.pure_eq_ret]
  iintro H Hk
  iapply (b_sent m K c 13 (by decide) (by decide) (k0_off162 c 13#32) (by revert c; decide +kernel) _ _) $$ H
  iintro H
  iapply (b_sent m K c 14 (by decide) (by decide) (k0_off162 c 14#32) (by revert c; decide +kernel) _ _) $$ H
  iintro H
  iapply (wp_ret' c)
  iapply Hk; iexact H

end Cert.GemmA2A

end
-- ==== Proof.Body.lean ====
module

public import proofs.«01_k».proof.Proof.Order
public import proofs.«01_k».proof.Proof.Parts1
public import proofs.«01_k».proof.Proof.Parts2
public import proofs.«01_k».proof.Proof.Parts3
public import proofs.«01_k».proof.Proof.Parts4

@[expose] public section

noncomputable section

namespace Cert.GemmA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 35 → ℕ)

/-! # The whole kernel body -/

theorem wp_bind' (c : Dev nD) {α β : Type} {Q : β → sProp 𝕄} (p : Prog (TpuEff nD τ sig (Elt F) Λ₀ .tc) α) (k : α → Prog (TpuEff nD τ sig (Elt F) Λ₀ .tc) β) :
    WP c p (fun a => WP c (k a) Q) ⊢ WP c (p.bind k) Q := by
  unfold WP
  exact Entails.of_eq (wp_bind _ _ _ p k Q).symm

/-- What the body starts from, besides the records and the levels. -/
def Start (c : Dev nD) : sProp 𝕄 :=
  iprop(OW c (O₀ c) ∗ bigSep (Finset.univ.erase c) (fun e => iprop(dutyTok ER (barCell e) 0 c ∗ ∃ f, rPts c e f))
    ∗ cred (tallyAt (barCell c) () 15) ∗ atPos ER (barCell c) 0 ∅ 0 ∗ Staged m c ∗ (∃ f, x8Pts c f)
    ∗ bigSep (Finset.Ico 0 8) (wUse m c) ∗ (∃ f, hPts c 0 f) ∗ (∃ f, hPts c 1 f) ∗ atPos ER (wCell c 0) 0 ∅ 0 ∗ atPos ER (wCell c 1) 0 ∅ 0
    ∗ (∃ f, oPts c c f)
    ∗ bigSep (Finset.univ.erase c) (fun e => iprop(dutyTok ER (sCell c e) 0 (0 : Fin 16) ∗ dutyTok ER (rCell e c) 0 (0 : Fin 16) ∗ ∃ f, sPts c e f))
    ∗ bigSep (Finset.univ.erase c) (fun e => iprop(cred (tallyAt (rCell c e) () N) ∗ atPos ER (rCell c e) 0 ∅ 0 ∗ ∃ f, oPts c e f))
    ∗ bigSep (Finset.univ.erase c) (fun e => atPos ER (sCell c e) 0 ∅ 0))

/-- What it ends with. -/
def Finish (c : Dev nD) : sProp 𝕄 :=
  iprop(OW c 0 ∗ atPos ER (barCell c) 1 ∅ 0 ∗ Staged m c ∗ x8Pts c (x8 m c) ∗ WB m c 7 ∗ oPts c c (oB m c)
    ∗ bigSep (Finset.univ.erase c) (fun e => iprop(atPos ER (rCell c e) 1 ∅ 0 ∗ oPts c e (oB m c) ∗ rPts c e (rB m c)))
    ∗ bigSep (Finset.univ.erase c) (fun e => iprop(atPos ER (sCell c e) 1 ∅ 0 ∗ sPts c e (sB m c))))

/-- The others' slots, handed over at the barrier, complete what the copies to them take. -/
theorem send_join (c : Dev nD) :
    iprop(bigSep (Finset.univ.erase c) (fun e => iprop(dutyTok ER (sCell c e) 0 (0 : Fin 16) ∗ dutyTok ER (rCell e c) 0 (0 : Fin 16) ∗ ∃ f, sPts c e f))
      ∗ bigSep (Finset.univ.erase c) (fun d => barPay (F := F) c d)) ⊢ bigSep (Finset.univ.erase c) (sendPre c) := by
  rw [← bigSep_sep']
  refine bigSep_mono fun e _ => ?_
  unfold sendPre barPay
  show iprop((dutyTok ER (sCell c e) 0 (0 : Fin 16) ∗ dutyTok ER (rCell e c) 0 (0 : Fin 16) ∗ ∃ f, sPts c e f) ∗ ∃ f, rPts e c f) ⊢ _
  iintro ⟨⟨H1, H2, H3⟩, H4⟩
  isplitl [H1]; · iexact H1
  isplitl [H2]; · iexact H2
  isplitl [H3]; · iexact H3
  iexact H4

theorem body (c : Dev nD) {Q : PUnit → sProp 𝕄} :
    iprop(Rec m K ∗ levAts L lv ∗ Start m c) ⊢ iprop((Finish m c -∗ Q ⟨⟩)
      -∗ WP c (cc0_body (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6) Q) := by
  simp only [cc0_body_eq_skeleton]; unfold cc0_body_skel
  unfold Start
  iintro ⟨#HR, #Hlev, HO, Hsig, Hcb, Hab, HG, Hx, Hu, Hh0, Hh1, Ha0, Ha1, Hoc, Hsd, Hrv, Hst⟩ Hk
  ihave H : SG m K c 1 $$ [HO Hsig]
  · unfold SG SigSt
    isplitr; · iexact HR
    isplitl [HO]; · iexact HO
    rw [sig_start c]; iexact Hsig
  iapply (wp_bind' c)
  iapply (part1 m K c) $$ H
  iintro %v2 %v19 %v34 %a1 %v35 H
  iapply (wp_bind' c)
  iapply (part2 m K c _ _ _ _) $$ H
  iintro %r H
  rcases r with ⟨v63, v68, v69⟩
  iapply (wp_bind' c)
  iapply (part3 m K c _ _ _ _) $$ H
  iintro %r H
  rcases r with ⟨v99, a2, v100⟩
  iapply (wp_bind' c)
  iapply (part4 m K c _ _ _ _) $$ H
  iintro %r H
  rcases r with ⟨v128, v133, v134⟩
  iapply (wp_bind' c)
  iapply (part5 m K c _ _ _ _) $$ H
  iintro %r H
  rcases r with ⟨v164, a3, v165⟩
  iapply (wp_bind' c)
  iapply (part6 m K c _ _ _ _) $$ H
  iintro %r H
  rcases r with ⟨v193, v198, v199⟩
  iapply (wp_bind' c)
  iapply (part7 m K c _ _ _ _ _) $$ [H Hcb Hab HG Hx]
  · isplitl [H]; · iexact H
    isplitr; · iexact Hlev
    isplitl [Hcb]; · iexact Hcb
    isplitl [Hab]; · iexact Hab
    isplitl [HG]; · iexact HG
    iexact Hx
  iintro %v227 %v228 %v229 ⟨HO, Hab, Hbar, HG, Hx⟩
  iapply (wp_bind' c)
  iapply (part8 m K c _ _ _ _) $$ [Hu Hh0 Hh1 Ha0 Ha1]
  · isplitr; · iexact HR
    isplitl [Hu]; · iexact Hu
    isplitl [Hh0]; · iexact Hh0
    isplitl [Hh1]; · iexact Hh1
    isplitl [Ha0]; · iexact Ha0
    iexact Ha1
  iintro HW
  ihave H : BA m K c 0 0 $$ [HO Hsd Hbar Hoc HW Hx]
  · unfold BA PutSt
    isplitr; · iexact HR
    isplitr; · iexact Hlev
    isplitl [HO Hsd Hbar Hoc]
    · isplitl [HO]; · iexact HO
      rw [put_start, Finset.Ico_self, bigSep_empty]
      isplitl [Hsd Hbar Hoc]
      · isplitl [Hoc]; · iexact Hoc
        iapply (send_join c)
        isplitl [Hsd]; · iexact Hsd
        iexact Hbar
      iempintro
    isplitl [HW]; · iexact HW
    iexact Hx
  iapply (wp_bind' c)
  iapply (part9 m K c _ _) $$ H
  iintro %v294 %v297 %a4 H
  iapply (wp_bind' c)
  iapply (part10 m K c _ _ _ _ _) $$ H
  iintro %r H
  rcases r with ⟨v326, v327, v328, a5⟩
  iapply (wp_bind' c)
  iapply (part11 m K c _ _ _ _ _ _) $$ H
  iintro %r H
  rcases r with ⟨v362, v364⟩
  iapply (wp_bind' c)
  iapply (part12 m K c _ _ _) $$ H
  iintro %v394 H
  iapply (wp_bind' c)
  iapply (part13 m K c _ _ _) $$ H
  iintro %r H
  iapply (wp_bind' c)
  iapply (part14 m K c _) $$ H
  iintro %v454 %v465 H
  iapply (wp_bind' c)
  iapply (part15 m K c _ _ _ _) $$ H
  iintro %r H
  iapply (wp_bind' c)
  iapply (part16 m K c _ _) $$ H
  iintro %v534 H
  iapply (wp_bind' c)
  iapply (part17 m K c _ _ _) $$ H
  iintro %r H
  rcases r with ⟨v564, v566⟩
  iapply (wp_bind' c)
  iapply (part18 m K c _ _ _ _) $$ H
  iintro %r H
  rcases r with ⟨v602, a6⟩
  iapply (wp_bind' c)
  iapply (part19 m K c _ _ _) $$ H
  iintro %r H
  iapply (wp_bind' c)
  iapply (part20 m K c _ _ _) $$ H
  iintro %r H
  rcases r with ⟨v667, a7, v668, a8⟩
  iapply (wp_bind' c)
  iapply (part21 m K c _ _ _ _ _ _) $$ H
  iintro %r H
  unfold BB PutSt
  icases H with ⟨-, -, ⟨HO, -, Hput⟩, HW, Hx⟩
  ihave Hput := (Entails.of_eq (put_end m c)) $$ Hput
  icases Hput with ⟨Hoc, Hcs⟩
  ihave H : RV m K c 0 $$ [HO Hrv]
  · unfold RV RecvSt
    isplitr; · iexact HR
    isplitl [HO]; · iexact HO
    rw [recv_start, Finset.Ico_self, bigSep_empty]
    isplitl [Hrv]
    · isplitr; · iempintro
      iexact Hrv
    iempintro
  iapply (wp_bind' c)
  iapply (part22 m K c _ _ _) $$ H
  iintro %r H
  iapply (wp_bind' c)
  iapply (part23 m K c _ _ _) $$ H
  iintro %r H
  rcases r with ⟨v774, a9, a10⟩
  iapply (wp_bind' c)
  iapply (part24 m K c _ _ _ _ _) $$ H
  iintro %r H
  rcases r with ⟨v808, a11, v809, a12⟩
  iapply (wp_bind' c)
  iapply (part25 m K c _ _ _ _ _ _) $$ H
  iintro %r H
  rcases r with ⟨v844, v845⟩
  iapply (wp_bind' c)
  iapply (part26 m K c _ _ _ _) $$ H
  iintro %r H
  rcases r with ⟨v878, v879, v880⟩
  iapply (wp_bind' c)
  iapply (part27 m K c _ _ _ _ _) $$ H
  iintro %r H
  rcases r with ⟨v912, v913, v914, v915⟩
  iapply (wp_bind' c)
  iapply (part28 m K c _ _ _ _ _ _) $$ H
  iintro %r H
  rcases r with ⟨v946, v947, v948, v949, v950⟩
  iapply (wp_bind' c)
  iapply (part29 m K c _ _ _ _ _ _ _) $$ H
  iintro %r H
  unfold RV RecvSt
  icases H with ⟨-, HO, -, Hrv⟩
  ihave Hrv := (Entails.of_eq (recv_end m c)) $$ Hrv
  icases Hrv with ⟨-, Hrv⟩
  ihave H : ST m K c 1 $$ [HO Hcs Hst]
  · unfold ST SentSt
    isplitr; · iexact HR
    isplitl [HO]; · iexact HO
    rw [sent_start, bigSep_sep', Finset.Ico_self, bigSep_empty]
    isplitl [Hcs Hst]
    · isplitl [Hcs]; · iexact Hcs
      iexact Hst
    iempintro
  iapply (wp_bind' c)
  iapply (part30 m K c _) $$ H
  iintro %r H
  iapply (wp_bind' c)
  iapply (part31 m K c _) $$ H
  iintro %r H
  iapply (wp_bind' c)
  iapply (part32 m K c _) $$ H
  iintro %r H
  iapply (wp_bind' c)
  iapply (part33 m K c _) $$ H
  iintro %r H
  iapply (wp_bind' c)
  iapply (part34 m K c _) $$ H
  iintro %r H
  iapply (wp_bind' c)
  iapply (part35 m K c _) $$ H
  iintro %r H
  iapply (wp_bind' c)
  iapply (part36 m K c _) $$ H
  iintro %r H
  iapply (b_sent m K c 15 (by decide) (by decide) (k0_off162 c 15#32) (by revert c; decide +kernel) _ _) $$ H
  iintro H
  unfold ST SentSt
  icases H with ⟨-, HO, -, Hst⟩
  ihave Hst := (Entails.of_eq (sent_end m c)) $$ Hst
  iapply (wp_ret' c)
  iapply Hk
  unfold Finish
  isplitl [HO]; · iexact HO
  isplitl [Hab]; · iexact Hab
  isplitl [HG]; · iexact HG
  isplitl [Hx]; · iexact Hx
  isplitl [HW]; · iexact HW
  isplitl [Hoc]; · iexact Hoc
  isplitl [Hrv]; · iexact Hrv
  iexact Hst

end Cert.GemmA2A

end
-- ==== Proof.Tokens.lean ====
module

public import proofs.«01_k».proof.Proof.Order

@[expose] public section

noncomputable section

namespace Cert.GemmA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 35 → ℕ)

/-! # What is dealt at launch

The semaphores' ghost state is made for all devices at once; every device keeps the positions of its own
semaphores and gets the tokens of the payments it will make. -/

/-! ## The cells and the tokens -/

/-- The semaphores the kernel allots itself: all but the barrier. -/
def osem (k : Fin 34) : SemLoc sig := csem k.succ

theorem csem_inj : Function.Injective csem := by decide

theorem kcell_inj : Function.Injective (kcell : Dev nD × Fin 35 → GSem nD τ sig) := by
  rintro ⟨c, k⟩ ⟨c', k'⟩ h
  have h1 : c = c' := congrArg (fun g : GSem nD τ sig => g.1.1) h
  have h2 : k = k' := csem_inj (congrArg Prod.snd h)
  rw [h1, h2]

def allCells : Finset (GSem nD τ sig) := Finset.univ.map ⟨kcell, kcell_inj⟩

/-- A device's tokens as made: of its barrier, one per device; of its sends and receives, one per semaphore; of its
    two halves, one per step. -/
def tokOf (p : Dev nD × (Fin 16 ⊕ Fin 16 ⊕ Fin 16 ⊕ Fin 8)) : GSem nD τ sig × ℕ × Fin 16 := match p.2 with
  | .inl d => (barCell p.1, 0, d)
  | .inr (.inl j) => (sCell p.1 j, 0, 0)
  | .inr (.inr (.inl j)) => (rCell p.1 j, 0, 0)
  | .inr (.inr (.inr t)) => (wCell p.1 (par t.val), t.val / 2, 0)

theorem tokOf_dev (p : Dev nD × (Fin 16 ⊕ Fin 16 ⊕ Fin 16 ⊕ Fin 8)) : (tokOf p).1.1.1 = p.1 := by
  rcases p with ⟨c, d | j | j | t⟩ <;> rfl

theorem tokOf_inj : Function.Injective tokOf := by
  rintro ⟨c, x⟩ ⟨c', x'⟩ h
  have h1 : c = c' := (tokOf_dev (c, x)).symm.trans ((congrArg (fun y => y.1.1.1) h).trans (tokOf_dev (c', x')))
  subst h1
  have hr : role (tokOf (c, x)).1.2 = role (tokOf (c, x')).1.2 := by rw [h]
  have hn : (tokOf (c, x)).2.1 = (tokOf (c, x')).2.1 := by rw [h]
  have hd : (tokOf (c, x)).2.2 = (tokOf (c, x')).2.2 := by rw [h]
  rcases x with d | j | j | t <;> rcases x' with d' | j' | j' | t' <;>
    simp only [tokOf, role_bar, role_half, role_send, role_recv, reduceCtorEq, Role.send.injEq, Role.recv.injEq, Role.half.injEq] at hr hn hd
  · rw [hd]
  · rw [hr]
  · rw [hr]
  · have e : t = t' := by
      have h3 : t.val % 2 = t'.val % 2 := congrArg Fin.val hr
      exact Fin.ext (by omega)
    rw [e]

def allToks : Finset (GSem nD τ sig × ℕ × Fin 16) := Finset.univ.map ⟨tokOf, tokOf_inj⟩

/-- The ghost state made at launch. -/
def u₀ : UU := (initOf (Pipeline.cells cfgs cellOf_inj) (Pipeline.launchToks cfgs cellOf_inj), initOf allCells allToks)

/-- The tokens of device `c`'s own semaphores. -/
def toks (c : Dev nD) : sProp 𝕄 :=
  iprop(bigSep Finset.univ (fun d : Dev nD => dutyTok ER (barCell c) 0 d) ∗ bigSep Finset.univ (fun j : Fin 16 => dutyTok ER (sCell c j) 0 (0 : Fin 16))
    ∗ bigSep Finset.univ (fun j : Fin 16 => dutyTok ER (rCell c j) 0 (0 : Fin 16))
    ∗ bigSep Finset.univ (fun t : Fin 8 => dutyTok ER (wCell c (par t.val)) (t.val / 2) (0 : Fin 16)))

/-- What the ghost state gives device `c`. -/
def G (c : Dev nD) : sProp 𝕄 :=
  iprop((bigSep Finset.univ fun k : Fin 35 => roundState ER (rd m) (kcell (c, k)) 0)
    ∗ (bigSep Finset.univ fun k : Fin 35 => iprop(atPos ER (kcell (c, k)) 0 ∅ 0 ∗ reached ER (kcell (c, k)) 0)) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 35 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks; rw [BI.bigSep_univ_sum, BI.bigSep_univ_sum, BI.bigSep_univ_sum]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## The counters -/

/-- The barrier semaphore is the one semaphore not allotted by the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem fin35 (Φ : Fin 35 → sProp 𝕄) : bigSep Finset.univ Φ = iprop(Φ 0 ∗ bigSep Finset.univ fun k : Fin 34 => Φ k.succ) := by
  rw [Fin.univ_succ, Finset.cons_eq_insert, bigSep_insert (by simp), bigSep_map]; rfl

def sIdx : Fin 16 ↪ Fin 35 := ⟨kS, by decide⟩
def rIdx : Fin 16 ↪ Fin 35 := ⟨kR, by decide⟩

/-- The semaphores by their use. -/
theorem fin35_roles (Φ : Fin 35 → sProp 𝕄) :
    bigSep Finset.univ Φ = iprop(Φ 0 ∗ Φ (kW 0) ∗ Φ (kW 1) ∗ bigSep Finset.univ (fun j => Φ (kS j)) ∗ bigSep Finset.univ fun j => Φ (kR j)) := by
  have h : (Finset.univ : Finset (Fin 35)) = insert 0 (insert (kW 0) (insert (kW 1) (Finset.univ.map sIdx ∪ Finset.univ.map rIdx))) := by decide
  rw [h, bigSep_insert (by decide), bigSep_insert (by decide), bigSep_insert (by decide), BI.bigSep_union (by decide), bigSep_map, bigSep_map]
  rfl

theorem swap2 (P Q : sProp 𝕄) : iprop(P ∗ Q) = iprop(Q ∗ P) :=
  BI.Entails.antisymm (show (iprop(P ∗ Q) : sProp 𝕄) ⊢ iprop(Q ∗ P) from sep_symm) (show (iprop(Q ∗ P) : sProp 𝕄) ⊢ iprop(P ∗ Q) from sep_symm)

theorem sems0_eq (c : Dev nD) :
    iprop(Pipeline.ownSems0 (Ix := Unit) (Name := ℕ) (U := UU) (Lvl := ℕ) (Val := Elt F) (τ := τ) osem c ∗ unscopedSems0 c)
      = (bigSep Finset.univ fun k : Fin 35 => semVal (kcell (c, k)) 0 : sProp 𝕄) := by
  rw [unscopedSems0_eq, fin35]
  unfold Pipeline.ownSems0
  exact swap2 _ _

/-! ## The invariants -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hos]; · iexact Hos
    iexact Hus
  imod (show iprop((bigSep Finset.univ fun k : Fin 35 => semVal (kcell (c, k)) 0) ∗ bigSep Finset.univ fun k : Fin 35 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-! ## Dealing the tokens -/

/-- The tokens device `c` pays with. -/
def payToks (c : Dev nD) : sProp 𝕄 :=
  iprop(bigSep (Finset.univ.erase c) (fun e => dutyTok ER (barCell e) 0 c) ∗ bigSep (Finset.univ.erase c) (fun e => dutyTok ER (sCell c e) 0 (0 : Fin 16))
    ∗ bigSep (Finset.univ.erase c) (fun e => dutyTok ER (rCell e c) 0 (0 : Fin 16))
    ∗ bigSep (Finset.Ico 0 8) (fun t => dutyTok ER (wCell c (par t)) (t / 2) (0 : Fin 16)))

theorem swap (Φ : Dev nD → Dev nD → sProp 𝕄) :
    bigSep Finset.univ (fun c => bigSep Finset.univ (Φ c)) ⊢ bigSep Finset.univ (fun c => bigSep (Finset.univ.erase c) (fun e => Φ e c)) := by
  rw [← BI.bigSep_erase_comm Φ]
  exact bigSep_mono fun c _ => BI.bigSep_subset (Finset.erase_subset _ _)

theorem own_drop (Φ : Dev nD → Dev nD → sProp 𝕄) :
    bigSep Finset.univ (fun c => bigSep Finset.univ (Φ c)) ⊢ bigSep Finset.univ (fun c => bigSep (Finset.univ.erase c) (Φ c)) :=
  bigSep_mono fun c _ => BI.bigSep_subset (Finset.erase_subset _ _)

theorem steps8 (Φ : ℕ → sProp 𝕄) : bigSep Finset.univ (fun t : Fin 8 => Φ t.val) = bigSep (Finset.Ico 0 8) Φ := by
  rw [bigSep_univ_eq_bigSepL [0, 1, 2, 3, 4, 5, 6, 7] (by decide) (by decide), bigSep_eq_bigSepL_of_eq [0, 1, 2, 3, 4, 5, 6, 7] (by decide) (by decide)]
  rfl

theorem deal : (bigSep Finset.univ fun c : Dev nD => (toks c : sProp 𝕄)) ⊢ bigSep Finset.univ fun c : Dev nD => payToks c := by
  unfold toks payToks
  simp only [bigSep_sep']
  iintro ⟨H1, H2, H3, H4⟩
  isplitl [H1]; · iapply (swap (fun c d => (dutyTok ER (barCell c) 0 d : sProp 𝕄))); iexact H1
  isplitl [H2]
  · iapply (own_drop (fun c j => (dutyTok ER (sCell c j) 0 (0 : Fin 16) : sProp 𝕄)))
    iexact H2
  isplitl [H3]; · iapply (swap (fun c j => (dutyTok ER (rCell c j) 0 (0 : Fin 16) : sProp 𝕄))); iexact H3
  iapply (Entails.of_eq (bigSep_congr fun c _ => steps8 (fun t => (dutyTok ER (wCell c (par t)) (t / 2) (0 : Fin 16) : sProp 𝕄)))); iexact H4

/-- What device `c` alone starts from. -/
def linear (c : Dev nD) : sProp 𝕄 := iprop((bigSep Finset.univ fun k : Fin 35 => atPos ER (kcell (c, k)) 0 ∅ 0) ∗ payToks c)

/-- What the launch makes of it all for device `c`. -/
def G' (c : Dev nD) : sProp 𝕄 := iprop(∃ K, Rec m K ∗ linear c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 35 => iprop(∃ κ : ℕ, cellInv ER (rd m) κ (kcell ck))),
    bigSep_congr (s := Finset.univ) (fun (c : Dev nD) _ => bigSep_sep' Finset.univ (fun k : Fin 35 => (atPos ER (kcell (c, k)) 0 ∅ 0 : sProp 𝕄)) (fun k => reached ER (kcell (c, k)) 0)),
    bigSep_sep', ← bigSep_univ_prod (fun ck : Dev nD × Fin 35 => (reached ER (kcell ck) 0 : sProp 𝕄))]
  iintro ⟨HI, ⟨Hat, #HR⟩, Htok⟩
  ihave HK := (BI.bigSep_exists_pi Finset.univ (fun (ck : Dev nD × Fin 35) (κ : ℕ) => (cellInv ER (rd m) κ (kcell ck) : sProp 𝕄))) $$ HI
  icases HK with ⟨%K, #HI⟩
  ihave Htk := (deal (F := F)) $$ Htok
  iapply (with_persistent (R := Rec m K) (Φ := linear) fun c _ => by
    unfold G'
    iintro ⟨HR, HL⟩
    iexists K
    isplitl [HR]; · iexact HR
    iexact HL)
  isplitr
  · unfold Rec; rw [bigSep_sep']
    isplitr; · iexact HI
    iexact HR
  · unfold linear; rw [bigSep_sep']
    isplitl [Hat]; · iexact Hat
    iexact Htk

/-- Of the counters at zero and the ghost state of all devices, every device's start. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.GemmA2A

end
-- ==== Proof.Credits.lean ====
module

public import proofs.«01_k».proof.Proof.Order

@[expose] public section

noncomputable section

namespace Cert.GemmA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 35 → ℕ)

/-! # What the others owe at launch -/

theorem rot_image (c : Dev nD) : (Finset.Ico 1 16).image (rot c) = Finset.univ.erase c :=
  Finset.eq_of_subset_of_card_le
    (fun e he => by
      obtain ⟨k, hk, rfl⟩ := Finset.mem_image.1 he
      exact Finset.mem_erase.2 ⟨(rot_ne c k (Finset.mem_Ico.1 hk).1 (Finset.mem_Ico.1 hk).2).symm, Finset.mem_univ _⟩)
    (by rw [Finset.card_image_of_injOn (rot_inj c), Finset.card_erase_of_mem (Finset.mem_univ c)]; exact le_refl 15)

theorem dst_image (c : Dev nD) : (Finset.Ico 0 16).image (dst c) = Finset.univ :=
  Finset.eq_univ_of_card _ (by rw [Finset.card_image_of_injOn (dst_inj c)]; rfl)

theorem oweBar_eq (d : Dev nD) : oweBar d 1 = ∑ e ∈ Finset.univ.erase d, tallyAt (barCell e) () 1 := by
  unfold oweBar; rw [← rot_image d, Finset.sum_image (rot_inj d)]
theorem oweRecv_eq (d : Dev nD) : oweRecv d 0 = ∑ e : Dev nD, oweTo d e := by
  unfold oweRecv; rw [← dst_image d, Finset.sum_image (dst_inj d)]

theorem bar_iff {a b : Dev nD} : barCell a = barCell b ↔ a = b :=
  ⟨fun h => congrArg (fun g : GSem nD τ sig => g.1.1) h, fun h => h ▸ rfl⟩
theorem recv_iff {a b : Dev nD} {i j : Fin 16} : rCell a i = rCell b j ↔ a = b ∧ i = j := by
  constructor
  · intro h
    have h2 : role (.dma (rSem i)) = role (.dma (rSem j)) := congrArg (fun g : GSem nD τ sig => role g.2) h
    rw [role_recv, role_recv] at h2
    exact ⟨congrArg (fun g : GSem nD τ sig => g.1.1) h, Role.recv.inj h2⟩
  · rintro ⟨rfl, rfl⟩; rfl
theorem recv_ne_bar {a b : Dev nD} {i : Fin 16} : rCell a i ≠ barCell b := by
  intro h
  have h2 : role (.dma (rSem i)) = role (.reg barS) := congrArg (fun g : GSem nD τ sig => role g.2) h
  rw [role_recv] at h2
  exact absurd h2 (by simp [role_bar])

/-- Device `d` owes device `c`'s barrier one unit, unless it is `c`. -/
theorem owed_bar (d c : Dev nD) : O₀ d (barCell c) () = if d = c then 0 else 1 := by
  unfold O₀
  have h0 : oweRecv d 0 (barCell c) () = 0 := by
    rcases Nat.eq_zero_or_pos (oweRecv d 0 (barCell c) ()) with h | h
    · exact h
    · obtain ⟨e, -, he⟩ := oweRecv_pos h; exact absurd he.symm recv_ne_bar
  rw [Pi.add_apply, Finsupp.add_apply, h0, oweBar_eq, Finset.sum_apply, Finsupp.finset_sum_apply, Nat.zero_add,
    Finset.sum_congr rfl (g := fun e => if e = c then 1 else 0) fun e _ => by
      rw [tallyAt_apply]
      by_cases h : e = c
      · subst h; rw [if_pos ⟨rfl, rfl⟩, if_pos rfl]
      · rw [if_neg (fun h' => h (bar_iff.1 h'.1).symm), if_neg h],
    Finset.sum_ite_eq']
  by_cases h : d = c
  · rw [if_pos h, if_neg (by rw [h]; exact Finset.notMem_erase c _)]
  · rw [if_neg h, if_pos (Finset.mem_erase.2 ⟨fun h' => h h'.symm, Finset.mem_univ _⟩)]

/-- Device `d` owes the receive semaphore of `c` for `d` one chunk, and no other of `c`'s. -/
theorem owed_recv (d c : Dev nD) (e : Fin 16) (he : e ≠ c) : O₀ d (rCell c e) () = if d = e then N else 0 := by
  unfold O₀
  have h0 : oweBar d 1 (rCell c e) () = 0 := by
    rcases Nat.eq_zero_or_pos (oweBar d 1 (rCell c e) ()) with h | h
    · exact h
    · obtain ⟨x, hx⟩ := oweBar_pos h; exact absurd hx recv_ne_bar
  rw [Pi.add_apply, Finsupp.add_apply, h0, oweRecv_eq, Finset.sum_apply, Finsupp.finset_sum_apply, Nat.add_zero,
    Finset.sum_congr rfl (g := fun x => if x = c then (if d = e then N else 0) else 0) fun x _ => by
      unfold oweTo
      by_cases hx : x = c
      · subst hx
        rw [if_pos rfl]
        by_cases hd : d = e
        · subst hd; rw [if_pos rfl, if_neg (Ne.symm he), tallyAt_apply, if_pos ⟨rfl, rfl⟩]
        · rw [if_neg hd]
          by_cases hxd : x = d
          · rw [if_pos hxd]; rfl
          · rw [if_neg hxd, tallyAt_apply, if_neg (fun h => hd (recv_iff.1 h.1).2.symm)]
      · rw [if_neg hx]
        by_cases hxd : x = d
        · rw [if_pos hxd]; rfl
        · rw [if_neg hxd, tallyAt_apply, if_neg (fun h => hx (recv_iff.1 h.1).1.symm)],
    Finset.sum_ite_eq', if_pos (Finset.mem_univ _)]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (e : Fin 16) (he : e ≠ c) :
    tallyOn (rCell c e) (launchCredit (Pipeline.owing O₀) 0 (rCell c e)) = (tallyAt (rCell c e) () N : CellTallies nD τ sig Unit) := by
  unfold tallyAt; refine congrArg _ (Finsupp.ext fun u => ?_); cases u
  rw [Pipeline.launchCredit_owing, Finsupp.single_eq_same, Finset.sum_congr rfl fun d _ => owed_recv d c e he, Finset.sum_ite_eq' Finset.univ e fun _ => N,
    if_pos (Finset.mem_univ _)]

/-- The credits dealt to device `c`: its barrier's units and, per other device, one chunk. -/
theorem creds (c : Dev nD) :
    (Pipeline.launchCred O₀ c : sProp 𝕄)
      ⊢ iprop(cred (tallyAt (barCell c) () 15) ∗ bigSep (Finset.univ.erase c) (fun e => cred (tallyAt (rCell c e) () N))) := by
  unfold Pipeline.launchCred
  rw [bigSep_univ_at _ (SemLoc.reg barS), launch_bar]
  refine sep_mono_right ?_
  have hinj : Set.InjOn (fun e : Fin 16 => (SemLoc.dma (rSem e) : SemLoc sig)) (Finset.univ.erase c : Finset (Fin 16)) := fun a _ b _ h => by
    have h2 : role (.dma (rSem a)) = role (.dma (rSem b)) := congrArg role h
    rw [role_recv, role_recv] at h2
    exact Role.recv.inj h2
  refine (BI.bigSep_subset (t := (Finset.univ.erase c).image fun e : Fin 16 => (SemLoc.dma (rSem e) : SemLoc sig)) (fun x hx => ?_)).trans ?_
  · obtain ⟨e, -, rfl⟩ := Finset.mem_image.1 hx
    exact Finset.mem_erase.2 ⟨(fun h => by cases h), Finset.mem_univ _⟩
  · rw [bigSep_image_of_injOn hinj]
    exact Entails.of_eq (bigSep_congr fun e he => congrArg cred (launch_recv c e (Finset.ne_of_mem_erase he)))

end Cert.GemmA2A

end
-- ==== Proof.Ends.lean ====
module

public import proofs.«01_k».proof.Proof.Body
public import proofs.«01_k».proof.Proof.Tokens
public import proofs.«01_k».proof.Proof.Credits

@[expose] public section

noncomputable section

namespace Cert.GemmA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 35 → ℕ)

/-! # From whole buffers to pieces, and back -/

/-! ## The cells by their index -/

theorem kcell_W (c : Dev nD) (s : Fin 2) : kcell (c, kW s) = wCell c s := by unfold kcell; rw [csem_W]
theorem kcell_S (c : Dev nD) (j : Fin 16) : kcell (c, kS j) = sCell c j := by unfold kcell; rw [csem_S]
theorem kcell_R (c : Dev nD) (j : Fin 16) : kcell (c, kR j) = rCell c j := by unfold kcell; rw [csem_R]

/-- A family over a device's semaphores, by their use. -/
theorem cells_roles (c : Dev nD) (Φ : GSem nD τ sig → sProp 𝕄) :
    (bigSep Finset.univ fun k : Fin 35 => Φ (kcell (c, k)))
      = iprop(Φ (barCell c) ∗ Φ (wCell c 0) ∗ Φ (wCell c 1) ∗ bigSep Finset.univ (fun j => Φ (sCell c j)) ∗ bigSep Finset.univ fun j => Φ (rCell c j)) := by
  rw [fin35_roles (fun k => Φ (kcell (c, k))), kcell_W, kcell_W]
  simp only [kcell_S, kcell_R]
  rfl

/-- The own part of a family and the others'. -/
theorem own_part (c : Dev nD) (Φ : Dev nD → sProp 𝕄) : bigSep Finset.univ Φ = iprop(Φ c ∗ bigSep (Finset.univ.erase c) Φ) := by
  rw [BI.bigSep_erase (Finset.mem_univ c)]; rfl

/-! ## The buffers by their pieces -/

theorem r_pieces (c : Dev nD) (f : S16x256x128.Idx → Elt F .bf16) :
    (((c : Thread nD τ).loc cc0_scratch3) ↦{fullShare} f : sProp 𝕄) = bigSep Finset.univ fun e => rPts c e f := by
  unfold rPts; exact Ring.pointsTo_blocks (ℓ := (c : Thread nD τ).loc cc0_scratch3) slotSet slot_disjoint slot_cover f
theorem s_pieces (c : Dev nD) (f : S16x256x128.Idx → Elt F .bf16) :
    (((c : Thread nD τ).loc cc0_scratch2) ↦{fullShare} f : sProp 𝕄) = bigSep Finset.univ fun e => sPts c e f := by
  unfold sPts; exact Ring.pointsTo_blocks (ℓ := (c : Thread nD τ).loc cc0_scratch2) slotSet slot_disjoint slot_cover f
theorem o_pieces (c : Dev nD) (f : S4096x128.Idx → Elt F .f32) :
    (((c : Thread nD τ).loc cc0_stg3_0) ↦{fullShare} f : sProp 𝕄) = bigSep Finset.univ fun e => oPts c e f := by
  unfold oPts; exact Ring.pointsTo_blocks (ℓ := (c : Thread nD τ).loc cc0_stg3_0) rowSet row_disjoint row_cover f
theorem h_pieces (c : Dev nD) (f : S2x4096x256.Idx → Elt F .f32) :
    (((c : Thread nD τ).loc cc0_scratch1) ↦{fullShare} f : sProp 𝕄) = bigSep Finset.univ fun e => hPts c e f := by
  unfold hPts; exact Ring.pointsTo_blocks (ℓ := (c : Thread nD τ).loc cc0_scratch1) halfSet half_disjoint half_cover f
theorem w_pieces (c : Dev nD) (f : S4096x2048.Idx → Elt F .f32) :
    (((c : Thread nD τ).loc main_arg1) ↦{fullShare} f : sProp 𝕄) = bigSep Finset.univ fun e => wPts c e f := by
  unfold wPts; exact Ring.pointsTo_blocks (ℓ := (c : Thread nD τ).loc main_arg1) colSet col_disjoint col_cover f

theorem r_join (c : Dev nD) (f₀ : S16x256x128.Idx → Elt F .bf16) : (bigSep Finset.univ fun e => iprop(∃ f, rPts (F := F) c e f))
    ⊢ iprop(∃ g : S16x256x128.Idx → Elt F .bf16, ((c : Thread nD τ).loc cc0_scratch3) ↦{fullShare} g) := by
  unfold rPts; exact Ring.pointsTo_blocks_join_exists (ℓ := (c : Thread nD τ).loc cc0_scratch3) slotSet slot_disjoint slot_cover f₀
theorem s_join (c : Dev nD) (f₀ : S16x256x128.Idx → Elt F .bf16) : (bigSep Finset.univ fun e => iprop(∃ f, sPts (F := F) c e f))
    ⊢ iprop(∃ g : S16x256x128.Idx → Elt F .bf16, ((c : Thread nD τ).loc cc0_scratch2) ↦{fullShare} g) := by
  unfold sPts; exact Ring.pointsTo_blocks_join_exists (ℓ := (c : Thread nD τ).loc cc0_scratch2) slotSet slot_disjoint slot_cover f₀
theorem h_join (c : Dev nD) (f₀ : S2x4096x256.Idx → Elt F .f32) : (bigSep Finset.univ fun e => iprop(∃ f, hPts (F := F) c e f))
    ⊢ iprop(∃ g : S2x4096x256.Idx → Elt F .f32, ((c : Thread nD τ).loc cc0_scratch1) ↦{fullShare} g) := by
  unfold hPts; exact Ring.pointsTo_blocks_join_exists (ℓ := (c : Thread nD τ).loc cc0_scratch1) halfSet half_disjoint half_cover f₀

theorem two (Φ : Fin 2 → sProp 𝕄) : bigSep Finset.univ Φ = iprop(Φ 0 ∗ Φ 1) := bigSep_univ_eq_bigSepL [0, 1] (by decide) (by decide) Φ

/-- Pieces at one contents are pieces at some. -/
theorem some_each {I : Type} [DecidableEq I] {A : Type} (S : Finset I) (Φ : I → A → sProp 𝕄) (a : A) :
    bigSep S (fun i => Φ i a) ⊢ bigSep S fun i => iprop(∃ b, Φ i b) :=
  bigSep_mono fun i _ => show (Φ i a : sProp 𝕄) ⊢ iprop(∃ b, Φ i b) from by
    iintro H; iexists a; iexact H

/-! ## The scratch buffers -/

/-- The kernel's scratch buffers at some contents. -/
def Scr (c : Dev nD) : sProp 𝕄 :=
  iprop((∃ f : S256x4096.Idx → Elt F .fp8e4m3, ((c : Thread nD τ).loc cc0_scratch0) ↦{fullShare} f)
    ∗ (∃ f : S2x4096x256.Idx → Elt F .f32, ((c : Thread nD τ).loc cc0_scratch1) ↦{fullShare} f)
    ∗ (∃ f : S16x256x128.Idx → Elt F .bf16, ((c : Thread nD τ).loc cc0_scratch2) ↦{fullShare} f)
    ∗ (∃ f : S16x256x128.Idx → Elt F .bf16, ((c : Thread nD τ).loc cc0_scratch3) ↦{fullShare} f))

/-- What the body leaves alone: its own slots and their semaphores' positions. -/
def Spare (c : Dev nD) : sProp 𝕄 :=
  iprop((∃ f, rPts (F := F) c c f) ∗ (∃ f, sPts (F := F) c c f) ∗ atPos ER (sCell c c) 0 ∅ 0 ∗ atPos ER (rCell c c) 0 ∅ 0)

/-- What a device starts the body from. -/
theorem start_pieces (c : Dev nD) :
    iprop(linear (F := F) c ∗ cred (tallyAt (barCell c) () 15) ∗ bigSep (Finset.univ.erase c) (fun e => cred (tallyAt (rCell c e) () N))
        ∗ (((c : Thread nD τ).loc main_arg1) ↦{fullShare} wA m c) ∗ Scr c ∗ OW c (O₀ c) ∗ Staged m c
        ∗ ∃ f : S4096x128.Idx → Elt F .f32, ((c : Thread nD τ).loc cc0_stg3_0) ↦{fullShare} f)
      ⊢ iprop(Start m c ∗ Spare c) := by
  unfold linear payToks Scr
  rw [cells_roles c (fun g => atPos ER g 0 ∅ 0), own_part c (fun j => (atPos ER (sCell c j) 0 ∅ 0 : sProp 𝕄)), own_part c (fun j => (atPos ER (rCell c j) 0 ∅ 0 : sProp 𝕄))]
  iintro ⟨⟨⟨Hab, Ha0, Ha1, ⟨Hasc, Has⟩, Harc, Har⟩, Htb, Hts, Htr, Htw⟩, Hcb, Hcr, Hw, ⟨⟨%f0, H0⟩, ⟨%f1, H1⟩, ⟨%f2, H2⟩, ⟨%f3, H3⟩⟩, HO, HG, ⟨%fo, Ho⟩⟩
  ihave H1 := (Entails.of_eq ((h_pieces c f1).trans (two _))) $$ H1
  icases H1 with ⟨Hh0, Hh1⟩
  ihave H2 := (Entails.of_eq ((s_pieces c f2).trans (own_part c _))) $$ H2
  icases H2 with ⟨Hsc, Hs⟩
  ihave H3 := (Entails.of_eq ((r_pieces c f3).trans (own_part c _))) $$ H3
  icases H3 with ⟨Hrc, Hr⟩
  ihave Ho := (Entails.of_eq ((o_pieces c fo).trans (own_part c _))) $$ Ho
  icases Ho with ⟨Hoc, Ho⟩
  ihave Hw := (Entails.of_eq ((w_pieces c (wA m c)).trans (col_order c _).symm)) $$ Hw
  ihave Hs := (some_each (Finset.univ.erase c) (fun e f => sPts (F := F) c e f) f2) $$ Hs
  ihave Hr := (some_each (Finset.univ.erase c) (fun e f => rPts (F := F) c e f) f3) $$ Hr
  ihave Ho := (some_each (Finset.univ.erase c) (fun e f => oPts (F := F) c e f) fo) $$ Ho
  isplitr [Hrc Hsc Hasc Harc]
  · unfold Start
    isplitl [HO]; · iexact HO
    isplitl [Htb Hr]
    · rw [bigSep_sep']
      isplitl [Htb]; · iexact Htb
      iexact Hr
    isplitl [Hcb]; · iexact Hcb
    isplitl [Hab]; · iexact Hab
    isplitl [HG]; · iexact HG
    isplitl [H0]; · iexists f0; unfold x8Pts; iexact H0
    isplitl [Hw Htw]
    · unfold wUse; rw [bigSep_sep']
      isplitl [Hw]; · iexact Hw
      iexact Htw
    isplitl [Hh0]; · iexists f1; iexact Hh0
    isplitl [Hh1]; · iexists f1; iexact Hh1
    isplitl [Ha0]; · iexact Ha0
    isplitl [Ha1]; · iexact Ha1
    isplitl [Hoc]; · iexists fo; iexact Hoc
    isplitl [Hts Htr Hs]
    · rw [bigSep_sep', bigSep_sep']
      isplitl [Hts]; · iexact Hts
      isplitl [Htr]; · iexact Htr
      iexact Hs
    isplitl [Hcr Har Ho]
    · rw [bigSep_sep', bigSep_sep']
      isplitl [Hcr]; · iexact Hcr
      isplitl [Har]; · iexact Har
      iexact Ho
    iexact Has
  · unfold Spare
    isplitl [Hrc]; · iexists f3; iexact Hrc
    isplitl [Hsc]; · iexists f2; iexact Hsc
    isplitl [Hasc]; · iexact Hasc
    iexact Harc

/-! ## Closing the cells -/

theorem close_bar (c : Dev nD) : iprop(Rec m K ∗ atPos ER (barCell c) 1 ∅ 0) ⊢ (|={Set.univ}=> semVal (barCell c) 0 : sProp 𝕄) := by
  iintro ⟨#HR, H⟩
  ihave ⟨#HI, -⟩ := (rec_B m K c) $$ HR
  iapply (Rounds.cell_close ER (rd m) (Set.mem_univ (K (c, 0))) (fun h => h) (R := 1) (duties_bar_later m c))
  isplitr; · iexact HI
  iexact H
theorem close_half (c : Dev nD) (s : Fin 2) : iprop(Rec m K ∗ atPos ER (wCell c s) 4 ∅ 0) ⊢ (|={Set.univ}=> semVal (wCell c s) 0 : sProp 𝕄) := by
  iintro ⟨#HR, H⟩
  ihave ⟨#HI, -⟩ := (rec_W m K c s) $$ HR
  iapply (Rounds.cell_close ER (rd m) (Set.mem_univ (K (c, kW s))) (fun h => h) (R := 4) (duties_half_later m c s))
  isplitr; · iexact HI
  iexact H
theorem close_send (c : Dev nD) (j : Fin 16) (R : ℕ) (hR : j = c ∨ 1 ≤ R) :
    iprop(Rec m K ∗ atPos ER (sCell c j) R ∅ 0) ⊢ (|={Set.univ}=> semVal (sCell c j) 0 : sProp 𝕄) := by
  iintro ⟨#HR, H⟩
  ihave ⟨#HI, -⟩ := (rec_S m K c j) $$ HR
  iapply (Rounds.cell_close ER (rd m) (Set.mem_univ (K (c, kS j))) (fun h => h) (R := R)
    (fun r hr => duties_send_later m c j r (hR.imp id fun h => le_trans h hr)))
  isplitr; · iexact HI
  iexact H
theorem close_recv (c : Dev nD) (j : Fin 16) (R : ℕ) (hR : j = c ∨ 1 ≤ R) :
    iprop(Rec m K ∗ atPos ER (rCell c j) R ∅ 0) ⊢ (|={Set.univ}=> semVal (rCell c j) 0 : sProp 𝕄) := by
  iintro ⟨#HR, H⟩
  ihave ⟨#HI, -⟩ := (rec_R m K c j) $$ HR
  iapply (Rounds.cell_close ER (rd m) (Set.mem_univ (K (c, kR j))) (fun h => h) (R := R)
    (fun r hr => duties_recv_later m c j r (hR.imp id fun h => le_trans h hr)))
  isplitr; · iexact HI
  iexact H

theorem close_sends (c : Dev nD) :
    iprop(Rec m K ∗ bigSep (Finset.univ.erase c) (fun e => atPos ER (sCell c e) 1 ∅ 0))
      ⊢ (|={Set.univ}=> bigSep (Finset.univ.erase c) fun e => semVal (sCell c e) 0 : sProp 𝕄) :=
  (with_persistent (R := Rec m K) fun e _ => close_send m K c e 1 (.inr le_rfl)).trans (bigSep_fupd _ _)
theorem close_recvs (c : Dev nD) :
    iprop(Rec m K ∗ bigSep (Finset.univ.erase c) (fun e => atPos ER (rCell c e) 1 ∅ 0))
      ⊢ (|={Set.univ}=> bigSep (Finset.univ.erase c) fun e => semVal (rCell c e) 0 : sProp 𝕄) :=
  (with_persistent (R := Rec m K) fun e _ => close_recv m K c e 1 (.inr le_rfl)).trans (bigSep_fupd _ _)

/-! ## The end -/

/-- What is left after the body, besides the staged arrays. -/
def Φ₁ (c : Dev nD) : sProp 𝕄 :=
  iprop((((c : Thread nD τ).loc main_arg1) ↦{fullShare} wA m c) ∗ (bigSep Finset.univ fun k : Fin 35 => semVal (kcell (c, k)) 0) ∗ Scr c)

theorem finish_pieces (c : Dev nD) :
    iprop(Rec m K ∗ Finish m c ∗ Spare c)
      ⊢ |={Set.univ}=> iprop(OW c 0 ∗ Staged m c ∗ (((c : Thread nD τ).loc cc0_stg3_0) ↦{fullShare} oB m c) ∗ Φ₁ m c) := by
  unfold Finish Spare WB wBack
  rw [bigSep_sep', bigSep_sep', bigSep_sep', wFly_ge c 8 le_rfl]
  iintro ⟨#HR, ⟨HO, Hab, HG, Hx, ⟨Ha1, -, Hh1, Ha0, Hh0, -, Hw⟩, Hoc, ⟨Har, Ho, Hr⟩, Has, Hs⟩, Hrc, Hsc, Hasc, Harc⟩
  imod (close_bar m K c) $$ [Hab] with Hab
  · isplitr; · iexact HR
    iexact Hab
  imod (close_half m K c 1) $$ [Ha1] with Ha1
  · isplitr; · iexact HR
    iexact Ha1
  imod (close_half m K c 0) $$ [Ha0] with Ha0
  · isplitr; · iexact HR
    iexact Ha0
  imod (close_send m K c c 0 (.inl rfl)) $$ [Hasc] with Hasc
  · isplitr; · iexact HR
    iexact Hasc
  imod (close_recv m K c c 0 (.inl rfl)) $$ [Harc] with Harc
  · isplitr; · iexact HR
    iexact Harc
  imod (close_sends m K c) $$ [Has] with Has
  · isplitr; · iexact HR
    iexact Has
  imod (close_recvs m K c) $$ [Har] with Har
  · isplitr; · iexact HR
    iexact Har
  ihave Hs := (some_each (Finset.univ.erase c) (fun e f => sPts (F := F) c e f) (sB m c)) $$ Hs
  ihave Hr := (some_each (Finset.univ.erase c) (fun e f => rPts (F := F) c e f) (rB m c)) $$ Hr
  imodintro
  isplitl [HO]; · iexact HO
  isplitl [HG]; · iexact HG
  isplitl [Hoc Ho]
  · rw [o_pieces, own_part c]
    isplitl [Hoc]; · iexact Hoc
    iexact Ho
  unfold Φ₁
  isplitl [Hw]
  · iapply (Entails.of_eq ((col_order c _).trans (w_pieces c (wA m c)).symm)); iexact Hw
  isplitl [Hab Ha0 Ha1 Hasc Harc Has Har]
  · rw [cells_roles c (fun g => semVal g 0), own_part c (fun j => (semVal (sCell c j) 0 : sProp 𝕄)), own_part c (fun j => (semVal (rCell c j) 0 : sProp 𝕄))]
    isplitl [Hab]; · iexact Hab
    isplitl [Ha0]; · iexact Ha0
    isplitl [Ha1]; · iexact Ha1
    isplitl [Hasc Has]
    · isplitl [Hasc]; · iexact Hasc
      iexact Has
    isplitl [Harc]; · iexact Harc
    iexact Har
  unfold Scr
  isplitl [Hx]; · iexists (x8 m c); unfold x8Pts; iexact Hx
  isplitl [Hh0 Hh1]
  · iapply (h_join c (wB m c 0)); rw [two]
    isplitl [Hh0]; · iexact Hh0
    iexists (wB m c (colAt c 7)); iexact Hh1
  isplitl [Hsc Hs]
  · iapply (s_join c (sB m c)); rw [own_part c]
    isplitl [Hsc]; · iexact Hsc
    iexact Hs
  iapply (r_join c (rB m c)); rw [own_part c]
  isplitl [Hrc]; · iexact Hrc
  iexact Hr

end Cert.GemmA2A

end
-- ==== Proof.Launch.lean ====
module

public import proofs.«01_k».proof.Proof.Ends
public import proofs.«01_k».proof.Proof.Gen.KernelIdeal.Launch
public import proofs.«01_k».proof.Proof.Gen.KernelIdeal.Points
public import Idealize.ShloMosaic.Lib.Pipeline.CollectiveSegs

@[expose] public section

noncomputable section

namespace Cert.GemmA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 35 → ℕ)

/-! # The launch, and the run of the whole program -/

open Idealize.ShloMosaic.Pipeline (Dat Cfg Window BodyObligation cellOf)

variable (ρ : Dev nD → PrngReg)

/-- What a device enters the kernel with, besides the windows and its scratch buffers. -/
def start (c : Dev nD) : sProp 𝕄 :=
  iprop(G' m c ∗ cred (tallyAt (barCell c) () 15) ∗ bigSep (Finset.univ.erase c) (fun e => cred (tallyAt (rCell c e) () N))
    ∗ levAts L lv ∗ (((c : Thread nD τ).loc main_arg1) ↦{fullShare} wA m c))

def Φ₀ (c : Dev nD) : sProp 𝕄 := iprop(start m c ∗ Scr c)

/-- The windows' contents after the body, and what is carried beside them. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sx m c
    | ⟨1, _⟩ => sw m c
    | ⟨2, _⟩ => xs m c
    | ⟨3, _⟩ => oB m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body at the pipeline's one point -/

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- A whole staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m c ∗ (dats m ρ 0 c).owesAt () t0_0.succ
    ∗ stg c cc0_stg0_0 (sx m c) ∗ stg c cc0_stg1_0 (sw m c) ∗ stg c cc0_stg2_0 (xs m c) ∗ stg c cc0_stg3_0 (oB m c))

theorem owes_in (c : Dev nD) : (dats m ρ 0 c).owesAt () t0_0.castSucc ⊢ OW (F := F) c (O₀ c) := by
  unfold Dat.owesAt Pipeline.owesWithin OW
  rw [show (dats m ρ 0 c).owed t0_0.castSucc = O₀ c from rfl]
  iintro ⟨%W, %hW, HO⟩; iexists W; iexact HO

theorem owes_out (c : Dev nD) : OW (F := F) c 0 ⊢ (dats m ρ 0 c).owesAt () t0_0.succ := by
  unfold Dat.owesAt Pipeline.owesWithin OW
  rw [show (dats m ρ 0 c).owed t0_0.succ = 0 from rfl]
  iintro ⟨%W, HO⟩; iexists W
  isplitr; · ipureintro; exact fun _ _ => Or.inl trivial
  iexact HO

theorem body_in (c : Dev nD) : bodyPre m ρ c ⊢ iprop((∃ K, Rec m K) ∗ levAts L lv ∗ Start m c ∗ Spare c) := by
  unfold bodyPre Φ₀ start G'
  iintro ⟨⟨⟨⟨%K, #HR, Hlin⟩, Hcb, Hcr, #Hlev, Hw⟩, Hscr⟩, HO, ⟨%d0, %g0, %hg0, H0⟩, ⟨%d1, %g1, %hg1, H1⟩, ⟨%d2, %g2, %hg2, H2⟩, ⟨%d3, %g3, %hg3, H3⟩⟩
  have h0 : g0 = sx m c := by rw [hg0]; unfold Dat.before; rw [if_pos (fetch0_0 t0_0)]; rfl
  have h1 : g1 = sw m c := by rw [hg1]; unfold Dat.before; rw [if_pos (fetch0_1 t0_0)]; rfl
  have h2 : g2 = xs m c := by rw [hg2]; unfold Dat.before; rw [if_pos (fetch0_2 t0_0)]; rfl
  subst h0 h1 h2
  ihave HO := (owes_in m ρ c) $$ HO
  isplitr; · iexists K; iexact HR
  isplitr; · iexact Hlev
  iapply (start_pieces m c)
  isplitl [Hlin]; · iexact Hlin
  isplitl [Hcb]; · iexact Hcb
  isplitl [Hcr]; · iexact Hcr
  isplitl [Hw]; · iexact Hw
  isplitl [Hscr]; · iexact Hscr
  isplitl [HO]; · iexact HO
  isplitl [H0 H1 H2]
  · unfold Staged
    isplitl [H0]; · iexact H0
    isplitl [H1]; · iexact H1
    iexact H2
  iexists g3; iexact H3

theorem body_out (c : Dev nD) : iprop(Rec m K ∗ Finish m c ∗ Spare c) ⊢ |={Set.univ}=> bodyPost m ρ c := by
  iintro H
  imod (finish_pieces m K c) $$ H with ⟨HO, HG, H3, HΦ⟩
  unfold Staged
  icases HG with ⟨H0, H1, H2⟩
  ihave HO := (owes_out m ρ c) $$ HO
  imodintro
  unfold bodyPost
  isplitl [HΦ]; · iexact HΦ
  isplitl [HO]; · iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

theorem body_whole (c : Dev nD) :
    bodyPre m ρ c ⊢ WP c (cc0_body (F := F) (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6) (fun _ => iprop(|={Set.univ}=> bodyPost m ρ c)) := by
  iintro H
  ihave H := (body_in m ρ c) $$ H
  icases H with ⟨⟨%K, #HR⟩, #Hlev, HS, Hsp⟩
  iapply (body m K c) $$ [HS]
  · isplitr; · iexact HR
    isplitr; · iexact Hlev
    iexact HS
  iintro Hf
  iapply (body_out m K ρ c)
  isplitr; · iexact HR
  isplitl [Hf]; · iexact Hf
  iexact Hsp

set_option maxRecDepth 4000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole main_arg1) (Memref.isWhole_whole _)
        (Memref.whole cc0_stg3_0) (Memref.isWhole_whole _) (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6) (fun _ => bodyPost m ρ c)
  exact (body_whole m ρ c).trans (wp_fupd _ _ _ _ _)

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  icases Hc with ⟨Hcb, Hcr⟩
  imodintro
  isplitl
  · unfold start
    isplitl [HG]; · iexact HG
    isplitl [Hcb]; · iexact Hcb
    isplitl [Hcr]; · iexact Hcr
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr
  iintro ⟨Hs, -, Hr⟩
  isplitl [Hs]; · iexact Hs
  iexact Hr

theorem phi1_exit (c : Dev nD) :
    (dats m ρ 0 c).Φ (Fin.last cfg0.N)
      ⊢ iprop((unscopedSems0 c ∗ (((c : Thread nD τ).loc main_arg1) ↦{fullShare} wA m c)) ∗ Pipeline.ownSems0 osem c ∗ Pipeline.scopedRest cfg0.spec c) := by
  rw [show (dats m ρ 0 c).Φ (Fin.last cfg0.N) = Φ₁ m c from rfl, scopedRest0_eq]
  unfold Φ₁ Scr
  rw [← sems0_eq]
  iintro ⟨Hw, ⟨Hs, Hu⟩, Hr⟩
  isplitl [Hu Hw]
  · isplitl [Hu]; · iexact Hu
    iexact Hw
  isplitl [Hs]; · iexact Hs
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (fun g u h => by
      rcases t with ⟨_ | _, ht⟩
      · exact O₀_pos h
      · exact absurd h (Nat.lt_irrefl 0))

/-! ## The run -/

/-- What the array behind a window holds at the end. -/
def finalA (c : Dev nD) (w : Fin cfg0.W) : Buf (Elt F) ((cfg0.win w).arr.view.loc (c : Thread nD τ)) := (dats m ρ 0 c).arrAt w cfg0.N

/-- Every window's array at its final contents, and the weights as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = wA m c

theorem end_read (c : Dev nD) (s' : Phys nD τ sig (Elt F)) :
    iprop((unscopedSems0 c ∗ (((c : Thread nD τ).loc main_arg1) ↦{fullShare} wA m c)) ∗ emp ∗ SI s')
      ⊢ |={Set.univ}=> iprop(⌜(∀ sm : SemLoc sig, sm.isScoped .tc = false → s'.mem.sem ((c.tc : Thread nD τ), sm) = 0)
            ∧ s'.mem.mem ((c : Thread nD τ).loc main_arg1) = wA m c⌝ ∗ (SI s' : sProp 𝕄)) := by
  iintro ⟨⟨Hu, Hw⟩, -, HSI⟩
  ihave ⟨%hw, HSI⟩ := (pointsTo_read_all (Finset.univ : Finset Unit) (fun _ => (c : Thread nD τ).loc main_arg1) (fun _ => wA m c) s') $$ [Hw HSI]
  · isplitl [Hw]; · rw [show (Finset.univ : Finset Unit) = {()} from rfl, bigSep_singleton]; iexact Hw
    iexact HSI
  imod (Pipeline.unscopedSems0_read (X := unscopedSems0 c) (c := c) fupd_intro s') $$ [Hu HSI] with ⟨%hu, HSI⟩
  · isplitl [Hu]; · iexact Hu
    iexact HSI
  imodintro
  isplitr; · ipureintro; exact ⟨hu, hw () (Finset.mem_univ _)⟩
  iexact HSI

set_option maxRecDepth 8000 in
/-- Every fair run of the program on the sixteen devices ends, each window's array at its final contents, the weights
    as they were, and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ (((c : Thread nD τ).loc main_arg1) ↦{fullShare} wA m c))) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = wA m c)
    (hY := fun c s' => end_read m c s')
    (hQ := fun _ h hs => ⟨fun c => ⟨fun w => (h c).1 w, (h c).2.2.2⟩, sem_eq_zero hs fun c => (h c).2.2.1⟩)

end Cert.GemmA2A

end
-- ==== Proof.Final.lean ====
module

public import proofs.«01_k».proof.Proof.Launch

@[expose] public section

noncomputable section

namespace Cert.GemmA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! # The arrays at the end, in closed form -/

variable (ρ : Dev nD → PrngReg)

/-- A window's one block is its whole array. -/
theorem blk0_read (f : main_arg2.ty.Contents (Elt F)) : (win0_0.blk (0 : Fin 1)).view.read (Elt F) f = f :=
  Memref.read_access_unit_zero (Elt F) main_arg2 (funext fun a => by fin_cases a <;> decide) (fun a => by fin_cases a <;> decide) f
theorem blk1_read (f : main_arg3.ty.Contents (Elt F)) : (win0_1.blk (0 : Fin 1)).view.read (Elt F) f = f :=
  Memref.read_access_unit_zero (Elt F) main_arg3 (funext fun a => by fin_cases a <;> decide) (fun a => by fin_cases a <;> decide) f
theorem blk2_read (f : main_arg0.ty.Contents (Elt F)) : (win0_2.blk (0 : Fin 1)).view.read (Elt F) f = f :=
  Memref.read_access_unit_zero (Elt F) main_arg0 (funext fun a => by fin_cases a <;> decide) (fun a => by fin_cases a <;> decide) f
theorem blk3_read (f : main_v1.ty.Contents (Elt F)) : (win0_3.blk (0 : Fin 1)).view.read (Elt F) f = f :=
  Memref.read_access_unit_zero (Elt F) main_v1 (funext fun a => by fin_cases a <;> decide) (fun a => by fin_cases a <;> decide) f

theorem xs_eq (c : Dev nD) : xs m c = m ((c : Thread nD τ).loc main_arg0) := blk2_read _
theorem sx_eq (c : Dev nD) : sx m c = m ((c : Thread nD τ).loc main_arg2) := blk0_read _
theorem sw_eq (c : Dev nD) : sw m c = m ((c : Thread nD τ).loc main_arg3) := blk1_read _

/-- The inputs' arrays hold what they held; -/
theorem final_0 (c : Dev nD) : finalA m ρ c (2 : Fin 4) = m ((c : Thread nD τ).loc main_arg0) := (dats (F := F) m ρ 0 c).arrAt_in (2 : Fin 4) rfl _
theorem final_2 (c : Dev nD) : finalA m ρ c (0 : Fin 4) = m ((c : Thread nD τ).loc main_arg2) := (dats (F := F) m ρ 0 c).arrAt_in (0 : Fin 4) rfl _
theorem final_3 (c : Dev nD) : finalA m ρ c (1 : Fin 4) = m ((c : Thread nD τ).loc main_arg3) := (dats (F := F) m ρ 0 c).arrAt_in (1 : Fin 4) rfl _
/-- the result's array holds what the body staged. -/
theorem final_o (c : Dev nD) : finalA m ρ c (3 : Fin 4) = oB m c := by
  have h : (win0_3.blk (0 : Fin 1)).view.read (Elt F) (finalA m ρ c (3 : Fin 4)) = oB m c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from flush0_3 _, if_pos rfl]
    exact View.read_write_univ _ _
  exact (blk3_read _).symm.trans h

/-- Every fair run ends with the results staged by the bodies, the arguments as they were, and no count left. -/
theorem run_closed : θ_run defs (onTc (τ := τ) (main (F := F))) (s₀ m ρ) (fun r =>
    (∀ c : Dev nD, r.2.mem ((c : Thread nD τ).loc main_v1) = oB m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c => ⟨((h.1 c).1 (3 : Fin 4)).trans (final_o m ρ c), ((h.1 c).1 (2 : Fin 4)).trans (final_0 m ρ c), (h.1 c).2,
    ((h.1 c).1 (0 : Fin 4)).trans (final_2 m ρ c), ((h.1 c).1 (1 : Fin 4)).trans (final_3 m ρ c)⟩, h.2⟩) (run_main m ρ)

end Cert.GemmA2A

end
-- ==== Proof.Reals.lean ====
module

public import proofs.«01_k».proof.Proof.Protocol
public import Idealize.ShloMosaic.Lib.ValueIdx
public import Idealize.ShloMosaic.Lib.MatmulPlain
public import Idealize.ShloMosaic.Lib.Pipeline.Value

@[expose] public section

noncomputable section

/-!
# One device's blocks over the reals

Over the reals a change of format is the identity, so what device `c` makes for device `e` is, entry by entry, the
rectified scaled product of `c`'s rows with `e`'s columns, and a block that went through the narrow format is the
block itself.
-/

namespace Cert.GemmA2A

open Cert.KernelIdeal Cert.KernelIdeal.Gen
open Idealize.ShloMosaic Idealize.ShloMosaic.TcCoe

variable (m : (ℓ : Loc nD τ sig) → Buf (Elt Ideal) ℓ)

/-- The first entry of a one-entry vector. -/
abbrev at0 : S1.Idx := Shape.Idx.first (by decide)

theorem dims_plain : dot_S256x4096_S4096x256_S256x256_1_0_0_1_n_n = DotDims.plain 256 4096 256 := rfl

theorem x8_apply (c : Dev nD) (i : S256x4096.Idx) : x8 m c i = xs m c i := by
  unfold x8 k0_pay2
  rw [shapeCast_self, ValueIdx.truncf_apply, shapeCast_self]

/-- A column block with its leading unit axis dropped. -/
theorem wL_apply (c : Dev nD) (b : Fin 8) (k : Fin 4096) (n : Fin 256) :
    shapeCast S4096x256 (wL m c b) shapeCasts_S1x4096x256_S4096x256 (ValueIdx.ix2 k n)
      = wA m c (ValueIdx.ix2 k (⟨256 * b.val + n.val, by omega⟩ : Fin 2048)) := by
  refine (shapeCast_dropUnit_apply (n := 2) ![4096, 256] (wL m c b) _ (ValueIdx.ix2 k n)).trans ?_
  rfl

/-- The rectified scaled product of `c`'s rows with a column block. -/
theorem pay3_apply (c : Dev nD) (b : Fin 8) (i : Fin 256) (n : Fin 256) :
    k0_pay3 (sc m c) (wL m c b) (x8 m c) (ValueIdx.ix2 i n)
      = max ((∑ k : Fin 4096, xs m c (ValueIdx.ix2 i k) * wA m c (ValueIdx.ix2 k (⟨256 * b.val + n.val, by omega⟩ : Fin 2048))) * (sx m c at0 * sw m c at0)) 0 := by
  unfold k0_pay3
  rw [ValueIdx.maximumf_apply, ValueIdx.mulf_apply, dims_plain]
  unfold matmul
  rw [Ideal.matmul_plain_apply]
  simp only [ValueIdx.truncf_apply, x8_apply]
  rw [ValueIdx.constant_apply, Ideal.ofBits_zero_f32, zero_add]
  exact congrArg₂ max (congrArg₂ (· * ·) (Finset.sum_congr rfl fun k _ => congrArg (xs m c (ValueIdx.ix2 i k) * ·) (wL_apply m c b k n)) rfl) Ideal.ofBits_zero_f32

theorem chunk_apply (c : Dev nD) (e : Fin 16) (i : Fin 256) (n : Fin 128) :
    chunk m c e (ValueIdx.ix2 i n)
      = max ((∑ k : Fin 4096, xs m c (ValueIdx.ix2 i k) * wA m c (ValueIdx.ix2 k (⟨128 * e.val + n.val, by omega⟩ : Fin 2048))) * (sx m c at0 * sw m c at0)) 0 := by
  unfold chunk
  split
  · rename_i he
    unfold k0_pay4
    refine (extractStridedSlice_apply _ _ _ (ValueIdx.ix2 i n) (ValueIdx.ix2 i (⟨n.val, by omega⟩ : Fin 256)) ?_).trans ?_
    · intro a; match a with
      | ⟨0, _⟩ => exact (Nat.zero_add _).symm
      | ⟨1, _⟩ => exact (Nat.zero_add _).symm
    · rw [pay3_apply]
      have hv : 256 * (blkOf e).val + n.val = 128 * e.val + n.val := by show 256 * (e.val / 2) + _ = _; omega
      simp only [hv]
  · rename_i he
    unfold k0_pay6
    refine (extractStridedSlice_apply _ _ _ (ValueIdx.ix2 i n) (ValueIdx.ix2 i (⟨128 + n.val, by omega⟩ : Fin 256)) ?_).trans ?_
    · intro a; match a with
      | ⟨0, _⟩ => exact (Nat.zero_add _).symm
      | ⟨1, _⟩ => rfl
    · rw [pay3_apply]
      have hv : 256 * (blkOf e).val + (128 + n.val) = 128 * e.val + n.val := by show 256 * (e.val / 2) + _ = _; omega
      simp only [hv]

/-- A block that was sent and widened is the block. -/
theorem pay44_sent (c : Dev nD) (e : Fin 16) : k0_pay44 (sent m c e) = chunk m c e := by
  unfold k0_pay44 sent k0_pay7
  funext i
  rw [ValueIdx.extf_apply, shapeCast_shapeCast, ValueIdx.truncf_apply]

/-- Row block `e` of device `c`'s result is what `e` made for `c`. -/
theorem oBlk_eq (c : Dev nD) (e : Fin 16) : oBlk m c e = chunk m e c := by
  unfold oBlk
  split
  · rename_i h; rw [h]
  · exact pay44_sent m e c

end Cert.GemmA2A

end
-- ==== Proof.Equation.lean ====
module

public import proofs.«01_k».proof.Proof.Final
public import proofs.«01_k».proof.Proof.Reals
public import proofs.«01_k».proof.Proof.Gen.ReferenceIdeal.Run
public import Idealize.ShloMosaic.Lib.StackMember
public import Idealize.ShloMosaic.Lib.Layout

@[expose] public section

noncomputable section

/-!
# The devices' results are the blocks of the reference's

The reference's entry `(r, q)` is the rectified scaled product of row `r` with column `q`. Row `256 e + i` is row `i`
of what device `e` holds, column `128 c + n` is column `n` of device `c`'s result.
-/

namespace Cert.GemmA2A

open Idealize.ShloMosaic Idealize.ShloMosaic.TcCoe

section Reference
open Cert.ReferenceIdeal Cert.ReferenceIdeal.Gen

variable (X : FVec Ideal S4096x4096 .f32) (W : FVec Ideal S4096x2048 .f32) (a b : FVec Ideal S1 .f32)

/-- What the reference computes of its four arguments. -/
def refVal : FVec Ideal S4096x2048 .f32 :=
  maximumf (mulf (Host.dotGeneral dot_S4096x4096_S4096x2048_S4096x2048_1_0_0_1_n_n none X W) (broadcastInDim S4096x2048 ![0, 1] bcast_S1x1_S4096x2048_0_1 (broadcastInDim S1x1 ![1] bcast_S1_S1x1_1 (mulf a b)))) (broadcastInDim S4096x2048 ![] bcast_S_S4096x2048 (constant S_ .f32 0x00000000#32))

/-- The scales' product, spread over the result. -/
theorem spread_apply (v : FVec Ideal S1 .f32) (j : S4096x2048.Idx) :
    broadcastInDim S4096x2048 ![0, 1] bcast_S1x1_S4096x2048_0_1 (broadcastInDim S1x1 ![1] bcast_S1_S1x1_1 v) j = v at0 := by
  refine (broadcastInDim_apply _ _ _ j (ValueIdx.ix2 (0 : Fin 1) (0 : Fin 1)) ?_).trans ?_
  · intro x; match x with
    | ⟨0, _⟩ => rfl
    | ⟨1, _⟩ => rfl
  · refine broadcastInDim_apply _ _ _ _ at0 ?_
    intro x; match x with
    | ⟨0, _⟩ => rfl

theorem refVal_apply (r : Fin 4096) (q : Fin 2048) :
    refVal X W a b (ValueIdx.ix2 r q)
      = max ((∑ k : Fin 4096, X (ValueIdx.ix2 r k) * W (ValueIdx.ix2 k q)) * (a at0 * b at0)) 0 := by
  unfold refVal
  rw [ValueIdx.maximumf_apply, ValueIdx.mulf_apply, spread_apply, ValueIdx.mulf_apply]
  exact congrArg₂ max (congrArg₂ (· * ·) (StackMember.dotGeneral_plain_apply none X W r q) rfl) Ideal.ofBits_zero_f32

end Reference

open Cert.KernelIdeal Cert.KernelIdeal.Gen

variable (m : (ℓ : Loc nD τ sig) → Buf (Elt Ideal) ℓ)

/-- An index of two coordinates is the pair of them. -/
theorem eq_pair {p q : ℕ} (j : (⟨2, ![p, q]⟩ : Shape).Idx) (u : Fin p) (v : Fin q) (hu : (j 0).val = u.val) (hv : (j 1).val = v.val) :
    j = ValueIdx.ix2 u v := by
  funext x
  match x with
  | ⟨0, _⟩ => exact Fin.ext hu
  | ⟨1, _⟩ => exact Fin.ext hv

/-- If each device holds its rows of `X`, all of `W` and the two scales, its result is its columns of the reference's. -/
theorem oB_block (X : (⟨2, ![4096, 4096]⟩ : Shape).Idx → Elt Ideal .f32) (W : (⟨2, ![4096, 2048]⟩ : Shape).Idx → Elt Ideal .f32) (a b : (⟨1, ![1]⟩ : Shape).Idx → Elt Ideal .f32)
    (h : ∀ c : Dev nD, m ((c : Thread nD τ).loc main_arg0) = Layout.block ⟨2, ![256, 4096]⟩ ⟨2, ![4096, 4096]⟩ 0 16 c X
      ∧ m ((c : Thread nD τ).loc main_arg1) = W ∧ m ((c : Thread nD τ).loc main_arg2) = a ∧ m ((c : Thread nD τ).loc main_arg3) = b)
    (c : Dev nD) : oB m c = Layout.block ⟨2, ![4096, 128]⟩ ⟨2, ![4096, 2048]⟩ 1 16 c (refVal X W a b) := by
  funext j
  have h0 : (j (0 : Fin 2)).val < 4096 := (j (0 : Fin 2)).isLt
  have h1 : (j (1 : Fin 2)).val < 128 := (j (1 : Fin 2)).isLt
  have hc : c.val < 16 := c.isLt
  let e : Dev nD := (⟨(j (0 : Fin 2)).val / 256, by omega⟩ : Fin 16)
  let i : Fin 256 := ⟨(j (0 : Fin 2)).val % 256, Nat.mod_lt _ (by decide)⟩
  let n : Fin 128 := ⟨(j (1 : Fin 2)).val, h1⟩
  obtain ⟨e0, e1, e2, e3⟩ := h e
  have hl : oB m c j = chunk m e c (ValueIdx.ix2 i n) := congrFun (oBlk_eq m c e) _
  have ht : Layout.Tiles ⟨2, ![4096, 128]⟩ ⟨2, ![4096, 2048]⟩ 1 16 := by decide
  have hcol : ht.idx c j = ValueIdx.ix2 (⟨(j (0 : Fin 2)).val, h0⟩ : Fin 4096) (⟨128 * c.val + n.val, by omega⟩ : Fin 2048) := by
    obtain ⟨t0, t1⟩ := Layout.idx_cols_val ht c j
    exact eq_pair _ _ _ t0 (t1.trans (congrArg (· + (j (1 : Fin 2)).val) (Nat.mul_comm c.val 128)))
  rw [hl, chunk_apply, Layout.block_apply, hcol,
    refVal_apply, sx_eq, sw_eq, xs_eq, e0, e2, e3]
  refine congrArg₂ max (congrArg₂ (· * ·) (Finset.sum_congr rfl fun k _ => congrArg₂ (· * ·) ?_ (congrFun e1 _)) rfl) rfl
  rw [Layout.block_apply]
  refine congrArg X (eq_pair _ _ _ ?_ rfl)
  show (j (0 : Fin 2)).val / 256 * 256 + (j (0 : Fin 2)).val % 256 = (j (0 : Fin 2)).val
  omega

end Cert.GemmA2A

end
-- ==== Proof.Same.lean ====
module

public import proofs.«01_k».proof.Proof.Gen.Kernel
public import proofs.«01_k».proof.Proof.Gen.KernelIdeal

@[expose] public section

noncomputable section

/-!
# The kernel is printed twice

Once to be read with the machine's floats, once with the reals. No operation was rewritten between the two, so over
any floats the two programs are the same program.
-/

namespace Cert.GemmA2A

open Idealize.ShloMosaic

variable {F : FTy → Type} [FloatOps F]

/-- The kernel's body, statement for statement; -/
theorem same_body : Cert.Kernel.cc0_body (F := F) = Cert.KernelIdeal.cc0_body (F := F) := rfl
/-- the table of the one body; -/
theorem same_defs0 : Cert.Kernel.defs₀ (F := F) = Cert.KernelIdeal.defs₀ (F := F) := by
  unfold Cert.Kernel.defs₀ Cert.KernelIdeal.defs₀
  refine congrArg _ ?_
  funext l a
  match l with
  | ⟨0, _⟩ => rfl
/-- the table of every region; -/
theorem same_defs : Cert.Kernel.defs (F := F) = Cert.KernelIdeal.defs (F := F) := by
  unfold Cert.Kernel.defs Cert.KernelIdeal.defs
  rw [same_defs0]
  rfl
/-- and the call. -/
theorem same_main : Cert.Kernel.main (F := F) = Cert.KernelIdeal.main (F := F) := rfl

end Cert.GemmA2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem

/-- The kernel ends, keeps its arguments and leaves every counter at zero: with the machine's floats, -/
theorem frame_kernel : Cert.quiescent_Kernel := by
  intro m ρ _
  rw [Cert.GemmA2A.same_defs]
  exact (θ_run Cert.KernelIdeal.defs _ _).mono (fun _ h => ⟨fun c => (h.1 c).2, h.2⟩) (Cert.GemmA2A.run_closed (F := Bits) m ρ)

/-- with the reals, -/
theorem frame_ideal : Cert.quiescent_KernelIdeal := fun m ρ _ =>
  (θ_run Cert.KernelIdeal.defs _ _).mono (fun _ h => ⟨fun c => (h.1 c).2, h.2⟩) (Cert.GemmA2A.run_closed (F := Ideal) m ρ)

/-- and so does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals device `c` ends with column block `c` of the reference's result. -/
theorem value : Cert.algebraic_KernelIdeal_ReferenceIdeal := fun m g m' g' _ hin =>
  ⟨_, (θ_run Cert.KernelIdeal.defs _ _).mono
      (fun _ h c => ⟨(h.1 c).1.trans (Cert.GemmA2A.oB_block m _ _ _ _ hin c), (h.1 c).2⟩) (Cert.GemmA2A.run_closed (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
